-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scores_defined [hPre_scores_defined : Cert.Pre_scores_defined.Facts] (m : (ℓ : Loc Cert.KernelIdeal.nD Cert.KernelIdeal.τ Cert.KernelIdeal.sig) → Buf (Elt Ideal) ℓ) : Prop :=
  ∀ c : Dev Cert.KernelIdeal.nD,
    (Cert.Pre_scores_defined.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scores_defined [hPre_scores_defined : Cert.Pre_scores_defined.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scores_defined.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_KernelZa (m : (ℓ : Loc Cert.KernelZa.nD Cert.KernelZa.τ Cert.KernelZa.sig) → Buf (Elt Bits) ℓ) : Prop :=
  True

def Pre_KernelZaIdeal (m : (ℓ : Loc Cert.KernelZaIdeal.nD Cert.KernelZaIdeal.τ Cert.KernelZaIdeal.sig) → Buf (Elt Ideal) ℓ) : Prop :=
  True

def Pre_ReferenceZaIdeal (m : (ℓ : Loc Cert.ReferenceZaIdeal.nD Cert.ReferenceZaIdeal.τ Cert.ReferenceZaIdeal.sig) → Buf (Elt Ideal) ℓ) : Prop :=
  True

def Pre_KernelZb (m : (ℓ : Loc Cert.KernelZb.nD Cert.KernelZb.τ Cert.KernelZb.sig) → Buf (Elt Bits) ℓ) : Prop :=
  True

def Pre_KernelZbIdeal (m : (ℓ : Loc Cert.KernelZbIdeal.nD Cert.KernelZbIdeal.τ Cert.KernelZbIdeal.sig) → Buf (Elt Ideal) ℓ) : Prop :=
  True

def Pre_ReferenceZbIdeal (m : (ℓ : Loc Cert.ReferenceZbIdeal.nD Cert.ReferenceZbIdeal.τ Cert.ReferenceZbIdeal.sig) → Buf (Elt Ideal) ℓ) : Prop :=
  True

def Pre_KernelUp [hPre_expert_range_up : Cert.Pre_expert_range_up.Facts] (m : (ℓ : Loc Cert.KernelUp.nD Cert.KernelUp.τ Cert.KernelUp.sig) → Buf (Elt Bits) ℓ) : Prop :=
  ∀ c : Dev Cert.KernelUp.nD,
    (Cert.Pre_expert_range_up.fn (F := Bits) (m ((c.tc : Thread Cert.KernelUp.nD Cert.KernelUp.τ).loc Cert.KernelUp.main_arg0)) (m ((c.tc : Thread Cert.KernelUp.nD Cert.KernelUp.τ).loc Cert.KernelUp.main_arg1)) (m ((c.tc : Thread Cert.KernelUp.nD Cert.KernelUp.τ).loc Cert.KernelUp.main_arg2)) (m ((c.tc : Thread Cert.KernelUp.nD Cert.KernelUp.τ).loc Cert.KernelUp.main_arg3)) (m ((c.tc : Thread Cert.KernelUp.nD Cert.KernelUp.τ).loc Cert.KernelUp.main_arg4))) = (fun _ => 1#1)

def Pre_KernelUpIdeal [hPre_expert_range_up : Cert.Pre_expert_range_up.Facts] (m : (ℓ : Loc Cert.KernelUpIdeal.nD Cert.KernelUpIdeal.τ Cert.KernelUpIdeal.sig) → Buf (Elt Ideal) ℓ) : Prop :=
  ∀ c : Dev Cert.KernelUpIdeal.nD,
    (Cert.Pre_expert_range_up.fn (F := Ideal) (m ((c.tc : Thread Cert.KernelUpIdeal.nD Cert.KernelUpIdeal.τ).loc Cert.KernelUpIdeal.main_arg0)) (m ((c.tc : Thread Cert.KernelUpIdeal.nD Cert.KernelUpIdeal.τ).loc Cert.KernelUpIdeal.main_arg1)) (m ((c.tc : Thread Cert.KernelUpIdeal.nD Cert.KernelUpIdeal.τ).loc Cert.KernelUpIdeal.main_arg2)) (m ((c.tc : Thread Cert.KernelUpIdeal.nD Cert.KernelUpIdeal.τ).loc Cert.KernelUpIdeal.main_arg3)) (m ((c.tc : Thread Cert.KernelUpIdeal.nD Cert.KernelUpIdeal.τ).loc Cert.KernelUpIdeal.main_arg4))) = (fun _ => 1#1)

def Pre_ReferenceUpIdeal (m : (ℓ : Loc Cert.ReferenceUpIdeal.nD Cert.ReferenceUpIdeal.τ Cert.ReferenceUpIdeal.sig) → Buf (Elt Ideal) ℓ) : Prop :=
  True

def Pre_ReferenceUpIdeal_expert_range_up [hPre_expert_range_up : Cert.Pre_expert_range_up.Facts] (m : (ℓ : Loc Cert.ReferenceUpIdeal.nD Cert.ReferenceUpIdeal.τ Cert.ReferenceUpIdeal.sig) → Buf (Elt Ideal) ℓ) : Prop :=
  ∀ c : Dev Cert.ReferenceUpIdeal.nD,
    (Cert.Pre_expert_range_up.fn (F := Ideal) (m ((c.tc : Thread Cert.ReferenceUpIdeal.nD Cert.ReferenceUpIdeal.τ).loc Cert.ReferenceUpIdeal.main_arg0)) (m ((c.tc : Thread Cert.ReferenceUpIdeal.nD Cert.ReferenceUpIdeal.τ).loc Cert.ReferenceUpIdeal.main_arg1)) (m ((c.tc : Thread Cert.ReferenceUpIdeal.nD Cert.ReferenceUpIdeal.τ).loc Cert.ReferenceUpIdeal.main_arg2)) (m ((c.tc : Thread Cert.ReferenceUpIdeal.nD Cert.ReferenceUpIdeal.τ).loc Cert.ReferenceUpIdeal.main_arg3)) (m ((c.tc : Thread Cert.ReferenceUpIdeal.nD Cert.ReferenceUpIdeal.τ).loc Cert.ReferenceUpIdeal.main_arg4))) = (fun _ => 1#1)

def Pre_KernelDown [hPre_expert_range_down : Cert.Pre_expert_range_down.Facts] (m : (ℓ : Loc Cert.KernelDown.nD Cert.KernelDown.τ Cert.KernelDown.sig) → Buf (Elt Bits) ℓ) : Prop :=
  ∀ c : Dev Cert.KernelDown.nD,
    (Cert.Pre_expert_range_down.fn (F := Bits) (m ((c.tc : Thread Cert.KernelDown.nD Cert.KernelDown.τ).loc Cert.KernelDown.main_arg0)) (m ((c.tc : Thread Cert.KernelDown.nD Cert.KernelDown.τ).loc Cert.KernelDown.main_arg1)) (m ((c.tc : Thread Cert.KernelDown.nD Cert.KernelDown.τ).loc Cert.KernelDown.main_arg2)) (m ((c.tc : Thread Cert.KernelDown.nD Cert.KernelDown.τ).loc Cert.KernelDown.main_arg3)) (m ((c.tc : Thread Cert.KernelDown.nD Cert.KernelDown.τ).loc Cert.KernelDown.main_arg4))) = (fun _ => 1#1)

def Pre_KernelDownIdeal [hPre_expert_range_down : Cert.Pre_expert_range_down.Facts] (m : (ℓ : Loc Cert.KernelDownIdeal.nD Cert.KernelDownIdeal.τ Cert.KernelDownIdeal.sig) → Buf (Elt Ideal) ℓ) : Prop :=
  ∀ c : Dev Cert.KernelDownIdeal.nD,
    (Cert.Pre_expert_range_down.fn (F := Ideal) (m ((c.tc : Thread Cert.KernelDownIdeal.nD Cert.KernelDownIdeal.τ).loc Cert.KernelDownIdeal.main_arg0)) (m ((c.tc : Thread Cert.KernelDownIdeal.nD Cert.KernelDownIdeal.τ).loc Cert.KernelDownIdeal.main_arg1)) (m ((c.tc : Thread Cert.KernelDownIdeal.nD Cert.KernelDownIdeal.τ).loc Cert.KernelDownIdeal.main_arg2)) (m ((c.tc : Thread Cert.KernelDownIdeal.nD Cert.KernelDownIdeal.τ).loc Cert.KernelDownIdeal.main_arg3)) (m ((c.tc : Thread Cert.KernelDownIdeal.nD Cert.KernelDownIdeal.τ).loc Cert.KernelDownIdeal.main_arg4))) = (fun _ => 1#1)

def Pre_ReferenceDownIdeal (m : (ℓ : Loc Cert.ReferenceDownIdeal.nD Cert.ReferenceDownIdeal.τ Cert.ReferenceDownIdeal.sig) → Buf (Elt Ideal) ℓ) : Prop :=
  True

def Pre_ReferenceDownIdeal_expert_range_down [hPre_expert_range_down : Cert.Pre_expert_range_down.Facts] (m : (ℓ : Loc Cert.ReferenceDownIdeal.nD Cert.ReferenceDownIdeal.τ Cert.ReferenceDownIdeal.sig) → Buf (Elt Ideal) ℓ) : Prop :=
  ∀ c : Dev Cert.ReferenceDownIdeal.nD,
    (Cert.Pre_expert_range_down.fn (F := Ideal) (m ((c.tc : Thread Cert.ReferenceDownIdeal.nD Cert.ReferenceDownIdeal.τ).loc Cert.ReferenceDownIdeal.main_arg0)) (m ((c.tc : Thread Cert.ReferenceDownIdeal.nD Cert.ReferenceDownIdeal.τ).loc Cert.ReferenceDownIdeal.main_arg1)) (m ((c.tc : Thread Cert.ReferenceDownIdeal.nD Cert.ReferenceDownIdeal.τ).loc Cert.ReferenceDownIdeal.main_arg2)) (m ((c.tc : Thread Cert.ReferenceDownIdeal.nD Cert.ReferenceDownIdeal.τ).loc Cert.ReferenceDownIdeal.main_arg3)) (m ((c.tc : Thread Cert.ReferenceDownIdeal.nD Cert.ReferenceDownIdeal.τ).loc Cert.ReferenceDownIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_scores_defined [hKernelIdeal : Cert.KernelIdeal.Facts] [hPre_scores_defined : Cert.Pre_scores_defined.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scores_defined m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_scores_defined [hReferenceIdeal : Cert.ReferenceIdeal.Facts] [hPre_scores_defined : Cert.Pre_scores_defined.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scores_defined m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_KernelZa [hKernelZa : Cert.KernelZa.Facts] : Prop :=
  ∀ (m : (ℓ : Loc Cert.KernelZa.nD Cert.KernelZa.τ Cert.KernelZa.sig) → Buf (Elt Bits) ℓ) (g : Dev Cert.KernelZa.nD → PrngReg), Pre_KernelZa m →
    θ_run (Cert.KernelZa.defs (F := Bits)) (onTc (τ := Cert.KernelZa.τ) (Cert.KernelZa.main (F := Bits))) ⟨m, fun _ => 0, g⟩ (fun r => (∀ c : Dev Cert.KernelZa.nD,
      r.2.mem ((c.tc : Thread Cert.KernelZa.nD Cert.KernelZa.τ).loc Cert.KernelZa.main_arg0) = m ((c.tc : Thread Cert.KernelZa.nD Cert.KernelZa.τ).loc Cert.KernelZa.main_arg0)
      ∧ r.2.mem ((c.tc : Thread Cert.KernelZa.nD Cert.KernelZa.τ).loc Cert.KernelZa.main_arg1) = m ((c.tc : Thread Cert.KernelZa.nD Cert.KernelZa.τ).loc Cert.KernelZa.main_arg1)
      ∧ r.2.mem ((c.tc : Thread Cert.KernelZa.nD Cert.KernelZa.τ).loc Cert.KernelZa.main_arg2) = m ((c.tc : Thread Cert.KernelZa.nD Cert.KernelZa.τ).loc Cert.KernelZa.main_arg2))
      ∧ r.2.sem = fun _ => 0)

def quiescent_KernelZaIdeal [hKernelZaIdeal : Cert.KernelZaIdeal.Facts] : Prop :=
  ∀ (m : (ℓ : Loc Cert.KernelZaIdeal.nD Cert.KernelZaIdeal.τ Cert.KernelZaIdeal.sig) → Buf (Elt Ideal) ℓ) (g : Dev Cert.KernelZaIdeal.nD → PrngReg), Pre_KernelZaIdeal m →
    θ_run (Cert.KernelZaIdeal.defs (F := Ideal)) (onTc (τ := Cert.KernelZaIdeal.τ) (Cert.KernelZaIdeal.main (F := Ideal))) ⟨m, fun _ => 0, g⟩ (fun r => (∀ c : Dev Cert.KernelZaIdeal.nD,
      r.2.mem ((c.tc : Thread Cert.KernelZaIdeal.nD Cert.KernelZaIdeal.τ).loc Cert.KernelZaIdeal.main_arg0) = m ((c.tc : Thread Cert.KernelZaIdeal.nD Cert.KernelZaIdeal.τ).loc Cert.KernelZaIdeal.main_arg0)
      ∧ r.2.mem ((c.tc : Thread Cert.KernelZaIdeal.nD Cert.KernelZaIdeal.τ).loc Cert.KernelZaIdeal.main_arg1) = m ((c.tc : Thread Cert.KernelZaIdeal.nD Cert.KernelZaIdeal.τ).loc Cert.KernelZaIdeal.main_arg1)
      ∧ r.2.mem ((c.tc : Thread Cert.KernelZaIdeal.nD Cert.KernelZaIdeal.τ).loc Cert.KernelZaIdeal.main_arg2) = m ((c.tc : Thread Cert.KernelZaIdeal.nD Cert.KernelZaIdeal.τ).loc Cert.KernelZaIdeal.main_arg2))
      ∧ r.2.sem = fun _ => 0)

def quiescent_ReferenceZaIdeal [hReferenceZaIdeal : Cert.ReferenceZaIdeal.Facts] : Prop :=
  ∀ (m : (ℓ : Loc Cert.ReferenceZaIdeal.nD Cert.ReferenceZaIdeal.τ Cert.ReferenceZaIdeal.sig) → Buf (Elt Ideal) ℓ) (g : Dev Cert.ReferenceZaIdeal.nD → PrngReg), Pre_ReferenceZaIdeal m →
    θ_run (Cert.ReferenceZaIdeal.defs (F := Ideal)) (onTc (τ := Cert.ReferenceZaIdeal.τ) (Cert.ReferenceZaIdeal.main (F := Ideal))) ⟨m, fun _ => 0, g⟩ (fun r => (∀ c : Dev Cert.ReferenceZaIdeal.nD,
      r.2.mem ((c.tc : Thread Cert.ReferenceZaIdeal.nD Cert.ReferenceZaIdeal.τ).loc Cert.ReferenceZaIdeal.main_arg0) = m ((c.tc : Thread Cert.ReferenceZaIdeal.nD Cert.ReferenceZaIdeal.τ).loc Cert.ReferenceZaIdeal.main_arg0)
      ∧ r.2.mem ((c.tc : Thread Cert.ReferenceZaIdeal.nD Cert.ReferenceZaIdeal.τ).loc Cert.ReferenceZaIdeal.main_arg1) = m ((c.tc : Thread Cert.ReferenceZaIdeal.nD Cert.ReferenceZaIdeal.τ).loc Cert.ReferenceZaIdeal.main_arg1)
      ∧ r.2.mem ((c.tc : Thread Cert.ReferenceZaIdeal.nD Cert.ReferenceZaIdeal.τ).loc Cert.ReferenceZaIdeal.main_arg2) = m ((c.tc : Thread Cert.ReferenceZaIdeal.nD Cert.ReferenceZaIdeal.τ).loc Cert.ReferenceZaIdeal.main_arg2))
      ∧ r.2.sem = fun _ => 0)

def quiescent_KernelZb [hKernelZb : Cert.KernelZb.Facts] : Prop :=
  ∀ (m : (ℓ : Loc Cert.KernelZb.nD Cert.KernelZb.τ Cert.KernelZb.sig) → Buf (Elt Bits) ℓ) (g : Dev Cert.KernelZb.nD → PrngReg), Pre_KernelZb m →
    θ_run (Cert.KernelZb.defs (F := Bits)) (onTc (τ := Cert.KernelZb.τ) (Cert.KernelZb.main (F := Bits))) ⟨m, fun _ => 0, g⟩ (fun r => (∀ c : Dev Cert.KernelZb.nD,
      r.2.mem ((c.tc : Thread Cert.KernelZb.nD Cert.KernelZb.τ).loc Cert.KernelZb.main_arg0) = m ((c.tc : Thread Cert.KernelZb.nD Cert.KernelZb.τ).loc Cert.KernelZb.main_arg0)
      ∧ r.2.mem ((c.tc : Thread Cert.KernelZb.nD Cert.KernelZb.τ).loc Cert.KernelZb.main_arg1) = m ((c.tc : Thread Cert.KernelZb.nD Cert.KernelZb.τ).loc Cert.KernelZb.main_arg1)
      ∧ r.2.mem ((c.tc : Thread Cert.KernelZb.nD Cert.KernelZb.τ).loc Cert.KernelZb.main_arg2) = m ((c.tc : Thread Cert.KernelZb.nD Cert.KernelZb.τ).loc Cert.KernelZb.main_arg2))
      ∧ r.2.sem = fun _ => 0)

def quiescent_KernelZbIdeal [hKernelZbIdeal : Cert.KernelZbIdeal.Facts] : Prop :=
  ∀ (m : (ℓ : Loc Cert.KernelZbIdeal.nD Cert.KernelZbIdeal.τ Cert.KernelZbIdeal.sig) → Buf (Elt Ideal) ℓ) (g : Dev Cert.KernelZbIdeal.nD → PrngReg), Pre_KernelZbIdeal m →
    θ_run (Cert.KernelZbIdeal.defs (F := Ideal)) (onTc (τ := Cert.KernelZbIdeal.τ) (Cert.KernelZbIdeal.main (F := Ideal))) ⟨m, fun _ => 0, g⟩ (fun r => (∀ c : Dev Cert.KernelZbIdeal.nD,
      r.2.mem ((c.tc : Thread Cert.KernelZbIdeal.nD Cert.KernelZbIdeal.τ).loc Cert.KernelZbIdeal.main_arg0) = m ((c.tc : Thread Cert.KernelZbIdeal.nD Cert.KernelZbIdeal.τ).loc Cert.KernelZbIdeal.main_arg0)
      ∧ r.2.mem ((c.tc : Thread Cert.KernelZbIdeal.nD Cert.KernelZbIdeal.τ).loc Cert.KernelZbIdeal.main_arg1) = m ((c.tc : Thread Cert.KernelZbIdeal.nD Cert.KernelZbIdeal.τ).loc Cert.KernelZbIdeal.main_arg1)
      ∧ r.2.mem ((c.tc : Thread Cert.KernelZbIdeal.nD Cert.KernelZbIdeal.τ).loc Cert.KernelZbIdeal.main_arg2) = m ((c.tc : Thread Cert.KernelZbIdeal.nD Cert.KernelZbIdeal.τ).loc Cert.KernelZbIdeal.main_arg2))
      ∧ r.2.sem = fun _ => 0)

def quiescent_ReferenceZbIdeal [hReferenceZbIdeal : Cert.ReferenceZbIdeal.Facts] : Prop :=
  ∀ (m : (ℓ : Loc Cert.ReferenceZbIdeal.nD Cert.ReferenceZbIdeal.τ Cert.ReferenceZbIdeal.sig) → Buf (Elt Ideal) ℓ) (g : Dev Cert.ReferenceZbIdeal.nD → PrngReg), Pre_ReferenceZbIdeal m →
    θ_run (Cert.ReferenceZbIdeal.defs (F := Ideal)) (onTc (τ := Cert.ReferenceZbIdeal.τ) (Cert.ReferenceZbIdeal.main (F := Ideal))) ⟨m, fun _ => 0, g⟩ (fun r => (∀ c : Dev Cert.ReferenceZbIdeal.nD,
      r.2.mem ((c.tc : Thread Cert.ReferenceZbIdeal.nD Cert.ReferenceZbIdeal.τ).loc Cert.ReferenceZbIdeal.main_arg0) = m ((c.tc : Thread Cert.ReferenceZbIdeal.nD Cert.ReferenceZbIdeal.τ).loc Cert.ReferenceZbIdeal.main_arg0)
      ∧ r.2.mem ((c.tc : Thread Cert.ReferenceZbIdeal.nD Cert.ReferenceZbIdeal.τ).loc Cert.ReferenceZbIdeal.main_arg1) = m ((c.tc : Thread Cert.ReferenceZbIdeal.nD Cert.ReferenceZbIdeal.τ).loc Cert.ReferenceZbIdeal.main_arg1)
      ∧ r.2.mem ((c.tc : Thread Cert.ReferenceZbIdeal.nD Cert.ReferenceZbIdeal.τ).loc Cert.ReferenceZbIdeal.main_arg2) = m ((c.tc : Thread Cert.ReferenceZbIdeal.nD Cert.ReferenceZbIdeal.τ).loc Cert.ReferenceZbIdeal.main_arg2))
      ∧ r.2.sem = fun _ => 0)

def quiescent_KernelUp [hKernelUp : Cert.KernelUp.Facts] [hPre_expert_range_up : Cert.Pre_expert_range_up.Facts] : Prop :=
  ∀ (m : (ℓ : Loc Cert.KernelUp.nD Cert.KernelUp.τ Cert.KernelUp.sig) → Buf (Elt Bits) ℓ) (g : Dev Cert.KernelUp.nD → PrngReg), Pre_KernelUp m →
    θ_run (Cert.KernelUp.defs (F := Bits)) (onTc (τ := Cert.KernelUp.τ) (Cert.KernelUp.main (F := Bits))) ⟨m, fun _ => 0, g⟩ (fun r => (∀ c : Dev Cert.KernelUp.nD,
      r.2.mem ((c.tc : Thread Cert.KernelUp.nD Cert.KernelUp.τ).loc Cert.KernelUp.main_arg0) = m ((c.tc : Thread Cert.KernelUp.nD Cert.KernelUp.τ).loc Cert.KernelUp.main_arg0)
      ∧ r.2.mem ((c.tc : Thread Cert.KernelUp.nD Cert.KernelUp.τ).loc Cert.KernelUp.main_arg1) = m ((c.tc : Thread Cert.KernelUp.nD Cert.KernelUp.τ).loc Cert.KernelUp.main_arg1)
      ∧ r.2.mem ((c.tc : Thread Cert.KernelUp.nD Cert.KernelUp.τ).loc Cert.KernelUp.main_arg2) = m ((c.tc : Thread Cert.KernelUp.nD Cert.KernelUp.τ).loc Cert.KernelUp.main_arg2)
      ∧ r.2.mem ((c.tc : Thread Cert.KernelUp.nD Cert.KernelUp.τ).loc Cert.KernelUp.main_arg3) = m ((c.tc : Thread Cert.KernelUp.nD Cert.KernelUp.τ).loc Cert.KernelUp.main_arg3)
      ∧ r.2.mem ((c.tc : Thread Cert.KernelUp.nD Cert.KernelUp.τ).loc Cert.KernelUp.main_arg4) = m ((c.tc : Thread Cert.KernelUp.nD Cert.KernelUp.τ).loc Cert.KernelUp.main_arg4))
      ∧ r.2.sem = fun _ => 0)

def quiescent_KernelUpIdeal [hKernelUpIdeal : Cert.KernelUpIdeal.Facts] [hPre_expert_range_up : Cert.Pre_expert_range_up.Facts] : Prop :=
  ∀ (m : (ℓ : Loc Cert.KernelUpIdeal.nD Cert.KernelUpIdeal.τ Cert.KernelUpIdeal.sig) → Buf (Elt Ideal) ℓ) (g : Dev Cert.KernelUpIdeal.nD → PrngReg), Pre_KernelUpIdeal m →
    θ_run (Cert.KernelUpIdeal.defs (F := Ideal)) (onTc (τ := Cert.KernelUpIdeal.τ) (Cert.KernelUpIdeal.main (F := Ideal))) ⟨m, fun _ => 0, g⟩ (fun r => (∀ c : Dev Cert.KernelUpIdeal.nD,
      r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
      ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1)
      ∧ r.2.mem ((c.tc : Thread Cert.KernelUpIdeal.nD Cert.KernelUpIdeal.τ).loc Cert.KernelUpIdeal.main_arg2) = m ((c.tc : Thread Cert.KernelUpIdeal.nD Cert.KernelUpIdeal.τ).loc Cert.KernelUpIdeal.main_arg2)
      ∧ r.2.mem ((c.tc : Thread Cert.KernelUpIdeal.nD Cert.KernelUpIdeal.τ).loc Cert.KernelUpIdeal.main_arg3) = m ((c.tc : Thread Cert.KernelUpIdeal.nD Cert.KernelUpIdeal.τ).loc Cert.KernelUpIdeal.main_arg3)
      ∧ r.2.mem ((c.tc : Thread Cert.KernelUpIdeal.nD Cert.KernelUpIdeal.τ).loc Cert.KernelUpIdeal.main_arg4) = m ((c.tc : Thread Cert.KernelUpIdeal.nD Cert.KernelUpIdeal.τ).loc Cert.KernelUpIdeal.main_arg4))
      ∧ r.2.sem = fun _ => 0)

def quiescent_ReferenceUpIdeal [hReferenceUpIdeal : Cert.ReferenceUpIdeal.Facts] : Prop :=
  ∀ (m : (ℓ : Loc Cert.ReferenceUpIdeal.nD Cert.ReferenceUpIdeal.τ Cert.ReferenceUpIdeal.sig) → Buf (Elt Ideal) ℓ) (g : Dev Cert.ReferenceUpIdeal.nD → PrngReg), Pre_ReferenceUpIdeal m →
    θ_run (Cert.ReferenceUpIdeal.defs (F := Ideal)) (onTc (τ := Cert.ReferenceUpIdeal.τ) (Cert.ReferenceUpIdeal.main (F := Ideal))) ⟨m, fun _ => 0, g⟩ (fun r => (∀ c : Dev Cert.ReferenceUpIdeal.nD,
      r.2.mem ((c.tc : Thread Cert.ReferenceUpIdeal.nD Cert.ReferenceUpIdeal.τ).loc Cert.ReferenceUpIdeal.main_arg0) = m ((c.tc : Thread Cert.ReferenceUpIdeal.nD Cert.ReferenceUpIdeal.τ).loc Cert.ReferenceUpIdeal.main_arg0)
      ∧ r.2.mem ((c.tc : Thread Cert.ReferenceUpIdeal.nD Cert.ReferenceUpIdeal.τ).loc Cert.ReferenceUpIdeal.main_arg1) = m ((c.tc : Thread Cert.ReferenceUpIdeal.nD Cert.ReferenceUpIdeal.τ).loc Cert.ReferenceUpIdeal.main_arg1)
      ∧ r.2.mem ((c.tc : Thread Cert.ReferenceUpIdeal.nD Cert.ReferenceUpIdeal.τ).loc Cert.ReferenceUpIdeal.main_arg2) = m ((c.tc : Thread Cert.ReferenceUpIdeal.nD Cert.ReferenceUpIdeal.τ).loc Cert.ReferenceUpIdeal.main_arg2)
      ∧ r.2.mem ((c.tc : Thread Cert.ReferenceUpIdeal.nD Cert.ReferenceUpIdeal.τ).loc Cert.ReferenceUpIdeal.main_arg3) = m ((c.tc : Thread Cert.ReferenceUpIdeal.nD Cert.ReferenceUpIdeal.τ).loc Cert.ReferenceUpIdeal.main_arg3)
      ∧ r.2.mem ((c.tc : Thread Cert.ReferenceUpIdeal.nD Cert.ReferenceUpIdeal.τ).loc Cert.ReferenceUpIdeal.main_arg4) = m ((c.tc : Thread Cert.ReferenceUpIdeal.nD Cert.ReferenceUpIdeal.τ).loc Cert.ReferenceUpIdeal.main_arg4))
      ∧ r.2.sem = fun _ => 0)

def quiescent_ReferenceUpIdeal_pre_expert_range_up [hReferenceUpIdeal : Cert.ReferenceUpIdeal.Facts] [hPre_expert_range_up : Cert.Pre_expert_range_up.Facts] : Prop :=
  ∀ (m : (ℓ : Loc Cert.ReferenceUpIdeal.nD Cert.ReferenceUpIdeal.τ Cert.ReferenceUpIdeal.sig) → Buf (Elt Ideal) ℓ) (g : Dev Cert.ReferenceUpIdeal.nD → PrngReg), Pre_ReferenceUpIdeal_expert_range_up m →
    θ_run (Cert.ReferenceUpIdeal.defs (F := Ideal)) (onTc (τ := Cert.ReferenceUpIdeal.τ) (Cert.ReferenceUpIdeal.main (F := Ideal))) ⟨m, fun _ => 0, g⟩ (fun r => (∀ c : Dev Cert.ReferenceUpIdeal.nD,
      r.2.mem ((c.tc : Thread Cert.ReferenceUpIdeal.nD Cert.ReferenceUpIdeal.τ).loc Cert.ReferenceUpIdeal.main_arg0) = m ((c.tc : Thread Cert.ReferenceUpIdeal.nD Cert.ReferenceUpIdeal.τ).loc Cert.ReferenceUpIdeal.main_arg0)
      ∧ r.2.mem ((c.tc : Thread Cert.ReferenceUpIdeal.nD Cert.ReferenceUpIdeal.τ).loc Cert.ReferenceUpIdeal.main_arg1) = m ((c.tc : Thread Cert.ReferenceUpIdeal.nD Cert.ReferenceUpIdeal.τ).loc Cert.ReferenceUpIdeal.main_arg1)
      ∧ r.2.mem ((c.tc : Thread Cert.ReferenceUpIdeal.nD Cert.ReferenceUpIdeal.τ).loc Cert.ReferenceUpIdeal.main_arg2) = m ((c.tc : Thread Cert.ReferenceUpIdeal.nD Cert.ReferenceUpIdeal.τ).loc Cert.ReferenceUpIdeal.main_arg2)
      ∧ r.2.mem ((c.tc : Thread Cert.ReferenceUpIdeal.nD Cert.ReferenceUpIdeal.τ).loc Cert.ReferenceUpIdeal.main_arg3) = m ((c.tc : Thread Cert.ReferenceUpIdeal.nD Cert.ReferenceUpIdeal.τ).loc Cert.ReferenceUpIdeal.main_arg3)
      ∧ r.2.mem ((c.tc : Thread Cert.ReferenceUpIdeal.nD Cert.ReferenceUpIdeal.τ).loc Cert.ReferenceUpIdeal.main_arg4) = m ((c.tc : Thread Cert.ReferenceUpIdeal.nD Cert.ReferenceUpIdeal.τ).loc Cert.ReferenceUpIdeal.main_arg4))
      ∧ r.2.sem = fun _ => 0)

def quiescent_KernelDown [hKernelDown : Cert.KernelDown.Facts] [hPre_expert_range_down : Cert.Pre_expert_range_down.Facts] : Prop :=
  ∀ (m : (ℓ : Loc Cert.KernelDown.nD Cert.KernelDown.τ Cert.KernelDown.sig) → Buf (Elt Bits) ℓ) (g : Dev Cert.KernelDown.nD → PrngReg), Pre_KernelDown m →
    θ_run (Cert.KernelDown.defs (F := Bits)) (onTc (τ := Cert.KernelDown.τ) (Cert.KernelDown.main (F := Bits))) ⟨m, fun _ => 0, g⟩ (fun r => (∀ c : Dev Cert.KernelDown.nD,
      r.2.mem ((c.tc : Thread Cert.KernelDown.nD Cert.KernelDown.τ).loc Cert.KernelDown.main_arg0) = m ((c.tc : Thread Cert.KernelDown.nD Cert.KernelDown.τ).loc Cert.KernelDown.main_arg0)
      ∧ r.2.mem ((c.tc : Thread Cert.KernelDown.nD Cert.KernelDown.τ).loc Cert.KernelDown.main_arg1) = m ((c.tc : Thread Cert.KernelDown.nD Cert.KernelDown.τ).loc Cert.KernelDown.main_arg1)
      ∧ r.2.mem ((c.tc : Thread Cert.KernelDown.nD Cert.KernelDown.τ).loc Cert.KernelDown.main_arg2) = m ((c.tc : Thread Cert.KernelDown.nD Cert.KernelDown.τ).loc Cert.KernelDown.main_arg2)
      ∧ r.2.mem ((c.tc : Thread Cert.KernelDown.nD Cert.KernelDown.τ).loc Cert.KernelDown.main_arg3) = m ((c.tc : Thread Cert.KernelDown.nD Cert.KernelDown.τ).loc Cert.KernelDown.main_arg3)
      ∧ r.2.mem ((c.tc : Thread Cert.KernelDown.nD Cert.KernelDown.τ).loc Cert.KernelDown.main_arg4) = m ((c.tc : Thread Cert.KernelDown.nD Cert.KernelDown.τ).loc Cert.KernelDown.main_arg4))
      ∧ r.2.sem = fun _ => 0)

def quiescent_KernelDownIdeal [hKernelDownIdeal : Cert.KernelDownIdeal.Facts] [hPre_expert_range_down : Cert.Pre_expert_range_down.Facts] : Prop :=
  ∀ (m : (ℓ : Loc Cert.KernelDownIdeal.nD Cert.KernelDownIdeal.τ Cert.KernelDownIdeal.sig) → Buf (Elt Ideal) ℓ) (g : Dev Cert.KernelDownIdeal.nD → PrngReg), Pre_KernelDownIdeal m →
    θ_run (Cert.KernelDownIdeal.defs (F := Ideal)) (onTc (τ := Cert.KernelDownIdeal.τ) (Cert.KernelDownIdeal.main (F := Ideal))) ⟨m, fun _ => 0, g⟩ (fun r => (∀ c : Dev Cert.KernelDownIdeal.nD,
      r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
      ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1)
      ∧ r.2.mem ((c.tc : Thread Cert.KernelDownIdeal.nD Cert.KernelDownIdeal.τ).loc Cert.KernelDownIdeal.main_arg2) = m ((c.tc : Thread Cert.KernelDownIdeal.nD Cert.KernelDownIdeal.τ).loc Cert.KernelDownIdeal.main_arg2)
      ∧ r.2.mem ((c.tc : Thread Cert.KernelDownIdeal.nD Cert.KernelDownIdeal.τ).loc Cert.KernelDownIdeal.main_arg3) = m ((c.tc : Thread Cert.KernelDownIdeal.nD Cert.KernelDownIdeal.τ).loc Cert.KernelDownIdeal.main_arg3)
      ∧ r.2.mem ((c.tc : Thread Cert.KernelDownIdeal.nD Cert.KernelDownIdeal.τ).loc Cert.KernelDownIdeal.main_arg4) = m ((c.tc : Thread Cert.KernelDownIdeal.nD Cert.KernelDownIdeal.τ).loc Cert.KernelDownIdeal.main_arg4))
      ∧ r.2.sem = fun _ => 0)

def quiescent_ReferenceDownIdeal [hReferenceDownIdeal : Cert.ReferenceDownIdeal.Facts] : Prop :=
  ∀ (m : (ℓ : Loc Cert.ReferenceDownIdeal.nD Cert.ReferenceDownIdeal.τ Cert.ReferenceDownIdeal.sig) → Buf (Elt Ideal) ℓ) (g : Dev Cert.ReferenceDownIdeal.nD → PrngReg), Pre_ReferenceDownIdeal m →
    θ_run (Cert.ReferenceDownIdeal.defs (F := Ideal)) (onTc (τ := Cert.ReferenceDownIdeal.τ) (Cert.ReferenceDownIdeal.main (F := Ideal))) ⟨m, fun _ => 0, g⟩ (fun r => (∀ c : Dev Cert.ReferenceDownIdeal.nD,
      r.2.mem ((c.tc : Thread Cert.ReferenceDownIdeal.nD Cert.ReferenceDownIdeal.τ).loc Cert.ReferenceDownIdeal.main_arg0) = m ((c.tc : Thread Cert.ReferenceDownIdeal.nD Cert.ReferenceDownIdeal.τ).loc Cert.ReferenceDownIdeal.main_arg0)
      ∧ r.2.mem ((c.tc : Thread Cert.ReferenceDownIdeal.nD Cert.ReferenceDownIdeal.τ).loc Cert.ReferenceDownIdeal.main_arg1) = m ((c.tc : Thread Cert.ReferenceDownIdeal.nD Cert.ReferenceDownIdeal.τ).loc Cert.ReferenceDownIdeal.main_arg1)
      ∧ r.2.mem ((c.tc : Thread Cert.ReferenceDownIdeal.nD Cert.ReferenceDownIdeal.τ).loc Cert.ReferenceDownIdeal.main_arg2) = m ((c.tc : Thread Cert.ReferenceDownIdeal.nD Cert.ReferenceDownIdeal.τ).loc Cert.ReferenceDownIdeal.main_arg2)
      ∧ r.2.mem ((c.tc : Thread Cert.ReferenceDownIdeal.nD Cert.ReferenceDownIdeal.τ).loc Cert.ReferenceDownIdeal.main_arg3) = m ((c.tc : Thread Cert.ReferenceDownIdeal.nD Cert.ReferenceDownIdeal.τ).loc Cert.ReferenceDownIdeal.main_arg3)
      ∧ r.2.mem ((c.tc : Thread Cert.ReferenceDownIdeal.nD Cert.ReferenceDownIdeal.τ).loc Cert.ReferenceDownIdeal.main_arg4) = m ((c.tc : Thread Cert.ReferenceDownIdeal.nD Cert.ReferenceDownIdeal.τ).loc Cert.ReferenceDownIdeal.main_arg4))
      ∧ r.2.sem = fun _ => 0)

def quiescent_ReferenceDownIdeal_pre_expert_range_down [hReferenceDownIdeal : Cert.ReferenceDownIdeal.Facts] [hPre_expert_range_down : Cert.Pre_expert_range_down.Facts] : Prop :=
  ∀ (m : (ℓ : Loc Cert.ReferenceDownIdeal.nD Cert.ReferenceDownIdeal.τ Cert.ReferenceDownIdeal.sig) → Buf (Elt Ideal) ℓ) (g : Dev Cert.ReferenceDownIdeal.nD → PrngReg), Pre_ReferenceDownIdeal_expert_range_down m →
    θ_run (Cert.ReferenceDownIdeal.defs (F := Ideal)) (onTc (τ := Cert.ReferenceDownIdeal.τ) (Cert.ReferenceDownIdeal.main (F := Ideal))) ⟨m, fun _ => 0, g⟩ (fun r => (∀ c : Dev Cert.ReferenceDownIdeal.nD,
      r.2.mem ((c.tc : Thread Cert.ReferenceDownIdeal.nD Cert.ReferenceDownIdeal.τ).loc Cert.ReferenceDownIdeal.main_arg0) = m ((c.tc : Thread Cert.ReferenceDownIdeal.nD Cert.ReferenceDownIdeal.τ).loc Cert.ReferenceDownIdeal.main_arg0)
      ∧ r.2.mem ((c.tc : Thread Cert.ReferenceDownIdeal.nD Cert.ReferenceDownIdeal.τ).loc Cert.ReferenceDownIdeal.main_arg1) = m ((c.tc : Thread Cert.ReferenceDownIdeal.nD Cert.ReferenceDownIdeal.τ).loc Cert.ReferenceDownIdeal.main_arg1)
      ∧ r.2.mem ((c.tc : Thread Cert.ReferenceDownIdeal.nD Cert.ReferenceDownIdeal.τ).loc Cert.ReferenceDownIdeal.main_arg2) = m ((c.tc : Thread Cert.ReferenceDownIdeal.nD Cert.ReferenceDownIdeal.τ).loc Cert.ReferenceDownIdeal.main_arg2)
      ∧ r.2.mem ((c.tc : Thread Cert.ReferenceDownIdeal.nD Cert.ReferenceDownIdeal.τ).loc Cert.ReferenceDownIdeal.main_arg3) = m ((c.tc : Thread Cert.ReferenceDownIdeal.nD Cert.ReferenceDownIdeal.τ).loc Cert.ReferenceDownIdeal.main_arg3)
      ∧ r.2.mem ((c.tc : Thread Cert.ReferenceDownIdeal.nD Cert.ReferenceDownIdeal.τ).loc Cert.ReferenceDownIdeal.main_arg4) = m ((c.tc : Thread Cert.ReferenceDownIdeal.nD Cert.ReferenceDownIdeal.τ).loc Cert.ReferenceDownIdeal.main_arg4))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_scores_defined [hKernelIdeal : Cert.KernelIdeal.Facts] [hReferenceIdeal : Cert.ReferenceIdeal.Facts] [hPre_scores_defined : Cert.Pre_scores_defined.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scores_defined m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_KernelZa_KernelZaIdeal : Prop :=
  True

def algebraic_KernelZaIdeal_ReferenceZaIdeal [hKernelZaIdeal : Cert.KernelZaIdeal.Facts] [hReferenceZaIdeal : Cert.ReferenceZaIdeal.Facts] : Prop :=
  ∀ (m : (ℓ : Loc Cert.KernelZaIdeal.nD Cert.KernelZaIdeal.τ Cert.KernelZaIdeal.sig) → Buf (Elt Ideal) ℓ) (g : Dev Cert.KernelZaIdeal.nD → PrngReg)
    (m' : (ℓ : Loc Cert.ReferenceZaIdeal.nD Cert.ReferenceZaIdeal.τ Cert.ReferenceZaIdeal.sig) → Buf (Elt Ideal) ℓ) (g' : Dev Cert.ReferenceZaIdeal.nD → PrngReg), Pre_KernelZaIdeal m →
    (∀ c : Dev Cert.KernelZaIdeal.nD,
      m' ((c.tc : Thread Cert.ReferenceZaIdeal.nD Cert.ReferenceZaIdeal.τ).loc Cert.ReferenceZaIdeal.main_arg0) = m ((c.tc : Thread Cert.KernelZaIdeal.nD Cert.KernelZaIdeal.τ).loc Cert.KernelZaIdeal.main_arg0)
      ∧ m' ((c.tc : Thread Cert.ReferenceZaIdeal.nD Cert.ReferenceZaIdeal.τ).loc Cert.ReferenceZaIdeal.main_arg1) = m ((c.tc : Thread Cert.KernelZaIdeal.nD Cert.KernelZaIdeal.τ).loc Cert.KernelZaIdeal.main_arg1)
      ∧ m' ((c.tc : Thread Cert.ReferenceZaIdeal.nD Cert.ReferenceZaIdeal.τ).loc Cert.ReferenceZaIdeal.main_arg2) = m ((c.tc : Thread Cert.KernelZaIdeal.nD Cert.KernelZaIdeal.τ).loc Cert.KernelZaIdeal.main_arg2)) →
    ∃ (v0 : (c : Dev Cert.KernelZaIdeal.nD) → Buf (Elt Ideal) ((c.tc : Thread Cert.KernelZaIdeal.nD Cert.KernelZaIdeal.τ).loc Cert.KernelZaIdeal.main_v11)),
      θ_run (Cert.KernelZaIdeal.defs (F := Ideal)) (onTc (τ := Cert.KernelZaIdeal.τ) (Cert.KernelZaIdeal.main (F := Ideal))) ⟨m, fun _ => 0, g⟩ (fun r => ∀ c : Dev Cert.KernelZaIdeal.nD,
          r.2.mem ((c.tc : Thread Cert.KernelZaIdeal.nD Cert.KernelZaIdeal.τ).loc Cert.KernelZaIdeal.main_v11) = v0 c
          ∧ r.2.mem ((c.tc : Thread Cert.KernelZaIdeal.nD Cert.KernelZaIdeal.τ).loc Cert.KernelZaIdeal.main_arg0) = m ((c.tc : Thread Cert.KernelZaIdeal.nD Cert.KernelZaIdeal.τ).loc Cert.KernelZaIdeal.main_arg0)
          ∧ r.2.mem ((c.tc : Thread Cert.KernelZaIdeal.nD Cert.KernelZaIdeal.τ).loc Cert.KernelZaIdeal.main_arg1) = m ((c.tc : Thread Cert.KernelZaIdeal.nD Cert.KernelZaIdeal.τ).loc Cert.KernelZaIdeal.main_arg1)
          ∧ r.2.mem ((c.tc : Thread Cert.KernelZaIdeal.nD Cert.KernelZaIdeal.τ).loc Cert.KernelZaIdeal.main_arg2) = m ((c.tc : Thread Cert.KernelZaIdeal.nD Cert.KernelZaIdeal.τ).loc Cert.KernelZaIdeal.main_arg2))
      ∧ θ_run (Cert.ReferenceZaIdeal.defs (F := Ideal)) (onTc (τ := Cert.ReferenceZaIdeal.τ) (Cert.ReferenceZaIdeal.main (F := Ideal))) ⟨m', fun _ => 0, g'⟩ (fun r => ∀ c : Dev Cert.ReferenceZaIdeal.nD,
          r.2.mem ((c.tc : Thread Cert.ReferenceZaIdeal.nD Cert.ReferenceZaIdeal.τ).loc Cert.ReferenceZaIdeal.main_v20) = v0 c
          ∧ r.2.mem ((c.tc : Thread Cert.ReferenceZaIdeal.nD Cert.ReferenceZaIdeal.τ).loc Cert.ReferenceZaIdeal.main_arg0) = m' ((c.tc : Thread Cert.ReferenceZaIdeal.nD Cert.ReferenceZaIdeal.τ).loc Cert.ReferenceZaIdeal.main_arg0)
          ∧ r.2.mem ((c.tc : Thread Cert.ReferenceZaIdeal.nD Cert.ReferenceZaIdeal.τ).loc Cert.ReferenceZaIdeal.main_arg1) = m' ((c.tc : Thread Cert.ReferenceZaIdeal.nD Cert.ReferenceZaIdeal.τ).loc Cert.ReferenceZaIdeal.main_arg1)
          ∧ r.2.mem ((c.tc : Thread Cert.ReferenceZaIdeal.nD Cert.ReferenceZaIdeal.τ).loc Cert.ReferenceZaIdeal.main_arg2) = m' ((c.tc : Thread Cert.ReferenceZaIdeal.nD Cert.ReferenceZaIdeal.τ).loc Cert.ReferenceZaIdeal.main_arg2))

def preserves_KernelZb_KernelZbIdeal : Prop :=
  True

def algebraic_KernelZbIdeal_ReferenceZbIdeal [hKernelZbIdeal : Cert.KernelZbIdeal.Facts] [hReferenceZbIdeal : Cert.ReferenceZbIdeal.Facts] : Prop :=
  ∀ (m : (ℓ : Loc Cert.KernelZbIdeal.nD Cert.KernelZbIdeal.τ Cert.KernelZbIdeal.sig) → Buf (Elt Ideal) ℓ) (g : Dev Cert.KernelZbIdeal.nD → PrngReg)
    (m' : (ℓ : Loc Cert.ReferenceZbIdeal.nD Cert.ReferenceZbIdeal.τ Cert.ReferenceZbIdeal.sig) → Buf (Elt Ideal) ℓ) (g' : Dev Cert.ReferenceZbIdeal.nD → PrngReg), Pre_KernelZbIdeal m →
    (∀ c : Dev Cert.KernelZbIdeal.nD,
      m' ((c.tc : Thread Cert.ReferenceZbIdeal.nD Cert.ReferenceZbIdeal.τ).loc Cert.ReferenceZbIdeal.main_arg0) = m ((c.tc : Thread Cert.KernelZbIdeal.nD Cert.KernelZbIdeal.τ).loc Cert.KernelZbIdeal.main_arg0)
      ∧ m' ((c.tc : Thread Cert.ReferenceZbIdeal.nD Cert.ReferenceZbIdeal.τ).loc Cert.ReferenceZbIdeal.main_arg1) = m ((c.tc : Thread Cert.KernelZbIdeal.nD Cert.KernelZbIdeal.τ).loc Cert.KernelZbIdeal.main_arg1)
      ∧ m' ((c.tc : Thread Cert.ReferenceZbIdeal.nD Cert.ReferenceZbIdeal.τ).loc Cert.ReferenceZbIdeal.main_arg2) = m ((c.tc : Thread Cert.KernelZbIdeal.nD Cert.KernelZbIdeal.τ).loc Cert.KernelZbIdeal.main_arg2)) →
    ∃ (v0 : (c : Dev Cert.KernelZbIdeal.nD) → Buf (Elt Ideal) ((c.tc : Thread Cert.KernelZbIdeal.nD Cert.KernelZbIdeal.τ).loc Cert.KernelZbIdeal.main_v11)),
      θ_run (Cert.KernelZbIdeal.defs (F := Ideal)) (onTc (τ := Cert.KernelZbIdeal.τ) (Cert.KernelZbIdeal.main (F := Ideal))) ⟨m, fun _ => 0, g⟩ (fun r => ∀ c : Dev Cert.KernelZbIdeal.nD,
          r.2.mem ((c.tc : Thread Cert.KernelZbIdeal.nD Cert.KernelZbIdeal.τ).loc Cert.KernelZbIdeal.main_v11) = v0 c
          ∧ r.2.mem ((c.tc : Thread Cert.KernelZbIdeal.nD Cert.KernelZbIdeal.τ).loc Cert.KernelZbIdeal.main_arg0) = m ((c.tc : Thread Cert.KernelZbIdeal.nD Cert.KernelZbIdeal.τ).loc Cert.KernelZbIdeal.main_arg0)
          ∧ r.2.mem ((c.tc : Thread Cert.KernelZbIdeal.nD Cert.KernelZbIdeal.τ).loc Cert.KernelZbIdeal.main_arg1) = m ((c.tc : Thread Cert.KernelZbIdeal.nD Cert.KernelZbIdeal.τ).loc Cert.KernelZbIdeal.main_arg1)
          ∧ r.2.mem ((c.tc : Thread Cert.KernelZbIdeal.nD Cert.KernelZbIdeal.τ).loc Cert.KernelZbIdeal.main_arg2) = m ((c.tc : Thread Cert.KernelZbIdeal.nD Cert.KernelZbIdeal.τ).loc Cert.KernelZbIdeal.main_arg2))
      ∧ θ_run (Cert.ReferenceZbIdeal.defs (F := Ideal)) (onTc (τ := Cert.ReferenceZbIdeal.τ) (Cert.ReferenceZbIdeal.main (F := Ideal))) ⟨m', fun _ => 0, g'⟩ (fun r => ∀ c : Dev Cert.ReferenceZbIdeal.nD,
          r.2.mem ((c.tc : Thread Cert.ReferenceZbIdeal.nD Cert.ReferenceZbIdeal.τ).loc Cert.ReferenceZbIdeal.main_v21) = v0 c
          ∧ r.2.mem ((c.tc : Thread Cert.ReferenceZbIdeal.nD Cert.ReferenceZbIdeal.τ).loc Cert.ReferenceZbIdeal.main_arg0) = m' ((c.tc : Thread Cert.ReferenceZbIdeal.nD Cert.ReferenceZbIdeal.τ).loc Cert.ReferenceZbIdeal.main_arg0)
          ∧ r.2.mem ((c.tc : Thread Cert.ReferenceZbIdeal.nD Cert.ReferenceZbIdeal.τ).loc Cert.ReferenceZbIdeal.main_arg1) = m' ((c.tc : Thread Cert.ReferenceZbIdeal.nD Cert.ReferenceZbIdeal.τ).loc Cert.ReferenceZbIdeal.main_arg1)
          ∧ r.2.mem ((c.tc : Thread Cert.ReferenceZbIdeal.nD Cert.ReferenceZbIdeal.τ).loc Cert.ReferenceZbIdeal.main_arg2) = m' ((c.tc : Thread Cert.ReferenceZbIdeal.nD Cert.ReferenceZbIdeal.τ).loc Cert.ReferenceZbIdeal.main_arg2))

def preserves_KernelUp_KernelUpIdeal : Prop :=
  True

def algebraic_KernelUpIdeal_ReferenceUpIdeal_on_used_rows_up [hKernelUpIdeal : Cert.KernelUpIdeal.Facts] [hReferenceUpIdeal : Cert.ReferenceUpIdeal.Facts] [hPre_expert_range_up : Cert.Pre_expert_range_up.Facts] [hOn_used_rows_up : Cert.On_used_rows_up.Facts] : Prop :=
  ∀ (m : (ℓ : Loc Cert.KernelUpIdeal.nD Cert.KernelUpIdeal.τ Cert.KernelUpIdeal.sig) → Buf (Elt Ideal) ℓ) (g : Dev Cert.KernelUpIdeal.nD → PrngReg)
    (m' : (ℓ : Loc Cert.ReferenceUpIdeal.nD Cert.ReferenceUpIdeal.τ Cert.ReferenceUpIdeal.sig) → Buf (Elt Ideal) ℓ) (g' : Dev Cert.ReferenceUpIdeal.nD → PrngReg), Pre_KernelUpIdeal m →
    (∀ c : Dev Cert.KernelUpIdeal.nD,
      m' ((c.tc : Thread Cert.ReferenceUpIdeal.nD Cert.ReferenceUpIdeal.τ).loc Cert.ReferenceUpIdeal.main_arg0) = m ((c.tc : Thread Cert.KernelUpIdeal.nD Cert.KernelUpIdeal.τ).loc Cert.KernelUpIdeal.main_arg0)
      ∧ m' ((c.tc : Thread Cert.ReferenceUpIdeal.nD Cert.ReferenceUpIdeal.τ).loc Cert.ReferenceUpIdeal.main_arg1) = m ((c.tc : Thread Cert.KernelUpIdeal.nD Cert.KernelUpIdeal.τ).loc Cert.KernelUpIdeal.main_arg1)
      ∧ m' ((c.tc : Thread Cert.ReferenceUpIdeal.nD Cert.ReferenceUpIdeal.τ).loc Cert.ReferenceUpIdeal.main_arg2) = m ((c.tc : Thread Cert.KernelUpIdeal.nD Cert.KernelUpIdeal.τ).loc Cert.KernelUpIdeal.main_arg2)
      ∧ m' ((c.tc : Thread Cert.ReferenceUpIdeal.nD Cert.ReferenceUpIdeal.τ).loc Cert.ReferenceUpIdeal.main_arg3) = m ((c.tc : Thread Cert.KernelUpIdeal.nD Cert.KernelUpIdeal.τ).loc Cert.KernelUpIdeal.main_arg3)
      ∧ m' ((c.tc : Thread Cert.ReferenceUpIdeal.nD Cert.ReferenceUpIdeal.τ).loc Cert.ReferenceUpIdeal.main_arg4) = m ((c.tc : Thread Cert.KernelUpIdeal.nD Cert.KernelUpIdeal.τ).loc Cert.KernelUpIdeal.main_arg4)) →
    ∃ (v0 : (c : Dev Cert.KernelUpIdeal.nD) → Buf (Elt Ideal) ((c.tc : Thread Cert.KernelUpIdeal.nD Cert.KernelUpIdeal.τ).loc Cert.KernelUpIdeal.main_v0)),
      θ_run (Cert.KernelUpIdeal.defs (F := Ideal)) (onTc (τ := Cert.KernelUpIdeal.τ) (Cert.KernelUpIdeal.main (F := Ideal))) ⟨m, fun _ => 0, g⟩ (fun r => ∀ c : Dev Cert.KernelUpIdeal.nD,
          (∀ i : (⟨2, ![73728, 2048]⟩ : Shape).Idx, (Cert.On_used_rows_up.fn (F := Ideal) (m ((c.tc : Thread Cert.KernelUpIdeal.nD Cert.KernelUpIdeal.τ).loc Cert.KernelUpIdeal.main_arg0)) (m ((c.tc : Thread Cert.KernelUpIdeal.nD Cert.KernelUpIdeal.τ).loc Cert.KernelUpIdeal.main_arg1)) (m ((c.tc : Thread Cert.KernelUpIdeal.nD Cert.KernelUpIdeal.τ).loc Cert.KernelUpIdeal.main_arg2)) (m ((c.tc : Thread Cert.KernelUpIdeal.nD Cert.KernelUpIdeal.τ).loc Cert.KernelUpIdeal.main_arg3)) (m ((c.tc : Thread Cert.KernelUpIdeal.nD Cert.KernelUpIdeal.τ).loc Cert.KernelUpIdeal.main_arg4))) i = 1#1 → r.2.mem ((c.tc : Thread Cert.KernelUpIdeal.nD Cert.KernelUpIdeal.τ).loc Cert.KernelUpIdeal.main_v0) i = v0 c i)
          ∧ r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
          ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1)
          ∧ r.2.mem ((c.tc : Thread Cert.KernelUpIdeal.nD Cert.KernelUpIdeal.τ).loc Cert.KernelUpIdeal.main_arg2) = m ((c.tc : Thread Cert.KernelUpIdeal.nD Cert.KernelUpIdeal.τ).loc Cert.KernelUpIdeal.main_arg2)
          ∧ r.2.mem ((c.tc : Thread Cert.KernelUpIdeal.nD Cert.KernelUpIdeal.τ).loc Cert.KernelUpIdeal.main_arg3) = m ((c.tc : Thread Cert.KernelUpIdeal.nD Cert.KernelUpIdeal.τ).loc Cert.KernelUpIdeal.main_arg3)
          ∧ r.2.mem ((c.tc : Thread Cert.KernelUpIdeal.nD Cert.KernelUpIdeal.τ).loc Cert.KernelUpIdeal.main_arg4) = m ((c.tc : Thread Cert.KernelUpIdeal.nD Cert.KernelUpIdeal.τ).loc Cert.KernelUpIdeal.main_arg4))
      ∧ θ_run (Cert.ReferenceUpIdeal.defs (F := Ideal)) (onTc (τ := Cert.ReferenceUpIdeal.τ) (Cert.ReferenceUpIdeal.main (F := Ideal))) ⟨m', fun _ => 0, g'⟩ (fun r => ∀ c : Dev Cert.ReferenceUpIdeal.nD,
          (∀ i : (⟨2, ![73728, 2048]⟩ : Shape).Idx, (Cert.On_used_rows_up.fn (F := Ideal) (m ((c.tc : Thread Cert.KernelUpIdeal.nD Cert.KernelUpIdeal.τ).loc Cert.KernelUpIdeal.main_arg0)) (m ((c.tc : Thread Cert.KernelUpIdeal.nD Cert.KernelUpIdeal.τ).loc Cert.KernelUpIdeal.main_arg1)) (m ((c.tc : Thread Cert.KernelUpIdeal.nD Cert.KernelUpIdeal.τ).loc Cert.KernelUpIdeal.main_arg2)) (m ((c.tc : Thread Cert.KernelUpIdeal.nD Cert.KernelUpIdeal.τ).loc Cert.KernelUpIdeal.main_arg3)) (m ((c.tc : Thread Cert.KernelUpIdeal.nD Cert.KernelUpIdeal.τ).loc Cert.KernelUpIdeal.main_arg4))) i = 1#1 → r.2.mem ((c.tc : Thread Cert.ReferenceUpIdeal.nD Cert.ReferenceUpIdeal.τ).loc Cert.ReferenceUpIdeal.main_v56) i = v0 c i)
          ∧ r.2.mem ((c.tc : Thread Cert.ReferenceUpIdeal.nD Cert.ReferenceUpIdeal.τ).loc Cert.ReferenceUpIdeal.main_arg0) = m' ((c.tc : Thread Cert.ReferenceUpIdeal.nD Cert.ReferenceUpIdeal.τ).loc Cert.ReferenceUpIdeal.main_arg0)
          ∧ r.2.mem ((c.tc : Thread Cert.ReferenceUpIdeal.nD Cert.ReferenceUpIdeal.τ).loc Cert.ReferenceUpIdeal.main_arg1) = m' ((c.tc : Thread Cert.ReferenceUpIdeal.nD Cert.ReferenceUpIdeal.τ).loc Cert.ReferenceUpIdeal.main_arg1)
          ∧ r.2.mem ((c.tc : Thread Cert.ReferenceUpIdeal.nD Cert.ReferenceUpIdeal.τ).loc Cert.ReferenceUpIdeal.main_arg2) = m' ((c.tc : Thread Cert.ReferenceUpIdeal.nD Cert.ReferenceUpIdeal.τ).loc Cert.ReferenceUpIdeal.main_arg2)
          ∧ r.2.mem ((c.tc : Thread Cert.ReferenceUpIdeal.nD Cert.ReferenceUpIdeal.τ).loc Cert.ReferenceUpIdeal.main_arg3) = m' ((c.tc : Thread Cert.ReferenceUpIdeal.nD Cert.ReferenceUpIdeal.τ).loc Cert.ReferenceUpIdeal.main_arg3)
          ∧ r.2.mem ((c.tc : Thread Cert.ReferenceUpIdeal.nD Cert.ReferenceUpIdeal.τ).loc Cert.ReferenceUpIdeal.main_arg4) = m' ((c.tc : Thread Cert.ReferenceUpIdeal.nD Cert.ReferenceUpIdeal.τ).loc Cert.ReferenceUpIdeal.main_arg4))

def preserves_KernelDown_KernelDownIdeal : Prop :=
  True

def algebraic_KernelDownIdeal_ReferenceDownIdeal_on_used_rows_down [hKernelDownIdeal : Cert.KernelDownIdeal.Facts] [hReferenceDownIdeal : Cert.ReferenceDownIdeal.Facts] [hPre_expert_range_down : Cert.Pre_expert_range_down.Facts] [hOn_used_rows_down : Cert.On_used_rows_down.Facts] : Prop :=
  ∀ (m : (ℓ : Loc Cert.KernelDownIdeal.nD Cert.KernelDownIdeal.τ Cert.KernelDownIdeal.sig) → Buf (Elt Ideal) ℓ) (g : Dev Cert.KernelDownIdeal.nD → PrngReg)
    (m' : (ℓ : Loc Cert.ReferenceDownIdeal.nD Cert.ReferenceDownIdeal.τ Cert.ReferenceDownIdeal.sig) → Buf (Elt Ideal) ℓ) (g' : Dev Cert.ReferenceDownIdeal.nD → PrngReg), Pre_KernelDownIdeal m →
    (∀ c : Dev Cert.KernelDownIdeal.nD,
      m' ((c.tc : Thread Cert.ReferenceDownIdeal.nD Cert.ReferenceDownIdeal.τ).loc Cert.ReferenceDownIdeal.main_arg0) = m ((c.tc : Thread Cert.KernelDownIdeal.nD Cert.KernelDownIdeal.τ).loc Cert.KernelDownIdeal.main_arg0)
      ∧ m' ((c.tc : Thread Cert.ReferenceDownIdeal.nD Cert.ReferenceDownIdeal.τ).loc Cert.ReferenceDownIdeal.main_arg1) = m ((c.tc : Thread Cert.KernelDownIdeal.nD Cert.KernelDownIdeal.τ).loc Cert.KernelDownIdeal.main_arg1)
      ∧ m' ((c.tc : Thread Cert.ReferenceDownIdeal.nD Cert.ReferenceDownIdeal.τ).loc Cert.ReferenceDownIdeal.main_arg2) = m ((c.tc : Thread Cert.KernelDownIdeal.nD Cert.KernelDownIdeal.τ).loc Cert.KernelDownIdeal.main_arg2)
      ∧ m' ((c.tc : Thread Cert.ReferenceDownIdeal.nD Cert.ReferenceDownIdeal.τ).loc Cert.ReferenceDownIdeal.main_arg3) = m ((c.tc : Thread Cert.KernelDownIdeal.nD Cert.KernelDownIdeal.τ).loc Cert.KernelDownIdeal.main_arg3)
      ∧ m' ((c.tc : Thread Cert.ReferenceDownIdeal.nD Cert.ReferenceDownIdeal.τ).loc Cert.ReferenceDownIdeal.main_arg4) = m ((c.tc : Thread Cert.KernelDownIdeal.nD Cert.KernelDownIdeal.τ).loc Cert.KernelDownIdeal.main_arg4)) →
    ∃ (v0 : (c : Dev Cert.KernelDownIdeal.nD) → Buf (Elt Ideal) ((c.tc : Thread Cert.KernelDownIdeal.nD Cert.KernelDownIdeal.τ).loc Cert.KernelDownIdeal.main_v0)),
      θ_run (Cert.KernelDownIdeal.defs (F := Ideal)) (onTc (τ := Cert.KernelDownIdeal.τ) (Cert.KernelDownIdeal.main (F := Ideal))) ⟨m, fun _ => 0, g⟩ (fun r => ∀ c : Dev Cert.KernelDownIdeal.nD,
          (∀ i : (⟨2, ![73728, 2048]⟩ : Shape).Idx, (Cert.On_used_rows_down.fn (F := Ideal) (m ((c.tc : Thread Cert.KernelDownIdeal.nD Cert.KernelDownIdeal.τ).loc Cert.KernelDownIdeal.main_arg0)) (m ((c.tc : Thread Cert.KernelDownIdeal.nD Cert.KernelDownIdeal.τ).loc Cert.KernelDownIdeal.main_arg1)) (m ((c.tc : Thread Cert.KernelDownIdeal.nD Cert.KernelDownIdeal.τ).loc Cert.KernelDownIdeal.main_arg2)) (m ((c.tc : Thread Cert.KernelDownIdeal.nD Cert.KernelDownIdeal.τ).loc Cert.KernelDownIdeal.main_arg3)) (m ((c.tc : Thread Cert.KernelDownIdeal.nD Cert.KernelDownIdeal.τ).loc Cert.KernelDownIdeal.main_arg4))) i = 1#1 → r.2.mem ((c.tc : Thread Cert.KernelDownIdeal.nD Cert.KernelDownIdeal.τ).loc Cert.KernelDownIdeal.main_v0) i = v0 c i)
          ∧ r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
          ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1)
          ∧ r.2.mem ((c.tc : Thread Cert.KernelDownIdeal.nD Cert.KernelDownIdeal.τ).loc Cert.KernelDownIdeal.main_arg2) = m ((c.tc : Thread Cert.KernelDownIdeal.nD Cert.KernelDownIdeal.τ).loc Cert.KernelDownIdeal.main_arg2)
          ∧ r.2.mem ((c.tc : Thread Cert.KernelDownIdeal.nD Cert.KernelDownIdeal.τ).loc Cert.KernelDownIdeal.main_arg3) = m ((c.tc : Thread Cert.KernelDownIdeal.nD Cert.KernelDownIdeal.τ).loc Cert.KernelDownIdeal.main_arg3)
          ∧ r.2.mem ((c.tc : Thread Cert.KernelDownIdeal.nD Cert.KernelDownIdeal.τ).loc Cert.KernelDownIdeal.main_arg4) = m ((c.tc : Thread Cert.KernelDownIdeal.nD Cert.KernelDownIdeal.τ).loc Cert.KernelDownIdeal.main_arg4))
      ∧ θ_run (Cert.ReferenceDownIdeal.defs (F := Ideal)) (onTc (τ := Cert.ReferenceDownIdeal.τ) (Cert.ReferenceDownIdeal.main (F := Ideal))) ⟨m', fun _ => 0, g'⟩ (fun r => ∀ c : Dev Cert.ReferenceDownIdeal.nD,
          (∀ i : (⟨2, ![73728, 2048]⟩ : Shape).Idx, (Cert.On_used_rows_down.fn (F := Ideal) (m ((c.tc : Thread Cert.KernelDownIdeal.nD Cert.KernelDownIdeal.τ).loc Cert.KernelDownIdeal.main_arg0)) (m ((c.tc : Thread Cert.KernelDownIdeal.nD Cert.KernelDownIdeal.τ).loc Cert.KernelDownIdeal.main_arg1)) (m ((c.tc : Thread Cert.KernelDownIdeal.nD Cert.KernelDownIdeal.τ).loc Cert.KernelDownIdeal.main_arg2)) (m ((c.tc : Thread Cert.KernelDownIdeal.nD Cert.KernelDownIdeal.τ).loc Cert.KernelDownIdeal.main_arg3)) (m ((c.tc : Thread Cert.KernelDownIdeal.nD Cert.KernelDownIdeal.τ).loc Cert.KernelDownIdeal.main_arg4))) i = 1#1 → r.2.mem ((c.tc : Thread Cert.ReferenceDownIdeal.nD Cert.ReferenceDownIdeal.τ).loc Cert.ReferenceDownIdeal.main_v20) i = v0 c i)
          ∧ r.2.mem ((c.tc : Thread Cert.ReferenceDownIdeal.nD Cert.ReferenceDownIdeal.τ).loc Cert.ReferenceDownIdeal.main_arg0) = m' ((c.tc : Thread Cert.ReferenceDownIdeal.nD Cert.ReferenceDownIdeal.τ).loc Cert.ReferenceDownIdeal.main_arg0)
          ∧ r.2.mem ((c.tc : Thread Cert.ReferenceDownIdeal.nD Cert.ReferenceDownIdeal.τ).loc Cert.ReferenceDownIdeal.main_arg1) = m' ((c.tc : Thread Cert.ReferenceDownIdeal.nD Cert.ReferenceDownIdeal.τ).loc Cert.ReferenceDownIdeal.main_arg1)
          ∧ r.2.mem ((c.tc : Thread Cert.ReferenceDownIdeal.nD Cert.ReferenceDownIdeal.τ).loc Cert.ReferenceDownIdeal.main_arg2) = m' ((c.tc : Thread Cert.ReferenceDownIdeal.nD Cert.ReferenceDownIdeal.τ).loc Cert.ReferenceDownIdeal.main_arg2)
          ∧ r.2.mem ((c.tc : Thread Cert.ReferenceDownIdeal.nD Cert.ReferenceDownIdeal.τ).loc Cert.ReferenceDownIdeal.main_arg3) = m' ((c.tc : Thread Cert.ReferenceDownIdeal.nD Cert.ReferenceDownIdeal.τ).loc Cert.ReferenceDownIdeal.main_arg3)
          ∧ r.2.mem ((c.tc : Thread Cert.ReferenceDownIdeal.nD Cert.ReferenceDownIdeal.τ).loc Cert.ReferenceDownIdeal.main_arg4) = m' ((c.tc : Thread Cert.ReferenceDownIdeal.nD Cert.ReferenceDownIdeal.τ).loc Cert.ReferenceDownIdeal.main_arg4))

def Claim : Prop :=
  ∃ (hKernel : Cert.Kernel.Facts) (hKernelIdeal : Cert.KernelIdeal.Facts) (hReferenceIdeal : Cert.ReferenceIdeal.Facts) (hKernelZa : Cert.KernelZa.Facts) (hKernelZaIdeal : Cert.KernelZaIdeal.Facts) (hReferenceZaIdeal : Cert.ReferenceZaIdeal.Facts) (hKernelZb : Cert.KernelZb.Facts) (hKernelZbIdeal : Cert.KernelZbIdeal.Facts) (hReferenceZbIdeal : Cert.ReferenceZbIdeal.Facts) (hKernelUp : Cert.KernelUp.Facts) (hKernelUpIdeal : Cert.KernelUpIdeal.Facts) (hReferenceUpIdeal : Cert.ReferenceUpIdeal.Facts) (hKernelDown : Cert.KernelDown.Facts) (hKernelDownIdeal : Cert.KernelDownIdeal.Facts) (hReferenceDownIdeal : Cert.ReferenceDownIdeal.Facts) (hPre_scores_defined : Cert.Pre_scores_defined.Facts) (hPre_expert_range_up : Cert.Pre_expert_range_up.Facts) (hPre_expert_range_down : Cert.Pre_expert_range_down.Facts) (hOn_used_rows_up : Cert.On_used_rows_up.Facts) (hOn_used_rows_down : Cert.On_used_rows_down.Facts),
    quiescent_Kernel (hKernel := hKernel)
    ∧ quiescent_KernelIdeal (hKernelIdeal := hKernelIdeal)
    ∧ quiescent_KernelIdeal_pre_scores_defined (hKernelIdeal := hKernelIdeal) (hPre_scores_defined := hPre_scores_defined)
    ∧ quiescent_ReferenceIdeal (hReferenceIdeal := hReferenceIdeal)
    ∧ quiescent_ReferenceIdeal_pre_scores_defined (hReferenceIdeal := hReferenceIdeal) (hPre_scores_defined := hPre_scores_defined)
    ∧ quiescent_KernelZa (hKernelZa := hKernelZa)
    ∧ quiescent_KernelZaIdeal (hKernelZaIdeal := hKernelZaIdeal)
    ∧ quiescent_ReferenceZaIdeal (hReferenceZaIdeal := hReferenceZaIdeal)
    ∧ quiescent_KernelZb (hKernelZb := hKernelZb)
    ∧ quiescent_KernelZbIdeal (hKernelZbIdeal := hKernelZbIdeal)
    ∧ quiescent_ReferenceZbIdeal (hReferenceZbIdeal := hReferenceZbIdeal)
    ∧ quiescent_KernelUp (hKernelUp := hKernelUp) (hPre_expert_range_up := hPre_expert_range_up)
    ∧ quiescent_KernelUpIdeal (hKernelUpIdeal := hKernelUpIdeal) (hPre_expert_range_up := hPre_expert_range_up)
    ∧ quiescent_ReferenceUpIdeal (hReferenceUpIdeal := hReferenceUpIdeal)
    ∧ quiescent_ReferenceUpIdeal_pre_expert_range_up (hReferenceUpIdeal := hReferenceUpIdeal) (hPre_expert_range_up := hPre_expert_range_up)
    ∧ quiescent_KernelDown (hKernelDown := hKernelDown) (hPre_expert_range_down := hPre_expert_range_down)
    ∧ quiescent_KernelDownIdeal (hKernelDownIdeal := hKernelDownIdeal) (hPre_expert_range_down := hPre_expert_range_down)
    ∧ quiescent_ReferenceDownIdeal (hReferenceDownIdeal := hReferenceDownIdeal)
    ∧ quiescent_ReferenceDownIdeal_pre_expert_range_down (hReferenceDownIdeal := hReferenceDownIdeal) (hPre_expert_range_down := hPre_expert_range_down)
    ∧ preserves_Kernel_KernelIdeal
    ∧ algebraic_KernelIdeal_ReferenceIdeal_pre_scores_defined (hKernelIdeal := hKernelIdeal) (hReferenceIdeal := hReferenceIdeal) (hPre_scores_defined := hPre_scores_defined)
    ∧ preserves_KernelZa_KernelZaIdeal
    ∧ algebraic_KernelZaIdeal_ReferenceZaIdeal (hKernelZaIdeal := hKernelZaIdeal) (hReferenceZaIdeal := hReferenceZaIdeal)
    ∧ preserves_KernelZb_KernelZbIdeal
    ∧ algebraic_KernelZbIdeal_ReferenceZbIdeal (hKernelZbIdeal := hKernelZbIdeal) (hReferenceZbIdeal := hReferenceZbIdeal)
    ∧ preserves_KernelUp_KernelUpIdeal
    ∧ algebraic_KernelUpIdeal_ReferenceUpIdeal_on_used_rows_up (hKernelUpIdeal := hKernelUpIdeal) (hReferenceUpIdeal := hReferenceUpIdeal) (hPre_expert_range_up := hPre_expert_range_up) (hOn_used_rows_up := hOn_used_rows_up)
    ∧ preserves_KernelDown_KernelDownIdeal
    ∧ algebraic_KernelDownIdeal_ReferenceDownIdeal_on_used_rows_down (hKernelDownIdeal := hKernelDownIdeal) (hReferenceDownIdeal := hReferenceDownIdeal) (hPre_expert_range_down := hPre_expert_range_down) (hOn_used_rows_down := hOn_used_rows_down)
-- ==== On_used_rows_down.lean ====
abbrev S288 : Shape := ⟨1, ![288]⟩
abbrev S1 : Shape := ⟨1, ![1]⟩
abbrev S73728x2048 : Shape := ⟨2, ![73728, 2048]⟩
abbrev S32x2048x2048 : Shape := ⟨3, ![32, 2048, 2048]⟩
abbrev S32x1x2048 : Shape := ⟨3, ![32, 1, 2048]⟩
abbrev S_ : Shape := ⟨0, ![]⟩

class Facts : Prop where
  bcast_S_S73728x2048 : S_.BroadcastsInDim S73728x2048 (![] : Fin 0 → Fin S73728x2048.rank)
  shapeCasts_S1_S_ : S1.ShapeCasts S_

variable [Facts]

def fn {F : FTy → Type} [FloatOps F] (main_arg0 : IVec S288 32) (main_arg1 : IVec S1 32) (main_arg2 : FVec F S73728x2048 .bf16) (main_arg3 : FVec F S32x2048x2048 .f32) (main_arg4 : FVec F S32x1x2048 .f32) : IVec S73728x2048 1 :=
  let main_v0 : IVec S73728x2048 32 := iotaInDim S73728x2048 32 0
  let main_c : IVec S_ 32 := constantI S_ 32 256#32
  let main_v1 : IVec S73728x2048 32 := broadcastInDim S73728x2048 ![] bcast_S_S73728x2048 main_c
  let main_v2 : IVec S73728x2048 32 := Host.divsi main_v0 main_v1
  let main_v3 : IVec S_ 32 := shapeCast S_ main_arg1 shapeCasts_S1_S_
  let main_v4 : IVec S73728x2048 32 := broadcastInDim S73728x2048 ![] bcast_S_S73728x2048 main_v3
  let main_v5 : IVec S73728x2048 1 := cmpi .slt main_v2 main_v4
  main_v5
-- ==== On_used_rows_up.lean ====
abbrev S288 : Shape := ⟨1, ![288]⟩
abbrev S1 : Shape := ⟨1, ![1]⟩
abbrev S73728x2048 : Shape := ⟨2, ![73728, 2048]⟩
abbrev S32x2048x4096 : Shape := ⟨3, ![32, 2048, 4096]⟩
abbrev S32x1x4096 : Shape := ⟨3, ![32, 1, 4096]⟩
abbrev S_ : Shape := ⟨0, ![]⟩

class Facts : Prop where
  bcast_S_S73728x2048 : S_.BroadcastsInDim S73728x2048 (![] : Fin 0 → Fin S73728x2048.rank)
  shapeCasts_S1_S_ : S1.ShapeCasts S_

variable [Facts]

def fn {F : FTy → Type} [FloatOps F] (main_arg0 : IVec S288 32) (main_arg1 : IVec S1 32) (main_arg2 : FVec F S73728x2048 .bf16) (main_arg3 : FVec F S32x2048x4096 .f32) (main_arg4 : FVec F S32x1x4096 .f32) : IVec S73728x2048 1 :=
  let main_v0 : IVec S73728x2048 32 := iotaInDim S73728x2048 32 0
  let main_c : IVec S_ 32 := constantI S_ 32 256#32
  let main_v1 : IVec S73728x2048 32 := broadcastInDim S73728x2048 ![] bcast_S_S73728x2048 main_c
  let main_v2 : IVec S73728x2048 32 := Host.divsi main_v0 main_v1
  let main_v3 : IVec S_ 32 := shapeCast S_ main_arg1 shapeCasts_S1_S_
  let main_v4 : IVec S73728x2048 32 := broadcastInDim S73728x2048 ![] bcast_S_S73728x2048 main_v3
  let main_v5 : IVec S73728x2048 1 := cmpi .slt main_v2 main_v4
  main_v5
-- ==== Pre_expert_range_down.lean ====
abbrev S288 : Shape := ⟨1, ![288]⟩
abbrev S1 : Shape := ⟨1, ![1]⟩
abbrev S73728x2048 : Shape := ⟨2, ![73728, 2048]⟩
abbrev S32x2048x2048 : Shape := ⟨3, ![32, 2048, 2048]⟩
abbrev S32x1x2048 : Shape := ⟨3, ![32, 1, 2048]⟩
abbrev S_ : Shape := ⟨0, ![]⟩

class Facts : Prop where
  bcast_S_S288 : S_.BroadcastsInDim S288 (![] : Fin 0 → Fin S288.rank)
  reducesTo_S288_S_d0 : S288.ReducesTo [0] S_
  h_S_ : 0 < S_.numel
  bcast_S_S1 : S_.BroadcastsInDim S1 (![] : Fin 0 → Fin S1.rank)
  reducesTo_S1_S_d0 : S1.ReducesTo [0] S_

variable [Facts]

def fn {F : FTy → Type} [FloatOps F] (main_arg0 : IVec S288 32) (main_arg1 : IVec S1 32) (main_arg2 : FVec F S73728x2048 .bf16) (main_arg3 : FVec F S32x2048x2048 .f32) (main_arg4 : FVec F S32x1x2048 .f32) : IVec S_ 1 :=
  let main_c : IVec S_ 32 := constantI S_ 32 0#32
  let main_v0 : IVec S288 32 := broadcastInDim S288 ![] bcast_S_S288 main_c
  let main_v1 : IVec S288 1 := cmpi .sge main_arg0 main_v0
  let main_c_0 : IVec S_ 32 := constantI S_ 32 32#32
  let main_v2 : IVec S288 32 := broadcastInDim S288 ![] bcast_S_S288 main_c_0
  let main_v3 : IVec S288 1 := cmpi .slt main_arg0 main_v2
  let main_v4 : IVec S288 1 := andi main_v1 main_v3
  let main_c_1 : IVec S_ 1 := constantI S_ 1 1#1
  let main_v5 : IVec S_ 1 := (fun x v => Host.reduce IntOp.andi x v reducesTo_S288_S_d0 h_S_) main_v4 main_c_1
  let main_c_2 : IVec S_ 32 := constantI S_ 32 1#32
  let main_v6 : IVec S1 32 := broadcastInDim S1 ![] bcast_S_S1 main_c_2
  let main_v7 : IVec S1 1 := cmpi .sge main_arg1 main_v6
  let main_c_3 : IVec S_ 1 := constantI S_ 1 1#1
  let main_v8 : IVec S_ 1 := (fun x v => Host.reduce IntOp.andi x v reducesTo_S1_S_d0 h_S_) main_v7 main_c_3
  let main_v9 : IVec S_ 1 := andi main_v5 main_v8
  main_v9
-- ==== Pre_expert_range_up.lean ====
abbrev S288 : Shape := ⟨1, ![288]⟩
abbrev S1 : Shape := ⟨1, ![1]⟩
abbrev S73728x2048 : Shape := ⟨2, ![73728, 2048]⟩
abbrev S32x2048x4096 : Shape := ⟨3, ![32, 2048, 4096]⟩
abbrev S32x1x4096 : Shape := ⟨3, ![32, 1, 4096]⟩
abbrev S_ : Shape := ⟨0, ![]⟩

class Facts : Prop where
  bcast_S_S288 : S_.BroadcastsInDim S288 (![] : Fin 0 → Fin S288.rank)
  reducesTo_S288_S_d0 : S288.ReducesTo [0] S_
  h_S_ : 0 < S_.numel
  bcast_S_S1 : S_.BroadcastsInDim S1 (![] : Fin 0 → Fin S1.rank)
  reducesTo_S1_S_d0 : S1.ReducesTo [0] S_

variable [Facts]

def fn {F : FTy → Type} [FloatOps F] (main_arg0 : IVec S288 32) (main_arg1 : IVec S1 32) (main_arg2 : FVec F S73728x2048 .bf16) (main_arg3 : FVec F S32x2048x4096 .f32) (main_arg4 : FVec F S32x1x4096 .f32) : IVec S_ 1 :=
  let main_c : IVec S_ 32 := constantI S_ 32 0#32
  let main_v0 : IVec S288 32 := broadcastInDim S288 ![] bcast_S_S288 main_c
  let main_v1 : IVec S288 1 := cmpi .sge main_arg0 main_v0
  let main_c_0 : IVec S_ 32 := constantI S_ 32 32#32
  let main_v2 : IVec S288 32 := broadcastInDim S288 ![] bcast_S_S288 main_c_0
  let main_v3 : IVec S288 1 := cmpi .slt main_arg0 main_v2
  let main_v4 : IVec S288 1 := andi main_v1 main_v3
  let main_c_1 : IVec S_ 1 := constantI S_ 1 1#1
  let main_v5 : IVec S_ 1 := (fun x v => Host.reduce IntOp.andi x v reducesTo_S288_S_d0 h_S_) main_v4 main_c_1
  let main_c_2 : IVec S_ 32 := constantI S_ 32 1#32
  let main_v6 : IVec S1 32 := broadcastInDim S1 ![] bcast_S_S1 main_c_2
  let main_v7 : IVec S1 1 := cmpi .sge main_arg1 main_v6
  let main_c_3 : IVec S_ 1 := constantI S_ 1 1#1
  let main_v8 : IVec S_ 1 := (fun x v => Host.reduce IntOp.andi x v reducesTo_S1_S_d0 h_S_) main_v7 main_c_3
  let main_v9 : IVec S_ 1 := andi main_v5 main_v8
  main_v9
-- ==== Pre_scores_defined.lean ====
abbrev S4x16x4096x128 : Shape := ⟨4, ![4, 16, 4096, 128]⟩
abbrev S16384x512 : Shape := ⟨2, ![16384, 512]⟩
abbrev S16384x10752 : Shape := ⟨2, ![16384, 10752]⟩
abbrev S4x32x8x128x512 : Shape := ⟨5, ![4, 32, 8, 128, 512]⟩
abbrev S_ : Shape := ⟨0, ![]⟩
abbrev S4x32x128 : Shape := ⟨3, ![4, 32, 128]⟩

class Facts : Prop where
  bcast_S_S4x32x8x128x512 : S_.BroadcastsInDim S4x32x8x128x512 (![] : Fin 0 → Fin S4x32x8x128x512.rank)
  reducesTo_S4x32x8x128x512_S_d0_1_2_3_4 : S4x32x8x128x512.ReducesTo [0, 1, 2, 3, 4] S_
  h_S_ : 0 < S_.numel
  reducesTo_S4x32x8x128x512_S4x32x128_d2_4 : S4x32x8x128x512.ReducesTo [2, 4] S4x32x128
  bcast_S_S4x32x128 : S_.BroadcastsInDim S4x32x128 (![] : Fin 0 → Fin S4x32x128.rank)
  reducesTo_S4x32x128_S_d0_1_2 : S4x32x128.ReducesTo [0, 1, 2] S_
  bcast_S_S4x16x4096x128 : S_.BroadcastsInDim S4x16x4096x128 (![] : Fin 0 → Fin S4x16x4096x128.rank)
  reducesTo_S4x16x4096x128_S_d0_1_2_3 : S4x16x4096x128.ReducesTo [0, 1, 2, 3] S_
  bcast_S_S16384x512 : S_.BroadcastsInDim S16384x512 (![] : Fin 0 → Fin S16384x512.rank)
  reducesTo_S16384x512_S_d0_1 : S16384x512.ReducesTo [0, 1] S_

variable [Facts]

def fn_part2 {F : FTy → Type} [FloatOps F] (main_v17 : IVec S_ 1) (main_v21 : IVec S_ 1) (main_v27 : IVec S_ 1) (main_v33 : IVec S_ 1) : IVec S_ 1 :=
  let main_v34 : IVec S_ 1 := andi main_v27 main_v33
  let main_v35 : IVec S_ 1 := andi main_v17 main_v21
  let main_v36 : IVec S_ 1 := andi main_v35 main_v34
  main_v36

def fn_part1 {F : FTy → Type} [FloatOps F] (main_arg0 : FVec F S4x16x4096x128 .bf16) (main_arg1 : FVec F S16384x512 .bf16) (main_arg3 : FVec F S4x32x8x128x512 .f32) (main_v17 : IVec S_ 1) (main_cst_3 : FVec F S_ .f32) : IVec S_ 1 :=
  let main_v18 : FVec F S4x32x128 .f32 := (fun x v => Host.reduce FloatOps.maximumf x v reducesTo_S4x32x8x128x512_S4x32x128_d2_4 h_S_) main_arg3 main_cst_3
  let main_cst_4 : FVec F S_ .f32 := constant S_ .f32 0xFF800000#32
  let main_v19 : FVec F S4x32x128 .f32 := broadcastInDim S4x32x128 ![] bcast_S_S4x32x128 main_cst_4
  let main_v20 : IVec S4x32x128 1 := cmpf .ogt main_v18 main_v19
  let main_c_5 : IVec S_ 1 := constantI S_ 1 1#1
  let main_v21 : IVec S_ 1 := (fun x v => Host.reduce IntOp.andi x v reducesTo_S4x32x128_S_d0_1_2 h_S_) main_v20 main_c_5
  let main_cst_6 : FVec F S_ .bf16 := constant S_ .bf16 0xFF80#16
  let main_v22 : FVec F S4x16x4096x128 .bf16 := broadcastInDim S4x16x4096x128 ![] bcast_S_S4x16x4096x128 main_cst_6
  let main_v23 : IVec S4x16x4096x128 1 := cmpf .ogt main_arg0 main_v22
  let main_cst_7 : FVec F S_ .bf16 := constant S_ .bf16 0x7F80#16
  let main_v24 : FVec F S4x16x4096x128 .bf16 := broadcastInDim S4x16x4096x128 ![] bcast_S_S4x16x4096x128 main_cst_7
  let main_v25 : IVec S4x16x4096x128 1 := cmpf .olt main_arg0 main_v24
  let main_v26 : IVec S4x16x4096x128 1 := andi main_v23 main_v25
  let main_c_8 : IVec S_ 1 := constantI S_ 1 1#1
  let main_v27 : IVec S_ 1 := (fun x v => Host.reduce IntOp.andi x v reducesTo_S4x16x4096x128_S_d0_1_2_3 h_S_) main_v26 main_c_8
  let main_cst_9 : FVec F S_ .bf16 := constant S_ .bf16 0xFF80#16
  let main_v28 : FVec F S16384x512 .bf16 := broadcastInDim S16384x512 ![] bcast_S_S16384x512 main_cst_9
  let main_v29 : IVec S16384x512 1 := cmpf .ogt main_arg1 main_v28
  let main_cst_10 : FVec F S_ .bf16 := constant S_ .bf16 0x7F80#16
  let main_v30 : FVec F S16384x512 .bf16 := broadcastInDim S16384x512 ![] bcast_S_S16384x512 main_cst_10
  let main_v31 : IVec S16384x512 1 := cmpf .olt main_arg1 main_v30
  let main_v32 : IVec S16384x512 1 := andi main_v29 main_v31
  let main_c_11 : IVec S_ 1 := constantI S_ 1 1#1
  let main_v33 : IVec S_ 1 := (fun x v => Host.reduce IntOp.andi x v reducesTo_S16384x512_S_d0_1 h_S_) main_v32 main_c_11
  fn_part2 (F := F) main_v17 main_v21 main_v27 main_v33

def fn {F : FTy → Type} [FloatOps F] (main_arg0 : FVec F S4x16x4096x128 .bf16) (main_arg1 : FVec F S16384x512 .bf16) (main_arg2 : FVec F S16384x10752 .bf16) (main_arg3 : FVec F S4x32x8x128x512 .f32) : IVec S_ 1 :=
  let main_v0 : IVec S4x32x8x128x512 32 := iotaInDim S4x32x8x128x512 32 1
  let main_c : IVec S_ 32 := constantI S_ 32 128#32
  let main_v1 : IVec S4x32x8x128x512 32 := broadcastInDim S4x32x8x128x512 ![] bcast_S_S4x32x8x128x512 main_c
  let main_v2 : IVec S4x32x8x128x512 32 := muli main_v0 main_v1
  let main_v3 : IVec S4x32x8x128x512 32 := iotaInDim S4x32x8x128x512 32 3
  let main_v4 : IVec S4x32x8x128x512 32 := addi main_v2 main_v3
  let main_v5 : IVec S4x32x8x128x512 32 := iotaInDim S4x32x8x128x512 32 2
  let main_c_0 : IVec S_ 32 := constantI S_ 32 512#32
  let main_v6 : IVec S4x32x8x128x512 32 := broadcastInDim S4x32x8x128x512 ![] bcast_S_S4x32x8x128x512 main_c_0
  let main_v7 : IVec S4x32x8x128x512 32 := muli main_v5 main_v6
  let main_v8 : IVec S4x32x8x128x512 32 := iotaInDim S4x32x8x128x512 32 4
  let main_v9 : IVec S4x32x8x128x512 32 := addi main_v7 main_v8
  let main_cst : FVec F S_ .f32 := constant S_ .f32 0x7F800000#32
  let main_v10 : FVec F S4x32x8x128x512 .f32 := broadcastInDim S4x32x8x128x512 ![] bcast_S_S4x32x8x128x512 main_cst
  let main_v11 : IVec S4x32x8x128x512 1 := cmpf .olt main_arg3 main_v10
  let main_v12 : IVec S4x32x8x128x512 1 := cmpi .sle main_v9 main_v4
  let main_cst_1 : FVec F S_ .f32 := constant S_ .f32 0xFF800000#32
  let main_v13 : FVec F S4x32x8x128x512 .f32 := broadcastInDim S4x32x8x128x512 ![] bcast_S_S4x32x8x128x512 main_cst_1
  let main_v14 : IVec S4x32x8x128x512 1 := cmpf .oeq main_arg3 main_v13
  let main_v15 : IVec S4x32x8x128x512 1 := ori main_v12 main_v14
  let main_v16 : IVec S4x32x8x128x512 1 := andi main_v11 main_v15
  let main_c_2 : IVec S_ 1 := constantI S_ 1 1#1
  let main_v17 : IVec S_ 1 := (fun x v => Host.reduce IntOp.andi x v reducesTo_S4x32x8x128x512_S_d0_1_2_3_4 h_S_) main_v16 main_c_2
  let main_cst_3 : FVec F S_ .f32 := constant S_ .f32 0xFF800000#32
  fn_part1 (F := F) main_arg0 main_arg1 main_arg3 main_v17 main_cst_3
-- ==== Kernel.lean ====
abbrev S4x16x4096x128 : Shape := ⟨4, ![4, 16, 4096, 128]⟩
abbrev S16384x512 : Shape := ⟨2, ![16384, 512]⟩
abbrev S16384x10752 : Shape := ⟨2, ![16384, 10752]⟩
abbrev S4x32x8x128x512 : Shape := ⟨5, ![4, 32, 8, 128, 512]⟩
abbrev S16384x2048 : Shape := ⟨2, ![16384, 2048]⟩
abbrev S1x1x1024x128 : Shape := ⟨4, ![1, 1, 1024, 128]⟩
abbrev S512x128 : Shape := ⟨2, ![512, 128]⟩
abbrev S1x2x1x128x512 : Shape := ⟨5, ![1, 2, 1, 128, 512]⟩
abbrev S256x512 : Shape := ⟨2, ![256, 512]⟩
abbrev S1024x1 : Shape := ⟨2, ![1024, 1]⟩
abbrev S1024x128 : Shape := ⟨2, ![1024, 128]⟩
abbrev S1024x512 : Shape := ⟨2, ![1024, 512]⟩
abbrev S2x128x512 : Shape := ⟨3, ![2, 128, 512]⟩
abbrev S4x256x512 : Shape := ⟨3, ![4, 256, 512]⟩
abbrev S1x256x512 : Shape := ⟨3, ![1, 256, 512]⟩
abbrev S1024 : Shape := ⟨1, ![1024]⟩
abbrev S256x128 : Shape := ⟨2, ![256, 128]⟩

abbrev nBuf : Space → Nat
  | .hbm => 5
  | .vmem => 13
  | .smem => 0
  | _ => 0

abbrev bufTy : (tb : Table) → Fin (tcTables nBuf tb) → BufTy
  | .hbm, ⟨0, _⟩ => ⟨S4x16x4096x128, .bf16⟩
  | .hbm, ⟨1, _⟩ => ⟨S16384x512, .bf16⟩
  | .hbm, ⟨2, _⟩ => ⟨S16384x10752, .bf16⟩
  | .hbm, ⟨3, _⟩ => ⟨S4x32x8x128x512, .f32⟩
  | .hbm, ⟨4, _⟩ => ⟨S16384x2048, .bf16⟩
  | .local _ .vmem, ⟨0, _⟩ => ⟨S1x1x1024x128, .bf16⟩
  | .local _ .vmem, ⟨1, _⟩ => ⟨S1x1x1024x128, .bf16⟩
  | .local _ .vmem, ⟨2, _⟩ => ⟨S512x128, .bf16⟩
  | .local _ .vmem, ⟨3, _⟩ => ⟨S512x128, .bf16⟩
  | .local _ .vmem, ⟨4, _⟩ => ⟨S512x128, .bf16⟩
  | .local _ .vmem, ⟨5, _⟩ => ⟨S512x128, .bf16⟩
  | .local _ .vmem, ⟨6, _⟩ => ⟨S1x2x1x128x512, .f32⟩
  | .local _ .vmem, ⟨7, _⟩ => ⟨S1x2x1x128x512, .f32⟩
  | .local _ .vmem, ⟨8, _⟩ => ⟨S256x512, .bf16⟩
  | .local _ .vmem, ⟨9, _⟩ => ⟨S256x512, .bf16⟩
  | .local _ .vmem, ⟨10, _⟩ => ⟨S1024x1, .f32⟩
  | .local _ .vmem, ⟨11, _⟩ => ⟨S1024x1, .f32⟩
  | .local _ .vmem, ⟨12, _⟩ => ⟨S1024x128, .f32⟩
  | _, _ => ⟨S4x16x4096x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨4, ![4, 16, 4, 8], ![false, false, false, false]⟩

def k0_cond3 (i : grid0.Coords) : BitVec 1 :=
  let arg3 : BitVec 32 := BitVec.ofNat 32 (i 3).val
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c1_i32_0 : BitVec 32 := 1#32
  let v2 : BitVec 32 := Scalar.subi v1 c1_i32_0
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c512_i32 : BitVec 32 := 512#32
  let c0_i32_2 : BitVec 32 := 0#32
  let v9 : BitVec 1 := Scalar.cmpi .sgt c512_i32 c0_i32_2
  let v10 : BitVec 32 := Scalar.extui v9
  let c0_i32_3 : BitVec 32 := 0#32
  let v11 : BitVec 1 := Scalar.cmpi .slt c512_i32 c0_i32_3
  let v12 : BitVec 32 := Scalar.extui v11
  let v13 : BitVec 32 := Scalar.subi v10 v12
  let v14 : BitVec 1 := Scalar.cmpi .ne v8 v13
  let v15 : BitVec 32 := Scalar.remsi v2 c512_i32
  let c0_i32_4 : BitVec 32 := 0#32
  let v16 : BitVec 1 := Scalar.cmpi .ne v15 c0_i32_4
  let v17 : BitVec 1 := Scalar.andi v14 v16
  let v3 : BitVec 32 := Scalar.divsi v2 c512_i32
  let c1_i32_5 : BitVec 32 := 1#32
  let v18 : BitVec 32 := Scalar.subi v3 c1_i32_5
  let v19 : BitVec 32 := Scalar.select v17 v18 v3
  let v26 : BitVec 1 := Scalar.cmpi .eq arg3 v19
  let v27 : BitVec 32 := Scalar.extui v26
  let c0_i32_9 : BitVec 32 := 0#32
  let v28 : BitVec 1 := Scalar.cmpi .ne v27 c0_i32_9
  v28

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, arg1.toNat, arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c8_i32 : BitVec 32 := 8#32
  let v0 : BitVec 32 := Scalar.muli arg0 c8_i32
  let c1_i32 : BitVec 32 := 1#32
  let v1 : BitVec 32 := Scalar.addi arg1 c1_i32
  let c256_i32 : BitVec 32 := 256#32
  let v2 : BitVec 32 := Scalar.muli v1 c256_i32
  let c1_i32_0 : BitVec 32 := 1#32
  let v3 : BitVec 32 := Scalar.subi v2 c1_i32_0
  let c512_i32 : BitVec 32 := 512#32
  let v4 : BitVec 32 := Scalar.divsi v3 c512_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c512_i32 c0_i32_2
  let v11 : BitVec 32 := Scalar.extui v10
  let c0_i32_3 : BitVec 32 := 0#32
  let v12 : BitVec 1 := Scalar.cmpi .slt c512_i32 c0_i32_3
  let v13 : BitVec 32 := Scalar.extui v12
  let v14 : BitVec 32 := Scalar.subi v11 v13
  let v15 : BitVec 1 := Scalar.cmpi .ne v9 v14
  let v16 : BitVec 32 := Scalar.remsi v3 c512_i32
  let c0_i32_4 : BitVec 32 := 0#32
  let v17 : BitVec 1 := Scalar.cmpi .ne v16 c0_i32_4
  let v18 : BitVec 1 := Scalar.andi v15 v17
  let c1_i32_5 : BitVec 32 := 1#32
  let v19 : BitVec 32 := Scalar.subi v4 c1_i32_5
  let v20 : BitVec 32 := Scalar.select v18 v19 v4
  let v21 : BitVec 32 := Scalar.minsi arg3 v20
  let v22 : BitVec 32 := Scalar.addi v0 v21
  let c0_i32_6 : BitVec 32 := 0#32
  ![v22.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c8_i32 : BitVec 32 := 8#32
  let v0 : BitVec 32 := Scalar.muli arg0 c8_i32
  let c1_i32 : BitVec 32 := 1#32
  let v1 : BitVec 32 := Scalar.addi arg1 c1_i32
  let c256_i32 : BitVec 32 := 256#32
  let v2 : BitVec 32 := Scalar.muli v1 c256_i32
  let c1_i32_0 : BitVec 32 := 1#32
  let v3 : BitVec 32 := Scalar.subi v2 c1_i32_0
  let c512_i32 : BitVec 32 := 512#32
  let v4 : BitVec 32 := Scalar.divsi v3 c512_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c512_i32 c0_i32_2
  let v11 : BitVec 32 := Scalar.extui v10
  let c0_i32_3 : BitVec 32 := 0#32
  let v12 : BitVec 1 := Scalar.cmpi .slt c512_i32 c0_i32_3
  let v13 : BitVec 32 := Scalar.extui v12
  let v14 : BitVec 32 := Scalar.subi v11 v13
  let v15 : BitVec 1 := Scalar.cmpi .ne v9 v14
  let v16 : BitVec 32 := Scalar.remsi v3 c512_i32
  let c0_i32_4 : BitVec 32 := 0#32
  let v17 : BitVec 1 := Scalar.cmpi .ne v16 c0_i32_4
  let v18 : BitVec 1 := Scalar.andi v15 v17
  let c1_i32_5 : BitVec 32 := 1#32
  let v19 : BitVec 32 := Scalar.subi v4 c1_i32_5
  let v20 : BitVec 32 := Scalar.select v18 v19 v4
  let v21 : BitVec 32 := Scalar.minsi arg3 v20
  let v22 : BitVec 32 := Scalar.addi v0 v21
  let c80_i32 : BitVec 32 := 80#32
  let v23 : BitVec 32 := Scalar.addi c80_i32 arg2
  let c0_i32_6 : BitVec 32 := 0#32
  ![v22.toNat, v23.toNat]

def cc0_transform_3 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.addi arg1 c1_i32
  let c256_i32 : BitVec 32 := 256#32
  let v1 : BitVec 32 := Scalar.muli v0 c256_i32
  let c1_i32_0 : BitVec 32 := 1#32
  let v2 : BitVec 32 := Scalar.subi v1 c1_i32_0
  let c512_i32 : BitVec 32 := 512#32
  let v3 : BitVec 32 := Scalar.divsi v2 c512_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c512_i32 c0_i32_2
  let v10 : BitVec 32 := Scalar.extui v9
  let c0_i32_3 : BitVec 32 := 0#32
  let v11 : BitVec 1 := Scalar.cmpi .slt c512_i32 c0_i32_3
  let v12 : BitVec 32 := Scalar.extui v11
  let v13 : BitVec 32 := Scalar.subi v10 v12
  let v14 : BitVec 1 := Scalar.cmpi .ne v8 v13
  let v15 : BitVec 32 := Scalar.remsi v2 c512_i32
  let c0_i32_4 : BitVec 32 := 0#32
  let v16 : BitVec 1 := Scalar.cmpi .ne v15 c0_i32_4
  let v17 : BitVec 1 := Scalar.andi v14 v16
  let c1_i32_5 : BitVec 32 := 1#32
  let v18 : BitVec 32 := Scalar.subi v3 c1_i32_5
  let v19 : BitVec 32 := Scalar.select v17 v18 v3
  let v20 : BitVec 32 := Scalar.minsi arg3 v19
  let c0_i32_6 : BitVec 32 := 0#32
  let c0_i32_7 : BitVec 32 := 0#32
  let c0_i32_8 : BitVec 32 := 0#32
  ![arg0.toNat, arg1.toNat, v20.toNat, c0_i32_6.toNat, c0_i32_7.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c16_i32 : BitVec 32 := 16#32
  let v0 : BitVec 32 := Scalar.muli arg0 c16_i32
  let v1 : BitVec 32 := Scalar.addi v0 arg1
  let c0_i32 : BitVec 32 := 0#32
  ![v1.toNat, arg2.toNat]

abbrev stage0_0 : Fin 2 → Memref sig .tc .vmem S1x1x1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true, false]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true, true]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, true]

abbrev stage0_3 : Fin 2 → Memref sig .tc .vmem S1x2x1x128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false, true]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true, false]
-- ==== KernelIdeal.lean ====
variable {F : FTy → Type} [FloatOps F] [Named F]
def κ : String → Option EReal := fun
  | "mask" => some ⊥
  | _ => none
-- ==== ReferenceIdeal.lean ====
abbrev S4x16x4096x128 : Shape := ⟨4, ![4, 16, 4096, 128]⟩
abbrev S16384x512 : Shape := ⟨2, ![16384, 512]⟩
abbrev S16384x10752 : Shape := ⟨2, ![16384, 10752]⟩
abbrev S4x32x8x128x512 : Shape := ⟨5, ![4, 32, 8, 128, 512]⟩
abbrev S4x16x4x4x256x128 : Shape := ⟨6, ![4, 16, 4, 4, 256, 128]⟩
abbrev S4x16x256x4x4x128 : Shape := ⟨6, ![4, 16, 256, 4, 4, 128]⟩
abbrev S4x4096x4x4x128 : Shape := ⟨5, ![4, 4096, 4, 4, 128]⟩
abbrev S4x4096x4x128 : Shape := ⟨4, ![4, 4096, 4, 128]⟩
abbrev S4x32x128x8x512 : Shape := ⟨5, ![4, 32, 128, 8, 512]⟩
abbrev S4x4096x4096 : Shape := ⟨3, ![4, 4096, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S4x4x4096x4096x4 : Shape := ⟨5, ![4, 4, 4096, 4096, 4]⟩
abbrev S4x4096x4x4x4096 : Shape := ⟨5, ![4, 4096, 4, 4, 4096]⟩
abbrev S4x4096x1x1x4096 : Shape := ⟨5, ![4, 4096, 1, 1, 4096]⟩
abbrev S1x4096x1x1x4096 : Shape := ⟨5, ![1, 4096, 1, 1, 4096]⟩
abbrev S_ : Shape := ⟨0, ![]⟩
abbrev S4x4096x4x4 : Shape := ⟨4, ![4, 4096, 4, 4]⟩
abbrev S4x4096x4x4x1 : Shape := ⟨5, ![4, 4096, 4, 4, 1]⟩
abbrev S4x4x128x4096x4 : Shape := ⟨5, ![4, 4, 128, 4096, 4]⟩
abbrev S16384x2048 : Shape := ⟨2, ![16384, 2048]⟩

abbrev nBuf : Space → Nat
  | .hbm => 51
  | .vmem => 0
  | .smem => 0
  | _ => 0

abbrev bufTy : (tb : Table) → Fin (tcTables nBuf tb) → BufTy
  | .hbm, ⟨0, _⟩ => ⟨S4x16x4096x128, .bf16⟩
  | .hbm, ⟨1, _⟩ => ⟨S16384x512, .bf16⟩
  | .hbm, ⟨2, _⟩ => ⟨S16384x10752, .bf16⟩
  | .hbm, ⟨3, _⟩ => ⟨S4x32x8x128x512, .f32⟩
  | .hbm, ⟨4, _⟩ => ⟨S4x16x4x4x256x128, .bf16⟩
  | .hbm, ⟨5, _⟩ => ⟨S4x16x256x4x4x128, .bf16⟩
  | .hbm, ⟨6, _⟩ => ⟨S4x4096x4x4x128, .bf16⟩
  | .hbm, ⟨7, _⟩ => ⟨S4x4096x4x4x128, .f32⟩
  | .hbm, ⟨8, _⟩ => ⟨S4x4096x4x128, .bf16⟩
  | .hbm, ⟨9, _⟩ => ⟨S4x4096x4x128, .f32⟩
  | .hbm, ⟨10, _⟩ => ⟨S16384x512, .bf16⟩
  | .hbm, ⟨11, _⟩ => ⟨S4x4096x4x128, .bf16⟩
  | .hbm, ⟨12, _⟩ => ⟨S4x4096x4x128, .f32⟩
  | .hbm, ⟨13, _⟩ => ⟨S4x32x128x8x512, .f32⟩
  | .hbm, ⟨14, _⟩ => ⟨S4x4096x4096, .f32⟩
  | .hbm, ⟨15, _⟩ => ⟨S4096, .i32⟩
  | .hbm, ⟨16, _⟩ => ⟨S1x4096, .i32⟩
  | .hbm, ⟨17, _⟩ => ⟨S4096, .i32⟩
  | .hbm, ⟨18, _⟩ => ⟨S4096x1, .i32⟩
  | .hbm, ⟨19, _⟩ => ⟨S4096x4096, .i32⟩
  | .hbm, ⟨20, _⟩ => ⟨S4096x4096, .i32⟩
  | .hbm, ⟨21, _⟩ => ⟨S4096x4096, .i1⟩
  | .hbm, ⟨22, _⟩ => ⟨S4x4x4096x4096x4, .f32⟩
  | .hbm, ⟨23, _⟩ => ⟨S4x4096x4x4x4096, .f32⟩
  | .hbm, ⟨24, _⟩ => ⟨S4x4096x1x1x4096, .f32⟩
  | .hbm, ⟨25, _⟩ => ⟨S4x4096x4x4x4096, .f32⟩
  | .hbm, ⟨26, _⟩ => ⟨S4x4096x4x4x4096, .f32⟩
  | .hbm, ⟨27, _⟩ => ⟨S1x4096x1x1x4096, .i1⟩
  | .hbm, ⟨28, _⟩ => ⟨S_, .f32⟩
  | .hbm, ⟨29, _⟩ => ⟨S_, .f32⟩
  | .hbm, ⟨30, _⟩ => ⟨S4x4096x4x4x4096, .i1⟩
  | .hbm, ⟨31, _⟩ => ⟨S4x4096x4x4x4096, .f32⟩
  | .hbm, ⟨32, _⟩ => ⟨S4x4096x4x4x4096, .f32⟩
  | .hbm, ⟨33, _⟩ => ⟨S_, .f32⟩
  | .hbm, ⟨34, _⟩ => ⟨S4x4096x4x4, .f32⟩
  | .hbm, ⟨35, _⟩ => ⟨S_, .f32⟩
  | .hbm, ⟨36, _⟩ => ⟨S4x4096x4x4, .f32⟩
  | .hbm, ⟨37, _⟩ => ⟨S4x4096x4x4, .f32⟩
  | .hbm, ⟨38, _⟩ => ⟨S4x4096x4x4x1, .f32⟩
  | .hbm, ⟨39, _⟩ => ⟨S4x4096x4x4x4096, .f32⟩
  | .hbm, ⟨40, _⟩ => ⟨S4x4096x4x4x4096, .f32⟩
  | .hbm, ⟨41, _⟩ => ⟨S4x4096x4x4x4096, .f32⟩
  | .hbm, ⟨42, _⟩ => ⟨S_, .f32⟩
  | .hbm, ⟨43, _⟩ => ⟨S4x4096x4x4, .f32⟩
  | .hbm, ⟨44, _⟩ => ⟨S4x4096x4x4x1, .f32⟩
  | .hbm, ⟨45, _⟩ => ⟨S4x4096x4x4x4096, .f32⟩
  | .hbm, ⟨46, _⟩ => ⟨S4x4096x4x4x4096, .f32⟩
  | .hbm, ⟨47, _⟩ => ⟨S4x4x128x4096x4, .f32⟩
  | .hbm, ⟨48, _⟩ => ⟨S4x4096x4x4x128, .f32⟩
  | .hbm, ⟨49, _⟩ => ⟨S4x4096x4x4x128, .bf16⟩
  | .hbm, ⟨50, _⟩ => ⟨S16384x2048, .bf16⟩
  | _, _ => ⟨S4x16x4096x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_cst : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_v24 : Ref sig .tc := ⟨.hbm, 32, rfl⟩
abbrev main_cst_0 : Ref sig .tc := ⟨.hbm, 33, rfl⟩
abbrev main_v25 : Ref sig .tc := ⟨.hbm, 34, rfl⟩
abbrev main_cst_1 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_2 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩

abbrev nD : Nat := 1
abbrev τ : Topo := Topo.v7x

variable {F : FTy → Type} [FloatOps F]
-- ==== KernelZa.lean ====
abbrev S16384x2048 : Shape := ⟨2, ![16384, 2048]⟩
abbrev S1x2048 : Shape := ⟨2, ![1, 2048]⟩
abbrev S1x2048x14416 : Shape := ⟨3, ![1, 2048, 14416]⟩
abbrev S2048x14416 : Shape := ⟨2, ![2048, 14416]⟩
abbrev S2048x2048 : Shape := ⟨2, ![2048, 2048]⟩
abbrev S2048x512 : Shape := ⟨2, ![2048, 512]⟩
abbrev S2048x10752 : Shape := ⟨2, ![2048, 10752]⟩
abbrev S2048 : Shape := ⟨1, ![2048]⟩
abbrev S16384x10752 : Shape := ⟨2, ![16384, 10752]⟩
abbrev S1024x2048 : Shape := ⟨2, ![1024, 2048]⟩
abbrev S1024x512 : Shape := ⟨2, ![1024, 512]⟩
abbrev S1024 : Shape := ⟨1, ![1024]⟩
abbrev S1024x1 : Shape := ⟨2, ![1024, 1]⟩

abbrev nBuf : Space → Nat
  | .hbm => 15
  | .vmem => 8
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S1x2048x14416, .f32⟩
  | .hbm, ⟨3, _⟩ => ⟨S2048x14416, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x512, .f32⟩
  | .hbm, ⟨10, _⟩ => ⟨S2048x10752, .f32⟩
  | .hbm, ⟨11, _⟩ => ⟨S2048x10752, .bf16⟩
  | .hbm, ⟨12, _⟩ => ⟨S2048, .f32⟩
  | .hbm, ⟨13, _⟩ => ⟨S1x2048, .f32⟩
  | .hbm, ⟨14, _⟩ => ⟨S16384x10752, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S1024x512, .bf16⟩
  | .local _ .vmem, ⟨6, _⟩ => ⟨S1024x512, .bf16⟩
  | .local _ .vmem, ⟨7, _⟩ => ⟨S1024x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 21], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceZaIdeal.lean ====
abbrev S16384x2048 : Shape := ⟨2, ![16384, 2048]⟩
abbrev S1x2048 : Shape := ⟨2, ![1, 2048]⟩
abbrev S1x2048x14416 : Shape := ⟨3, ![1, 2048, 14416]⟩
abbrev S2048 : Shape := ⟨1, ![2048]⟩
abbrev S_ : Shape := ⟨0, ![]⟩
abbrev S16384 : Shape := ⟨1, ![16384]⟩
abbrev S16384x1 : Shape := ⟨2, ![16384, 1]⟩
abbrev S2048x14416 : Shape := ⟨2, ![2048, 14416]⟩
abbrev S16384x14416 : Shape := ⟨2, ![16384, 14416]⟩
abbrev S16384x6144 : Shape := ⟨2, ![16384, 6144]⟩
abbrev S16384x4096 : Shape := ⟨2, ![16384, 4096]⟩
abbrev S16384x512 : Shape := ⟨2, ![16384, 512]⟩
abbrev S16384x10752 : Shape := ⟨2, ![16384, 10752]⟩

abbrev nBuf : Space → Nat
  | .hbm => 27
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S1x2048x14416, .f32⟩
  | .hbm, ⟨3, _⟩ => ⟨S2048, .f32⟩
  | .hbm, ⟨4, _⟩ => ⟨S16384x2048, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x2048, .f32⟩
  | .hbm, ⟨16, _⟩ => ⟨S16384x2048, .f32⟩
  | .hbm, ⟨17, _⟩ => ⟨S1x2048, .f32⟩
  | .hbm, ⟨18, _⟩ => ⟨S16384x2048, .f32⟩
  | .hbm, ⟨19, _⟩ => ⟨S16384x2048, .f32⟩
  | .hbm, ⟨20, _⟩ => ⟨S2048x14416, .f32⟩
  | .hbm, ⟨21, _⟩ => ⟨S16384x14416, .f32⟩
  | .hbm, ⟨22, _⟩ => ⟨S16384x6144, .f32⟩
  | .hbm, ⟨23, _⟩ => ⟨S16384x4096, .f32⟩
  | .hbm, ⟨24, _⟩ => ⟨S16384x512, .f32⟩
  | .hbm, ⟨25, _⟩ => ⟨S16384x10752, .f32⟩
  | .hbm, ⟨26, _⟩ => ⟨S16384x10752, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩

abbrev nD : Nat := 1
abbrev τ : Topo := Topo.v7x

variable {F : FTy → Type} [FloatOps F]
-- ==== KernelZb.lean ====
abbrev S16384x2048 : Shape := ⟨2, ![16384, 2048]⟩
abbrev S1x2048 : Shape := ⟨2, ![1, 2048]⟩
abbrev S1x2048x14416 : Shape := ⟨3, ![1, 2048, 14416]⟩
abbrev S2048x14416 : Shape := ⟨2, ![2048, 14416]⟩
abbrev S_ : Shape := ⟨0, ![]⟩
abbrev S2048x176 : Shape := ⟨2, ![2048, 176]⟩
abbrev S2048x2048 : Shape := ⟨2, ![2048, 2048]⟩
abbrev S2048x1024 : Shape := ⟨2, ![2048, 1024]⟩
abbrev S2048x512 : Shape := ⟨2, ![2048, 512]⟩
abbrev S2048x64 : Shape := ⟨2, ![2048, 64]⟩
abbrev S2048x16 : Shape := ⟨2, ![2048, 16]⟩
abbrev S2048x3840 : Shape := ⟨2, ![2048, 3840]⟩
abbrev S2048 : Shape := ⟨1, ![2048]⟩
abbrev S16384x3840 : Shape := ⟨2, ![16384, 3840]⟩
abbrev S1024x2048 : Shape := ⟨2, ![1024, 2048]⟩
abbrev S2048x768 : Shape := ⟨2, ![2048, 768]⟩
abbrev S1024x768 : Shape := ⟨2, ![1024, 768]⟩
abbrev S1024 : Shape := ⟨1, ![1024]⟩
abbrev S1024x1 : Shape := ⟨2, ![1024, 1]⟩

abbrev nBuf : Space → Nat
  | .hbm => 16
  | .vmem => 8
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S1x2048x14416, .f32⟩
  | .hbm, ⟨3, _⟩ => ⟨S2048x14416, .f32⟩
  | .hbm, ⟨4, _⟩ => ⟨S_, .f32⟩
  | .hbm, ⟨5, _⟩ => ⟨S2048x176, .f32⟩
  | .hbm, ⟨6, _⟩ => ⟨S2048x2048, .f32⟩
  | .hbm, ⟨7, _⟩ => ⟨S2048x1024, .f32⟩
  | .hbm, ⟨8, _⟩ => ⟨S2048x512, .f32⟩
  | .hbm, ⟨9, _⟩ => ⟨S2048x64, .f32⟩
  | .hbm, ⟨10, _⟩ => ⟨S2048x16, .f32⟩
  | .hbm, ⟨11, _⟩ => ⟨S2048x3840, .f32⟩
  | .hbm, ⟨12, _⟩ => ⟨S2048x3840, .bf16⟩
  | .hbm, ⟨13, _⟩ => ⟨S2048, .f32⟩
  | .hbm, ⟨14, _⟩ => ⟨S1x2048, .f32⟩
  | .hbm, ⟨15, _⟩ => ⟨S16384x3840, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x768, .bf16⟩
  | .local _ .vmem, ⟨4, _⟩ => ⟨S2048x768, .bf16⟩
  | .local _ .vmem, ⟨5, _⟩ => ⟨S1024x768, .f32⟩
  | .local _ .vmem, ⟨6, _⟩ => ⟨S1024x768, .f32⟩
  | .local _ .vmem, ⟨7, _⟩ => ⟨S1024x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 5], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceZbIdeal.lean ====
abbrev S16384x2048 : Shape := ⟨2, ![16384, 2048]⟩
abbrev S1x2048 : Shape := ⟨2, ![1, 2048]⟩
abbrev S1x2048x14416 : Shape := ⟨3, ![1, 2048, 14416]⟩
abbrev S2048 : Shape := ⟨1, ![2048]⟩
abbrev S_ : Shape := ⟨0, ![]⟩
abbrev S16384 : Shape := ⟨1, ![16384]⟩
abbrev S16384x1 : Shape := ⟨2, ![16384, 1]⟩
abbrev S2048x14416 : Shape := ⟨2, ![2048, 14416]⟩
abbrev S16384x14416 : Shape := ⟨2, ![16384, 14416]⟩
abbrev S16384x1024 : Shape := ⟨2, ![16384, 1024]⟩
abbrev S16384x512 : Shape := ⟨2, ![16384, 512]⟩
abbrev S16384x80 : Shape := ⟨2, ![16384, 80]⟩
abbrev S16384x176 : Shape := ⟨2, ![16384, 176]⟩
abbrev S16384x3840 : Shape := ⟨2, ![16384, 3840]⟩

abbrev nBuf : Space → Nat
  | .hbm => 29
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S1x2048x14416, .f32⟩
  | .hbm, ⟨3, _⟩ => ⟨S2048, .f32⟩
  | .hbm, ⟨4, _⟩ => ⟨S16384x2048, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x2048, .f32⟩
  | .hbm, ⟨16, _⟩ => ⟨S16384x2048, .f32⟩
  | .hbm, ⟨17, _⟩ => ⟨S1x2048, .f32⟩
  | .hbm, ⟨18, _⟩ => ⟨S16384x2048, .f32⟩
  | .hbm, ⟨19, _⟩ => ⟨S16384x2048, .f32⟩
  | .hbm, ⟨20, _⟩ => ⟨S2048x14416, .f32⟩
  | .hbm, ⟨21, _⟩ => ⟨S16384x14416, .f32⟩
  | .hbm, ⟨22, _⟩ => ⟨S16384x2048, .f32⟩
  | .hbm, ⟨23, _⟩ => ⟨S16384x1024, .f32⟩
  | .hbm, ⟨24, _⟩ => ⟨S16384x512, .f32⟩
  | .hbm, ⟨25, _⟩ => ⟨S16384x80, .f32⟩
  | .hbm, ⟨26, _⟩ => ⟨S_, .f32⟩
  | .hbm, ⟨27, _⟩ => ⟨S16384x176, .f32⟩
  | .hbm, ⟨28, _⟩ => ⟨S16384x3840, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_v21 : Ref sig .tc := ⟨.hbm, 28, rfl⟩

abbrev nD : Nat := 1
abbrev τ : Topo := Topo.v7x

variable {F : FTy → Type} [FloatOps F]
-- ==== KernelUp.lean ====
abbrev S288 : Shape := ⟨1, ![288]⟩
abbrev S1 : Shape := ⟨1, ![1]⟩
abbrev S73728x2048 : Shape := ⟨2, ![73728, 2048]⟩
abbrev S32x2048x4096 : Shape := ⟨3, ![32, 2048, 4096]⟩
abbrev S32x1x4096 : Shape := ⟨3, ![32, 1, 4096]⟩
abbrev S256x2048 : Shape := ⟨2, ![256, 2048]⟩
abbrev S1x2048x512 : Shape := ⟨3, ![1, 2048, 512]⟩
abbrev S1x1x512 : Shape := ⟨3, ![1, 1, 512]⟩
abbrev S256x512 : Shape := ⟨2, ![256, 512]⟩
abbrev S2048x512 : Shape := ⟨2, ![2048, 512]⟩
abbrev S1x512 : Shape := ⟨2, ![1, 512]⟩

abbrev nBuf : Space → Nat
  | .hbm => 4
  | .vmem => 14
  | .smem => 2
  | _ => 0

abbrev bufTy : (tb : Table) → Fin (tcTables nBuf tb) → BufTy
  | .hbm, ⟨0, _⟩ => ⟨S73728x2048, .bf16⟩
  | .hbm, ⟨1, _⟩ => ⟨S32x2048x4096, .f32⟩
  | .hbm, ⟨2, _⟩ => ⟨S32x1x4096, .f32⟩
  | .hbm, ⟨3, _⟩ => ⟨S73728x2048, .bf16⟩
  | .local _ .vmem, ⟨0, _⟩ => ⟨S256x2048, .bf16⟩
  | .local _ .vmem, ⟨1, _⟩ => ⟨S256x2048, .bf16⟩
  | .local _ .vmem, ⟨2, _⟩ => ⟨S1x2048x512, .f32⟩
  | .local _ .vmem, ⟨3, _⟩ => ⟨S1x2048x512, .f32⟩
  | .local _ .vmem, ⟨4, _⟩ => ⟨S1x2048x512, .f32⟩
  | .local _ .vmem, ⟨5, _⟩ => ⟨S1x2048x512, .f32⟩
  | .local _ .vmem, ⟨6, _⟩ => ⟨S1x1x512, .f32⟩
  | .local _ .vmem, ⟨7, _⟩ => ⟨S1x1x512, .f32⟩
  | .local _ .vmem, ⟨8, _⟩ => ⟨S1x1x512, .f32⟩
  | .local _ .vmem, ⟨9, _⟩ => ⟨S1x1x512, .f32⟩
  | .local _ .vmem, ⟨10, _⟩ => ⟨S256x512, .bf16⟩
  | .local _ .vmem, ⟨11, _⟩ => ⟨S256x512, .bf16⟩
  | .local _ .vmem, ⟨12, _⟩ => ⟨S2048x512, .bf16⟩
  | .local _ .vmem, ⟨13, _⟩ => ⟨S2048x512, .bf16⟩
  | .local _ .smem, ⟨0, _⟩ => ⟨S288, .i32⟩
  | .local _ .smem, ⟨1, _⟩ => ⟨S1, .i32⟩
  | _, _ => ⟨S73728x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_v0 : Ref sig .tc := ⟨.hbm, 3, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 288], ![false, false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_off2 (i : grid0.Coords) : Fin 1 → Nat :=
  let arg1 : BitVec 32 := BitVec.ofNat 32 (i 1).val
  let v5 : Index := Scalar.indexCast arg1
  ![v5.toNat]
def k0_off3 (i : grid0.Coords) : Fin 1 → Nat :=
  let arg1 : BitVec 32 := BitVec.ofNat 32 (i 1).val
  let c1_i32 : BitVec 32 := 1#32
  let v7 : BitVec 32 := Scalar.subi arg1 c1_i32
  let c0_i32_1 : BitVec 32 := 0#32
  let v8 : BitVec 32 := Scalar.maxsi v7 c0_i32_1
  let v9 : Index := Scalar.indexCast v8
  ![v9.toNat]
def k0_cond1 (i : grid0.Coords) (v0 : BitVec 32) : BitVec 1 :=
  let arg1 : BitVec 32 := BitVec.ofNat 32 (i 1).val
  let v1 : BitVec 1 := Scalar.cmpi .slt arg1 v0
  let v2 : BitVec 32 := Scalar.extui v1
  let c0_i32 : BitVec 32 := 0#32
  let v3 : BitVec 1 := Scalar.cmpi .ne v2 c0_i32
  v3

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg1 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S288) ![v0.toNat] S1.size (k0_off1_inb i)) numel1_S1
  let c0_i32 : BitVec 32 := 0#32
  let c0_i32_0 : BitVec 32 := 0#32
  ![v1.toNat, c0_i32.toNat, arg0.toNat]

def cc0_transform_2 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S288) ![v0.toNat] S1.size (k0_off1_inb i)) numel1_S1
  let c4_i32 : BitVec 32 := 4#32
  let v2 : BitVec 32 := Scalar.addi c4_i32 arg0
  let c0_i32 : BitVec 32 := 0#32
  let c0_i32_0 : BitVec 32 := 0#32
  ![v1.toNat, c0_i32.toNat, v2.toNat]

def cc0_transform_3 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S288) ![v0.toNat] S1.size (k0_off1_inb i)) numel1_S1
  let c0_i32 : BitVec 32 := 0#32
  let c0_i32_0 : BitVec 32 := 0#32
  ![v1.toNat, c0_i32.toNat, arg0.toNat]

def cc0_transform_4 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S288) ![v0.toNat] S1.size (k0_off1_inb i)) numel1_S1
  let c4_i32 : BitVec 32 := 4#32
  let v2 : BitVec 32 := Scalar.addi c4_i32 arg0
  let c0_i32 : BitVec 32 := 0#32
  let c0_i32_0 : BitVec 32 := 0#32
  ![v1.toNat, c0_i32.toNat, v2.toNat]

def cc0_transform_5 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg1 v1
  let c0_i32 : BitVec 32 := 0#32
  ![v2.toNat, arg0.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceUpIdeal.lean ====
abbrev S288 : Shape := ⟨1, ![288]⟩
abbrev S1 : Shape := ⟨1, ![1]⟩
abbrev S73728x2048 : Shape := ⟨2, ![73728, 2048]⟩
abbrev S32x2048x4096 : Shape := ⟨3, ![32, 2048, 4096]⟩
abbrev S32x1x4096 : Shape := ⟨3, ![32, 1, 4096]⟩
abbrev S288x256x2048 : Shape := ⟨3, ![288, 256, 2048]⟩
abbrev S_ : Shape := ⟨0, ![]⟩
abbrev S288x1 : Shape := ⟨2, ![288, 1]⟩
abbrev S288x2048x4096 : Shape := ⟨3, ![288, 2048, 4096]⟩
abbrev S288x2048x2048 : Shape := ⟨3, ![288, 2048, 2048]⟩
abbrev S288x1x4096 : Shape := ⟨3, ![288, 1, 4096]⟩
abbrev S288x1x2048 : Shape := ⟨3, ![288, 1, 2048]⟩

abbrev nBuf : Space → Nat
  | .hbm => 82
  | .vmem => 0
  | .smem => 0
  | _ => 0

abbrev bufTy : (tb : Table) → Fin (tcTables nBuf tb) → BufTy
  | .hbm, ⟨0, _⟩ => ⟨S288, .i32⟩
  | .hbm, ⟨1, _⟩ => ⟨S1, .i32⟩
  | .hbm, ⟨2, _⟩ => ⟨S73728x2048, .bf16⟩
  | .hbm, ⟨3, _⟩ => ⟨S32x2048x4096, .f32⟩
  | .hbm, ⟨4, _⟩ => ⟨S32x1x4096, .f32⟩
  | .hbm, ⟨5, _⟩ => ⟨S73728x2048, .f32⟩
  | .hbm, ⟨6, _⟩ => ⟨S288x256x2048, .f32⟩
  | .hbm, ⟨7, _⟩ => ⟨S_, .i32⟩
  | .hbm, ⟨8, _⟩ => ⟨S288, .i32⟩
  | .hbm, ⟨9, _⟩ => ⟨S288, .i1⟩
  | .hbm, ⟨10, _⟩ => ⟨S_, .i32⟩
  | .hbm, ⟨11, _⟩ => ⟨S288, .i32⟩
  | .hbm, ⟨12, _⟩ => ⟨S288, .i32⟩
  | .hbm, ⟨13, _⟩ => ⟨S288, .i32⟩
  | .hbm, ⟨14, _⟩ => ⟨S288x1, .i32⟩
  | .hbm, ⟨15, _⟩ => ⟨S288x2048x4096, .f32⟩
  | .hbm, ⟨16, _⟩ => ⟨S288x2048x2048, .f32⟩
  | .hbm, ⟨17, _⟩ => ⟨S288x256x2048, .f32⟩
  | .hbm, ⟨18, _⟩ => ⟨S_, .i32⟩
  | .hbm, ⟨19, _⟩ => ⟨S288, .i32⟩
  | .hbm, ⟨20, _⟩ => ⟨S288, .i1⟩
  | .hbm, ⟨21, _⟩ => ⟨S_, .i32⟩
  | .hbm, ⟨22, _⟩ => ⟨S288, .i32⟩
  | .hbm, ⟨23, _⟩ => ⟨S288, .i32⟩
  | .hbm, ⟨24, _⟩ => ⟨S288, .i32⟩
  | .hbm, ⟨25, _⟩ => ⟨S288x1, .i32⟩
  | .hbm, ⟨26, _⟩ => ⟨S288x1x4096, .f32⟩
  | .hbm, ⟨27, _⟩ => ⟨S288x1x2048, .f32⟩
  | .hbm, ⟨28, _⟩ => ⟨S288x256x2048, .f32⟩
  | .hbm, ⟨29, _⟩ => ⟨S288x256x2048, .f32⟩
  | .hbm, ⟨30, _⟩ => ⟨S_, .i32⟩
  | .hbm, ⟨31, _⟩ => ⟨S288, .i32⟩
  | .hbm, ⟨32, _⟩ => ⟨S288, .i1⟩
  | .hbm, ⟨33, _⟩ => ⟨S_, .i32⟩
  | .hbm, ⟨34, _⟩ => ⟨S288, .i32⟩
  | .hbm, ⟨35, _⟩ => ⟨S288, .i32⟩
  | .hbm, ⟨36, _⟩ => ⟨S288, .i32⟩
  | .hbm, ⟨37, _⟩ => ⟨S288x1, .i32⟩
  | .hbm, ⟨38, _⟩ => ⟨S288x2048x4096, .f32⟩
  | .hbm, ⟨39, _⟩ => ⟨S288x2048x2048, .f32⟩
  | .hbm, ⟨40, _⟩ => ⟨S288x256x2048, .f32⟩
  | .hbm, ⟨41, _⟩ => ⟨S_, .i32⟩
  | .hbm, ⟨42, _⟩ => ⟨S288, .i32⟩
  | .hbm, ⟨43, _⟩ => ⟨S288, .i1⟩
  | .hbm, ⟨44, _⟩ => ⟨S_, .i32⟩
  | .hbm, ⟨45, _⟩ => ⟨S288, .i32⟩
  | .hbm, ⟨46, _⟩ => ⟨S288, .i32⟩
  | .hbm, ⟨47, _⟩ => ⟨S288, .i32⟩
  | .hbm, ⟨48, _⟩ => ⟨S288x1, .i32⟩
  | .hbm, ⟨49, _⟩ => ⟨S288x1x4096, .f32⟩
  | .hbm, ⟨50, _⟩ => ⟨S288x1x2048, .f32⟩
  | .hbm, ⟨51, _⟩ => ⟨S288x256x2048, .f32⟩
  | .hbm, ⟨52, _⟩ => ⟨S288x256x2048, .f32⟩
  | .hbm, ⟨53, _⟩ => ⟨S_, .f32⟩
  | .hbm, ⟨54, _⟩ => ⟨S288x256x2048, .f32⟩
  | .hbm, ⟨55, _⟩ => ⟨S288x256x2048, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S288x256x2048, .f32⟩
  | .hbm, ⟨60, _⟩ => ⟨S288x256x2048, .f32⟩
  | .hbm, ⟨61, _⟩ => ⟨S_, .f32⟩
  | .hbm, ⟨62, _⟩ => ⟨S288x256x2048, .f32⟩
  | .hbm, ⟨63, _⟩ => ⟨S288x256x2048, .f32⟩
  | .hbm, ⟨64, _⟩ => ⟨S_, .f32⟩
  | .hbm, ⟨65, _⟩ => ⟨S288x256x2048, .f32⟩
  | .hbm, ⟨66, _⟩ => ⟨S288x256x2048, .f32⟩
  | .hbm, ⟨67, _⟩ => ⟨S_, .f32⟩
  | .hbm, ⟨68, _⟩ => ⟨S288x256x2048, .f32⟩
  | .hbm, ⟨69, _⟩ => ⟨S288x256x2048, .f32⟩
  | .hbm, ⟨70, _⟩ => ⟨S288x256x2048, .f32⟩
  | .hbm, ⟨71, _⟩ => ⟨S288x256x2048, .f32⟩
  | .hbm, ⟨72, _⟩ => ⟨S_, .f32⟩
  | .hbm, ⟨73, _⟩ => ⟨S288x256x2048, .f32⟩
  | .hbm, ⟨74, _⟩ => ⟨S288x256x2048, .f32⟩
  | .hbm, ⟨75, _⟩ => ⟨S_, .f32⟩
  | .hbm, ⟨76, _⟩ => ⟨S288x256x2048, .f32⟩
  | .hbm, ⟨77, _⟩ => ⟨S288x256x2048, .f32⟩
  | .hbm, ⟨78, _⟩ => ⟨S288x256x2048, .f32⟩
  | .hbm, ⟨79, _⟩ => ⟨S288x256x2048, .f32⟩
  | .hbm, ⟨80, _⟩ => ⟨S73728x2048, .f32⟩
  | .hbm, ⟨81, _⟩ => ⟨S73728x2048, .bf16⟩
  | _, _ => ⟨S288, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c_1 : Ref sig .tc := ⟨.hbm, 18, rfl⟩
abbrev main_v11 : Ref sig .tc := ⟨.hbm, 19, rfl⟩
abbrev main_v12 : Ref sig .tc := ⟨.hbm, 20, rfl⟩
abbrev main_c_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_c_3 : Ref sig .tc := ⟨.hbm, 30, rfl⟩
abbrev main_v21 : Ref sig .tc := ⟨.hbm, 31, rfl⟩
abbrev main_v22 : Ref sig .tc := ⟨.hbm, 32, rfl⟩
abbrev main_c_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_c_5 : Ref sig .tc := ⟨.hbm, 41, rfl⟩
abbrev main_v30 : Ref sig .tc := ⟨.hbm, 42, rfl⟩
abbrev main_v31 : Ref sig .tc := ⟨.hbm, 43, rfl⟩
abbrev main_c_6 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst : Ref sig .tc := ⟨.hbm, 53, rfl⟩
abbrev main_v40 : Ref sig .tc := ⟨.hbm, 54, rfl⟩
abbrev main_v41 : Ref sig .tc := ⟨.hbm, 55, rfl⟩
abbrev main_cst_7 : Ref sig .tc := ⟨.hbm, 56, rfl⟩
abbrev main_cst_8 : Ref sig .tc := ⟨.hbm, 57, rfl⟩
abbrev main_call0_v0 : Ref sig .tc := ⟨.hbm, 58, rfl⟩
abbrev main_call0_v1 : Ref sig .tc := ⟨.hbm, 59, rfl⟩
abbrev main_call0_v2 : Ref sig .tc := ⟨.hbm, 60, rfl⟩
abbrev main_call0_v3 : Ref sig .tc := ⟨.hbm, 61, rfl⟩
abbrev main_call0_v4 : Ref sig .tc := ⟨.hbm, 62, rfl⟩
abbrev main_v42 : Ref sig .tc := ⟨.hbm, 63, rfl⟩
abbrev main_cst_9 : Ref sig .tc := ⟨.hbm, 64, rfl⟩
abbrev main_v43 : Ref sig .tc := ⟨.hbm, 65, rfl⟩
abbrev main_v44 : Ref sig .tc := ⟨.hbm, 66, rfl⟩
abbrev main_cst_10 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_cst_11 : Ref sig .tc := ⟨.hbm, 72, rfl⟩
abbrev main_v49 : Ref sig .tc := ⟨.hbm, 73, rfl⟩
abbrev main_v50 : Ref sig .tc := ⟨.hbm, 74, rfl⟩
abbrev main_cst_12 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩

abbrev nD : Nat := 1
abbrev τ : Topo := Topo.v7x

variable {F : FTy → Type} [FloatOps F]
-- ==== KernelDown.lean ====
abbrev S288 : Shape := ⟨1, ![288]⟩
abbrev S1 : Shape := ⟨1, ![1]⟩
abbrev S73728x2048 : Shape := ⟨2, ![73728, 2048]⟩
abbrev S32x2048x2048 : Shape := ⟨3, ![32, 2048, 2048]⟩
abbrev S32x1x2048 : Shape := ⟨3, ![32, 1, 2048]⟩
abbrev S256x2048 : Shape := ⟨2, ![256, 2048]⟩
abbrev S1x2048x1024 : Shape := ⟨3, ![1, 2048, 1024]⟩
abbrev S1x1x1024 : Shape := ⟨3, ![1, 1, 1024]⟩
abbrev S256x1024 : Shape := ⟨2, ![256, 1024]⟩
abbrev S2048x1024 : Shape := ⟨2, ![2048, 1024]⟩
abbrev S1x1024 : Shape := ⟨2, ![1, 1024]⟩

abbrev nBuf : Space → Nat
  | .hbm => 4
  | .vmem => 9
  | .smem => 2
  | _ => 0

abbrev bufTy : (tb : Table) → Fin (tcTables nBuf tb) → BufTy
  | .hbm, ⟨0, _⟩ => ⟨S73728x2048, .bf16⟩
  | .hbm, ⟨1, _⟩ => ⟨S32x2048x2048, .f32⟩
  | .hbm, ⟨2, _⟩ => ⟨S32x1x2048, .f32⟩
  | .hbm, ⟨3, _⟩ => ⟨S73728x2048, .bf16⟩
  | .local _ .vmem, ⟨0, _⟩ => ⟨S256x2048, .bf16⟩
  | .local _ .vmem, ⟨1, _⟩ => ⟨S256x2048, .bf16⟩
  | .local _ .vmem, ⟨2, _⟩ => ⟨S1x2048x1024, .f32⟩
  | .local _ .vmem, ⟨3, _⟩ => ⟨S1x2048x1024, .f32⟩
  | .local _ .vmem, ⟨4, _⟩ => ⟨S1x1x1024, .f32⟩
  | .local _ .vmem, ⟨5, _⟩ => ⟨S1x1x1024, .f32⟩
  | .local _ .vmem, ⟨6, _⟩ => ⟨S256x1024, .bf16⟩
  | .local _ .vmem, ⟨7, _⟩ => ⟨S256x1024, .bf16⟩
  | .local _ .vmem, ⟨8, _⟩ => ⟨S2048x1024, .bf16⟩
  | .local _ .smem, ⟨0, _⟩ => ⟨S288, .i32⟩
  | .local _ .smem, ⟨1, _⟩ => ⟨S1, .i32⟩
  | _, _ => ⟨S73728x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_v0 : Ref sig .tc := ⟨.hbm, 3, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 288], ![false, false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_off2 (i : grid0.Coords) : Fin 1 → Nat :=
  let arg1 : BitVec 32 := BitVec.ofNat 32 (i 1).val
  let v5 : Index := Scalar.indexCast arg1
  ![v5.toNat]
def k0_off3 (i : grid0.Coords) : Fin 1 → Nat :=
  let arg1 : BitVec 32 := BitVec.ofNat 32 (i 1).val
  let c1_i32 : BitVec 32 := 1#32
  let v7 : BitVec 32 := Scalar.subi arg1 c1_i32
  let c0_i32_1 : BitVec 32 := 0#32
  let v8 : BitVec 32 := Scalar.maxsi v7 c0_i32_1
  let v9 : Index := Scalar.indexCast v8
  ![v9.toNat]
def k0_cond1 (i : grid0.Coords) (v0 : BitVec 32) : BitVec 1 :=
  let arg1 : BitVec 32 := BitVec.ofNat 32 (i 1).val
  let v1 : BitVec 1 := Scalar.cmpi .slt arg1 v0
  let v2 : BitVec 32 := Scalar.extui v1
  let c0_i32 : BitVec 32 := 0#32
  let v3 : BitVec 1 := Scalar.cmpi .ne v2 c0_i32
  v3

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg1 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S288) ![v0.toNat] S1.size (k0_off1_inb i)) numel1_S1
  let c0_i32 : BitVec 32 := 0#32
  let c0_i32_0 : BitVec 32 := 0#32
  ![v1.toNat, c0_i32.toNat, arg0.toNat]

def cc0_transform_2 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S288) ![v0.toNat] S1.size (k0_off1_inb i)) numel1_S1
  let c0_i32 : BitVec 32 := 0#32
  let c0_i32_0 : BitVec 32 := 0#32
  ![v1.toNat, c0_i32.toNat, arg0.toNat]

def cc0_transform_3 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg1 v1
  let c0_i32 : BitVec 32 := 0#32
  ![v2.toNat, arg0.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceDownIdeal.lean ====
abbrev S288 : Shape := ⟨1, ![288]⟩
abbrev S1 : Shape := ⟨1, ![1]⟩
abbrev S73728x2048 : Shape := ⟨2, ![73728, 2048]⟩
abbrev S32x2048x2048 : Shape := ⟨3, ![32, 2048, 2048]⟩
abbrev S32x1x2048 : Shape := ⟨3, ![32, 1, 2048]⟩
abbrev S288x256x2048 : Shape := ⟨3, ![288, 256, 2048]⟩
abbrev S_ : Shape := ⟨0, ![]⟩
abbrev S288x1 : Shape := ⟨2, ![288, 1]⟩
abbrev S288x2048x2048 : Shape := ⟨3, ![288, 2048, 2048]⟩
abbrev S288x1x2048 : Shape := ⟨3, ![288, 1, 2048]⟩

abbrev nBuf : Space → Nat
  | .hbm => 30
  | .vmem => 0
  | .smem => 0
  | _ => 0

abbrev bufTy : (tb : Table) → Fin (tcTables nBuf tb) → BufTy
  | .hbm, ⟨0, _⟩ => ⟨S288, .i32⟩
  | .hbm, ⟨1, _⟩ => ⟨S1, .i32⟩
  | .hbm, ⟨2, _⟩ => ⟨S73728x2048, .bf16⟩
  | .hbm, ⟨3, _⟩ => ⟨S32x2048x2048, .f32⟩
  | .hbm, ⟨4, _⟩ => ⟨S32x1x2048, .f32⟩
  | .hbm, ⟨5, _⟩ => ⟨S73728x2048, .f32⟩
  | .hbm, ⟨6, _⟩ => ⟨S288x256x2048, .f32⟩
  | .hbm, ⟨7, _⟩ => ⟨S_, .i32⟩
  | .hbm, ⟨8, _⟩ => ⟨S288, .i32⟩
  | .hbm, ⟨9, _⟩ => ⟨S288, .i1⟩
  | .hbm, ⟨10, _⟩ => ⟨S_, .i32⟩
  | .hbm, ⟨11, _⟩ => ⟨S288, .i32⟩
  | .hbm, ⟨12, _⟩ => ⟨S288, .i32⟩
  | .hbm, ⟨13, _⟩ => ⟨S288, .i32⟩
  | .hbm, ⟨14, _⟩ => ⟨S288x1, .i32⟩
  | .hbm, ⟨15, _⟩ => ⟨S288x2048x2048, .f32⟩
  | .hbm, ⟨16, _⟩ => ⟨S288x256x2048, .f32⟩
  | .hbm, ⟨17, _⟩ => ⟨S_, .i32⟩
  | .hbm, ⟨18, _⟩ => ⟨S288, .i32⟩
  | .hbm, ⟨19, _⟩ => ⟨S288, .i1⟩
  | .hbm, ⟨20, _⟩ => ⟨S_, .i32⟩
  | .hbm, ⟨21, _⟩ => ⟨S288, .i32⟩
  | .hbm, ⟨22, _⟩ => ⟨S288, .i32⟩
  | .hbm, ⟨23, _⟩ => ⟨S288, .i32⟩
  | .hbm, ⟨24, _⟩ => ⟨S288x1, .i32⟩
  | .hbm, ⟨25, _⟩ => ⟨S288x1x2048, .f32⟩
  | .hbm, ⟨26, _⟩ => ⟨S288x256x2048, .f32⟩
  | .hbm, ⟨27, _⟩ => ⟨S288x256x2048, .f32⟩
  | .hbm, ⟨28, _⟩ => ⟨S73728x2048, .f32⟩
  | .hbm, ⟨29, _⟩ => ⟨S73728x2048, .bf16⟩
  | _, _ => ⟨S288, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_1 : Ref sig .tc := ⟨.hbm, 17, rfl⟩
abbrev main_v10 : Ref sig .tc := ⟨.hbm, 18, rfl⟩
abbrev main_v11 : Ref sig .tc := ⟨.hbm, 19, rfl⟩
abbrev main_c_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩

abbrev nD : Nat := 1
abbrev τ : Topo := Topo.v7x

variable {F : FTy → Type} [FloatOps F]
-- ==== Proof.Za.lean ====
/- The input projection's value, first part (`kernel_za`). -/
module

public import proofs.«01_k».proof.Defs
public import proofs.«01_k».proof.Proof.Gen.KernelZaIdeal.Value
public import proofs.«01_k».proof.Proof.Gen.ReferenceZaIdeal.Read
public import Idealize.ShloMosaic.Lib.Pipeline.ValueKit
public import Idealize.ShloMosaic.Lib.Pipeline.ReadBack
public import Idealize.ShloMosaic.Lib.StableHlo.ReadAt
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelZaIdeal.RefValue

open Cert.KernelZaIdeal Cert.KernelZaIdeal.Gen Cert.KernelZaIdeal.Value

variable (m : (ℓ : Loc nD τ sig) → Buf (Elt Ideal) ℓ) (ρ : Dev nD → PrngReg)

/-- Every window's block index at a point: row block `t / 21`, column block `t % 21`. -/
theorem idx : ∀ t : Fin cfg0.N, win0_0.index t = ![t.val / 21, 0] ∧ win0_1.index t = ![0, 0]
    ∧ win0_2.index t = ![0, t.val % 21] ∧ win0_3.index t = ![t.val / 21, t.val % 21] :=
  (by decide +kernel : ∀ t : Fin grid0.N, _)

/-- One element of the normalised activations: row `r` of `x` divided by its root mean square, times the gain. -/
def xn (x : Vec Ideal S16384x2048 .f32) (g : Vec Ideal S1x2048 .f32) (r : Fin 16384) (k : Fin 2048) : EReal :=
  x (ix2 r k) * Ideal.rsqrt (Ideal.div (∑ q : Fin 2048, x (ix2 r q) * x (ix2 r q)) (Ideal.ofBits .f32 0x45000000#32)
    + Ideal.ofBits .f32 0x358637BD#32) * g (ix2 0 k)

theorem pay1_apply (x : Vec Ideal S1024x2048 .f32) (g : Vec Ideal S1x2048 .f32) (r : Fin 1024) (k : Fin 2048) :
    k0_pay1 (F := Ideal) x g (ix2 r k) = x (ix2 r k) * Ideal.rsqrt (Ideal.div (∑ q : Fin 2048, x (ix2 r q) * x (ix2 r q))
      (Ideal.ofBits .f32 0x45000000#32) + Ideal.ofBits .f32 0x358637BD#32) * g (ix2 0 k) := by
  pointwise [k0_pay1]

theorem pay2_apply (x : Vec Ideal S1024x2048 .bf16) (w : Vec Ideal S2048x512 .bf16) (r : Fin 1024) (j : Fin 512) :
    k0_pay2 (F := Ideal) x w (ix2 r j) = ∑ k : Fin 2048, x (ix2 r k) * w (ix2 k j) := by
  pointwise [k0_pay2]

/-- Window 0's block at a point is 1024 rows of the activations. -/
theorem iblk0_apply (c : Dev nD) (t : Fin cfg0.N) (r : Fin 1024) (k : Fin 2048) (hr : t.val / 21 * 1024 + r.val < 16384) :
    iblk m c 0 t (ix2 r k) = m ((c : Thread nD τ).loc main_arg0) (ix2 ⟨t.val / 21 * 1024 + r.val, hr⟩ k) := by
  blk_ext [iblk, V, idx t]

theorem iblk1_apply (c : Dev nD) (t : Fin cfg0.N) (k : Fin 2048) :
    iblk m c 1 t (ix2 0 k) = m ((c : Thread nD τ).loc main_arg1) (ix2 0 k) := by
  blk_ext! [iblk, V, idx t]

/-- The combined weights' column `j`: the columns of `w_in` that the reference keeps, in the order it keeps them. -/
def col (j : Fin 10752) : Fin 14416 :=
  if h : j.val < 6144 then ⟨j.val, by omega⟩ else
    if h2 : j.val < 10240 then ⟨j.val + 4176, by omega⟩ else ⟨j.val - 1536, by omega⟩

theorem wa_apply (c : Dev nD) (k : Fin 2048) (j : Fin 10752) :
    V m c main_v8 (ix2 k j) = m ((c : Thread nD τ).loc main_arg2) (ix3 0 k (col j)) := by
  unfold V
  after_reads_at
  pointwise
  unfold col
  have hj := j.isLt
  split_ifs <;> first | (exfalso; omega) | skip
  all_goals
    after_reads_at
    pointwise
    blk_ext
    split_ifs <;> (try dsimp only) <;> omega

theorem scr (c : Dev nD) (t : Fin cfg0.N) (r : Fin 1024) (k : Fin 2048) (hr : t.val / 21 * 1024 + r.val < 16384) :
    (outsAt0 m c t.val t.isLt).2 (ix2 r k)
      = xn (m ((c : Thread nD τ).loc main_arg0)) (m ((c : Thread nD τ).loc main_arg1)) ⟨t.val / 21 * 1024 + r.val, hr⟩ k := by
  obtain ⟨n, hn⟩ := t
  induction n with
  | zero =>
    rw [outsAt0_A m c ⟨0, hn⟩ rfl]
    frame_out
    rw [pay1_apply]
    simp only [iblk0_apply m c ⟨0, hn⟩ r _ hr, iblk1_apply]
    rfl
  | succ n ih =>
    by_cases h0 : (n + 1) % 21 = 0
    · rw [outsAt0_A m c ⟨n + 1, hn⟩ h0]
      frame_out
      rw [pay1_apply]
      simp only [iblk0_apply m c ⟨n + 1, hn⟩ r _ hr, iblk1_apply]
      rfl
    · rw [outsAt0_B m c ⟨n + 1, hn⟩ h0]
      unfold sout0_B_0
      have e : (n + 1) / 21 = n / 21 := by omega
      have := ih (Nat.lt_of_succ_lt hn) (by dsimp only at hr ⊢; rw [← e]; exact hr)
      simp only [e]
      exact this

/-- What the result array is shown to hold. -/
def ZA (c : Dev nD) : Vec Ideal S16384x10752 .bf16 := fun j =>
  ∑ k : Fin 2048, xn (m ((c : Thread nD τ).loc main_arg0)) (m ((c : Thread nD τ).loc main_arg1)) (j 0) k
    * m ((c : Thread nD τ).loc main_arg2) (ix3 0 k (col (j 1)))

theorem out_apply (c : Dev nD) (t : Fin cfg0.N) (r : Fin 1024) (j : Fin 512) :
    (outsAt0 m c t.val t.isLt).1 (ix2 r j) = ∑ k : Fin 2048, (outsAt0 m c t.val t.isLt).2 (ix2 r k) * iblk m c 2 t (ix2 k j) := by
  by_cases h0 : t.val % 21 = 0
  · rw [outsAt0_A m c t h0]
    frame_out
    rw [pay2_apply]
  · rw [outsAt0_B m c t h0]
    unfold sout0_B_0
    frame_out
    rw [pay2_apply]
    simp only [read_unread_whole]

theorem final (c : Dev nD) : (dats m 0 c).arrAt 3 cfg0.N = ZA m c := by
  refine (dats m 0 c).arrAt_eq_of_covers 3 _ (by decide +kernel) fun t hf y => ?_
  blk_simp
  rw [after0_3]
  have ht : t.val < 336 := lt_of_lt_of_eq t.isLt N_0
  idx_vars y
  have hr : t.val / 21 * 1024 + y0.val < 16384 := by omega
  rw [out_apply, Finset.sum_congr rfl fun k _ => by rw [scr m c t y0 k hr]]
  have e : ((View.whole main_v11).slice (win0_3.rect t)).emb (ix2 y0 y1)
      = ix2 ⟨t.val / 21 * 1024 + y0.val, hr⟩ ⟨t.val % 21 * 512 + y1.val, by omega⟩ := by
    blk_ext [idx t]
  rw [e]
  unfold ZA
  refine Fin.sum_fin_congr fun k => ?_
  congr 1
  refine Eq.trans ?_ (wa_apply m c k ⟨t.val % 21 * 512 + y1.val, by omega⟩)
  blk_ext [iblk, idx t]

/-- The run, read: the result array at `ZA`, the arguments unchanged. -/
theorem run : θ_run defs (onTc (τ := τ) (main (F := Ideal))) ⟨m, fun _ => 0, ρ⟩ fun r => ∀ c : Dev nD,
      r.2.mem ((c : Thread nD τ).loc main_v11) = ZA m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

end Cert.KernelZaIdeal.RefValue

namespace Cert.ReferenceZaIdeal.RefValue

open Cert.ReferenceZaIdeal Cert.ReferenceZaIdeal.Gen Cert.ReferenceZaIdeal.Read
open Cert.KernelZaIdeal.RefValue (xn col)

theorem w_congr (w : Vec Ideal S1x2048x14416 .f32) (k : Fin 2048) {a b : Fin 14416} (h : a.val = b.val) :
    w (ix3 0 k a) = w (ix3 0 k b) := by rw [Fin.ext h]

theorem z_apply (x : Vec Ideal S16384x2048 .f32) (g : Vec Ideal S1x2048 .f32) (w : Vec Ideal S1x2048x14416 .f32)
    (r : Fin 16384) (j : Fin 14416) :
    val_main_v15 (F := Ideal) x g w (ix2 r j) = ∑ k : Fin 2048, xn x g r k * w (ix3 0 k j) := by
  unfold val_main_v15 val_main_v14 val_main_v13 val_main_v12 val_main_v11 val_main_v10 val_main_v9 val_main_v8 val_main_v7 val_main_v6
    val_main_v5 val_main_v4 val_main_v3 val_main_v2 val_main_v1 val_main_v0 val_main_cst val_main_cst_0 val_main_cst_1
  pointwise [xn]

theorem out_apply (x : Vec Ideal S16384x2048 .f32) (g : Vec Ideal S1x2048 .f32) (w : Vec Ideal S1x2048x14416 .f32)
    (r : Fin 16384) (j : Fin 10752) :
    val_main_v20 (F := Ideal) x g w (ix2 r j) = ∑ k : Fin 2048, xn x g r k * w (ix3 0 k (col j)) := by
  unfold val_main_v20 val_main_v19 val_main_v18 val_main_v17 val_main_v16
  pointwise
  unfold col
  have hj := j.isLt
  by_cases a1 : j.val < 6144 <;> by_cases a2 : j.val < 10240 <;> first | (exfalso; omega) | skip
  all_goals simp only [a1, a2, ↓reduceDIte]
  all_goals
    try split_ifs
    all_goals
      first
      | (exfalso; omega)
      | (rw [z_apply]; done)
      | (rw [z_apply]
         refine Finset.sum_congr rfl fun k _ => congrArg _ (w_congr w k ?_)
         all_goals (try dsimp only)
         all_goals omega)

/-- The run, read: the result array at the same function of the arguments, the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v20) = (fun j => ∑ k : Fin 2048, xn (m ((c.tc : Thread nD τ).loc main_arg0))
          (m ((c.tc : Thread nD τ).loc main_arg1)) (j 0) k * m ((c.tc : Thread nD τ).loc main_arg2) (ix3 0 k (col (j 1))) : Vec Ideal S16384x10752 .bf16)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨by
    refine (h c).1.trans ((val_main_v20_eq _ _ _).trans (funext fun j => ?_))
    idx_vars j
    exact out_apply _ _ _ j0 j1, (h c).2⟩) (Value.run m ρ)

end Cert.ReferenceZaIdeal.RefValue

namespace Cert.Proof.Za

/-- At `Ideal` the kernel's result array and the reference's agree. -/
theorem algebraic : Cert.algebraic_KernelZaIdeal_ReferenceZaIdeal := by
  intro m g m' g' _ hag
  refine ⟨fun c => Cert.KernelZaIdeal.RefValue.ZA m c, Cert.KernelZaIdeal.RefValue.run m g, ?_⟩
  refine (θ_run _ _ _).mono (fun r h c => ?_) (Cert.ReferenceZaIdeal.RefValue.run m' g')
  obtain ⟨e0, e1, e2⟩ := hag c
  refine ⟨(h c).1.trans ?_, (h c).2⟩
  funext j
  rw [e0, e1, e2]
  rfl

end Cert.Proof.Za

end
-- ==== Proof.Zb.lean ====
/- The input projection's value, second part (`kernel_zb`). -/
module

public import proofs.«01_k».proof.Defs
public import proofs.«01_k».proof.Proof.Gen.KernelZbIdeal.Value
public import proofs.«01_k».proof.Proof.Gen.ReferenceZbIdeal.Read
public import Idealize.ShloMosaic.Lib.Pipeline.ValueKit
public import Idealize.ShloMosaic.Lib.Pipeline.ReadBack
public import Idealize.ShloMosaic.Lib.StableHlo.ReadAt
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelZbIdeal.RefValue

open Cert.KernelZbIdeal Cert.KernelZbIdeal.Gen Cert.KernelZbIdeal.Value

variable (m : (ℓ : Loc nD τ sig) → Buf (Elt Ideal) ℓ) (ρ : Dev nD → PrngReg)

/-- Every window's block index at a point: row block `t / 5`, column block `t % 5`. -/
theorem idx : ∀ t : Fin cfg0.N, win0_0.index t = ![t.val / 5, 0] ∧ win0_1.index t = ![0, 0]
    ∧ win0_2.index t = ![0, t.val % 5] ∧ win0_3.index t = ![t.val / 5, t.val % 5] :=
  (by decide +kernel : ∀ t : Fin grid0.N, _)

/-- One element of the normalised activations: row `r` of `x` divided by its root mean square, times the gain. -/
def xn (x : Vec Ideal S16384x2048 .f32) (g : Vec Ideal S1x2048 .f32) (r : Fin 16384) (k : Fin 2048) : EReal :=
  x (ix2 r k) * Ideal.rsqrt (Ideal.div (∑ q : Fin 2048, x (ix2 r q) * x (ix2 r q)) (Ideal.ofBits .f32 0x45000000#32)
    + Ideal.ofBits .f32 0x358637BD#32) * g (ix2 0 k)

theorem pay1_apply (x : Vec Ideal S1024x2048 .f32) (g : Vec Ideal S1x2048 .f32) (r : Fin 1024) (k : Fin 2048) :
    k0_pay1 (F := Ideal) x g (ix2 r k) = x (ix2 r k) * Ideal.rsqrt (Ideal.div (∑ q : Fin 2048, x (ix2 r q) * x (ix2 r q))
      (Ideal.ofBits .f32 0x45000000#32) + Ideal.ofBits .f32 0x358637BD#32) * g (ix2 0 k) := by
  pointwise [k0_pay1]

theorem pay2_apply (x : Vec Ideal S1024x2048 .bf16) (w : Vec Ideal S2048x768 .bf16) (r : Fin 1024) (j : Fin 768) :
    k0_pay2 (F := Ideal) x w (ix2 r j) = ∑ k : Fin 2048, x (ix2 r k) * w (ix2 k j) := by
  pointwise [k0_pay2]

/-- Window 0's block at a point is 1024 rows of the activations. -/
theorem iblk0_apply (c : Dev nD) (t : Fin cfg0.N) (r : Fin 1024) (k : Fin 2048) (hr : t.val / 5 * 1024 + r.val < 16384) :
    iblk m c 0 t (ix2 r k) = m ((c : Thread nD τ).loc main_arg0) (ix2 ⟨t.val / 5 * 1024 + r.val, hr⟩ k) := by
  blk_ext [iblk, V, idx t]

theorem iblk1_apply (c : Dev nD) (t : Fin cfg0.N) (k : Fin 2048) :
    iblk m c 1 t (ix2 0 k) = m ((c : Thread nD τ).loc main_arg1) (ix2 0 k) := by
  blk_ext! [iblk, V, idx t]

theorem w_congr (w : Vec Ideal S1x2048x14416 .f32) (k : Fin 2048) {a b : Fin 14416} (h : a.val = b.val) :
    w (ix3 0 k a) = w (ix3 0 k b) := by rw [Fin.ext h]

/-- One element of the combined weights: column `j` takes the columns of `w_in` that the reference keeps, in the order it
    keeps them, and the last 176 columns are zero. -/
def wb (w : Vec Ideal S1x2048x14416 .f32) (k : Fin 2048) (j : Fin 3840) : EReal :=
  if h : j.val < 2048 then w (ix3 0 k ⟨j.val + 6144, by omega⟩) else
    if h : j.val < 3072 then w (ix3 0 k ⟨j.val + 7168, by omega⟩) else
      if h : j.val < 3584 then w (ix3 0 k ⟨j.val + 5120, by omega⟩) else
        if h : j.val < 3664 then w (ix3 0 k ⟨j.val + 6656, by omega⟩) else 0

theorem wb_apply (c : Dev nD) (k : Fin 2048) (j : Fin 3840) :
    V m c main_v8 (ix2 k j) = wb (m ((c : Thread nD τ).loc main_arg2)) k j := by
  unfold V
  after_reads_at
  pointwise
  unfold wb
  have hj := j.isLt
  by_cases a1 : j.val < 2048 <;> by_cases a2 : j.val < 3072 <;> by_cases a3 : j.val < 3584 <;> by_cases a4 : j.val < 3664 <;>
    first | (exfalso; omega) | skip
  all_goals simp only [a1, a2, a3, a4, ↓reduceDIte]
  all_goals
    after_reads_at
    pointwise
  all_goals
    try split_ifs
    all_goals first | (exfalso; omega) | rfl | exact w_congr (m ((c : Thread nD τ).loc main_arg2)) k (by (try dsimp only); all_goals omega)

theorem scr (c : Dev nD) (t : Fin cfg0.N) (r : Fin 1024) (k : Fin 2048) (hr : t.val / 5 * 1024 + r.val < 16384) :
    (outsAt0 m c t.val t.isLt).2 (ix2 r k)
      = xn (m ((c : Thread nD τ).loc main_arg0)) (m ((c : Thread nD τ).loc main_arg1)) ⟨t.val / 5 * 1024 + r.val, hr⟩ k := by
  obtain ⟨n, hn⟩ := t
  induction n with
  | zero =>
    rw [outsAt0_A m c ⟨0, hn⟩ rfl]
    frame_out
    rw [pay1_apply]
    simp only [iblk0_apply m c ⟨0, hn⟩ r _ hr, iblk1_apply]
    rfl
  | succ n ih =>
    by_cases h0 : (n + 1) % 5 = 0
    · rw [outsAt0_A m c ⟨n + 1, hn⟩ h0]
      frame_out
      rw [pay1_apply]
      simp only [iblk0_apply m c ⟨n + 1, hn⟩ r _ hr, iblk1_apply]
      rfl
    · rw [outsAt0_B m c ⟨n + 1, hn⟩ h0]
      unfold sout0_B_0
      have e : (n + 1) / 5 = n / 5 := by omega
      have := ih (Nat.lt_of_succ_lt hn) (by dsimp only at hr ⊢; rw [← e]; exact hr)
      simp only [e]
      exact this

/-- What the result array is shown to hold. -/
def ZB (c : Dev nD) : Vec Ideal S16384x3840 .f32 := fun j =>
  ∑ k : Fin 2048, xn (m ((c : Thread nD τ).loc main_arg0)) (m ((c : Thread nD τ).loc main_arg1)) (j 0) k
    * wb (m ((c : Thread nD τ).loc main_arg2)) k (j 1)

theorem out_apply (c : Dev nD) (t : Fin cfg0.N) (r : Fin 1024) (j : Fin 768) :
    (outsAt0 m c t.val t.isLt).1 (ix2 r j) = ∑ k : Fin 2048, (outsAt0 m c t.val t.isLt).2 (ix2 r k) * iblk m c 2 t (ix2 k j) := by
  by_cases h0 : t.val % 5 = 0
  · rw [outsAt0_A m c t h0]
    frame_out
    rw [pay2_apply]
  · rw [outsAt0_B m c t h0]
    unfold sout0_B_0
    frame_out
    rw [pay2_apply]
    simp only [read_unread_whole]

theorem final (c : Dev nD) : (dats m 0 c).arrAt 3 cfg0.N = ZB m c := by
  refine (dats m 0 c).arrAt_eq_of_covers 3 _ (by decide +kernel) fun t hf y => ?_
  blk_simp
  rw [after0_3]
  have ht : t.val < 80 := lt_of_lt_of_eq t.isLt N_0
  idx_vars y
  have hr : t.val / 5 * 1024 + y0.val < 16384 := by omega
  rw [out_apply, Finset.sum_congr rfl fun k _ => by rw [scr m c t y0 k hr]]
  have e : ((View.whole main_v11).slice (win0_3.rect t)).emb (ix2 y0 y1)
      = ix2 ⟨t.val / 5 * 1024 + y0.val, hr⟩ ⟨t.val % 5 * 768 + y1.val, by omega⟩ := by
    blk_ext [idx t]
  rw [e]
  unfold ZB
  refine Fin.sum_fin_congr fun k => ?_
  congr 1
  refine Eq.trans ?_ (wb_apply m c k ⟨t.val % 5 * 768 + y1.val, by omega⟩)
  blk_ext [iblk, idx t]

/-- The run, read: the result array at `ZB`, the arguments unchanged. -/
theorem run : θ_run defs (onTc (τ := τ) (main (F := Ideal))) ⟨m, fun _ => 0, ρ⟩ fun r => ∀ c : Dev nD,
      r.2.mem ((c : Thread nD τ).loc main_v11) = ZB m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

end Cert.KernelZbIdeal.RefValue

namespace Cert.ReferenceZbIdeal.RefValue

open Cert.ReferenceZbIdeal Cert.ReferenceZbIdeal.Gen Cert.ReferenceZbIdeal.Read
open Cert.KernelZbIdeal.RefValue (xn wb w_congr)

theorem z_apply (x : Vec Ideal S16384x2048 .f32) (g : Vec Ideal S1x2048 .f32) (w : Vec Ideal S1x2048x14416 .f32)
    (r : Fin 16384) (j : Fin 14416) :
    val_main_v15 (F := Ideal) x g w (ix2 r j) = ∑ k : Fin 2048, xn x g r k * w (ix3 0 k j) := by
  unfold val_main_v15 val_main_v14 val_main_v13 val_main_v12 val_main_v11 val_main_v10 val_main_v9 val_main_v8 val_main_v7 val_main_v6
    val_main_v5 val_main_v4 val_main_v3 val_main_v2 val_main_v1 val_main_v0 val_main_cst val_main_cst_0 val_main_cst_1
  pointwise [xn]

theorem out_apply (x : Vec Ideal S16384x2048 .f32) (g : Vec Ideal S1x2048 .f32) (w : Vec Ideal S1x2048x14416 .f32)
    (r : Fin 16384) (j : Fin 3840) :
    val_main_v21 (F := Ideal) x g w (ix2 r j) = ∑ k : Fin 2048, xn x g r k * wb w k j := by
  unfold val_main_v21 val_main_v20 val_main_v19 val_main_v18 val_main_v17 val_main_v16 val_main_cst_2
  pointwise
  unfold wb
  have hj := j.isLt
  by_cases a1 : j.val < 2048 <;> by_cases a2 : j.val < 3072 <;> by_cases a3 : j.val < 3584 <;> by_cases a4 : j.val < 3664 <;>
    first | (exfalso; omega) | skip
  all_goals simp only [a1, a2, a3, a4, ↓reduceDIte]
  all_goals
    try split_ifs
    all_goals
      first
      | (exfalso; omega)
      | (simp only [mul_zero, Finset.sum_const_zero]; done)
      | (rw [z_apply]
         refine Finset.sum_congr rfl fun k _ => congrArg _ (w_congr w k ?_)
         all_goals (try dsimp only)
         all_goals omega)

/-- The run, read: the result array at the same function of the arguments, the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v21) = (fun j => ∑ k : Fin 2048, xn (m ((c.tc : Thread nD τ).loc main_arg0))
          (m ((c.tc : Thread nD τ).loc main_arg1)) (j 0) k * wb (m ((c.tc : Thread nD τ).loc main_arg2)) k (j 1) : Vec Ideal S16384x3840 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨by
    refine (h c).1.trans ((val_main_v21_eq _ _).trans (funext fun j => ?_))
    idx_vars j
    exact out_apply _ _ _ j0 j1, (h c).2⟩) (Value.run m ρ)

end Cert.ReferenceZbIdeal.RefValue

namespace Cert.Proof.Zb

/-- At `Ideal` the kernel's result array and the reference's agree. -/
theorem algebraic : Cert.algebraic_KernelZbIdeal_ReferenceZbIdeal := by
  intro m g m' g' _ hag
  refine ⟨fun c => Cert.KernelZbIdeal.RefValue.ZB m c, Cert.KernelZbIdeal.RefValue.run m g, ?_⟩
  refine (θ_run _ _ _).mono (fun r h c => ?_) (Cert.ReferenceZbIdeal.RefValue.run m' g')
  obtain ⟨e0, e1, e2⟩ := hag c
  refine ⟨(h c).1.trans ?_, (h c).2⟩
  funext j
  rw [e0, e1, e2]
  rfl

end Cert.Proof.Zb

end
-- ==== Proof.AttnRuns.lean ====
/-
# The masked attention: what the runs of its body share

The body's three conditions in closed form over the grid points, where its output window is idle, and the memrefs the body is
run on at a point.
-/
module

public import proofs.«01_k».proof.Proof.Gen.KernelIdeal.Frame
public import proofs.«01_k».proof.Proof.Gen.KernelIdeal.Skeleton
public import Idealize.ShloMosaic.Lib.Pipeline.TableIdle
public import Idealize.ShloMosaic.Lib.Ring
public import Idealize.ShloMosaic.Lib.Tactic
public import Idealize.ShloMosaic.Lib.WordCmp

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 3).val) 0#32)) 0#32) = 1#1
/-- It holds at the points ≡ 0 (mod 8) — by arithmetic of the point. -/
theorem hcond0_0 : ∀ t : Fin cfg0.N, cond0_0 (grid0.coords t) ↔ t.val % 8 = 0 :=
  (fun t => by
    have ht : t.val < 2048 := Nat.lt_of_lt_of_eq t.isLt N_0
    have e0 : (grid0.coords t 0).val = t.val / 512 % 4 := Pipeline.Grid.coords_val t 0 (by decide) rfl
    have e1 : (grid0.coords t 1).val = t.val / 32 % 16 := Pipeline.Grid.coords_val t 1 (by decide) rfl
    have e2 : (grid0.coords t 2).val = t.val / 8 % 4 := Pipeline.Grid.coords_val t 2 (by decide) rfl
    have e3 : (grid0.coords t 3).val = t.val / 1 % 8 := Pipeline.Grid.coords_val t 3 (by decide) rfl
    simp only [cond0_0, e0, e1, e2, e3]
    word_cmp
   : ∀ t : Fin grid0.N, cond0_0 (grid0.coords t) ↔ t.val % 8 = 0)

/-- The condition of the body's `scf.if` 1 (`k0_h2`), from the grid coordinates (the skeleton's scalar
    chain substituted). -/
abbrev cond0_1 (i : grid0.Coords) : Prop := (Scalar.cmpi .ne (Scalar.extui (Scalar.cmpi .sle (BitVec.ofNat 32 (i 3).val) (Scalar.select (Scalar.andi (Scalar.cmpi .ne (Scalar.subi (Scalar.extui (Scalar.cmpi .sgt (Scalar.subi (Scalar.muli (Scalar.addi (BitVec.ofNat 32 (i 1).val) 1#32) 256#32) 1#32) 0#32)) (Scalar.extui (Scalar.cmpi .slt (Scalar.subi (Scalar.muli (Scalar.addi (BitVec.ofNat 32 (i 1).val) 1#32) 256#32) 1#32) 0#32))) (Scalar.subi (Scalar.extui (Scalar.cmpi .sgt 512#32 0#32)) (Scalar.extui (Scalar.cmpi .slt 512#32 0#32)))) (Scalar.cmpi .ne (Scalar.remsi (Scalar.subi (Scalar.muli (Scalar.addi (BitVec.ofNat 32 (i 1).val) 1#32) 256#32) 1#32) 512#32) 0#32)) (Scalar.subi (Scalar.divsi (Scalar.subi (Scalar.muli (Scalar.addi (BitVec.ofNat 32 (i 1).val) 1#32) 256#32) 1#32) 512#32) 1#32) (Scalar.divsi (Scalar.subi (Scalar.muli (Scalar.addi (BitVec.ofNat 32 (i 1).val) 1#32) 256#32) 1#32) 512#32)))) 0#32) = 1#1
/-- It holds at the points whose coordinates have 2·i3 ≤ i1 — decided over the grid. -/
theorem hcond0_1 : ∀ t : Fin cfg0.N, cond0_1 (grid0.coords t) ↔ 2 * (t.val % 8) ≤ t.val / 32 % 16 :=
  (by decide +kernel : ∀ t : Fin grid0.N, cond0_1 (grid0.coords t) ↔ 2 * (t.val % 8) ≤ t.val / 32 % 16)

/-- The condition of the body's `scf.if` 2 (`k0_h3`), from the grid coordinates (the skeleton's scalar
    chain substituted). -/
abbrev cond0_2 (i : grid0.Coords) : Prop := k0_cond3 i = 1#1
/-- It holds at the points whose coordinates have 2·i3 ≤ i1 and i1 ≤ 2·i3 + 1 — decided over the grid. -/
theorem hcond0_2 : ∀ t : Fin cfg0.N, cond0_2 (grid0.coords t) ↔ (2 * (t.val % 8) ≤ t.val / 32 % 16 ∧ t.val / 32 % 16 ≤ 2 * (t.val % 8) + 1) :=
  (by decide +kernel : ∀ t : Fin grid0.N, cond0_2 (grid0.coords t) ↔ (2 * (t.val % 8) ≤ t.val / 32 % 16 ∧ t.val / 32 % 16 ≤ 2 * (t.val % 8) + 1))

/-! ## Where the windows are idle -/

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl

/-- The output is idle wherever the body does not store it: everywhere but at the last visited key block. -/
theorem idle0_4 (t : Fin cfg0.N) : cfg0.idle 4 (grid0.coords t) = !decide (2 * (t.val % 8) ≤ t.val / 32 % 16 ∧ t.val / 32 % 16 ≤ 2 * (t.val % 8) + 1) := by
  show (!(k0_cond3 (grid0.coords t) == 1#1)) = _
  congr 1
  rw [Bool.eq_iff_iff, beq_iff_eq, decide_eq_true_iff]
  exact hcond0_2 t

/-! ## The kernel body on any staging memrefs: a subtype the run finds -/

/-- Each window's current staging memref at point `t`, spelled as the pipeline passes it (`bodyAt0`), and its wholeness. -/
abbrev ms0_0 (t : Fin cfg0.N) : Memref sig .tc .vmem S1x1x1024x128 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x2x1x128x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x512 .bf16 := win0_4.stage (cfg0.slots t 4)
abbrev hs0_4 (t : Fin cfg0.N) : (ms0_4 t).IsWhole := hstage0_4 ((cfg0.slots t 4).cast nbuf0_4)
/-- The scratch operands: whole scoped buffers of the kernel's own, passed beside the windows. -/
abbrev scM0_0 : Memref sig .tc .vmem S1024x1 .f32 := Memref.whole cc0_scratch0
abbrev scM0_1 : Memref sig .tc .vmem S1024x1 .f32 := Memref.whole cc0_scratch1
abbrev scM0_2 : Memref sig .tc .vmem S1024x128 .f32 := Memref.whole cc0_scratch2
/-- The scratch `arg9` the kernel carries between points, as a view: what it holds is stated through it. -/
abbrev VS0_0 : View sig .tc .vmem S1024x1 .f32 := scM0_0.view
/-- The scratch `arg10` the kernel carries between points, as a view: what it holds is stated through it. -/
abbrev VS0_1 : View sig .tc .vmem S1024x1 .f32 := scM0_1.view
/-- The scratch `arg11` the kernel carries between points, as a view: what it holds is stated through it. -/
abbrev VS0_2 : View sig .tc .vmem S1024x128 .f32 := scM0_2.view
/-- The output's staging buffer, as a view. -/
abbrev VO0_4 : View sig .tc .vmem S256x512 .bf16 := (win0_4.stage 0).view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.KernelIdeal.Attn

end
-- ==== Proof.AttnRunA.lean ====
/-
# The masked attention: the run of its body at the first key block, which is also the last visited one: the scratch is reset, one step taken, the output written
-/
module

public import proofs.«01_k».proof.Proof.AttnRuns

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1600000 in
/-- The pieces the body's stores leave, found by running it, with the run itself: the first key block, which is also the last visited one: the scratch is reset, one step taken, the output written. -/
noncomputable def kernelRun0_A (c : Dev nD) (i : grid0.Coords) (arg4 : Memref sig .tc .vmem S1x1x1024x128 .bf16) (harg4 : arg4.IsWhole) (arg5 : Memref sig .tc .vmem S512x128 .bf16) (harg5 : arg5.IsWhole) (arg6 : Memref sig .tc .vmem S512x128 .bf16) (harg6 : arg6.IsWhole) (arg7 : Memref sig .tc .vmem S1x2x1x128x512 .f32) (harg7 : arg7.IsWhole) (arg8 : Memref sig .tc .vmem S256x512 .bf16) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x128 .f32) (harg11 : arg11.IsWhole) (hc0 : cond0_0 i) (hc1 : cond0_1 i) (hc2 : cond0_2 i)
    (x0 : Vec F S1x1x1024x128 .bf16) (x1 : Vec F S512x128 .bf16) (x2 : Vec F S512x128 .bf16) (x3 : Vec F S1x2x1x128x512 .f32) :
    Σ' (L4 : List (View.Piece (Elt F) S256x512 .bf16)), Σ' (LS0 : List (View.Piece (Elt F) S1024x1 .f32)), Σ' (LS1 : List (View.Piece (Elt F) S1024x1 .f32)), { LS2 : List (View.Piece (Elt F) S1024x128 .f32) //
      ∀ (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg4 fullShare x0 ∗ owns (c : Thread nD τ) arg5 fullShare x1 ∗ owns (c : Thread nD τ) arg6 fullShare x2 ∗ owns (c : Thread nD τ) arg7 fullShare x3 ∗ (∃ f, arg8.view.loc (c : Thread nD τ) ↦[arg8.view.set]{fullShare} arg8.view.writes (Elt F) f L4) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2)) -∗ K ⟨⟩))
          ⊢ wp frame (wpE (defs₀ (F := F)) Variants.none c none) E (cc0_masked_attention i arg4 harg4 arg5 harg5 arg6 harg6 arg7 harg7 arg8 harg8 arg9 harg9 arg10 harg10 arg11 harg11) K } := by
  refine ⟨?_, ?_, ?_, ?_, fun E K => ?run⟩
  case run =>
    simp only [cc0_masked_attention_eq_skeleton]; unfold cc0_masked_attention_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, ⟨%ds1, %fs1, -, HS1⟩, ⟨%ds2, %fs2, -, HS2⟩, Hk⟩
    obtain rfl := harg4.eq_unread hf0; obtain rfl := harg5.eq_unread hf1; obtain rfl := harg6.eq_unread hf2; obtain rfl := harg7.eq_unread hf3
    sl_exec (disch := first | sl_exact hc0 | sl_exact hc1 | sl_exact hc2)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]; · iexists _; iexact H4
    isplitl [HS0]; · iexists _; iexact HS0
    isplitl [HS1]; · iexists _; iexact HS1
    iexists _; iexact HS2

end Cert.KernelIdeal.Attn

end
-- ==== Proof.AttnRunB.lean ====
/-
# The masked attention: the run of its body at a key block past the last visited one: nothing is stored
-/
module

public import proofs.«01_k».proof.Proof.AttnRunA

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1600000 in
/-- The pieces the body's stores leave, found by running it, with the run itself: a key block past the last visited one: nothing is stored. -/
noncomputable def kernelRun0_B (c : Dev nD) (i : grid0.Coords) (arg4 : Memref sig .tc .vmem S1x1x1024x128 .bf16) (harg4 : arg4.IsWhole) (arg5 : Memref sig .tc .vmem S512x128 .bf16) (harg5 : arg5.IsWhole) (arg6 : Memref sig .tc .vmem S512x128 .bf16) (harg6 : arg6.IsWhole) (arg7 : Memref sig .tc .vmem S1x2x1x128x512 .f32) (harg7 : arg7.IsWhole) (arg8 : Memref sig .tc .vmem S256x512 .bf16) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x128 .f32) (harg11 : arg11.IsWhole) (hc0 : ¬cond0_0 i) (hc1 : ¬cond0_1 i) (hc2 : ¬cond0_2 i)
    (x0 : Vec F S1x1x1024x128 .bf16) (x1 : Vec F S512x128 .bf16) (x2 : Vec F S512x128 .bf16) (x3 : Vec F S1x2x1x128x512 .f32) (x4 : Vec F S256x512 .bf16) (xs0 : Vec F S1024x1 .f32) (xs1 : Vec F S1024x1 .f32) (xs2 : Vec F S1024x128 .f32) :
    Σ' (LS0 : List (View.Piece (Elt F) S1024x1 .f32)), Σ' (LS1 : List (View.Piece (Elt F) S1024x1 .f32)), { LS2 : List (View.Piece (Elt F) S1024x128 .f32) //
      ∀ (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare xs0 ∗ owns (c : Thread nD τ) arg10 fullShare xs1 ∗ owns (c : Thread nD τ) arg11 fullShare xs2
            ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare xs0 ∗ owns (c : Thread nD τ) arg10 fullShare xs1 ∗ owns (c : Thread nD τ) arg11 fullShare xs2) -∗ K ⟨⟩))
          ⊢ wp frame (wpE (defs₀ (F := F)) Variants.none c none) E (cc0_masked_attention i arg4 harg4 arg5 harg5 arg6 harg6 arg7 harg7 arg8 harg8 arg9 harg9 arg10 harg10 arg11 harg11) K } := by
  refine ⟨[], [], [], fun E K => ?run⟩
  case run =>
    simp only [cc0_masked_attention_eq_skeleton]; unfold cc0_masked_attention_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, ⟨%fs2, %hfs2, HS2⟩, Hk⟩
    obtain rfl := harg4.eq_unread hf0; obtain rfl := harg5.eq_unread hf1; obtain rfl := harg6.eq_unread hf2; obtain rfl := harg7.eq_unread hf3; obtain rfl := harg8.eq_unread hf4; obtain rfl := harg9.eq_unread hfs0; obtain rfl := harg10.eq_unread hfs1; obtain rfl := harg11.eq_unread hfs2
    sl_exec (disch := first | sl_exact hc0 | sl_exact hc1 | sl_exact hc2)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr; · ipureintro; exact harg8.read_unread _
      iexact H4
    isplitl [HS0]
    · iexists _; isplitr; · ipureintro; exact harg9.read_unread _
      iexact HS0
    isplitl [HS1]
    · iexists _; isplitr; · ipureintro; exact harg10.read_unread _
      iexact HS1
    iexists _; isplitr; · ipureintro; exact harg11.read_unread _
    iexact HS2

end Cert.KernelIdeal.Attn

end
-- ==== Proof.AttnRunC.lean ====
/-
# The masked attention: the run of its body at the first key block, with more to come: the scratch is reset and one step taken
-/
module

public import proofs.«01_k».proof.Proof.AttnRunB

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1600000 in
/-- The pieces the body's stores leave, found by running it, with the run itself: the first key block, with more to come: the scratch is reset and one step taken. -/
noncomputable def kernelRun0_C (c : Dev nD) (i : grid0.Coords) (arg4 : Memref sig .tc .vmem S1x1x1024x128 .bf16) (harg4 : arg4.IsWhole) (arg5 : Memref sig .tc .vmem S512x128 .bf16) (harg5 : arg5.IsWhole) (arg6 : Memref sig .tc .vmem S512x128 .bf16) (harg6 : arg6.IsWhole) (arg7 : Memref sig .tc .vmem S1x2x1x128x512 .f32) (harg7 : arg7.IsWhole) (arg8 : Memref sig .tc .vmem S256x512 .bf16) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x128 .f32) (harg11 : arg11.IsWhole) (hc0 : cond0_0 i) (hc1 : cond0_1 i) (hc2 : ¬cond0_2 i)
    (x0 : Vec F S1x1x1024x128 .bf16) (x1 : Vec F S512x128 .bf16) (x2 : Vec F S512x128 .bf16) (x3 : Vec F S1x2x1x128x512 .f32) (x4 : Vec F S256x512 .bf16) :
    Σ' (LS0 : List (View.Piece (Elt F) S1024x1 .f32)), Σ' (LS1 : List (View.Piece (Elt F) S1024x1 .f32)), { LS2 : List (View.Piece (Elt F) S1024x128 .f32) //
      ∀ (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2)) -∗ K ⟨⟩))
          ⊢ wp frame (wpE (defs₀ (F := F)) Variants.none c none) E (cc0_masked_attention i arg4 harg4 arg5 harg5 arg6 harg6 arg7 harg7 arg8 harg8 arg9 harg9 arg10 harg10 arg11 harg11) K } := by
  refine ⟨?_, ?_, ?_, fun E K => ?run⟩
  case run =>
    simp only [cc0_masked_attention_eq_skeleton]; unfold cc0_masked_attention_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, ⟨%ds2, %fs2, -, HS2⟩, Hk⟩
    obtain rfl := harg4.eq_unread hf0; obtain rfl := harg5.eq_unread hf1; obtain rfl := harg6.eq_unread hf2; obtain rfl := harg7.eq_unread hf3; obtain rfl := harg8.eq_unread hf4
    sl_exec (disch := first | sl_exact hc0 | sl_exact hc1 | sl_exact hc2)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr; · ipureintro; exact harg8.read_unread _
      iexact H4
    isplitl [HS0]; · iexists _; iexact HS0
    isplitl [HS1]; · iexists _; iexact HS1
    iexists _; iexact HS2

end Cert.KernelIdeal.Attn

end
-- ==== Proof.AttnRunD.lean ====
/-
# The masked attention: the run of its body at the last visited key block, not the first: one step taken, the output written
-/
module

public import proofs.«01_k».proof.Proof.AttnRunC

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1600000 in
/-- The pieces the body's stores leave, found by running it, with the run itself: the last visited key block, not the first: one step taken, the output written. -/
noncomputable def kernelRun0_D (c : Dev nD) (i : grid0.Coords) (arg4 : Memref sig .tc .vmem S1x1x1024x128 .bf16) (harg4 : arg4.IsWhole) (arg5 : Memref sig .tc .vmem S512x128 .bf16) (harg5 : arg5.IsWhole) (arg6 : Memref sig .tc .vmem S512x128 .bf16) (harg6 : arg6.IsWhole) (arg7 : Memref sig .tc .vmem S1x2x1x128x512 .f32) (harg7 : arg7.IsWhole) (arg8 : Memref sig .tc .vmem S256x512 .bf16) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x128 .f32) (harg11 : arg11.IsWhole) (hc0 : ¬cond0_0 i) (hc1 : cond0_1 i) (hc2 : cond0_2 i)
    (x0 : Vec F S1x1x1024x128 .bf16) (x1 : Vec F S512x128 .bf16) (x2 : Vec F S512x128 .bf16) (x3 : Vec F S1x2x1x128x512 .f32) (xs0 : Vec F S1024x1 .f32) (xs1 : Vec F S1024x1 .f32) (xs2 : Vec F S1024x128 .f32) :
    Σ' (L4 : List (View.Piece (Elt F) S256x512 .bf16)), Σ' (LS0 : List (View.Piece (Elt F) S1024x1 .f32)), Σ' (LS1 : List (View.Piece (Elt F) S1024x1 .f32)), { LS2 : List (View.Piece (Elt F) S1024x128 .f32) //
      ∀ (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3 ∗ (∃ d, owns (c : Thread nD τ) arg8 fullShare d) ∗ owns (c : Thread nD τ) arg9 fullShare xs0 ∗ owns (c : Thread nD τ) arg10 fullShare xs1 ∗ owns (c : Thread nD τ) arg11 fullShare xs2
            ∗ (iprop(owns (c : Thread nD τ) arg4 fullShare x0 ∗ owns (c : Thread nD τ) arg5 fullShare x1 ∗ owns (c : Thread nD τ) arg6 fullShare x2 ∗ owns (c : Thread nD τ) arg7 fullShare x3 ∗ (∃ f, arg8.view.loc (c : Thread nD τ) ↦[arg8.view.set]{fullShare} arg8.view.writes (Elt F) f L4) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2)) -∗ K ⟨⟩))
          ⊢ wp frame (wpE (defs₀ (F := F)) Variants.none c none) E (cc0_masked_attention i arg4 harg4 arg5 harg5 arg6 harg6 arg7 harg7 arg8 harg8 arg9 harg9 arg10 harg10 arg11 harg11) K } := by
  refine ⟨?_, ?_, ?_, ?_, fun E K => ?run⟩
  case run =>
    simp only [cc0_masked_attention_eq_skeleton]; unfold cc0_masked_attention_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, ⟨%fs2, %hfs2, HS2⟩, Hk⟩
    obtain rfl := harg4.eq_unread hf0; obtain rfl := harg5.eq_unread hf1; obtain rfl := harg6.eq_unread hf2; obtain rfl := harg7.eq_unread hf3; obtain rfl := harg9.eq_unread hfs0; obtain rfl := harg10.eq_unread hfs1; obtain rfl := harg11.eq_unread hfs2
    sl_exec (disch := first | sl_exact hc0 | sl_exact hc1 | sl_exact hc2)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]; · iexists _; iexact H4
    isplitl [HS0]; · iexists _; iexact HS0
    isplitl [HS1]; · iexists _; iexact HS1
    iexists _; iexact HS2

end Cert.KernelIdeal.Attn

end
-- ==== Proof.AttnRunE.lean ====
/-
# The masked attention: the run of its body at a key block between: one step taken
-/
module

public import proofs.«01_k».proof.Proof.AttnRunD

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1600000 in
/-- The pieces the body's stores leave, found by running it, with the run itself: a key block between: one step taken. -/
noncomputable def kernelRun0_E (c : Dev nD) (i : grid0.Coords) (arg4 : Memref sig .tc .vmem S1x1x1024x128 .bf16) (harg4 : arg4.IsWhole) (arg5 : Memref sig .tc .vmem S512x128 .bf16) (harg5 : arg5.IsWhole) (arg6 : Memref sig .tc .vmem S512x128 .bf16) (harg6 : arg6.IsWhole) (arg7 : Memref sig .tc .vmem S1x2x1x128x512 .f32) (harg7 : arg7.IsWhole) (arg8 : Memref sig .tc .vmem S256x512 .bf16) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x128 .f32) (harg11 : arg11.IsWhole) (hc0 : ¬cond0_0 i) (hc1 : cond0_1 i) (hc2 : ¬cond0_2 i)
    (x0 : Vec F S1x1x1024x128 .bf16) (x1 : Vec F S512x128 .bf16) (x2 : Vec F S512x128 .bf16) (x3 : Vec F S1x2x1x128x512 .f32) (x4 : Vec F S256x512 .bf16) (xs0 : Vec F S1024x1 .f32) (xs1 : Vec F S1024x1 .f32) (xs2 : Vec F S1024x128 .f32) :
    Σ' (LS0 : List (View.Piece (Elt F) S1024x1 .f32)), Σ' (LS1 : List (View.Piece (Elt F) S1024x1 .f32)), { LS2 : List (View.Piece (Elt F) S1024x128 .f32) //
      ∀ (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare xs0 ∗ owns (c : Thread nD τ) arg10 fullShare xs1 ∗ owns (c : Thread nD τ) arg11 fullShare xs2
            ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2)) -∗ K ⟨⟩))
          ⊢ wp frame (wpE (defs₀ (F := F)) Variants.none c none) E (cc0_masked_attention i arg4 harg4 arg5 harg5 arg6 harg6 arg7 harg7 arg8 harg8 arg9 harg9 arg10 harg10 arg11 harg11) K } := by
  refine ⟨?_, ?_, ?_, fun E K => ?run⟩
  case run =>
    simp only [cc0_masked_attention_eq_skeleton]; unfold cc0_masked_attention_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, ⟨%fs2, %hfs2, HS2⟩, Hk⟩
    obtain rfl := harg4.eq_unread hf0; obtain rfl := harg5.eq_unread hf1; obtain rfl := harg6.eq_unread hf2; obtain rfl := harg7.eq_unread hf3; obtain rfl := harg8.eq_unread hf4; obtain rfl := harg9.eq_unread hfs0; obtain rfl := harg10.eq_unread hfs1; obtain rfl := harg11.eq_unread hfs2
    sl_exec (disch := first | sl_exact hc0 | sl_exact hc1 | sl_exact hc2)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr; · ipureintro; exact harg8.read_unread _
      iexact H4
    isplitl [HS0]; · iexists _; iexact HS0
    isplitl [HS1]; · iexists _; iexact HS1
    iexists _; iexact HS2

end Cert.KernelIdeal.Attn

end
-- ==== Proof.AttnCases.lean ====
/-
# The masked attention: what its body leaves at each case

The body's stores as functions of the blocks it reads and of the running maximum, sum and accumulator it finds.
-/
module

public import proofs.«01_k».proof.Proof.AttnRunE
public import Idealize.ShloMosaic.Lib.Pipeline.ValueKit
public import Idealize.ShloMosaic.Lib.Claim

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## One step, and the output it may write -/

/-- The running maximum after a key block. -/
def nM (x0 : Vec F S1x1x1024x128 .bf16) (x1 : Vec F S512x128 .bf16) (x3 : Vec F S1x2x1x128x512 .f32) (m : Vec F S1024x1 .f32) : Vec F S1024x1 .f32 :=
  k0_pay5 (k0_pay12 x0 x1 x3 m)
/-- The running sum after a key block. -/
def nL (x0 : Vec F S1x1x1024x128 .bf16) (x1 : Vec F S512x128 .bf16) (x3 : Vec F S1x2x1x128x512 .f32) (m l : Vec F S1024x1 .f32) : Vec F S1024x1 .f32 :=
  k0_pay15 x0 x1 x3 m l
/-- The accumulator after a key block. -/
def nA (x0 : Vec F S1x1x1024x128 .bf16) (x1 x2 : Vec F S512x128 .bf16) (x3 : Vec F S1x2x1x128x512 .f32) (m : Vec F S1024x1 .f32)
    (a : Vec F S1024x128 .f32) : Vec F S1024x128 .f32 :=
  k0_pay4 (k0_pay16 x0 x1 x3 m a) (k0_pay17 x0 x1 x3 m) x2 (constant S1024x128 .f32 0x00000000#32)
/-- The output block written from the accumulator and the sum: four heads side by side. -/
def nO (a : Vec F S1024x128 .f32) (l : Vec F S1024x1 .f32) : Vec F S256x512 .bf16 :=
  View.canon [⟨Rect.unit (s := S256x512) ![0, 384] S256x128.size inb_S256x512_S256x128_0_384, k0_pay10 a l⟩,
    ⟨Rect.unit (s := S256x512) ![0, 256] S256x128.size inb_S256x512_S256x128_0_256, k0_pay9 a l⟩,
    ⟨Rect.unit (s := S256x512) ![0, 128] S256x128.size inb_S256x512_S256x128_0_128, k0_pay8 a l⟩,
    ⟨Rect.unit (s := S256x512) ![0, 0] S256x128.size inb_S256x512_S256x128_0_0, k0_pay7 a l⟩]

/-! ## The five cases, with what they leave named -/

theorem left_A_4 (c : Dev nD) (i : grid0.Coords) (arg4 : Memref sig .tc .vmem S1x1x1024x128 .bf16) (harg4 : arg4.IsWhole) (arg5 : Memref sig .tc .vmem S512x128 .bf16) (harg5 : arg5.IsWhole) (arg6 : Memref sig .tc .vmem S512x128 .bf16) (harg6 : arg6.IsWhole) (arg7 : Memref sig .tc .vmem S1x2x1x128x512 .f32) (harg7 : arg7.IsWhole) (arg8 : Memref sig .tc .vmem S256x512 .bf16) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x128 .f32) (harg11 : arg11.IsWhole) (hc0 : cond0_0 i) (hc1 : cond0_1 i) (hc2 : cond0_2 i) (x0 : Vec F S1x1x1024x128 .bf16) (x1 : Vec F S512x128 .bf16) (x2 : Vec F S512x128 .bf16) (x3 : Vec F S1x2x1x128x512 .f32) :
    VO0_4.read (Elt F) (VO0_4.writes (Elt F) VO0_4.junk (kernelRun0_A c i arg4 harg4 arg5 harg5 arg6 harg6 arg7 harg7 arg8 harg8 arg9 harg9 arg10 harg10 arg11 harg11 hc0 hc1 hc2 x0 x1 x2 x3).1) = (nO (nA x0 x1 x2 x3 (k0_pay1 (F := F)) (k0_pay3 (F := F))) (nL x0 x1 x3 (k0_pay1 (F := F)) (k0_pay2 (F := F)))) := by
  frame_out
  rfl
theorem cover_A_4 (c : Dev nD) (i : grid0.Coords) (arg4 : Memref sig .tc .vmem S1x1x1024x128 .bf16) (harg4 : arg4.IsWhole) (arg5 : Memref sig .tc .vmem S512x128 .bf16) (harg5 : arg5.IsWhole) (arg6 : Memref sig .tc .vmem S512x128 .bf16) (harg6 : arg6.IsWhole) (arg7 : Memref sig .tc .vmem S1x2x1x128x512 .f32) (harg7 : arg7.IsWhole) (arg8 : Memref sig .tc .vmem S256x512 .bf16) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x128 .f32) (harg11 : arg11.IsWhole) (hc0 : cond0_0 i) (hc1 : cond0_1 i) (hc2 : cond0_2 i) (x0 : Vec F S1x1x1024x128 .bf16) (x1 : Vec F S512x128 .bf16) (x2 : Vec F S512x128 .bf16) (x3 : Vec F S1x2x1x128x512 .f32) (y : S256x512.Idx) :
    ∃ pc ∈ (kernelRun0_A c i arg4 harg4 arg5 harg5 arg6 harg6 arg7 harg7 arg8 harg8 arg9 harg9 arg10 harg10 arg11 harg11 hc0 hc1 hc2 x0 x1 x2 x3).1, y ∈ pc.1.set :=
  View.cover_of_tiledL (kernelRun0_A c i arg4 harg4 arg5 harg5 arg6 harg6 arg7 harg7 arg8 harg8 arg9 harg9 arg10 harg10 arg11 harg11 hc0 hc1 hc2 x0 x1 x2 x3).1 S256x128.size (by sl_kernel_rfl) y

theorem left_A_0 (c : Dev nD) (i : grid0.Coords) (arg4 : Memref sig .tc .vmem S1x1x1024x128 .bf16) (harg4 : arg4.IsWhole) (arg5 : Memref sig .tc .vmem S512x128 .bf16) (harg5 : arg5.IsWhole) (arg6 : Memref sig .tc .vmem S512x128 .bf16) (harg6 : arg6.IsWhole) (arg7 : Memref sig .tc .vmem S1x2x1x128x512 .f32) (harg7 : arg7.IsWhole) (arg8 : Memref sig .tc .vmem S256x512 .bf16) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x128 .f32) (harg11 : arg11.IsWhole) (hc0 : cond0_0 i) (hc1 : cond0_1 i) (hc2 : cond0_2 i) (x0 : Vec F S1x1x1024x128 .bf16) (x1 : Vec F S512x128 .bf16) (x2 : Vec F S512x128 .bf16) (x3 : Vec F S1x2x1x128x512 .f32) :
    VS0_0.read (Elt F) (VS0_0.writes (Elt F) VS0_0.junk (kernelRun0_A c i arg4 harg4 arg5 harg5 arg6 harg6 arg7 harg7 arg8 harg8 arg9 harg9 arg10 harg10 arg11 harg11 hc0 hc1 hc2 x0 x1 x2 x3).2.1) = (nM x0 x1 x3 (k0_pay1 (F := F))) := by
  frame_out
  rfl
theorem cover_A_0 (c : Dev nD) (i : grid0.Coords) (arg4 : Memref sig .tc .vmem S1x1x1024x128 .bf16) (harg4 : arg4.IsWhole) (arg5 : Memref sig .tc .vmem S512x128 .bf16) (harg5 : arg5.IsWhole) (arg6 : Memref sig .tc .vmem S512x128 .bf16) (harg6 : arg6.IsWhole) (arg7 : Memref sig .tc .vmem S1x2x1x128x512 .f32) (harg7 : arg7.IsWhole) (arg8 : Memref sig .tc .vmem S256x512 .bf16) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x128 .f32) (harg11 : arg11.IsWhole) (hc0 : cond0_0 i) (hc1 : cond0_1 i) (hc2 : cond0_2 i) (x0 : Vec F S1x1x1024x128 .bf16) (x1 : Vec F S512x128 .bf16) (x2 : Vec F S512x128 .bf16) (x3 : Vec F S1x2x1x128x512 .f32) (y : S1024x1.Idx) :
    ∃ pc ∈ (kernelRun0_A c i arg4 harg4 arg5 harg5 arg6 harg6 arg7 harg7 arg8 harg8 arg9 harg9 arg10 harg10 arg11 harg11 hc0 hc1 hc2 x0 x1 x2 x3).2.1, y ∈ pc.1.set :=
  View.cover_of_tiledL (kernelRun0_A c i arg4 harg4 arg5 harg5 arg6 harg6 arg7 harg7 arg8 harg8 arg9 harg9 arg10 harg10 arg11 harg11 hc0 hc1 hc2 x0 x1 x2 x3).2.1 S1024x1.size (by sl_kernel_rfl) y

theorem left_A_1 (c : Dev nD) (i : grid0.Coords) (arg4 : Memref sig .tc .vmem S1x1x1024x128 .bf16) (harg4 : arg4.IsWhole) (arg5 : Memref sig .tc .vmem S512x128 .bf16) (harg5 : arg5.IsWhole) (arg6 : Memref sig .tc .vmem S512x128 .bf16) (harg6 : arg6.IsWhole) (arg7 : Memref sig .tc .vmem S1x2x1x128x512 .f32) (harg7 : arg7.IsWhole) (arg8 : Memref sig .tc .vmem S256x512 .bf16) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x128 .f32) (harg11 : arg11.IsWhole) (hc0 : cond0_0 i) (hc1 : cond0_1 i) (hc2 : cond0_2 i) (x0 : Vec F S1x1x1024x128 .bf16) (x1 : Vec F S512x128 .bf16) (x2 : Vec F S512x128 .bf16) (x3 : Vec F S1x2x1x128x512 .f32) :
    VS0_1.read (Elt F) (VS0_1.writes (Elt F) VS0_1.junk (kernelRun0_A c i arg4 harg4 arg5 harg5 arg6 harg6 arg7 harg7 arg8 harg8 arg9 harg9 arg10 harg10 arg11 harg11 hc0 hc1 hc2 x0 x1 x2 x3).2.2.1) = (nL x0 x1 x3 (k0_pay1 (F := F)) (k0_pay2 (F := F))) := by
  frame_out
  rfl
theorem cover_A_1 (c : Dev nD) (i : grid0.Coords) (arg4 : Memref sig .tc .vmem S1x1x1024x128 .bf16) (harg4 : arg4.IsWhole) (arg5 : Memref sig .tc .vmem S512x128 .bf16) (harg5 : arg5.IsWhole) (arg6 : Memref sig .tc .vmem S512x128 .bf16) (harg6 : arg6.IsWhole) (arg7 : Memref sig .tc .vmem S1x2x1x128x512 .f32) (harg7 : arg7.IsWhole) (arg8 : Memref sig .tc .vmem S256x512 .bf16) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x128 .f32) (harg11 : arg11.IsWhole) (hc0 : cond0_0 i) (hc1 : cond0_1 i) (hc2 : cond0_2 i) (x0 : Vec F S1x1x1024x128 .bf16) (x1 : Vec F S512x128 .bf16) (x2 : Vec F S512x128 .bf16) (x3 : Vec F S1x2x1x128x512 .f32) (y : S1024x1.Idx) :
    ∃ pc ∈ (kernelRun0_A c i arg4 harg4 arg5 harg5 arg6 harg6 arg7 harg7 arg8 harg8 arg9 harg9 arg10 harg10 arg11 harg11 hc0 hc1 hc2 x0 x1 x2 x3).2.2.1, y ∈ pc.1.set :=
  View.cover_of_tiledL (kernelRun0_A c i arg4 harg4 arg5 harg5 arg6 harg6 arg7 harg7 arg8 harg8 arg9 harg9 arg10 harg10 arg11 harg11 hc0 hc1 hc2 x0 x1 x2 x3).2.2.1 S1024x1.size (by sl_kernel_rfl) y

theorem left_A_2 (c : Dev nD) (i : grid0.Coords) (arg4 : Memref sig .tc .vmem S1x1x1024x128 .bf16) (harg4 : arg4.IsWhole) (arg5 : Memref sig .tc .vmem S512x128 .bf16) (harg5 : arg5.IsWhole) (arg6 : Memref sig .tc .vmem S512x128 .bf16) (harg6 : arg6.IsWhole) (arg7 : Memref sig .tc .vmem S1x2x1x128x512 .f32) (harg7 : arg7.IsWhole) (arg8 : Memref sig .tc .vmem S256x512 .bf16) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x128 .f32) (harg11 : arg11.IsWhole) (hc0 : cond0_0 i) (hc1 : cond0_1 i) (hc2 : cond0_2 i) (x0 : Vec F S1x1x1024x128 .bf16) (x1 : Vec F S512x128 .bf16) (x2 : Vec F S512x128 .bf16) (x3 : Vec F S1x2x1x128x512 .f32) :
    VS0_2.read (Elt F) (VS0_2.writes (Elt F) VS0_2.junk (kernelRun0_A c i arg4 harg4 arg5 harg5 arg6 harg6 arg7 harg7 arg8 harg8 arg9 harg9 arg10 harg10 arg11 harg11 hc0 hc1 hc2 x0 x1 x2 x3).2.2.2.1) = (nA x0 x1 x2 x3 (k0_pay1 (F := F)) (k0_pay3 (F := F))) := by
  frame_out
  rfl
theorem cover_A_2 (c : Dev nD) (i : grid0.Coords) (arg4 : Memref sig .tc .vmem S1x1x1024x128 .bf16) (harg4 : arg4.IsWhole) (arg5 : Memref sig .tc .vmem S512x128 .bf16) (harg5 : arg5.IsWhole) (arg6 : Memref sig .tc .vmem S512x128 .bf16) (harg6 : arg6.IsWhole) (arg7 : Memref sig .tc .vmem S1x2x1x128x512 .f32) (harg7 : arg7.IsWhole) (arg8 : Memref sig .tc .vmem S256x512 .bf16) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x128 .f32) (harg11 : arg11.IsWhole) (hc0 : cond0_0 i) (hc1 : cond0_1 i) (hc2 : cond0_2 i) (x0 : Vec F S1x1x1024x128 .bf16) (x1 : Vec F S512x128 .bf16) (x2 : Vec F S512x128 .bf16) (x3 : Vec F S1x2x1x128x512 .f32) (y : S1024x128.Idx) :
    ∃ pc ∈ (kernelRun0_A c i arg4 harg4 arg5 harg5 arg6 harg6 arg7 harg7 arg8 harg8 arg9 harg9 arg10 harg10 arg11 harg11 hc0 hc1 hc2 x0 x1 x2 x3).2.2.2.1, y ∈ pc.1.set :=
  View.cover_of_tiledL (kernelRun0_A c i arg4 harg4 arg5 harg5 arg6 harg6 arg7 harg7 arg8 harg8 arg9 harg9 arg10 harg10 arg11 harg11 hc0 hc1 hc2 x0 x1 x2 x3).2.2.2.1 S1024x128.size (by sl_kernel_rfl) y

set_option maxHeartbeats 1600000 in
theorem run_A (c : Dev nD) (i : grid0.Coords) (arg4 : Memref sig .tc .vmem S1x1x1024x128 .bf16) (harg4 : arg4.IsWhole) (arg5 : Memref sig .tc .vmem S512x128 .bf16) (harg5 : arg5.IsWhole) (arg6 : Memref sig .tc .vmem S512x128 .bf16) (harg6 : arg6.IsWhole) (arg7 : Memref sig .tc .vmem S1x2x1x128x512 .f32) (harg7 : arg7.IsWhole) (arg8 : Memref sig .tc .vmem S256x512 .bf16) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x128 .f32) (harg11 : arg11.IsWhole) (hc0 : cond0_0 i) (hc1 : cond0_1 i) (hc2 : cond0_2 i) (x0 : Vec F S1x1x1024x128 .bf16) (x1 : Vec F S512x128 .bf16) (x2 : Vec F S512x128 .bf16) (x3 : Vec F S1x2x1x128x512 .f32) (x4 : Vec F S256x512 .bf16) (xs0 : Vec F S1024x1 .f32) (xs1 : Vec F S1024x1 .f32) (xs2 : Vec F S1024x128 .f32)
    (E : Set ℕ) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare xs0 ∗ owns (c : Thread nD τ) arg10 fullShare xs1 ∗ owns (c : Thread nD τ) arg11 fullShare xs2
        ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare (nO (nA x0 x1 x2 x3 (k0_pay1 (F := F)) (k0_pay3 (F := F))) (nL x0 x1 x3 (k0_pay1 (F := F)) (k0_pay2 (F := F)))) ∗ owns (c : Thread nD τ) arg9 fullShare (nM x0 x1 x3 (k0_pay1 (F := F))) ∗ owns (c : Thread nD τ) arg10 fullShare (nL x0 x1 x3 (k0_pay1 (F := F)) (k0_pay2 (F := F))) ∗ owns (c : Thread nD τ) arg11 fullShare (nA x0 x1 x2 x3 (k0_pay1 (F := F)) (k0_pay3 (F := F)))) -∗ K ⟨⟩))
      ⊢ wp frame (wpE (defs₀ (F := F)) Variants.none c none) E (cc0_masked_attention i arg4 harg4 arg5 harg5 arg6 harg6 arg7 harg7 arg8 harg8 arg9 harg9 arg10 harg10 arg11 harg11) K := by
  iintro ⟨H0, H1, H2, H3, H4, HS0, HS1, HS2, Hk⟩
  iapply ((kernelRun0_A c i arg4 harg4 arg5 harg5 arg6 harg6 arg7 harg7 arg8 harg8 arg9 harg9 arg10 harg10 arg11 harg11 hc0 hc1 hc2 x0 x1 x2 x3).2.2.2.2 E K)
  isplitl [H0]; · iexact H0
  isplitl [H1]; · iexact H1
  isplitl [H2]; · iexact H2
  isplitl [H3]; · iexact H3
  isplitl [H4]; · iexists _; iexact H4
  isplitl [HS0]; · iexists _; iexact HS0
  isplitl [HS1]; · iexists _; iexact HS1
  isplitl [HS2]; · iexists _; iexact HS2
  iintro ⟨H0, H1, H2, H3, ⟨%eH4, H4⟩, ⟨%eHS0, HS0⟩, ⟨%eHS1, HS1⟩, ⟨%eHS2, HS2⟩⟩
  iapply Hk
  isplitl [H0]; · iexact H0
  isplitl [H1]; · iexact H1
  isplitl [H2]; · iexact H2
  isplitl [H3]; · iexact H3
  isplitl [H4]
  · unfold owns; iexists _; isplitr
    swap; · iexact H4
    ipureintro; exact (View.read_writes_of_cover _ _ _ _ _ (cover_A_4 _ _ _ _ _ _ _ _ _ _ _ _ _ _ _ _ _ _ _ _ _ _ _ _ _)).trans (left_A_4 _ _ _ _ _ _ _ _ _ _ _ _ _ _ _ _ _ _ _ _ _ _ _ _ _)
  isplitl [HS0]
  · unfold owns; iexists _; isplitr
    swap; · iexact HS0
    ipureintro; exact (View.read_writes_of_cover _ _ _ _ _ (cover_A_0 _ _ _ _ _ _ _ _ _ _ _ _ _ _ _ _ _ _ _ _ _ _ _ _ _)).trans (left_A_0 _ _ _ _ _ _ _ _ _ _ _ _ _ _ _ _ _ _ _ _ _ _ _ _ _)
  isplitl [HS1]
  · unfold owns; iexists _; isplitr
    swap; · iexact HS1
    ipureintro; exact (View.read_writes_of_cover _ _ _ _ _ (cover_A_1 _ _ _ _ _ _ _ _ _ _ _ _ _ _ _ _ _ _ _ _ _ _ _ _ _)).trans (left_A_1 _ _ _ _ _ _ _ _ _ _ _ _ _ _ _ _ _ _ _ _ _ _ _ _ _)
  unfold owns; iexists _; isplitr
  swap; · iexact HS2
  ipureintro; exact (View.read_writes_of_cover _ _ _ _ _ (cover_A_2 _ _ _ _ _ _ _ _ _ _ _ _ _ _ _ _ _ _ _ _ _ _ _ _ _)).trans (left_A_2 _ _ _ _ _ _ _ _ _ _ _ _ _ _ _ _ _ _ _ _ _ _ _ _ _)

theorem left_C_0 (c : Dev nD) (i : grid0.Coords) (arg4 : Memref sig .tc .vmem S1x1x1024x128 .bf16) (harg4 : arg4.IsWhole) (arg5 : Memref sig .tc .vmem S512x128 .bf16) (harg5 : arg5.IsWhole) (arg6 : Memref sig .tc .vmem S512x128 .bf16) (harg6 : arg6.IsWhole) (arg7 : Memref sig .tc .vmem S1x2x1x128x512 .f32) (harg7 : arg7.IsWhole) (arg8 : Memref sig .tc .vmem S256x512 .bf16) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x128 .f32) (harg11 : arg11.IsWhole) (hc0 : cond0_0 i) (hc1 : cond0_1 i) (hc2 : ¬cond0_2 i) (x0 : Vec F S1x1x1024x128 .bf16) (x1 : Vec F S512x128 .bf16) (x2 : Vec F S512x128 .bf16) (x3 : Vec F S1x2x1x128x512 .f32) (x4 : Vec F S256x512 .bf16) :
    VS0_0.read (Elt F) (VS0_0.writes (Elt F) VS0_0.junk (kernelRun0_C c i arg4 harg4 arg5 harg5 arg6 harg6 arg7 harg7 arg8 harg8 arg9 harg9 arg10 harg10 arg11 harg11 hc0 hc1 hc2 x0 x1 x2 x3 x4).1) = (nM x0 x1 x3 (k0_pay1 (F := F))) := by
  frame_out
  rfl
theorem cover_C_0 (c : Dev nD) (i : grid0.Coords) (arg4 : Memref sig .tc .vmem S1x1x1024x128 .bf16) (harg4 : arg4.IsWhole) (arg5 : Memref sig .tc .vmem S512x128 .bf16) (harg5 : arg5.IsWhole) (arg6 : Memref sig .tc .vmem S512x128 .bf16) (harg6 : arg6.IsWhole) (arg7 : Memref sig .tc .vmem S1x2x1x128x512 .f32) (harg7 : arg7.IsWhole) (arg8 : Memref sig .tc .vmem S256x512 .bf16) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x128 .f32) (harg11 : arg11.IsWhole) (hc0 : cond0_0 i) (hc1 : cond0_1 i) (hc2 : ¬cond0_2 i) (x0 : Vec F S1x1x1024x128 .bf16) (x1 : Vec F S512x128 .bf16) (x2 : Vec F S512x128 .bf16) (x3 : Vec F S1x2x1x128x512 .f32) (x4 : Vec F S256x512 .bf16) (y : S1024x1.Idx) :
    ∃ pc ∈ (kernelRun0_C c i arg4 harg4 arg5 harg5 arg6 harg6 arg7 harg7 arg8 harg8 arg9 harg9 arg10 harg10 arg11 harg11 hc0 hc1 hc2 x0 x1 x2 x3 x4).1, y ∈ pc.1.set :=
  View.cover_of_tiledL (kernelRun0_C c i arg4 harg4 arg5 harg5 arg6 harg6 arg7 harg7 arg8 harg8 arg9 harg9 arg10 harg10 arg11 harg11 hc0 hc1 hc2 x0 x1 x2 x3 x4).1 S1024x1.size (by sl_kernel_rfl) y

theorem left_C_1 (c : Dev nD) (i : grid0.Coords) (arg4 : Memref sig .tc .vmem S1x1x1024x128 .bf16) (harg4 : arg4.IsWhole) (arg5 : Memref sig .tc .vmem S512x128 .bf16) (harg5 : arg5.IsWhole) (arg6 : Memref sig .tc .vmem S512x128 .bf16) (harg6 : arg6.IsWhole) (arg7 : Memref sig .tc .vmem S1x2x1x128x512 .f32) (harg7 : arg7.IsWhole) (arg8 : Memref sig .tc .vmem S256x512 .bf16) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x128 .f32) (harg11 : arg11.IsWhole) (hc0 : cond0_0 i) (hc1 : cond0_1 i) (hc2 : ¬cond0_2 i) (x0 : Vec F S1x1x1024x128 .bf16) (x1 : Vec F S512x128 .bf16) (x2 : Vec F S512x128 .bf16) (x3 : Vec F S1x2x1x128x512 .f32) (x4 : Vec F S256x512 .bf16) :
    VS0_1.read (Elt F) (VS0_1.writes (Elt F) VS0_1.junk (kernelRun0_C c i arg4 harg4 arg5 harg5 arg6 harg6 arg7 harg7 arg8 harg8 arg9 harg9 arg10 harg10 arg11 harg11 hc0 hc1 hc2 x0 x1 x2 x3 x4).2.1) = (nL x0 x1 x3 (k0_pay1 (F := F)) (k0_pay2 (F := F))) := by
  frame_out
  rfl
theorem cover_C_1 (c : Dev nD) (i : grid0.Coords) (arg4 : Memref sig .tc .vmem S1x1x1024x128 .bf16) (harg4 : arg4.IsWhole) (arg5 : Memref sig .tc .vmem S512x128 .bf16) (harg5 : arg5.IsWhole) (arg6 : Memref sig .tc .vmem S512x128 .bf16) (harg6 : arg6.IsWhole) (arg7 : Memref sig .tc .vmem S1x2x1x128x512 .f32) (harg7 : arg7.IsWhole) (arg8 : Memref sig .tc .vmem S256x512 .bf16) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x128 .f32) (harg11 : arg11.IsWhole) (hc0 : cond0_0 i) (hc1 : cond0_1 i) (hc2 : ¬cond0_2 i) (x0 : Vec F S1x1x1024x128 .bf16) (x1 : Vec F S512x128 .bf16) (x2 : Vec F S512x128 .bf16) (x3 : Vec F S1x2x1x128x512 .f32) (x4 : Vec F S256x512 .bf16) (y : S1024x1.Idx) :
    ∃ pc ∈ (kernelRun0_C c i arg4 harg4 arg5 harg5 arg6 harg6 arg7 harg7 arg8 harg8 arg9 harg9 arg10 harg10 arg11 harg11 hc0 hc1 hc2 x0 x1 x2 x3 x4).2.1, y ∈ pc.1.set :=
  View.cover_of_tiledL (kernelRun0_C c i arg4 harg4 arg5 harg5 arg6 harg6 arg7 harg7 arg8 harg8 arg9 harg9 arg10 harg10 arg11 harg11 hc0 hc1 hc2 x0 x1 x2 x3 x4).2.1 S1024x1.size (by sl_kernel_rfl) y

theorem left_C_2 (c : Dev nD) (i : grid0.Coords) (arg4 : Memref sig .tc .vmem S1x1x1024x128 .bf16) (harg4 : arg4.IsWhole) (arg5 : Memref sig .tc .vmem S512x128 .bf16) (harg5 : arg5.IsWhole) (arg6 : Memref sig .tc .vmem S512x128 .bf16) (harg6 : arg6.IsWhole) (arg7 : Memref sig .tc .vmem S1x2x1x128x512 .f32) (harg7 : arg7.IsWhole) (arg8 : Memref sig .tc .vmem S256x512 .bf16) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x128 .f32) (harg11 : arg11.IsWhole) (hc0 : cond0_0 i) (hc1 : cond0_1 i) (hc2 : ¬cond0_2 i) (x0 : Vec F S1x1x1024x128 .bf16) (x1 : Vec F S512x128 .bf16) (x2 : Vec F S512x128 .bf16) (x3 : Vec F S1x2x1x128x512 .f32) (x4 : Vec F S256x512 .bf16) :
    VS0_2.read (Elt F) (VS0_2.writes (Elt F) VS0_2.junk (kernelRun0_C c i arg4 harg4 arg5 harg5 arg6 harg6 arg7 harg7 arg8 harg8 arg9 harg9 arg10 harg10 arg11 harg11 hc0 hc1 hc2 x0 x1 x2 x3 x4).2.2.1) = (nA x0 x1 x2 x3 (k0_pay1 (F := F)) (k0_pay3 (F := F))) := by
  frame_out
  rfl
theorem cover_C_2 (c : Dev nD) (i : grid0.Coords) (arg4 : Memref sig .tc .vmem S1x1x1024x128 .bf16) (harg4 : arg4.IsWhole) (arg5 : Memref sig .tc .vmem S512x128 .bf16) (harg5 : arg5.IsWhole) (arg6 : Memref sig .tc .vmem S512x128 .bf16) (harg6 : arg6.IsWhole) (arg7 : Memref sig .tc .vmem S1x2x1x128x512 .f32) (harg7 : arg7.IsWhole) (arg8 : Memref sig .tc .vmem S256x512 .bf16) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x128 .f32) (harg11 : arg11.IsWhole) (hc0 : cond0_0 i) (hc1 : cond0_1 i) (hc2 : ¬cond0_2 i) (x0 : Vec F S1x1x1024x128 .bf16) (x1 : Vec F S512x128 .bf16) (x2 : Vec F S512x128 .bf16) (x3 : Vec F S1x2x1x128x512 .f32) (x4 : Vec F S256x512 .bf16) (y : S1024x128.Idx) :
    ∃ pc ∈ (kernelRun0_C c i arg4 harg4 arg5 harg5 arg6 harg6 arg7 harg7 arg8 harg8 arg9 harg9 arg10 harg10 arg11 harg11 hc0 hc1 hc2 x0 x1 x2 x3 x4).2.2.1, y ∈ pc.1.set :=
  View.cover_of_tiledL (kernelRun0_C c i arg4 harg4 arg5 harg5 arg6 harg6 arg7 harg7 arg8 harg8 arg9 harg9 arg10 harg10 arg11 harg11 hc0 hc1 hc2 x0 x1 x2 x3 x4).2.2.1 S1024x128.size (by sl_kernel_rfl) y

set_option maxHeartbeats 1600000 in
theorem run_C (c : Dev nD) (i : grid0.Coords) (arg4 : Memref sig .tc .vmem S1x1x1024x128 .bf16) (harg4 : arg4.IsWhole) (arg5 : Memref sig .tc .vmem S512x128 .bf16) (harg5 : arg5.IsWhole) (arg6 : Memref sig .tc .vmem S512x128 .bf16) (harg6 : arg6.IsWhole) (arg7 : Memref sig .tc .vmem S1x2x1x128x512 .f32) (harg7 : arg7.IsWhole) (arg8 : Memref sig .tc .vmem S256x512 .bf16) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x128 .f32) (harg11 : arg11.IsWhole) (hc0 : cond0_0 i) (hc1 : cond0_1 i) (hc2 : ¬cond0_2 i) (x0 : Vec F S1x1x1024x128 .bf16) (x1 : Vec F S512x128 .bf16) (x2 : Vec F S512x128 .bf16) (x3 : Vec F S1x2x1x128x512 .f32) (x4 : Vec F S256x512 .bf16) (xs0 : Vec F S1024x1 .f32) (xs1 : Vec F S1024x1 .f32) (xs2 : Vec F S1024x128 .f32)
    (E : Set ℕ) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare xs0 ∗ owns (c : Thread nD τ) arg10 fullShare xs1 ∗ owns (c : Thread nD τ) arg11 fullShare xs2
        ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare (nM x0 x1 x3 (k0_pay1 (F := F))) ∗ owns (c : Thread nD τ) arg10 fullShare (nL x0 x1 x3 (k0_pay1 (F := F)) (k0_pay2 (F := F))) ∗ owns (c : Thread nD τ) arg11 fullShare (nA x0 x1 x2 x3 (k0_pay1 (F := F)) (k0_pay3 (F := F)))) -∗ K ⟨⟩))
      ⊢ wp frame (wpE (defs₀ (F := F)) Variants.none c none) E (cc0_masked_attention i arg4 harg4 arg5 harg5 arg6 harg6 arg7 harg7 arg8 harg8 arg9 harg9 arg10 harg10 arg11 harg11) K := by
  iintro ⟨H0, H1, H2, H3, H4, HS0, HS1, HS2, Hk⟩
  iapply ((kernelRun0_C c i arg4 harg4 arg5 harg5 arg6 harg6 arg7 harg7 arg8 harg8 arg9 harg9 arg10 harg10 arg11 harg11 hc0 hc1 hc2 x0 x1 x2 x3 x4).2.2.2 E K)
  isplitl [H0]; · iexact H0
  isplitl [H1]; · iexact H1
  isplitl [H2]; · iexact H2
  isplitl [H3]; · iexact H3
  isplitl [H4]; · iexact H4
  isplitl [HS0]; · iexists _; iexact HS0
  isplitl [HS1]; · iexists _; iexact HS1
  isplitl [HS2]; · iexists _; iexact HS2
  iintro ⟨H0, H1, H2, H3, H4, ⟨%eHS0, HS0⟩, ⟨%eHS1, HS1⟩, ⟨%eHS2, HS2⟩⟩
  iapply Hk
  isplitl [H0]; · iexact H0
  isplitl [H1]; · iexact H1
  isplitl [H2]; · iexact H2
  isplitl [H3]; · iexact H3
  isplitl [H4]; · iexact H4
  isplitl [HS0]
  · unfold owns; iexists _; isplitr
    swap; · iexact HS0
    ipureintro; exact (View.read_writes_of_cover _ _ _ _ _ (cover_C_0 _ _ _ _ _ _ _ _ _ _ _ _ _ _ _ _ _ _ _ _ _ _ _ _ _ _)).trans (left_C_0 _ _ _ _ _ _ _ _ _ _ _ _ _ _ _ _ _ _ _ _ _ _ _ _ _ _)
  isplitl [HS1]
  · unfold owns; iexists _; isplitr
    swap; · iexact HS1
    ipureintro; exact (View.read_writes_of_cover _ _ _ _ _ (cover_C_1 _ _ _ _ _ _ _ _ _ _ _ _ _ _ _ _ _ _ _ _ _ _ _ _ _ _)).trans (left_C_1 _ _ _ _ _ _ _ _ _ _ _ _ _ _ _ _ _ _ _ _ _ _ _ _ _ _)
  unfold owns; iexists _; isplitr
  swap; · iexact HS2
  ipureintro; exact (View.read_writes_of_cover _ _ _ _ _ (cover_C_2 _ _ _ _ _ _ _ _ _ _ _ _ _ _ _ _ _ _ _ _ _ _ _ _ _ _)).trans (left_C_2 _ _ _ _ _ _ _ _ _ _ _ _ _ _ _ _ _ _ _ _ _ _ _ _ _ _)

theorem left_D_4 (c : Dev nD) (i : grid0.Coords) (arg4 : Memref sig .tc .vmem S1x1x1024x128 .bf16) (harg4 : arg4.IsWhole) (arg5 : Memref sig .tc .vmem S512x128 .bf16) (harg5 : arg5.IsWhole) (arg6 : Memref sig .tc .vmem S512x128 .bf16) (harg6 : arg6.IsWhole) (arg7 : Memref sig .tc .vmem S1x2x1x128x512 .f32) (harg7 : arg7.IsWhole) (arg8 : Memref sig .tc .vmem S256x512 .bf16) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x128 .f32) (harg11 : arg11.IsWhole) (hc0 : ¬cond0_0 i) (hc1 : cond0_1 i) (hc2 : cond0_2 i) (x0 : Vec F S1x1x1024x128 .bf16) (x1 : Vec F S512x128 .bf16) (x2 : Vec F S512x128 .bf16) (x3 : Vec F S1x2x1x128x512 .f32) (xs0 : Vec F S1024x1 .f32) (xs1 : Vec F S1024x1 .f32) (xs2 : Vec F S1024x128 .f32) :
    VO0_4.read (Elt F) (VO0_4.writes (Elt F) VO0_4.junk (kernelRun0_D c i arg4 harg4 arg5 harg5 arg6 harg6 arg7 harg7 arg8 harg8 arg9 harg9 arg10 harg10 arg11 harg11 hc0 hc1 hc2 x0 x1 x2 x3 xs0 xs1 xs2).1) = (nO (nA x0 x1 x2 x3 xs0 xs2) (nL x0 x1 x3 xs0 xs1)) := by
  frame_out
  rfl
theorem cover_D_4 (c : Dev nD) (i : grid0.Coords) (arg4 : Memref sig .tc .vmem S1x1x1024x128 .bf16) (harg4 : arg4.IsWhole) (arg5 : Memref sig .tc .vmem S512x128 .bf16) (harg5 : arg5.IsWhole) (arg6 : Memref sig .tc .vmem S512x128 .bf16) (harg6 : arg6.IsWhole) (arg7 : Memref sig .tc .vmem S1x2x1x128x512 .f32) (harg7 : arg7.IsWhole) (arg8 : Memref sig .tc .vmem S256x512 .bf16) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x128 .f32) (harg11 : arg11.IsWhole) (hc0 : ¬cond0_0 i) (hc1 : cond0_1 i) (hc2 : cond0_2 i) (x0 : Vec F S1x1x1024x128 .bf16) (x1 : Vec F S512x128 .bf16) (x2 : Vec F S512x128 .bf16) (x3 : Vec F S1x2x1x128x512 .f32) (xs0 : Vec F S1024x1 .f32) (xs1 : Vec F S1024x1 .f32) (xs2 : Vec F S1024x128 .f32) (y : S256x512.Idx) :
    ∃ pc ∈ (kernelRun0_D c i arg4 harg4 arg5 harg5 arg6 harg6 arg7 harg7 arg8 harg8 arg9 harg9 arg10 harg10 arg11 harg11 hc0 hc1 hc2 x0 x1 x2 x3 xs0 xs1 xs2).1, y ∈ pc.1.set :=
  View.cover_of_tiledL (kernelRun0_D c i arg4 harg4 arg5 harg5 arg6 harg6 arg7 harg7 arg8 harg8 arg9 harg9 arg10 harg10 arg11 harg11 hc0 hc1 hc2 x0 x1 x2 x3 xs0 xs1 xs2).1 S256x128.size (by sl_kernel_rfl) y

theorem left_D_0 (c : Dev nD) (i : grid0.Coords) (arg4 : Memref sig .tc .vmem S1x1x1024x128 .bf16) (harg4 : arg4.IsWhole) (arg5 : Memref sig .tc .vmem S512x128 .bf16) (harg5 : arg5.IsWhole) (arg6 : Memref sig .tc .vmem S512x128 .bf16) (harg6 : arg6.IsWhole) (arg7 : Memref sig .tc .vmem S1x2x1x128x512 .f32) (harg7 : arg7.IsWhole) (arg8 : Memref sig .tc .vmem S256x512 .bf16) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x128 .f32) (harg11 : arg11.IsWhole) (hc0 : ¬cond0_0 i) (hc1 : cond0_1 i) (hc2 : cond0_2 i) (x0 : Vec F S1x1x1024x128 .bf16) (x1 : Vec F S512x128 .bf16) (x2 : Vec F S512x128 .bf16) (x3 : Vec F S1x2x1x128x512 .f32) (xs0 : Vec F S1024x1 .f32) (xs1 : Vec F S1024x1 .f32) (xs2 : Vec F S1024x128 .f32) :
    VS0_0.read (Elt F) (VS0_0.writes (Elt F) VS0_0.junk (kernelRun0_D c i arg4 harg4 arg5 harg5 arg6 harg6 arg7 harg7 arg8 harg8 arg9 harg9 arg10 harg10 arg11 harg11 hc0 hc1 hc2 x0 x1 x2 x3 xs0 xs1 xs2).2.1) = (nM x0 x1 x3 xs0) := by
  frame_out
  rfl
theorem cover_D_0 (c : Dev nD) (i : grid0.Coords) (arg4 : Memref sig .tc .vmem S1x1x1024x128 .bf16) (harg4 : arg4.IsWhole) (arg5 : Memref sig .tc .vmem S512x128 .bf16) (harg5 : arg5.IsWhole) (arg6 : Memref sig .tc .vmem S512x128 .bf16) (harg6 : arg6.IsWhole) (arg7 : Memref sig .tc .vmem S1x2x1x128x512 .f32) (harg7 : arg7.IsWhole) (arg8 : Memref sig .tc .vmem S256x512 .bf16) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x128 .f32) (harg11 : arg11.IsWhole) (hc0 : ¬cond0_0 i) (hc1 : cond0_1 i) (hc2 : cond0_2 i) (x0 : Vec F S1x1x1024x128 .bf16) (x1 : Vec F S512x128 .bf16) (x2 : Vec F S512x128 .bf16) (x3 : Vec F S1x2x1x128x512 .f32) (xs0 : Vec F S1024x1 .f32) (xs1 : Vec F S1024x1 .f32) (xs2 : Vec F S1024x128 .f32) (y : S1024x1.Idx) :
    ∃ pc ∈ (kernelRun0_D c i arg4 harg4 arg5 harg5 arg6 harg6 arg7 harg7 arg8 harg8 arg9 harg9 arg10 harg10 arg11 harg11 hc0 hc1 hc2 x0 x1 x2 x3 xs0 xs1 xs2).2.1, y ∈ pc.1.set :=
  View.cover_of_tiledL (kernelRun0_D c i arg4 harg4 arg5 harg5 arg6 harg6 arg7 harg7 arg8 harg8 arg9 harg9 arg10 harg10 arg11 harg11 hc0 hc1 hc2 x0 x1 x2 x3 xs0 xs1 xs2).2.1 S1024x1.size (by sl_kernel_rfl) y

theorem left_D_1 (c : Dev nD) (i : grid0.Coords) (arg4 : Memref sig .tc .vmem S1x1x1024x128 .bf16) (harg4 : arg4.IsWhole) (arg5 : Memref sig .tc .vmem S512x128 .bf16) (harg5 : arg5.IsWhole) (arg6 : Memref sig .tc .vmem S512x128 .bf16) (harg6 : arg6.IsWhole) (arg7 : Memref sig .tc .vmem S1x2x1x128x512 .f32) (harg7 : arg7.IsWhole) (arg8 : Memref sig .tc .vmem S256x512 .bf16) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x128 .f32) (harg11 : arg11.IsWhole) (hc0 : ¬cond0_0 i) (hc1 : cond0_1 i) (hc2 : cond0_2 i) (x0 : Vec F S1x1x1024x128 .bf16) (x1 : Vec F S512x128 .bf16) (x2 : Vec F S512x128 .bf16) (x3 : Vec F S1x2x1x128x512 .f32) (xs0 : Vec F S1024x1 .f32) (xs1 : Vec F S1024x1 .f32) (xs2 : Vec F S1024x128 .f32) :
    VS0_1.read (Elt F) (VS0_1.writes (Elt F) VS0_1.junk (kernelRun0_D c i arg4 harg4 arg5 harg5 arg6 harg6 arg7 harg7 arg8 harg8 arg9 harg9 arg10 harg10 arg11 harg11 hc0 hc1 hc2 x0 x1 x2 x3 xs0 xs1 xs2).2.2.1) = (nL x0 x1 x3 xs0 xs1) := by
  frame_out
  rfl
theorem cover_D_1 (c : Dev nD) (i : grid0.Coords) (arg4 : Memref sig .tc .vmem S1x1x1024x128 .bf16) (harg4 : arg4.IsWhole) (arg5 : Memref sig .tc .vmem S512x128 .bf16) (harg5 : arg5.IsWhole) (arg6 : Memref sig .tc .vmem S512x128 .bf16) (harg6 : arg6.IsWhole) (arg7 : Memref sig .tc .vmem S1x2x1x128x512 .f32) (harg7 : arg7.IsWhole) (arg8 : Memref sig .tc .vmem S256x512 .bf16) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x128 .f32) (harg11 : arg11.IsWhole) (hc0 : ¬cond0_0 i) (hc1 : cond0_1 i) (hc2 : cond0_2 i) (x0 : Vec F S1x1x1024x128 .bf16) (x1 : Vec F S512x128 .bf16) (x2 : Vec F S512x128 .bf16) (x3 : Vec F S1x2x1x128x512 .f32) (xs0 : Vec F S1024x1 .f32) (xs1 : Vec F S1024x1 .f32) (xs2 : Vec F S1024x128 .f32) (y : S1024x1.Idx) :
    ∃ pc ∈ (kernelRun0_D c i arg4 harg4 arg5 harg5 arg6 harg6 arg7 harg7 arg8 harg8 arg9 harg9 arg10 harg10 arg11 harg11 hc0 hc1 hc2 x0 x1 x2 x3 xs0 xs1 xs2).2.2.1, y ∈ pc.1.set :=
  View.cover_of_tiledL (kernelRun0_D c i arg4 harg4 arg5 harg5 arg6 harg6 arg7 harg7 arg8 harg8 arg9 harg9 arg10 harg10 arg11 harg11 hc0 hc1 hc2 x0 x1 x2 x3 xs0 xs1 xs2).2.2.1 S1024x1.size (by sl_kernel_rfl) y

theorem left_D_2 (c : Dev nD) (i : grid0.Coords) (arg4 : Memref sig .tc .vmem S1x1x1024x128 .bf16) (harg4 : arg4.IsWhole) (arg5 : Memref sig .tc .vmem S512x128 .bf16) (harg5 : arg5.IsWhole) (arg6 : Memref sig .tc .vmem S512x128 .bf16) (harg6 : arg6.IsWhole) (arg7 : Memref sig .tc .vmem S1x2x1x128x512 .f32) (harg7 : arg7.IsWhole) (arg8 : Memref sig .tc .vmem S256x512 .bf16) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x128 .f32) (harg11 : arg11.IsWhole) (hc0 : ¬cond0_0 i) (hc1 : cond0_1 i) (hc2 : cond0_2 i) (x0 : Vec F S1x1x1024x128 .bf16) (x1 : Vec F S512x128 .bf16) (x2 : Vec F S512x128 .bf16) (x3 : Vec F S1x2x1x128x512 .f32) (xs0 : Vec F S1024x1 .f32) (xs1 : Vec F S1024x1 .f32) (xs2 : Vec F S1024x128 .f32) :
    VS0_2.read (Elt F) (VS0_2.writes (Elt F) VS0_2.junk (kernelRun0_D c i arg4 harg4 arg5 harg5 arg6 harg6 arg7 harg7 arg8 harg8 arg9 harg9 arg10 harg10 arg11 harg11 hc0 hc1 hc2 x0 x1 x2 x3 xs0 xs1 xs2).2.2.2.1) = (nA x0 x1 x2 x3 xs0 xs2) := by
  frame_out
  rfl
theorem cover_D_2 (c : Dev nD) (i : grid0.Coords) (arg4 : Memref sig .tc .vmem S1x1x1024x128 .bf16) (harg4 : arg4.IsWhole) (arg5 : Memref sig .tc .vmem S512x128 .bf16) (harg5 : arg5.IsWhole) (arg6 : Memref sig .tc .vmem S512x128 .bf16) (harg6 : arg6.IsWhole) (arg7 : Memref sig .tc .vmem S1x2x1x128x512 .f32) (harg7 : arg7.IsWhole) (arg8 : Memref sig .tc .vmem S256x512 .bf16) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x128 .f32) (harg11 : arg11.IsWhole) (hc0 : ¬cond0_0 i) (hc1 : cond0_1 i) (hc2 : cond0_2 i) (x0 : Vec F S1x1x1024x128 .bf16) (x1 : Vec F S512x128 .bf16) (x2 : Vec F S512x128 .bf16) (x3 : Vec F S1x2x1x128x512 .f32) (xs0 : Vec F S1024x1 .f32) (xs1 : Vec F S1024x1 .f32) (xs2 : Vec F S1024x128 .f32) (y : S1024x128.Idx) :
    ∃ pc ∈ (kernelRun0_D c i arg4 harg4 arg5 harg5 arg6 harg6 arg7 harg7 arg8 harg8 arg9 harg9 arg10 harg10 arg11 harg11 hc0 hc1 hc2 x0 x1 x2 x3 xs0 xs1 xs2).2.2.2.1, y ∈ pc.1.set :=
  View.cover_of_tiledL (kernelRun0_D c i arg4 harg4 arg5 harg5 arg6 harg6 arg7 harg7 arg8 harg8 arg9 harg9 arg10 harg10 arg11 harg11 hc0 hc1 hc2 x0 x1 x2 x3 xs0 xs1 xs2).2.2.2.1 S1024x128.size (by sl_kernel_rfl) y

set_option maxHeartbeats 1600000 in
theorem run_D (c : Dev nD) (i : grid0.Coords) (arg4 : Memref sig .tc .vmem S1x1x1024x128 .bf16) (harg4 : arg4.IsWhole) (arg5 : Memref sig .tc .vmem S512x128 .bf16) (harg5 : arg5.IsWhole) (arg6 : Memref sig .tc .vmem S512x128 .bf16) (harg6 : arg6.IsWhole) (arg7 : Memref sig .tc .vmem S1x2x1x128x512 .f32) (harg7 : arg7.IsWhole) (arg8 : Memref sig .tc .vmem S256x512 .bf16) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x128 .f32) (harg11 : arg11.IsWhole) (hc0 : ¬cond0_0 i) (hc1 : cond0_1 i) (hc2 : cond0_2 i) (x0 : Vec F S1x1x1024x128 .bf16) (x1 : Vec F S512x128 .bf16) (x2 : Vec F S512x128 .bf16) (x3 : Vec F S1x2x1x128x512 .f32) (x4 : Vec F S256x512 .bf16) (xs0 : Vec F S1024x1 .f32) (xs1 : Vec F S1024x1 .f32) (xs2 : Vec F S1024x128 .f32)
    (E : Set ℕ) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare xs0 ∗ owns (c : Thread nD τ) arg10 fullShare xs1 ∗ owns (c : Thread nD τ) arg11 fullShare xs2
        ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare (nO (nA x0 x1 x2 x3 xs0 xs2) (nL x0 x1 x3 xs0 xs1)) ∗ owns (c : Thread nD τ) arg9 fullShare (nM x0 x1 x3 xs0) ∗ owns (c : Thread nD τ) arg10 fullShare (nL x0 x1 x3 xs0 xs1) ∗ owns (c : Thread nD τ) arg11 fullShare (nA x0 x1 x2 x3 xs0 xs2)) -∗ K ⟨⟩))
      ⊢ wp frame (wpE (defs₀ (F := F)) Variants.none c none) E (cc0_masked_attention i arg4 harg4 arg5 harg5 arg6 harg6 arg7 harg7 arg8 harg8 arg9 harg9 arg10 harg10 arg11 harg11) K := by
  iintro ⟨H0, H1, H2, H3, H4, HS0, HS1, HS2, Hk⟩
  iapply ((kernelRun0_D c i arg4 harg4 arg5 harg5 arg6 harg6 arg7 harg7 arg8 harg8 arg9 harg9 arg10 harg10 arg11 harg11 hc0 hc1 hc2 x0 x1 x2 x3 xs0 xs1 xs2).2.2.2.2 E K)
  isplitl [H0]; · iexact H0
  isplitl [H1]; · iexact H1
  isplitl [H2]; · iexact H2
  isplitl [H3]; · iexact H3
  isplitl [H4]; · iexists _; iexact H4
  isplitl [HS0]; · iexact HS0
  isplitl [HS1]; · iexact HS1
  isplitl [HS2]; · iexact HS2
  iintro ⟨H0, H1, H2, H3, ⟨%eH4, H4⟩, ⟨%eHS0, HS0⟩, ⟨%eHS1, HS1⟩, ⟨%eHS2, HS2⟩⟩
  iapply Hk
  isplitl [H0]; · iexact H0
  isplitl [H1]; · iexact H1
  isplitl [H2]; · iexact H2
  isplitl [H3]; · iexact H3
  isplitl [H4]
  · unfold owns; iexists _; isplitr
    swap; · iexact H4
    ipureintro; exact (View.read_writes_of_cover _ _ _ _ _ (cover_D_4 _ _ _ _ _ _ _ _ _ _ _ _ _ _ _ _ _ _ _ _ _ _ _ _ _ _ _ _)).trans (left_D_4 _ _ _ _ _ _ _ _ _ _ _ _ _ _ _ _ _ _ _ _ _ _ _ _ _ _ _ _)
  isplitl [HS0]
  · unfold owns; iexists _; isplitr
    swap; · iexact HS0
    ipureintro; exact (View.read_writes_of_cover _ _ _ _ _ (cover_D_0 _ _ _ _ _ _ _ _ _ _ _ _ _ _ _ _ _ _ _ _ _ _ _ _ _ _ _ _)).trans (left_D_0 _ _ _ _ _ _ _ _ _ _ _ _ _ _ _ _ _ _ _ _ _ _ _ _ _ _ _ _)
  isplitl [HS1]
  · unfold owns; iexists _; isplitr
    swap; · iexact HS1
    ipureintro; exact (View.read_writes_of_cover _ _ _ _ _ (cover_D_1 _ _ _ _ _ _ _ _ _ _ _ _ _ _ _ _ _ _ _ _ _ _ _ _ _ _ _ _)).trans (left_D_1 _ _ _ _ _ _ _ _ _ _ _ _ _ _ _ _ _ _ _ _ _ _ _ _ _ _ _ _)
  unfold owns; iexists _; isplitr
  swap; · iexact HS2
  ipureintro; exact (View.read_writes_of_cover _ _ _ _ _ (cover_D_2 _ _ _ _ _ _ _ _ _ _ _ _ _ _ _ _ _ _ _ _ _ _ _ _ _ _ _ _)).trans (left_D_2 _ _ _ _ _ _ _ _ _ _ _ _ _ _ _ _ _ _ _ _ _ _ _ _ _ _ _ _)

theorem left_E_0 (c : Dev nD) (i : grid0.Coords) (arg4 : Memref sig .tc .vmem S1x1x1024x128 .bf16) (harg4 : arg4.IsWhole) (arg5 : Memref sig .tc .vmem S512x128 .bf16) (harg5 : arg5.IsWhole) (arg6 : Memref sig .tc .vmem S512x128 .bf16) (harg6 : arg6.IsWhole) (arg7 : Memref sig .tc .vmem S1x2x1x128x512 .f32) (harg7 : arg7.IsWhole) (arg8 : Memref sig .tc .vmem S256x512 .bf16) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x128 .f32) (harg11 : arg11.IsWhole) (hc0 : ¬cond0_0 i) (hc1 : cond0_1 i) (hc2 : ¬cond0_2 i) (x0 : Vec F S1x1x1024x128 .bf16) (x1 : Vec F S512x128 .bf16) (x2 : Vec F S512x128 .bf16) (x3 : Vec F S1x2x1x128x512 .f32) (x4 : Vec F S256x512 .bf16) (xs0 : Vec F S1024x1 .f32) (xs1 : Vec F S1024x1 .f32) (xs2 : Vec F S1024x128 .f32) :
    VS0_0.read (Elt F) (VS0_0.writes (Elt F) VS0_0.junk (kernelRun0_E c i arg4 harg4 arg5 harg5 arg6 harg6 arg7 harg7 arg8 harg8 arg9 harg9 arg10 harg10 arg11 harg11 hc0 hc1 hc2 x0 x1 x2 x3 x4 xs0 xs1 xs2).1) = (nM x0 x1 x3 xs0) := by
  frame_out
  rfl
theorem cover_E_0 (c : Dev nD) (i : grid0.Coords) (arg4 : Memref sig .tc .vmem S1x1x1024x128 .bf16) (harg4 : arg4.IsWhole) (arg5 : Memref sig .tc .vmem S512x128 .bf16) (harg5 : arg5.IsWhole) (arg6 : Memref sig .tc .vmem S512x128 .bf16) (harg6 : arg6.IsWhole) (arg7 : Memref sig .tc .vmem S1x2x1x128x512 .f32) (harg7 : arg7.IsWhole) (arg8 : Memref sig .tc .vmem S256x512 .bf16) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x128 .f32) (harg11 : arg11.IsWhole) (hc0 : ¬cond0_0 i) (hc1 : cond0_1 i) (hc2 : ¬cond0_2 i) (x0 : Vec F S1x1x1024x128 .bf16) (x1 : Vec F S512x128 .bf16) (x2 : Vec F S512x128 .bf16) (x3 : Vec F S1x2x1x128x512 .f32) (x4 : Vec F S256x512 .bf16) (xs0 : Vec F S1024x1 .f32) (xs1 : Vec F S1024x1 .f32) (xs2 : Vec F S1024x128 .f32) (y : S1024x1.Idx) :
    ∃ pc ∈ (kernelRun0_E c i arg4 harg4 arg5 harg5 arg6 harg6 arg7 harg7 arg8 harg8 arg9 harg9 arg10 harg10 arg11 harg11 hc0 hc1 hc2 x0 x1 x2 x3 x4 xs0 xs1 xs2).1, y ∈ pc.1.set :=
  View.cover_of_tiledL (kernelRun0_E c i arg4 harg4 arg5 harg5 arg6 harg6 arg7 harg7 arg8 harg8 arg9 harg9 arg10 harg10 arg11 harg11 hc0 hc1 hc2 x0 x1 x2 x3 x4 xs0 xs1 xs2).1 S1024x1.size (by sl_kernel_rfl) y

theorem left_E_1 (c : Dev nD) (i : grid0.Coords) (arg4 : Memref sig .tc .vmem S1x1x1024x128 .bf16) (harg4 : arg4.IsWhole) (arg5 : Memref sig .tc .vmem S512x128 .bf16) (harg5 : arg5.IsWhole) (arg6 : Memref sig .tc .vmem S512x128 .bf16) (harg6 : arg6.IsWhole) (arg7 : Memref sig .tc .vmem S1x2x1x128x512 .f32) (harg7 : arg7.IsWhole) (arg8 : Memref sig .tc .vmem S256x512 .bf16) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x128 .f32) (harg11 : arg11.IsWhole) (hc0 : ¬cond0_0 i) (hc1 : cond0_1 i) (hc2 : ¬cond0_2 i) (x0 : Vec F S1x1x1024x128 .bf16) (x1 : Vec F S512x128 .bf16) (x2 : Vec F S512x128 .bf16) (x3 : Vec F S1x2x1x128x512 .f32) (x4 : Vec F S256x512 .bf16) (xs0 : Vec F S1024x1 .f32) (xs1 : Vec F S1024x1 .f32) (xs2 : Vec F S1024x128 .f32) :
    VS0_1.read (Elt F) (VS0_1.writes (Elt F) VS0_1.junk (kernelRun0_E c i arg4 harg4 arg5 harg5 arg6 harg6 arg7 harg7 arg8 harg8 arg9 harg9 arg10 harg10 arg11 harg11 hc0 hc1 hc2 x0 x1 x2 x3 x4 xs0 xs1 xs2).2.1) = (nL x0 x1 x3 xs0 xs1) := by
  frame_out
  rfl
theorem cover_E_1 (c : Dev nD) (i : grid0.Coords) (arg4 : Memref sig .tc .vmem S1x1x1024x128 .bf16) (harg4 : arg4.IsWhole) (arg5 : Memref sig .tc .vmem S512x128 .bf16) (harg5 : arg5.IsWhole) (arg6 : Memref sig .tc .vmem S512x128 .bf16) (harg6 : arg6.IsWhole) (arg7 : Memref sig .tc .vmem S1x2x1x128x512 .f32) (harg7 : arg7.IsWhole) (arg8 : Memref sig .tc .vmem S256x512 .bf16) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x128 .f32) (harg11 : arg11.IsWhole) (hc0 : ¬cond0_0 i) (hc1 : cond0_1 i) (hc2 : ¬cond0_2 i) (x0 : Vec F S1x1x1024x128 .bf16) (x1 : Vec F S512x128 .bf16) (x2 : Vec F S512x128 .bf16) (x3 : Vec F S1x2x1x128x512 .f32) (x4 : Vec F S256x512 .bf16) (xs0 : Vec F S1024x1 .f32) (xs1 : Vec F S1024x1 .f32) (xs2 : Vec F S1024x128 .f32) (y : S1024x1.Idx) :
    ∃ pc ∈ (kernelRun0_E c i arg4 harg4 arg5 harg5 arg6 harg6 arg7 harg7 arg8 harg8 arg9 harg9 arg10 harg10 arg11 harg11 hc0 hc1 hc2 x0 x1 x2 x3 x4 xs0 xs1 xs2).2.1, y ∈ pc.1.set :=
  View.cover_of_tiledL (kernelRun0_E c i arg4 harg4 arg5 harg5 arg6 harg6 arg7 harg7 arg8 harg8 arg9 harg9 arg10 harg10 arg11 harg11 hc0 hc1 hc2 x0 x1 x2 x3 x4 xs0 xs1 xs2).2.1 S1024x1.size (by sl_kernel_rfl) y

theorem left_E_2 (c : Dev nD) (i : grid0.Coords) (arg4 : Memref sig .tc .vmem S1x1x1024x128 .bf16) (harg4 : arg4.IsWhole) (arg5 : Memref sig .tc .vmem S512x128 .bf16) (harg5 : arg5.IsWhole) (arg6 : Memref sig .tc .vmem S512x128 .bf16) (harg6 : arg6.IsWhole) (arg7 : Memref sig .tc .vmem S1x2x1x128x512 .f32) (harg7 : arg7.IsWhole) (arg8 : Memref sig .tc .vmem S256x512 .bf16) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x128 .f32) (harg11 : arg11.IsWhole) (hc0 : ¬cond0_0 i) (hc1 : cond0_1 i) (hc2 : ¬cond0_2 i) (x0 : Vec F S1x1x1024x128 .bf16) (x1 : Vec F S512x128 .bf16) (x2 : Vec F S512x128 .bf16) (x3 : Vec F S1x2x1x128x512 .f32) (x4 : Vec F S256x512 .bf16) (xs0 : Vec F S1024x1 .f32) (xs1 : Vec F S1024x1 .f32) (xs2 : Vec F S1024x128 .f32) :
    VS0_2.read (Elt F) (VS0_2.writes (Elt F) VS0_2.junk (kernelRun0_E c i arg4 harg4 arg5 harg5 arg6 harg6 arg7 harg7 arg8 harg8 arg9 harg9 arg10 harg10 arg11 harg11 hc0 hc1 hc2 x0 x1 x2 x3 x4 xs0 xs1 xs2).2.2.1) = (nA x0 x1 x2 x3 xs0 xs2) := by
  frame_out
  rfl
theorem cover_E_2 (c : Dev nD) (i : grid0.Coords) (arg4 : Memref sig .tc .vmem S1x1x1024x128 .bf16) (harg4 : arg4.IsWhole) (arg5 : Memref sig .tc .vmem S512x128 .bf16) (harg5 : arg5.IsWhole) (arg6 : Memref sig .tc .vmem S512x128 .bf16) (harg6 : arg6.IsWhole) (arg7 : Memref sig .tc .vmem S1x2x1x128x512 .f32) (harg7 : arg7.IsWhole) (arg8 : Memref sig .tc .vmem S256x512 .bf16) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x128 .f32) (harg11 : arg11.IsWhole) (hc0 : ¬cond0_0 i) (hc1 : cond0_1 i) (hc2 : ¬cond0_2 i) (x0 : Vec F S1x1x1024x128 .bf16) (x1 : Vec F S512x128 .bf16) (x2 : Vec F S512x128 .bf16) (x3 : Vec F S1x2x1x128x512 .f32) (x4 : Vec F S256x512 .bf16) (xs0 : Vec F S1024x1 .f32) (xs1 : Vec F S1024x1 .f32) (xs2 : Vec F S1024x128 .f32) (y : S1024x128.Idx) :
    ∃ pc ∈ (kernelRun0_E c i arg4 harg4 arg5 harg5 arg6 harg6 arg7 harg7 arg8 harg8 arg9 harg9 arg10 harg10 arg11 harg11 hc0 hc1 hc2 x0 x1 x2 x3 x4 xs0 xs1 xs2).2.2.1, y ∈ pc.1.set :=
  View.cover_of_tiledL (kernelRun0_E c i arg4 harg4 arg5 harg5 arg6 harg6 arg7 harg7 arg8 harg8 arg9 harg9 arg10 harg10 arg11 harg11 hc0 hc1 hc2 x0 x1 x2 x3 x4 xs0 xs1 xs2).2.2.1 S1024x128.size (by sl_kernel_rfl) y

set_option maxHeartbeats 1600000 in
theorem run_E (c : Dev nD) (i : grid0.Coords) (arg4 : Memref sig .tc .vmem S1x1x1024x128 .bf16) (harg4 : arg4.IsWhole) (arg5 : Memref sig .tc .vmem S512x128 .bf16) (harg5 : arg5.IsWhole) (arg6 : Memref sig .tc .vmem S512x128 .bf16) (harg6 : arg6.IsWhole) (arg7 : Memref sig .tc .vmem S1x2x1x128x512 .f32) (harg7 : arg7.IsWhole) (arg8 : Memref sig .tc .vmem S256x512 .bf16) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x128 .f32) (harg11 : arg11.IsWhole) (hc0 : ¬cond0_0 i) (hc1 : cond0_1 i) (hc2 : ¬cond0_2 i) (x0 : Vec F S1x1x1024x128 .bf16) (x1 : Vec F S512x128 .bf16) (x2 : Vec F S512x128 .bf16) (x3 : Vec F S1x2x1x128x512 .f32) (x4 : Vec F S256x512 .bf16) (xs0 : Vec F S1024x1 .f32) (xs1 : Vec F S1024x1 .f32) (xs2 : Vec F S1024x128 .f32)
    (E : Set ℕ) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare xs0 ∗ owns (c : Thread nD τ) arg10 fullShare xs1 ∗ owns (c : Thread nD τ) arg11 fullShare xs2
        ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare (nM x0 x1 x3 xs0) ∗ owns (c : Thread nD τ) arg10 fullShare (nL x0 x1 x3 xs0 xs1) ∗ owns (c : Thread nD τ) arg11 fullShare (nA x0 x1 x2 x3 xs0 xs2)) -∗ K ⟨⟩))
      ⊢ wp frame (wpE (defs₀ (F := F)) Variants.none c none) E (cc0_masked_attention i arg4 harg4 arg5 harg5 arg6 harg6 arg7 harg7 arg8 harg8 arg9 harg9 arg10 harg10 arg11 harg11) K := by
  iintro ⟨H0, H1, H2, H3, H4, HS0, HS1, HS2, Hk⟩
  iapply ((kernelRun0_E c i arg4 harg4 arg5 harg5 arg6 harg6 arg7 harg7 arg8 harg8 arg9 harg9 arg10 harg10 arg11 harg11 hc0 hc1 hc2 x0 x1 x2 x3 x4 xs0 xs1 xs2).2.2.2 E K)
  isplitl [H0]; · iexact H0
  isplitl [H1]; · iexact H1
  isplitl [H2]; · iexact H2
  isplitl [H3]; · iexact H3
  isplitl [H4]; · iexact H4
  isplitl [HS0]; · iexact HS0
  isplitl [HS1]; · iexact HS1
  isplitl [HS2]; · iexact HS2
  iintro ⟨H0, H1, H2, H3, H4, ⟨%eHS0, HS0⟩, ⟨%eHS1, HS1⟩, ⟨%eHS2, HS2⟩⟩
  iapply Hk
  isplitl [H0]; · iexact H0
  isplitl [H1]; · iexact H1
  isplitl [H2]; · iexact H2
  isplitl [H3]; · iexact H3
  isplitl [H4]; · iexact H4
  isplitl [HS0]
  · unfold owns; iexists _; isplitr
    swap; · iexact HS0
    ipureintro; exact (View.read_writes_of_cover _ _ _ _ _ (cover_E_0 _ _ _ _ _ _ _ _ _ _ _ _ _ _ _ _ _ _ _ _ _ _ _ _ _ _ _ _ _)).trans (left_E_0 _ _ _ _ _ _ _ _ _ _ _ _ _ _ _ _ _ _ _ _ _ _ _ _ _ _ _ _ _)
  isplitl [HS1]
  · unfold owns; iexists _; isplitr
    swap; · iexact HS1
    ipureintro; exact (View.read_writes_of_cover _ _ _ _ _ (cover_E_1 _ _ _ _ _ _ _ _ _ _ _ _ _ _ _ _ _ _ _ _ _ _ _ _ _ _ _ _ _)).trans (left_E_1 _ _ _ _ _ _ _ _ _ _ _ _ _ _ _ _ _ _ _ _ _ _ _ _ _ _ _ _ _)
  unfold owns; iexists _; isplitr
  swap; · iexact HS2
  ipureintro; exact (View.read_writes_of_cover _ _ _ _ _ (cover_E_2 _ _ _ _ _ _ _ _ _ _ _ _ _ _ _ _ _ _ _ _ _ _ _ _ _ _ _ _ _)).trans (left_E_2 _ _ _ _ _ _ _ _ _ _ _ _ _ _ _ _ _ _ _ _ _ _ _ _ _ _ _ _ _)

set_option maxHeartbeats 1600000 in
theorem run_B (c : Dev nD) (i : grid0.Coords) (arg4 : Memref sig .tc .vmem S1x1x1024x128 .bf16) (harg4 : arg4.IsWhole) (arg5 : Memref sig .tc .vmem S512x128 .bf16) (harg5 : arg5.IsWhole) (arg6 : Memref sig .tc .vmem S512x128 .bf16) (harg6 : arg6.IsWhole) (arg7 : Memref sig .tc .vmem S1x2x1x128x512 .f32) (harg7 : arg7.IsWhole) (arg8 : Memref sig .tc .vmem S256x512 .bf16) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x128 .f32) (harg11 : arg11.IsWhole) (hc0 : ¬cond0_0 i) (hc1 : ¬cond0_1 i) (hc2 : ¬cond0_2 i) (x0 : Vec F S1x1x1024x128 .bf16) (x1 : Vec F S512x128 .bf16) (x2 : Vec F S512x128 .bf16) (x3 : Vec F S1x2x1x128x512 .f32) (x4 : Vec F S256x512 .bf16) (xs0 : Vec F S1024x1 .f32) (xs1 : Vec F S1024x1 .f32) (xs2 : Vec F S1024x128 .f32)
    (E : Set ℕ) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare xs0 ∗ owns (c : Thread nD τ) arg10 fullShare xs1 ∗ owns (c : Thread nD τ) arg11 fullShare xs2
        ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare xs0 ∗ owns (c : Thread nD τ) arg10 fullShare xs1 ∗ owns (c : Thread nD τ) arg11 fullShare xs2) -∗ K ⟨⟩))
      ⊢ wp frame (wpE (defs₀ (F := F)) Variants.none c none) E (cc0_masked_attention i arg4 harg4 arg5 harg5 arg6 harg6 arg7 harg7 arg8 harg8 arg9 harg9 arg10 harg10 arg11 harg11) K := by
  iintro ⟨H0, H1, H2, H3, H4, HS0, HS1, HS2, Hk⟩
  iapply ((kernelRun0_B c i arg4 harg4 arg5 harg5 arg6 harg6 arg7 harg7 arg8 harg8 arg9 harg9 arg10 harg10 arg11 harg11 hc0 hc1 hc2 x0 x1 x2 x3 x4 xs0 xs1 xs2).2.2.2 E K)
  isplitl [H0]; · iexact H0
  isplitl [H1]; · iexact H1
  isplitl [H2]; · iexact H2
  isplitl [H3]; · iexact H3
  isplitl [H4]; · iexact H4
  isplitl [HS0]; · iexact HS0
  isplitl [HS1]; · iexact HS1
  isplitl [HS2]; · iexact HS2
  iintro ⟨H0, H1, H2, H3, H4, HS0, HS1, HS2⟩
  iapply Hk
  isplitl [H0]; · iexact H0
  isplitl [H1]; · iexact H1
  isplitl [H2]; · iexact H2
  isplitl [H3]; · iexact H3
  isplitl [H4]; · iexact H4
  isplitl [HS0]; · iexact HS0
  isplitl [HS1]; · iexact HS1
  iexact HS2

end Cert.KernelIdeal.Attn

end
-- ==== Proof.AttnFrame.lean ====
/-
# The masked attention: its frame

The body's obligation at every grid point, with the running maximum, sum and accumulator carried between points and the
output block carried from the last visited key block to the point that writes it back.
-/
module

public import proofs.«01_k».proof.Proof.AttnCases
public import Idealize.ShloMosaic.Lib.Pipeline.TableIdle

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The carried state, point by point -/

/-- The running maximum, sum and accumulator, and the output's staging buffer. -/
structure St (F : FTy → Type) [FloatOps F] where
  mx : Vec F S1024x1 .f32
  sm : Vec F S1024x1 .f32
  ac : Vec F S1024x128 .f32
  ob : Vec F S256x512 .bf16

/-- The state a point's body works from: initialised at the first key block. -/
def ini (n : ℕ) (s : St F) : St F :=
  if n % 8 = 0 then ⟨k0_pay1, k0_pay2, k0_pay3, s.ob⟩ else s

/-- A key block's update, at a visited block. -/
def upd (c : Dev nD) (t : Fin cfg0.N) (s : St F) : St F :=
  if 2 * (t.val % 8) ≤ t.val / 32 % 16 then
    ⟨nM (iblk m c 0 t) (iblk m c 1 t) (iblk m c 3 t) s.mx, nL (iblk m c 0 t) (iblk m c 1 t) (iblk m c 3 t) s.mx s.sm,
      nA (iblk m c 0 t) (iblk m c 1 t) (iblk m c 2 t) (iblk m c 3 t) s.mx s.ac, s.ob⟩
  else s

/-- The output's store, at the last visited block. -/
def fin (n : ℕ) (s : St F) : St F :=
  if 2 * (n % 8) ≤ n / 32 % 16 ∧ n / 32 % 16 ≤ 2 * (n % 8) + 1 then ⟨s.mx, s.sm, s.ac, nO s.ac s.sm⟩ else s

/-- The body's effect on the state at point `t`. -/
def step (c : Dev nD) (t : Fin cfg0.N) (s : St F) : St F := fin t.val (upd m c t (ini t.val s))

/-- The state after point `n`. -/
def stAt (c : Dev nD) : (n : ℕ) → n < cfg0.N → St F
  | 0, hn => step m c ⟨0, hn⟩ ⟨k0_pay1, k0_pay2, k0_pay3, View.canon []⟩
  | n + 1, hn => step m c ⟨n + 1, hn⟩ (stAt c n (Nat.lt_of_succ_lt hn))

theorem stAt_pos (c : Dev nD) (t : Fin cfg0.N) (h : t.val ≠ 0) :
    stAt m c t.val t.isLt = step m c t (stAt m c (t.val - 1) (Nat.lt_of_le_of_lt (Nat.sub_le _ _) t.isLt)) := by
  obtain ⟨n, hn⟩ := t
  cases n with
  | zero => exact absurd rfl h
  | succ n => rfl

/-- The maximum, sum and accumulator after a step do not depend on the output's buffer. -/
theorem step_ob (c : Dev nD) (t : Fin cfg0.N) (s : St F) (o : Vec F S256x512 .bf16) :
    (step m c t { s with ob := o }).mx = (step m c t s).mx ∧ (step m c t { s with ob := o }).sm = (step m c t s).sm ∧
      (step m c t { s with ob := o }).ac = (step m c t s).ac := by
  unfold step fin upd ini
  refine ⟨?_, ?_, ?_⟩ <;> split_ifs <;> rfl

/-- At the last visited block the whole state is independent of the output's buffer. -/
theorem step_ob_live (c : Dev nD) (t : Fin cfg0.N) (s : St F) (o : Vec F S256x512 .bf16)
    (h2 : 2 * (t.val % 8) ≤ t.val / 32 % 16 ∧ t.val / 32 % 16 ≤ 2 * (t.val % 8) + 1) :
    (step m c t { s with ob := o }).ob = (step m c t s).ob := by
  unfold step fin upd ini
  rw [if_pos h2, if_pos h2]
  split_ifs <;> rfl

/-- Elsewhere the output's buffer is passed on. -/
theorem step_ob_idle (c : Dev nD) (t : Fin cfg0.N) (s : St F)
    (h2 : ¬(2 * (t.val % 8) ≤ t.val / 32 % 16 ∧ t.val / 32 % 16 ≤ 2 * (t.val % 8) + 1)) :
    (step m c t s).ob = s.ob := by
  unfold step fin upd ini
  rw [if_neg h2]
  split_ifs <;> rfl

/-- At the first point the step does not depend on the state at all. -/
theorem step_zero (c : Dev nD) (t : Fin cfg0.N) (hz : t.val = 0) (s s' : St F) : step m c t s = step m c t s' := by
  unfold step fin upd ini
  simp only [hz]
  rfl

/-! ## The invariant and the proof data -/

/-- The region invariant before position `n`: the three scratch buffers at the state's components. -/
def PhiS (c : Dev nD) : (n : ℕ) → n ≤ cfg0.N → sProp 𝕄
  | 0, _ => Pipeline.ΦA spec0 c
  | n + 1, hn => iprop(iprop(owns (c : Thread nD τ) scM0_0 fullShare (stAt m c n hn).mx ∗ owns (c : Thread nD τ) scM0_1 fullShare (stAt m c n hn).sm ∗ owns (c : Thread nD τ) scM0_2 fullShare (stAt m c n hn).ac) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare (stAt m c n hn).mx ∗ owns (c : Thread nD τ) scM0_1 fullShare (stAt m c n hn).sm ∗ owns (c : Thread nD τ) scM0_2 fullShare (stAt m c n hn).ac) ∗ (∃ r, prngReg c r)) := rfl

theorem PhiS_pos (c : Dev nD) (n : ℕ) (h : n ≤ cfg0.N) (hz : n ≠ 0) :
    PhiS m c n h = iprop(iprop(owns (c : Thread nD τ) scM0_0 fullShare (stAt m c (n - 1) (by omega)).mx ∗ owns (c : Thread nD τ) scM0_1 fullShare (stAt m c (n - 1) (by omega)).sm ∗ owns (c : Thread nD τ) scM0_2 fullShare (stAt m c (n - 1) (by omega)).ac) ∗ (∃ r, prngReg c r)) := by
  cases n with
  | zero => exact absurd rfl hz
  | succ n => rfl

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (stAt m c t.val t.isLt).ob
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (stAt m c t.val t.isLt).ob := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## What the output's buffer holds before the body -/

/-- The output's buffer holds nothing of use until the last visited key block has stored it. -/
theorem fresh0_4 (n : ℕ) (h : n ≤ cfg0.N) : cfg0.fresh 4 n = decide (2 * (n % 8) ≤ n / 32 % 16) := by
  refine cfg0.fresh_tab 4 (fun n => decide (2 * (n % 8) ≤ n / 32 % 16)) rfl (fun t => ?_) n h
  rw [idle0_4 t, Bool.eq_iff_iff, Bool.or_eq_true, Bool.and_eq_true, Bool.not_eq_true', decide_eq_true_iff, decide_eq_false_iff_not,
    decide_eq_true_iff]
  have hf : ((cfg0.win 4).flush t = true) ↔ t.val % 8 = 7 := (flush0_4 t)
  rw [hf]
  rcases Nat.lt_or_ge (t.val % 8) 7 with h7 | h7
  · have a : (t.val + 1) % 8 = t.val % 8 + 1 := by omega
    have b : (t.val + 1) / 32 = t.val / 32 := by omega
    rw [a, b]
    omega
  · have a : (t.val + 1) % 8 = 0 := by omega
    have b : t.val % 8 = 7 := by omega
    rw [a]
    exact ⟨fun _ => .inl b, fun _ => by omega⟩

/-- Before the body the output's buffer holds what the point before left, once stored. -/
theorem before0_4 (c : Dev nD) (t : Fin cfg0.N) (d) : (dats m 0 c).before 4 t d =
    if cfg0.fresh 4 t.val then d else (dats m 0 c).after 4 ⟨t.val - 1, Nat.lt_of_le_of_lt (Nat.sub_le _ _) t.isLt⟩ := by
  refine (dats m 0 c).before_out_traj 4 rfl (fun _ _ => rfl) (fun t hz hi _ => ?_) t.val t rfl d
  rw [after0_4, after0_4]
  refine (congrArg St.ob (stAt_pos m c t hz)).trans (step_ob_idle m c t _ ?_)
  rw [idle0_4 t, Bool.not_eq_true', decide_eq_false_iff_not] at hi
  exact hi

/-! ## The body on a state -/

set_option maxHeartbeats 1600000 in
/-- The body at any point: from the input blocks and a state it leaves the blocks and the next state. -/
theorem body_step (c : Dev nD) (t : Fin cfg0.N) (s : St F) (E : Set ℕ) (K : PUnit → sProp 𝕄) :
    iprop(owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare (s).ob ∗ owns (c : Thread nD τ) scM0_0 fullShare (s).mx ∗ owns (c : Thread nD τ) scM0_1 fullShare (s).sm ∗ owns (c : Thread nD τ) scM0_2 fullShare (s).ac
        ∗ (iprop(owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare (step m c t s).ob ∗ owns (c : Thread nD τ) scM0_0 fullShare (step m c t s).mx ∗ owns (c : Thread nD τ) scM0_1 fullShare (step m c t s).sm ∗ owns (c : Thread nD τ) scM0_2 fullShare (step m c t s).ac) -∗ K ⟨⟩))
      ⊢ wp frame (wpE (defs₀ (F := F)) Variants.none c none) E (bodyAt0 t) K := by
  unfold bodyAt0
  have hN : t.val < 2048 := lt_of_lt_of_eq t.isLt (show cfg0.N = 2048 from N_0)
  by_cases h0 : t.val % 8 = 0
  · have h1 : 2 * (t.val % 8) ≤ t.val / 32 % 16 := by omega
    by_cases h2 : (2 * (t.val % 8) ≤ t.val / 32 % 16 ∧ t.val / 32 % 16 ≤ 2 * (t.val % 8) + 1)
    · have e : step m c t s = ⟨nM (iblk m c 0 t) (iblk m c 1 t) (iblk m c 3 t) k0_pay1, nL (iblk m c 0 t) (iblk m c 1 t) (iblk m c 3 t) k0_pay1 k0_pay2, nA (iblk m c 0 t) (iblk m c 1 t) (iblk m c 2 t) (iblk m c 3 t) k0_pay1 k0_pay3, nO (nA (iblk m c 0 t) (iblk m c 1 t) (iblk m c 2 t) (iblk m c 3 t) k0_pay1 k0_pay3) (nL (iblk m c 0 t) (iblk m c 1 t) (iblk m c 3 t) k0_pay1 k0_pay2)⟩ := by unfold step fin upd ini; rw [if_pos h2, if_pos h1, if_pos h0]
      rw [e]
      exact run_A c (grid0.coords t) _ (hs0_0 t) _ (hs0_1 t) _ (hs0_2 t) _ (hs0_3 t) _ (hs0_4 t) _ (Memref.isWhole_whole _) _ (Memref.isWhole_whole _) _ (Memref.isWhole_whole _) ((hcond0_0 t).mpr h0) ((hcond0_1 t).mpr h1) ((hcond0_2 t).mpr h2) (iblk m c 0 t) (iblk m c 1 t) (iblk m c 2 t) (iblk m c 3 t) s.ob s.mx s.sm s.ac E K
    · have e : step m c t s = ⟨nM (iblk m c 0 t) (iblk m c 1 t) (iblk m c 3 t) k0_pay1, nL (iblk m c 0 t) (iblk m c 1 t) (iblk m c 3 t) k0_pay1 k0_pay2, nA (iblk m c 0 t) (iblk m c 1 t) (iblk m c 2 t) (iblk m c 3 t) k0_pay1 k0_pay3, s.ob⟩ := by unfold step fin upd ini; rw [if_neg h2, if_pos h1, if_pos h0]
      rw [e]
      exact run_C c (grid0.coords t) _ (hs0_0 t) _ (hs0_1 t) _ (hs0_2 t) _ (hs0_3 t) _ (hs0_4 t) _ (Memref.isWhole_whole _) _ (Memref.isWhole_whole _) _ (Memref.isWhole_whole _) ((hcond0_0 t).mpr h0) ((hcond0_1 t).mpr h1) (fun h => h2 ((hcond0_2 t).mp h)) (iblk m c 0 t) (iblk m c 1 t) (iblk m c 2 t) (iblk m c 3 t) s.ob s.mx s.sm s.ac E K
  · by_cases h1 : 2 * (t.val % 8) ≤ t.val / 32 % 16
    · by_cases h2 : (2 * (t.val % 8) ≤ t.val / 32 % 16 ∧ t.val / 32 % 16 ≤ 2 * (t.val % 8) + 1)
      · have e : step m c t s = ⟨nM (iblk m c 0 t) (iblk m c 1 t) (iblk m c 3 t) s.mx, nL (iblk m c 0 t) (iblk m c 1 t) (iblk m c 3 t) s.mx s.sm, nA (iblk m c 0 t) (iblk m c 1 t) (iblk m c 2 t) (iblk m c 3 t) s.mx s.ac, nO (nA (iblk m c 0 t) (iblk m c 1 t) (iblk m c 2 t) (iblk m c 3 t) s.mx s.ac) (nL (iblk m c 0 t) (iblk m c 1 t) (iblk m c 3 t) s.mx s.sm)⟩ := by unfold step fin upd ini; rw [if_pos h2, if_pos h1, if_neg h0]
        rw [e]
        exact run_D c (grid0.coords t) _ (hs0_0 t) _ (hs0_1 t) _ (hs0_2 t) _ (hs0_3 t) _ (hs0_4 t) _ (Memref.isWhole_whole _) _ (Memref.isWhole_whole _) _ (Memref.isWhole_whole _) (fun h => h0 ((hcond0_0 t).mp h)) ((hcond0_1 t).mpr h1) ((hcond0_2 t).mpr h2) (iblk m c 0 t) (iblk m c 1 t) (iblk m c 2 t) (iblk m c 3 t) s.ob s.mx s.sm s.ac E K
      · have e : step m c t s = ⟨nM (iblk m c 0 t) (iblk m c 1 t) (iblk m c 3 t) s.mx, nL (iblk m c 0 t) (iblk m c 1 t) (iblk m c 3 t) s.mx s.sm, nA (iblk m c 0 t) (iblk m c 1 t) (iblk m c 2 t) (iblk m c 3 t) s.mx s.ac, s.ob⟩ := by unfold step fin upd ini; rw [if_neg h2, if_pos h1, if_neg h0]
        rw [e]
        exact run_E c (grid0.coords t) _ (hs0_0 t) _ (hs0_1 t) _ (hs0_2 t) _ (hs0_3 t) _ (hs0_4 t) _ (Memref.isWhole_whole _) _ (Memref.isWhole_whole _) _ (Memref.isWhole_whole _) (fun h => h0 ((hcond0_0 t).mp h)) ((hcond0_1 t).mpr h1) (fun h => h2 ((hcond0_2 t).mp h)) (iblk m c 0 t) (iblk m c 1 t) (iblk m c 2 t) (iblk m c 3 t) s.ob s.mx s.sm s.ac E K
    · have h2 : ¬(2 * (t.val % 8) ≤ t.val / 32 % 16 ∧ t.val / 32 % 16 ≤ 2 * (t.val % 8) + 1) := fun h => h1 h.1
      have e : step m c t s = s := by unfold step fin upd ini; rw [if_neg h2, if_neg h1, if_neg h0]
      rw [e]
      exact run_B c (grid0.coords t) _ (hs0_0 t) _ (hs0_1 t) _ (hs0_2 t) _ (hs0_3 t) _ (hs0_4 t) _ (Memref.isWhole_whole _) _ (Memref.isWhole_whole _) _ (Memref.isWhole_whole _) (fun h => h0 ((hcond0_0 t).mp h)) (fun h => h1 ((hcond0_1 t).mp h)) (fun h => h2 ((hcond0_2 t).mp h)) (iblk m c 0 t) (iblk m c 1 t) (iblk m c 2 t) (iblk m c 3 t) s.ob s.mx s.sm s.ac E K

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ (dats m 0 c).leavesExact 4 t)

/-- A state's buffer of the output, left by a step from what was found there, is what the pipeline expects. -/
theorem leaves4 (c : Dev nD) (t : Fin cfg0.N) (s : St F) (d)
    (hs : s.ob = (dats m 0 c).before 4 t d)
    (hst : stAt m c t.val t.isLt = step m c t s ∨ t.val ≠ 0 ∧ s = { stAt m c (t.val - 1) (Nat.lt_of_le_of_lt (Nat.sub_le _ _) t.isLt) with ob := s.ob }) :
    (owns (c : Thread nD τ) (ms0_4 t) fullShare (step m c t s).ob : sProp 𝕄) ⊢ (dats m 0 c).leavesExact 4 t := by
  by_cases h2 : (2 * (t.val % 8) ≤ t.val / 32 % 16 ∧ t.val / 32 % 16 ≤ 2 * (t.val % 8) + 1)
  · have hi : cfg0.idle 4 (grid0.coords t) = false := by rw [idle0_4 t, decide_eq_true h2]; rfl
    rw [show (dats m 0 c).leavesExact 4 t = owns (c : Thread nD τ) (ms0_4 t) fullShare ((dats m 0 c).after 4 t) from by
      unfold Dat.leavesExact; rw [hi], after0_4]
    have e : (step m c t s).ob = (stAt m c t.val t.isLt).ob := by
      rcases hst with h | ⟨hz, h⟩
      · rw [h]
      · rw [h, step_ob_live m c t _ _ h2, stAt_pos m c t hz]
    rw [e]
  · have hi : cfg0.idle 4 (grid0.coords t) = true := by rw [idle0_4 t, decide_eq_false h2]; rfl
    rw [step_ob_idle m c t s h2, hs]
    by_cases hf : (cfg0.win 4).flush t = true
    · rw [show (dats m 0 c).leavesExact 4 t = owns (c : Thread nD τ) (ms0_4 t) fullShare ((dats m 0 c).after 4 t) from by
        unfold Dat.leavesExact; rw [hi, hf]]
      have h7 : t.val % 8 = 7 := (flush0_4 t).mp hf
      have hz : t.val ≠ 0 := by omega
      have hfr : cfg0.fresh 4 t.val = false := by
        rw [fresh0_4 t.val (Nat.le_of_lt t.isLt), decide_eq_false_iff_not]; omega
      have e : (dats m 0 c).before 4 t d = (dats m 0 c).after 4 t := by
        rw [before0_4 m c t d, hfr, if_neg Bool.false_ne_true, after0_4, after0_4]
        exact ((congrArg St.ob (stAt_pos m c t hz)).trans (step_ob_idle m c t _ h2)).symm
      rw [e]
    · rw [(dats m 0 c).leavesExact_idle 4 t hi (Bool.eq_false_iff.mpr hf)]
      iintro H
      iexists d
      iexact H

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before0_0, before0_1, before0_2, before0_3]
  rw [show (dats m 0 c).owesAt () t.succ = (dats m 0 c).owesAt () t.castSucc from rfl, after0_0, after0_1, after0_2, after0_3]
  rw [show (dats m 0 c).Φ t.succ = PhiS m c (t.val + 1) t.isLt from rfl, PhiS_succ]
  by_cases hz : t.val = 0
  · rw [PhiS_castSucc m c t, PhiS_zero m c _ _ hz, PhiA0_eq]
    iintro ⟨⟨⟨⟨%a0, HS0⟩, ⟨%a1, HS1⟩, ⟨%a2, HS2⟩⟩, Hg⟩, Ho, ⟨%d0, H0⟩, ⟨%d1, H1⟩, ⟨%d2, H2⟩, ⟨%d3, H3⟩, ⟨%d4, H4⟩⟩
    have e : stAt m c t.val t.isLt = step m c t ⟨a0, a1, a2, (dats m 0 c).before 4 t d4⟩ := by
      obtain ⟨n, hn⟩ := t
      cases n with
      | zero => exact step_zero m c _ rfl _ _
      | succ n => exact absurd hz (Nat.succ_ne_zero n)
    rw [e]
    iapply (body_step m c t ⟨a0, a1, a2, (dats m 0 c).before 4 t d4⟩ Set.univ _)
    isplitl [H0]; · iexact H0
    isplitl [H1]; · iexact H1
    isplitl [H2]; · iexact H2
    isplitl [H3]; · iexact H3
    isplitl [H4]; · iexact H4
    isplitl [HS0]; · iexact HS0
    isplitl [HS1]; · iexact HS1
    isplitl [HS2]; · iexact HS2
    iintro ⟨H0, H1, H2, H3, H4, HS0, HS1, HS2⟩
    isplitl [HS0 HS1 HS2 Hg]
    · isplitl [HS0 HS1 HS2]
      · isplitl [HS0]; · iexact HS0
        isplitl [HS1]; · iexact HS1
        iexact HS2
      iexact Hg
    isplitl [Ho]; · iexact Ho
    isplitl [H0]; · iexact H0
    isplitl [H1]; · iexact H1
    isplitl [H2]; · iexact H2
    isplitl [H3]; · iexact H3
    · iapply (leaves4 m c t ⟨a0, a1, a2, (dats m 0 c).before 4 t d4⟩ d4 rfl (.inl e))
      iexact H4
  · rw [PhiS_castSucc m c t, PhiS_pos m c _ _ hz]
    iintro ⟨⟨⟨HS0, HS1, HS2⟩, Hg⟩, Ho, ⟨%d0, H0⟩, ⟨%d1, H1⟩, ⟨%d2, H2⟩, ⟨%d3, H3⟩, ⟨%d4, H4⟩⟩
    have e := stAt_pos m c t hz
    obtain ⟨e0, e1, e2⟩ := step_ob m c t (stAt m c (t.val - 1) (Nat.lt_of_le_of_lt (Nat.sub_le _ _) t.isLt)) ((dats m 0 c).before 4 t d4)
    rw [e, ← e0, ← e1, ← e2]
    iapply (body_step m c t { stAt m c (t.val - 1) (Nat.lt_of_le_of_lt (Nat.sub_le _ _) t.isLt) with ob := (dats m 0 c).before 4 t d4 } Set.univ _)
    isplitl [H0]; · iexact H0
    isplitl [H1]; · iexact H1
    isplitl [H2]; · iexact H2
    isplitl [H3]; · iexact H3
    isplitl [H4]; · iexact H4
    isplitl [HS0]; · iexact HS0
    isplitl [HS1]; · iexact HS1
    isplitl [HS2]; · iexact HS2
    iintro ⟨H0, H1, H2, H3, H4, HS0, HS1, HS2⟩
    isplitl [HS0 HS1 HS2 Hg]
    · isplitl [HS0 HS1 HS2]
      · isplitl [HS0]; · iexact HS0
        isplitl [HS1]; · iexact HS1
        iexact HS2
      iexact Hg
    isplitl [Ho]; · iexact Ho
    isplitl [H0]; · iexact H0
    isplitl [H1]; · iexact H1
    isplitl [H2]; · iexact H2
    isplitl [H3]; · iexact H3
    · iapply (leaves4 m c t { stAt m c (t.val - 1) (Nat.lt_of_le_of_lt (Nat.sub_le _ _) t.isLt) with ob := (dats m 0 c).before 4 t d4 } d4 rfl (.inr ⟨hz, rfl⟩))
      iexact H4

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  have hN : cfg0.N = 2048 := N_0
  rw [show (dats m 0 c).Φ (Fin.last cfg0.N) = PhiS m c cfg0.N (Nat.le_refl _) from rfl, PhiS_pos m c _ _ (by omega), PhiA0_eq]
  iintro ⟨⟨HS0, HS1, HS2⟩, Hg⟩
  isplitl [HS0 HS1 HS2]
  · isplitl [HS0]; · iexists _; iexact HS0
    isplitl [HS1]; · iexists _; iexact HS1
    iexists _; iexact HS2
  iexact Hg

/-! ## The run and the frame -/

set_option backward.isDefEq.respectTransparency.types false in
/-- The launch: every array at what the proof data compute, every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- The frame, the counters with it. -/
theorem frame_all : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.KernelIdeal.Attn

end
-- ==== Proof.AttnPre.lean ====
/- What the precondition says of the arrays. -/
module

public import proofs.«01_k».proof.Proof.Gen.Pre_scores_defined
public import Idealize.ShloMosaic.Lib.ReduceAll
public import Idealize.ShloMosaic.Lib.ValueIdx
public import Idealize.ShloMosaic.Lib.Pointwise
public import Idealize.ShloMosaic.PureOps.Ideal.Laws

@[expose] public section

noncomputable section

namespace Cert.Pre_scores_defined.Attn

open Idealize.ShloMosaic Cert.Pre_scores_defined Cert.Pre_scores_defined.Gen

/-- Every bias is below +∞, a key after the query has bias −∞, every query has a key of a larger bias, and the queries and keys are
    finite. -/
structure Reads (q : FVec Ideal S4x16x4096x128 .bf16) (k : FVec Ideal S16384x512 .bf16) (b : FVec Ideal S4x32x8x128x512 .f32) : Prop where
  lt : ∀ y, (b y : EReal) < ⊤
  mask : ∀ (a : Fin 4) (i : Fin 32) (c : Fin 8) (r : Fin 128) (j : Fin 512), i.val * 128 + r.val < c.val * 512 + j.val → (b (ix5 a i c r j) : EReal) = ⊥
  sel : ∀ (a : Fin 4) (i : Fin 32) (r : Fin 128), ∃ (c : Fin 8) (j : Fin 512), (b (ix5 a i c r j) : EReal) ≠ ⊥
  q_bot : ∀ y, (q y : EReal) ≠ ⊥
  q_top : ∀ y, (q y : EReal) ≠ ⊤
  k_bot : ∀ y, (k y : EReal) ≠ ⊥
  k_top : ∀ y, (k y : EReal) ≠ ⊤

theorem ofBool_eq {p : Prop} [Decidable p] (h : BitVec.ofBool (decide p) = 1#1) : p := by
  by_contra hp
  rw [decide_eq_false hp] at h
  exact absurd h (by decide)

theorem gt_eq {X : FVec Ideal S4x32x128 .f32} {i : S4x32x128.Idx}
    (h : cmpf .ogt X (broadcastInDim S4x32x128 ![] bcast_S_S4x32x128 (constant (F := Ideal) S_ .f32 0xFF800000#32)) i = 1#1) :
    (Ideal.ofBits .f32 0xFF800000#32 : EReal) < X i :=
  ofBool_eq (p := (Ideal.ofBits .f32 0xFF800000#32 : EReal) < X i) h

theorem or_eq {x y : BitVec 1} (h : IntOp.ori x y = 1#1) : x = 1#1 ∨ y = 1#1 := by
  revert h; revert x y; unfold IntOp.ori; decide

instance : Subsingleton S_.Idx := ⟨fun a b => funext fun i => i.elim0⟩

theorem f32_bot : (Ideal.ofBits .f32 0xFF800000#32 : EReal) = ⊥ := by simp [Ideal.ofBits, Ideal.ieee]
theorem f32_top : (Ideal.ofBits .f32 0x7F800000#32 : EReal) = ⊤ := by simp [Ideal.ofBits, Ideal.ieee]
theorem bf16_bot : (Ideal.ofBits .bf16 0xFF80#16 : EReal) = ⊥ := by simp [Ideal.ofBits, Ideal.ieee]
theorem bf16_top : (Ideal.ofBits .bf16 0x7F80#16 : EReal) = ⊤ := by simp [Ideal.ofBits, Ideal.ieee]

theorem reads (q : FVec Ideal S4x16x4096x128 .bf16) (k : FVec Ideal S16384x512 .bf16) (z : FVec Ideal S16384x10752 .bf16)
    (b : FVec Ideal S4x32x8x128x512 .f32) (h : fn (F := Ideal) q k z b = fun _ => 1#1) : Reads q k b := by
  have h := congrFun h (fun i => i.elim0)
  unfold fn fn_part1 fn_part2 at h
  dsimp only at h
  obtain ⟨h12, h34⟩ := IntOp.andi_eq_one.1 h
  obtain ⟨h1, h2⟩ := IntOp.andi_eq_one.1 h12
  obtain ⟨h3, h4⟩ := IntOp.andi_eq_one.1 h34
  generalize hX : Host.reduce (FloatOps.maximumf (F := Ideal) (φ := .f32)) b _ reducesTo_S4x32x8x128x512_S4x32x128_d2_4 h_S_ = X at h2
  have H1 := fun y => IntOp.andi_eq_one.1 (Host.reduce_andi_all _ _ _ _ _ h1 y)
  have H2 := fun y => gt_eq (Host.reduce_andi_all _ _ _ _ _ h2 y)
  have H3 := fun y => IntOp.andi_eq_one.1 (Host.reduce_andi_all _ _ _ _ _ h3 y)
  have H4 := fun y => IntOp.andi_eq_one.1 (Host.reduce_andi_all _ _ _ _ _ h4 y)
  clear h h12 h34 h1 h2 h3 h4
  refine ⟨fun y => ?_, fun a i c r j hlt => ?_, fun a i r => ?_, fun y => ?_, fun y => ?_, fun y => ?_, fun y => ?_⟩
  · exact lt_of_lt_of_eq (ofBool_eq (H1 y).1) f32_top
  · rcases or_eq (H1 (ix5 a i c r j)).2 with e | e
    · exfalso
      have e := IntOp.cmpi_sle.1 e
      change ((BitVec.ofNat 32 c.val * 512#32 + BitVec.ofNat 32 j.val).toInt ≤ (BitVec.ofNat 32 i.val * 128#32 + BitVec.ofNat 32 r.val).toInt) at e
      have := c.isLt; have := j.isLt; have := i.isLt; have := r.isLt
      rw [BitVec.toInt_eq_toNat_cond, BitVec.toInt_eq_toNat_cond] at e
      simp only [BitVec.toNat_add, BitVec.toNat_mul, BitVec.toNat_ofNat] at e
      split_ifs at e <;> omega
    · exact (ofBool_eq e).trans f32_bot
  · have e := H2 (ix3 a i r)
    have e' := lt_of_eq_of_lt f32_bot.symm e
    subst hX
    rw [Host.reduce_eq_fold] at e'
    have e2 : ∃ y : S4x32x8x128x512.Idx, (reducesTo_S4x32x8x128x512_S4x32x128_d2_4).drop y = ix3 a i r ∧ (⊥ : EReal) < b y := by
      rcases (Finset.lt_fold_max (c := (⊥ : EReal))).1 e' with e | ⟨y, hy, e⟩
      · exact absurd (lt_of_lt_of_eq e f32_bot) (lt_irrefl _)
      · exact ⟨y, (Finset.mem_filter.1 hy).2, e⟩
    obtain ⟨y, hd, hy⟩ := e2
    have d0 : (y 0).val = a.val := ((reducesTo_S4x32x8x128x512_S4x32x128_d2_4).drop_apply_val_of_eq y 0 0).symm.trans (congrArg (fun f => (f 0).val) hd)
    have d1 : (y 1).val = i.val := ((reducesTo_S4x32x8x128x512_S4x32x128_d2_4).drop_apply_val_of_eq y 1 1).symm.trans (congrArg (fun f => (f 1).val) hd)
    have d2 : (y 3).val = r.val := ((reducesTo_S4x32x8x128x512_S4x32x128_d2_4).drop_apply_val_of_eq y 2 3).symm.trans (congrArg (fun f => (f 2).val) hd)
    refine ⟨y 2, y 4, ?_⟩
    have : ix5 a i (y 2) r (y 4) = y := by
      funext u
      match u with
      | ⟨0, _⟩ => exact Fin.ext d0.symm
      | ⟨1, _⟩ => exact Fin.ext d1.symm
      | ⟨2, _⟩ => rfl
      | ⟨3, _⟩ => exact Fin.ext d2.symm
      | ⟨4, _⟩ => rfl
    erw [this]
    exact hy.ne'
  · exact (lt_of_eq_of_lt bf16_bot.symm (ofBool_eq (H3 y).1)).ne'
  · exact (lt_of_lt_of_eq (ofBool_eq (H3 y).2) bf16_top).ne
  · exact (lt_of_eq_of_lt bf16_bot.symm (ofBool_eq (H4 y).1)).ne'
  · exact (lt_of_lt_of_eq (ofBool_eq (H4 y).2) bf16_top).ne

end Cert.Pre_scores_defined.Attn

end
-- ==== Proof.AttnRef.lean ====
/- The attention reference, read at an index. -/
module

public import proofs.«01_k».proof.Proof.Gen.ReferenceIdeal
public import proofs.«01_k».proof.Proof.Gen.ReferenceIdeal.Run
public import proofs.«01_k».proof.Proof.Gen.ReferenceIdeal.Read
public import Idealize.ShloMosaic.Lib.ValueIdx
public import Idealize.ShloMosaic.Lib.Pointwise
public import Idealize.ShloMosaic.Lib.Affine

@[expose] public section

noncomputable section

namespace Cert.ReferenceIdeal.Attn

open Idealize.ShloMosaic Cert.ReferenceIdeal Cert.ReferenceIdeal.Gen Cert.ReferenceIdeal.Read

/-- The score of query `r` of batch `b`, group `g`, head `h`, at key `k`: masked where the key is after the query. -/
def S (q : Vec Ideal S4x16x4096x128 .bf16) (kk : Vec Ideal S16384x512 .bf16) (bias : Vec Ideal S4x32x8x128x512 .f32)
    (b : Fin 4) (r : Fin 4096) (g h : Fin 4) (k : Fin 4096) : EReal :=
  if k.val ≤ r.val then
    (∑ d : Fin 128, kk (ix2 ⟨b.val * 4096 + k.val, by omega⟩ ⟨g.val * 128 + d.val, by omega⟩)
        * q (ix4 b ⟨r.val / 256, by omega⟩ ⟨g.val * 1024 + h.val * 256 + r.val % 256, by omega⟩ d))
      + bias (ix5 b ⟨r.val / 128, by omega⟩ ⟨k.val / 512, by omega⟩ ⟨r.val % 128, by omega⟩ ⟨k.val % 512, by omega⟩)
  else ⊥

theorem v2_apply (q : Vec Ideal S4x16x4096x128 .bf16) (b : Fin 4) (r : Fin 4096) (g h : Fin 4) (d : Fin 128) :
    val_main_v2 (F := Ideal) q (ix5 b r g h d) = q (ix4 b ⟨r.val / 256, by omega⟩ ⟨g.val * 1024 + h.val * 256 + r.val % 256, by omega⟩ d) := by
  unfold val_main_v2 val_main_v1 val_main_v0
  pointwise

theorem v10_apply (bias : Vec Ideal S4x32x8x128x512 .f32) (b : Fin 4) (r k : Fin 4096) :
    val_main_v10 (F := Ideal) bias (ix3 b r k) = bias (ix5 b ⟨r.val / 128, by omega⟩ ⟨k.val / 512, by omega⟩ ⟨r.val % 128, by omega⟩ ⟨k.val % 512, by omega⟩) := by
  unfold val_main_v10 val_main_v9
  pointwise

theorem v5_apply (kk : Vec Ideal S16384x512 .bf16) (b : Fin 4) (k : Fin 4096) (g : Fin 4) (d : Fin 128) :
    val_main_v5 (F := Ideal) kk (ix4 b k g d) = kk (ix2 ⟨b.val * 4096 + k.val, by omega⟩ ⟨g.val * 128 + d.val, by omega⟩) := by
  unfold val_main_v5 val_main_v4
  pointwise

theorem v8_apply (za : Vec Ideal S16384x10752 .bf16) (b : Fin 4) (k : Fin 4096) (g : Fin 4) (d : Fin 128) :
    val_main_v8 (F := Ideal) za (ix4 b k g d) = za (ix2 ⟨b.val * 4096 + k.val, by omega⟩ ⟨10240 + (g.val * 128 + d.val), by omega⟩) := by
  unfold val_main_v8 val_main_v7 val_main_v6
  pointwise

theorem f32_bot : (Ideal.ofBits .f32 0xFF800000#32 : EReal) = ⊥ := by simp [Ideal.ofBits, Ideal.ieee]

theorem v22_apply (q : Vec Ideal S4x16x4096x128 .bf16) (kk : Vec Ideal S16384x512 .bf16) (bias : Vec Ideal S4x32x8x128x512 .f32)
    (b : Fin 4) (r : Fin 4096) (g h : Fin 4) (k : Fin 4096) :
    val_main_v22 (F := Ideal) q kk bias (ix5 b r g h k) = (∑ d : Fin 128, kk (ix2 ⟨b.val * 4096 + k.val, by omega⟩ ⟨g.val * 128 + d.val, by omega⟩)
        * q (ix4 b ⟨r.val / 256, by omega⟩ ⟨g.val * 1024 + h.val * 256 + r.val % 256, by omega⟩ d))
      + bias (ix5 b ⟨r.val / 128, by omega⟩ ⟨k.val / 512, by omega⟩ ⟨r.val % 128, by omega⟩ ⟨k.val % 512, by omega⟩) := by
  unfold val_main_v22 val_main_v21 val_main_v20 val_main_v19 val_main_v18 val_main_v3
  pointwise [v5_apply, v2_apply, v10_apply]

theorem sle_iff (a b : Fin 4096) : IntOp.cmpi .sle (BitVec.ofNat 32 a.val) (BitVec.ofNat 32 b.val) = 1#1 ↔ a.val ≤ b.val := by
  rw [IntOp.cmpi_sle, BitVec.toInt_eq_toNat_cond, BitVec.toInt_eq_toNat_cond]
  simp only [BitVec.toNat_ofNat]
  have := a.isLt; have := b.isLt
  rw [if_pos (by omega), if_pos (by omega)]
  omega

theorem mask_apply (b : Fin 4) (r : Fin 4096) (g h : Fin 4) (k : Fin 4096) :
    val_main_call0_v1 (F := Ideal) (ix5 b r g h k) = IntOp.cmpi .sle (BitVec.ofNat 32 k.val) (BitVec.ofNat 32 r.val) := by
  unfold val_main_call0_v1 val_main_v23 val_main_v17 val_main_v16 val_main_v15 val_main_v14 val_main_v13 val_main_v12 val_main_v11
  pointwise

theorem v24_apply (q : Vec Ideal S4x16x4096x128 .bf16) (kk : Vec Ideal S16384x512 .bf16) (bias : Vec Ideal S4x32x8x128x512 .f32)
    (b : Fin 4) (r : Fin 4096) (g h : Fin 4) (k : Fin 4096) :
    val_main_v24 (F := Ideal) q kk bias (ix5 b r g h k) = S q kk bias b r g h k := by
  have e : val_main_v24 (F := Ideal) q kk bias (ix5 b r g h k)
      = if val_main_call0_v1 (F := Ideal) (ix5 b r g h k) = 1#1 then val_main_v22 (F := Ideal) q kk bias (ix5 b r g h k)
        else (Ideal.ofBits .f32 0xFF800000#32 : EReal) := rfl
  rw [e, mask_apply, v22_apply, f32_bot]
  unfold S
  simp only [sle_iff]

theorem max_apply (X : Vec Ideal S4x4096x4x4x4096 .f32) (b : Fin 4) (r : Fin 4096) (g h : Fin 4) :
    (max (Ideal.ofBits .f32 0xFF800000#32) (Host.reduce (FloatOps.maximumf (F := Ideal) (φ := .f32)) X (constant (F := Ideal) S_ .f32 0xFF800000#32)
        reducesTo_S4x4096x4x4x4096_S4x4096x4x4_d4 h_S_ (ix4 b r g h)) : EReal) = Finset.univ.sup fun k : Fin 4096 => (X (ix5 b r g h k) : EReal) := by
  pointwise
  rw [f32_bot, max_eq_right bot_le]
  rfl

theorem v27_apply (q : Vec Ideal S4x16x4096x128 .bf16) (kk : Vec Ideal S16384x512 .bf16) (bias : Vec Ideal S4x32x8x128x512 .f32)
    (b : Fin 4) (r : Fin 4096) (g h : Fin 4) :
    val_main_v27 (F := Ideal) q kk bias (ix4 b r g h) = Finset.univ.sup (S q kk bias b r g h) := by
  have e : ∀ k, val_main_v24 (F := Ideal) q kk bias (ix5 b r g h k) = S q kk bias b r g h k := v24_apply q kk bias b r g h
  rw [val_main_v27_apply, val_main_v26_apply]
  unfold val_main_v25 val_main_cst_0 val_main_cst_1
  generalize val_main_v24 (F := Ideal) q kk bias = X at e
  have e2 : Finset.univ.sup (fun k : Fin 4096 => (X (ix5 b r g h k) : EReal)) = Finset.univ.sup (S q kk bias b r g h) :=
    congrArg _ (funext e)
  generalize S q kk bias b r g h = Y at e2
  exact (max_apply X b r g h).trans e2

theorem v31_apply (q : Vec Ideal S4x16x4096x128 .bf16) (kk : Vec Ideal S16384x512 .bf16) (bias : Vec Ideal S4x32x8x128x512 .f32)
    (b : Fin 4) (r : Fin 4096) (g h : Fin 4) (k : Fin 4096) :
    val_main_v31 (F := Ideal) q kk bias (ix5 b r g h k)
      = Ideal.exp (S q kk bias b r g h k - Finset.univ.sup (S q kk bias b r g h)) := by
  unfold val_main_v31 val_main_v30 val_main_v29 val_main_v28
  pointwise [v24_apply, v27_apply]

theorem v35_apply (q : Vec Ideal S4x16x4096x128 .bf16) (kk : Vec Ideal S16384x512 .bf16) (bias : Vec Ideal S4x32x8x128x512 .f32)
    (b : Fin 4) (r : Fin 4096) (g h : Fin 4) (k : Fin 4096) :
    val_main_v35 (F := Ideal) q kk bias (ix5 b r g h k)
      = Ideal.div (Ideal.exp (S q kk bias b r g h k - Finset.univ.sup (S q kk bias b r g h)))
          (∑ k' : Fin 4096, Ideal.exp (S q kk bias b r g h k' - Finset.univ.sup (S q kk bias b r g h))) := by
  unfold val_main_v35 val_main_v34 val_main_v33 val_main_v32 val_main_cst_2
  pointwise [v31_apply]

theorem v39_apply (q : Vec Ideal S4x16x4096x128 .bf16) (kk : Vec Ideal S16384x512 .bf16) (za : Vec Ideal S16384x10752 .bf16) (bias : Vec Ideal S4x32x8x128x512 .f32)
    (row : Fin 16384) (col : Fin 2048) :
    val_main_v39 (F := Ideal) q kk za bias (ix2 row col)
      = ∑ k : Fin 4096, za (ix2 ⟨row.val / 4096 * 4096 + k.val, by omega⟩ ⟨10240 + (col.val / 512 * 128 + col.val % 128), by omega⟩)
          * Ideal.div (Ideal.exp (S q kk bias ⟨row.val / 4096, by omega⟩ ⟨row.val % 4096, by omega⟩ ⟨col.val / 512, by omega⟩ ⟨col.val / 128 % 4, by omega⟩ k
              - Finset.univ.sup (S q kk bias ⟨row.val / 4096, by omega⟩ ⟨row.val % 4096, by omega⟩ ⟨col.val / 512, by omega⟩ ⟨col.val / 128 % 4, by omega⟩)))
            (∑ k' : Fin 4096, Ideal.exp (S q kk bias ⟨row.val / 4096, by omega⟩ ⟨row.val % 4096, by omega⟩ ⟨col.val / 512, by omega⟩ ⟨col.val / 128 % 4, by omega⟩ k'
              - Finset.univ.sup (S q kk bias ⟨row.val / 4096, by omega⟩ ⟨row.val % 4096, by omega⟩ ⟨col.val / 512, by omega⟩ ⟨col.val / 128 % 4, by omega⟩))) := by
  unfold val_main_v39 val_main_v38 val_main_v37 val_main_v36
  pointwise [v35_apply, v8_apply]

end Cert.ReferenceIdeal.Attn

end
-- ==== Proof.AttnPay.lean ====
/- The masked attention: what one key block's arithmetic computes, element by element. -/
module

public import proofs.«01_k».proof.Proof.AttnFrame
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem

namespace Cert.KernelIdeal.Attn
open Cert.KernelIdeal Cert.KernelIdeal.Gen

theorem pay11_apply (x0 : Vec Ideal S1x1x1024x128 .bf16) (x1 : Vec Ideal S512x128 .bf16) (x3 : Vec Ideal S1x2x1x128x512 .f32) (r : Fin 1024) (j : Fin 512) :
    k0_pay11 (F := Ideal) x0 x1 x3 (ix2 r j) = (∑ d : Fin 128, x0 (ix4 0 0 r d) * x1 (ix2 j d)) +
      x3 (ix5 0 ⟨r.val % 256 / 128, by omega⟩ 0 ⟨r.val % 256 % 128, by omega⟩ j) := by
  pointwise [k0_pay11]

theorem pay12_apply (x0 : Vec Ideal S1x1x1024x128 .bf16) (x1 : Vec Ideal S512x128 .bf16) (x3 : Vec Ideal S1x2x1x128x512 .f32) (m : Vec Ideal S1024x1 .f32) (r : Fin 1024) :
    k0_pay12 (F := Ideal) x0 x1 x3 m (ix2 r 0) = max (m (ix2 r 0)) (Finset.univ.sup fun j : Fin 512 => k0_pay11 (F := Ideal) x0 x1 x3 (ix2 r j)) := by
  unfold k0_pay12
  generalize k0_pay11 (F := Ideal) x0 x1 x3 = s
  pointwise
  rw [show Ideal.ofBits .f32 4286578688#32 = (⊥ : EReal) from by simp [Ideal.ofBits, Ideal.ieee]]
  rfl

theorem nL_apply (x0 : Vec Ideal S1x1x1024x128 .bf16) (x1 : Vec Ideal S512x128 .bf16) (x3 : Vec Ideal S1x2x1x128x512 .f32) (m l : Vec Ideal S1024x1 .f32) (r : Fin 1024) :
    nL (F := Ideal) x0 x1 x3 m l (ix2 r 0) = Ideal.exp (m (ix2 r 0) - k0_pay12 x0 x1 x3 m (ix2 r 0)) * l (ix2 r 0)
      + ∑ j : Fin 512, Ideal.exp (k0_pay11 x0 x1 x3 (ix2 r j) - k0_pay12 x0 x1 x3 m (ix2 r 0)) := by
  unfold nL k0_pay15 k0_pay13 k0_pay14
  generalize k0_pay11 (F := Ideal) x0 x1 x3 = s
  generalize k0_pay12 (F := Ideal) x0 x1 x3 m = m'
  pointwise

theorem nA_apply (x0 : Vec Ideal S1x1x1024x128 .bf16) (x1 x2 : Vec Ideal S512x128 .bf16) (x3 : Vec Ideal S1x2x1x128x512 .f32) (m : Vec Ideal S1024x1 .f32) (a : Vec Ideal S1024x128 .f32) (r : Fin 1024) (d : Fin 128) :
    nA (F := Ideal) x0 x1 x2 x3 m a (ix2 r d) = Ideal.exp (m (ix2 r 0) - k0_pay12 x0 x1 x3 m (ix2 r 0)) * a (ix2 r d)
      + ∑ j : Fin 512, Ideal.exp (k0_pay11 x0 x1 x3 (ix2 r j) - k0_pay12 x0 x1 x3 m (ix2 r 0)) * x2 (ix2 j d) := by
  unfold nA k0_pay4 k0_pay16 k0_pay17 k0_pay13 k0_pay14
  generalize k0_pay11 (F := Ideal) x0 x1 x3 = s
  generalize k0_pay12 (F := Ideal) x0 x1 x3 m = m'
  pointwise

theorem pay5_apply (m : Vec Ideal S1024x1 .f32) : k0_pay5 (F := Ideal) m = m := by
  funext j
  idx_vars j
  pointwise [k0_pay5]

theorem pay1_apply (j : S1024x1.Idx) : k0_pay1 (F := Ideal) j = (⊥ : EReal) := by
  pointwise [k0_pay1]
  rfl
theorem pay2_apply (j : S1024x1.Idx) : k0_pay2 (F := Ideal) j = (0 : EReal) := by
  pointwise [k0_pay2]
theorem pay3_apply (j : S1024x128.Idx) : k0_pay3 (F := Ideal) j = (0 : EReal) := by
  pointwise [k0_pay3]

theorem pay7_apply (a : Vec Ideal S1024x128 .f32) (l : Vec Ideal S1024x1 .f32) (r : Fin 256) (d : Fin 128) :
    k0_pay7 (F := Ideal) a l (ix2 r d) = Ideal.div (a (ix2 ⟨r.val, by omega⟩ d)) (l (ix2 ⟨r.val, by omega⟩ 0)) := by
  pointwise [k0_pay7, k0_pay6]
theorem pay8_apply (a : Vec Ideal S1024x128 .f32) (l : Vec Ideal S1024x1 .f32) (r : Fin 256) (d : Fin 128) :
    k0_pay8 (F := Ideal) a l (ix2 r d) = Ideal.div (a (ix2 ⟨256 + r.val, by omega⟩ d)) (l (ix2 ⟨256 + r.val, by omega⟩ 0)) := by
  pointwise [k0_pay8, k0_pay6]

theorem pay9_apply (a : Vec Ideal S1024x128 .f32) (l : Vec Ideal S1024x1 .f32) (r : Fin 256) (d : Fin 128) :
    k0_pay9 (F := Ideal) a l (ix2 r d) = Ideal.div (a (ix2 ⟨512 + r.val, by omega⟩ d)) (l (ix2 ⟨512 + r.val, by omega⟩ 0)) := by
  pointwise [k0_pay9, k0_pay6]

theorem pay10_apply (a : Vec Ideal S1024x128 .f32) (l : Vec Ideal S1024x1 .f32) (r : Fin 256) (d : Fin 128) :
    k0_pay10 (F := Ideal) a l (ix2 r d) = Ideal.div (a (ix2 ⟨768 + r.val, by omega⟩ d)) (l (ix2 ⟨768 + r.val, by omega⟩ 0)) := by
  pointwise [k0_pay10, k0_pay6]

/-- The output block, head by head: column `h * 128 + d` holds head `h`'s lane `d`. -/
def heads (a : Vec Ideal S1024x128 .f32) (l : Vec Ideal S1024x1 .f32) : Vec Ideal S256x512 .bf16 := fun y =>
  Ideal.div (a (ix2 ⟨(y 1).val / 128 * 256 + (y 0).val, by
      have h0 : (y 0).val < 256 := (y 0).isLt; have h1 : (y 1).val < 512 := (y 1).isLt; omega⟩ ⟨(y 1).val % 128, by omega⟩))
    (l (ix2 ⟨(y 1).val / 128 * 256 + (y 0).val, by
      have h0 : (y 0).val < 256 := (y 0).isLt; have h1 : (y 1).val < 512 := (y 1).isLt; omega⟩ 0))

theorem heads_congr (a : Vec Ideal S1024x128 .f32) (l : Vec Ideal S1024x1 .f32) (y : S256x512.Idx) (n : Fin 1024) (d : Fin 128)
    (hn : n.val = (y 1).val / 128 * 256 + (y 0).val) (hd : d.val = (y 1).val % 128) :
    Ideal.div (a (ix2 n d)) (l (ix2 n 0)) = heads a l y := by
  unfold heads
  rw [← Fin.ext (a := n) (b := ⟨(y 1).val / 128 * 256 + (y 0).val, hn ▸ n.isLt⟩) hn, ← Fin.ext (a := d) (b := ⟨(y 1).val % 128, hd ▸ d.isLt⟩) hd]

theorem nO_eq (a : Vec Ideal S1024x128 .f32) (l : Vec Ideal S1024x1 .f32) : nO (F := Ideal) a l = heads a l := by
  funext y
  unfold nO
  refine View.canon_apply_of_pieces (heads a l) _ ?_ _ ?_
  · intro p hp x
    simp only [List.mem_cons, List.not_mem_nil, or_false] at hp
    rcases hp with rfl | rfl | rfl | rfl
    all_goals
      dsimp only at x ⊢
      idx_vars x
    · rw [pay10_apply]
      refine heads_congr a l _ _ _ ?_ ?_
      · show 768 + x0.val = (384 + 1 * x1.val) / 128 * 256 + (0 + 1 * x0.val); omega
      · show x1.val = (384 + 1 * x1.val) % 128; omega
    · rw [pay9_apply]
      refine heads_congr a l _ _ _ ?_ ?_
      · show 512 + x0.val = (256 + 1 * x1.val) / 128 * 256 + (0 + 1 * x0.val); omega
      · show x1.val = (256 + 1 * x1.val) % 128; omega
    · rw [pay8_apply]
      refine heads_congr a l _ _ _ ?_ ?_
      · show 256 + x0.val = (128 + 1 * x1.val) / 128 * 256 + (0 + 1 * x0.val); omega
      · show x1.val = (128 + 1 * x1.val) % 128; omega
    · rw [pay7_apply]
      refine heads_congr a l _ _ _ ?_ ?_
      · show x0.val = (0 + 1 * x1.val) / 128 * 256 + (0 + 1 * x0.val); omega
      · show x1.val = (0 + 1 * x1.val) % 128; omega
  · have h0 : (y 0).val < 256 := (y 0).isLt
    have h1 : (y 1).val < 512 := (y 1).isLt
    simp only [List.mem_cons, List.not_mem_nil, or_false, exists_eq_or_imp, exists_eq_left, Rect.mem_set_unit]
    have cs : (384 ≤ (y 1).val ∧ (y 1).val < 384 + 128) ∨ (256 ≤ (y 1).val ∧ (y 1).val < 256 + 128) ∨
        (128 ≤ (y 1).val ∧ (y 1).val < 128 + 128) ∨ (0 ≤ (y 1).val ∧ (y 1).val < 0 + 128) := by omega
    have z : 0 ≤ (y 0).val ∧ (y 0).val < 0 + 256 := by omega
    rcases cs with h | h | h | h
    · exact .inl fun q => match q with | ⟨0, _⟩ => z | ⟨1, _⟩ => h
    · exact .inr (.inl fun q => match q with | ⟨0, _⟩ => z | ⟨1, _⟩ => h)
    · exact .inr (.inr (.inl fun q => match q with | ⟨0, _⟩ => z | ⟨1, _⟩ => h))
    · exact .inr (.inr (.inr fun q => match q with | ⟨0, _⟩ => z | ⟨1, _⟩ => h))

end Cert.KernelIdeal.Attn
-- ==== Proof.Online.lean ====
/-
# A softmax accumulated block by block

Pure facts on the extended reals. `s c j` is the score of the `j`-th key of block `c` and `v c j` its value. The running maximum,
the rescaled sum and the rescaled weighted sum, taken over the first `n` blocks, are the maximum, the sum and the weighted sum
over all keys of these blocks; and their quotient is the softmax-weighted sum over all keys, when every later key is masked.
-/
module

public import Idealize.ShloMosaic.PureOps.Ideal
public import Idealize.ShloMosaic.PureOps.Ideal.Laws

@[expose] public section

noncomputable section

namespace Cert.Online

open Idealize.ShloMosaic

variable {J : ℕ} (s v : ℕ → Fin J → EReal)

/-- The running maximum over the first `n` blocks. -/
def mx : ℕ → EReal
  | 0 => ⊥
  | n + 1 => max (mx n) (Finset.univ.sup (s n))

/-- The running sum: rescaled to the new maximum at every block. -/
def sm : ℕ → EReal
  | 0 => 0
  | n + 1 => Ideal.exp (mx s n - mx s (n + 1)) * sm n + ∑ j, Ideal.exp (s n j - mx s (n + 1))

/-- The running weighted sum. -/
def ac : ℕ → EReal
  | 0 => 0
  | n + 1 => Ideal.exp (mx s n - mx s (n + 1)) * ac n + ∑ j, Ideal.exp (s n j - mx s (n + 1)) * v n j

theorem mx_mono {a b : ℕ} (h : a ≤ b) : mx s a ≤ mx s b := by
  induction b, h using Nat.le_induction with
  | base => exact le_rfl
  | succ n _ ih => exact ih.trans (le_max_left _ _)

theorem le_mx {c n : ℕ} (h : c < n) (j : Fin J) : s c j ≤ mx s n :=
  le_trans (le_trans (Finset.le_sup (f := s c) (Finset.mem_univ j)) (le_max_right _ _)) (mx_mono s (Nat.succ_le_of_lt h))

theorem mx_lt_top (hs : ∀ c j, s c j < ⊤) : ∀ n, mx s n < ⊤
  | 0 => bot_lt_top
  | n + 1 => max_lt (mx_lt_top hs n) ((Finset.sup_lt_iff bot_lt_top).2 fun j _ => hs n j)

theorem exp_nonneg (x : EReal) : 0 ≤ Ideal.exp x := by
  induction x with
  | bot => exact le_rfl
  | top => exact le_top
  | coe r => rw [Ideal.exp_coe]; exact_mod_cast (Real.exp_pos r).le

theorem exp_sub_ne_top {x m : EReal} (h : x ≤ m) (hm : m < ⊤) : Ideal.exp (x - m) ≠ ⊤ := by
  induction m with
  | bot =>
    have : x = ⊥ := le_bot_iff.1 h
    subst this
    rw [EReal.bot_sub]; exact EReal.zero_ne_top
  | top => exact absurd hm (lt_irrefl _)
  | coe m =>
    induction x with
    | bot => rw [EReal.bot_sub]; exact EReal.zero_ne_top
    | top => exact absurd h (by simp)
    | coe x => rw [← EReal.coe_sub, Ideal.exp_coe]; exact EReal.coe_ne_top _

/-- Moving a weight from one maximum to a larger one. -/
theorem exp_step {x m m' : EReal} (h : x ≤ m) (h' : m ≤ m') (hm : m' < ⊤) :
    Ideal.exp (m - m') * Ideal.exp (x - m) = Ideal.exp (x - m') := by
  induction x with
  | bot => rw [EReal.bot_sub, EReal.bot_sub, Ideal.exp_bot, mul_zero]
  | top => exact absurd (lt_of_le_of_lt (h.trans h') hm) (lt_irrefl _)
  | coe x =>
    induction m with
    | bot => exact absurd h (by simp)
    | top => exact absurd (lt_of_le_of_lt h' hm) (lt_irrefl _)
    | coe m =>
      induction m' with
      | bot => exact absurd h' (by simp)
      | top => exact absurd hm (lt_irrefl _)
      | coe m' =>
        rw [← EReal.coe_sub, ← EReal.coe_sub, ← EReal.coe_sub, Ideal.exp_coe, Ideal.exp_coe, Ideal.exp_coe, ← EReal.coe_mul, ← Real.exp_add]
        congr 2
        ring

/-- A finite nonnegative factor distributes over any sum of extended reals. -/
theorem mul_sum {ι : Type} (I : Finset ι) (f : ι → EReal) {x : EReal} (h0 : 0 ≤ x) (ht : x ≠ ⊤) :
    x * ∑ i ∈ I, f i = ∑ i ∈ I, x * f i := by
  classical
  induction I using Finset.induction_on with
  | empty => simp
  | insert a I ha ih => rw [Finset.sum_insert ha, Finset.sum_insert ha, EReal.left_distrib_of_nonneg_of_ne_top h0 ht, ih]

theorem ac_eq (hs : ∀ c j, s c j < ⊤) (n : ℕ) :
    ac s v n = ∑ c ∈ Finset.range n, ∑ j, Ideal.exp (s c j - mx s n) * v c j := by
  induction n with
  | zero => simp [ac]
  | succ n ih =>
    have hle : mx s n ≤ mx s (n + 1) := mx_mono s (Nat.le_succ n)
    have ht := mx_lt_top s hs (n + 1)
    rw [ac, ih, Finset.sum_range_succ, mul_sum _ _ (exp_nonneg _) (exp_sub_ne_top hle ht)]
    congr 1
    refine Finset.sum_congr rfl fun c hc => ?_
    rw [mul_sum _ _ (exp_nonneg _) (exp_sub_ne_top hle ht)]
    refine Finset.sum_congr rfl fun j _ => ?_
    rw [← mul_assoc, exp_step (le_mx s (Finset.mem_range.1 hc) j) hle ht]

theorem sm_eq_ac (n : ℕ) : sm s n = ac s (fun _ _ => 1) n := by
  induction n with
  | zero => rfl
  | succ n ih => rw [sm, ac, ih]; simp only [mul_one]

theorem sm_eq (hs : ∀ c j, s c j < ⊤) (n : ℕ) :
    sm s n = ∑ c ∈ Finset.range n, ∑ j, Ideal.exp (s c j - mx s n) := by
  rw [sm_eq_ac, ac_eq s _ hs]; simp only [mul_one]

/-- Blocks without a visible key leave the maximum as it is, -/
theorem mx_masked {n N : ℕ} (h : n ≤ N) (hb : ∀ c, n ≤ c → c < N → ∀ j, s c j = ⊥) : mx s N = mx s n := by
  induction N, h using Nat.le_induction with
  | base => rfl
  | succ N hN ih =>
    have e : Finset.univ.sup (s N) = ⊥ := by
      rw [Finset.sup_eq_bot_iff]; exact fun j _ => hb N hN (Nat.lt_succ_self N) j
    rw [mx, e, max_bot_right]
    exact ih fun c h1 h2 => hb c h1 (Nat.lt_succ_of_lt h2)

/-- and the weighted sum. -/
theorem ac_masked (hs : ∀ c j, s c j < ⊤) {n N : ℕ} (h : n ≤ N) (hb : ∀ c, n ≤ c → c < N → ∀ j, s c j = ⊥) :
    ac s v n = ac s v N := by
  rw [ac_eq s v hs, ac_eq s v hs, mx_masked s h hb]
  refine Finset.sum_subset (Finset.range_subset_range.2 h) fun c hc hn => ?_
  refine Finset.sum_eq_zero fun j _ => ?_
  rw [hb c (not_lt.1 fun h' => hn (Finset.mem_range.2 h')) (Finset.mem_range.1 hc), EReal.bot_sub, Ideal.exp_bot, zero_mul]

theorem mx_eq_sup (n : ℕ) : mx s n = (Finset.range n).sup fun c => Finset.univ.sup (s c) := by
  induction n with
  | zero => rfl
  | succ n ih => rw [mx, Finset.range_add_one, Finset.sup_insert, ih, max_comm]

/-- A sum of finite nonnegative terms is finite. -/
theorem sum_ne_top {ι : Type} (I : Finset ι) (f : ι → EReal) (h0 : ∀ i ∈ I, 0 ≤ f i) (ht : ∀ i ∈ I, f i ≠ ⊤) :
    ∑ i ∈ I, f i ≠ ⊤ := by
  classical
  induction I using Finset.induction_on with
  | empty => simp
  | insert a I ha ih =>
    rw [Finset.sum_insert ha]
    exact EReal.add_ne_top (ht a (Finset.mem_insert_self a I))
      (ih (fun i hi => h0 i (Finset.mem_insert_of_mem hi)) fun i hi => ht i (Finset.mem_insert_of_mem hi))

/-- The quotient of the weighted sum by the sum is the sum weighted by the quotients, for a positive finite sum. -/
theorem div_sum {ι : Type} (I : Finset ι) (f w : ι → EReal) {l : EReal} (h0 : 0 < l) (ht : l ≠ ⊤) :
    Ideal.div (∑ i ∈ I, f i * w i) l = ∑ i ∈ I, w i * Ideal.div (f i) l := by
  have hb : l ≠ ⊥ := fun h => absurd h0 (by rw [h]; simp)
  lift l to ℝ using ⟨ht, hb⟩
  have hl : (0 : ℝ) < l := by exact_mod_cast h0
  have hn : (0 : EReal) ≤ ((1 / l : ℝ) : EReal) := by exact_mod_cast (one_div_pos.2 hl).le
  rw [Ideal.div_coe hl.ne', mul_comm, mul_sum _ _ hn (EReal.coe_ne_top _)]
  refine Finset.sum_congr rfl fun i _ => ?_
  rw [Ideal.div_coe hl.ne']
  rw [mul_comm (f i) (w i), mul_left_comm, mul_comm (f i)]

/-- A sum over all keys, block by block. -/
theorem sum_blocks {B : ℕ} (f : ℕ → Fin J → EReal) (g : Fin (B * J) → EReal)
    (h : ∀ (c : ℕ) (hc : c < B) (j : Fin J), g ⟨c * J + j.val, by
      calc c * J + j.val < c * J + J := Nat.add_lt_add_left j.isLt _
        _ = (c + 1) * J := by ring
        _ ≤ B * J := Nat.mul_le_mul_right _ hc⟩ = f c j) :
    ∑ k, g k = ∑ c ∈ Finset.range B, ∑ j, f c j := by
  rw [← Equiv.sum_comp finProdFinEquiv, Fintype.sum_prod_type, Finset.sum_range]
  refine Finset.sum_congr rfl fun c _ => Finset.sum_congr rfl fun j _ => ?_
  rw [← h c.val c.isLt j]
  congr 1
  apply Fin.ext
  show j.val + J * c.val = c.val * J + j.val
  ring

/-- A maximum over all keys, block by block. -/
theorem sup_blocks {B : ℕ} (f : ℕ → Fin J → EReal) (g : Fin (B * J) → EReal)
    (h : ∀ (c : ℕ) (hc : c < B) (j : Fin J), g ⟨c * J + j.val, by
      calc c * J + j.val < c * J + J := Nat.add_lt_add_left j.isLt _
        _ = (c + 1) * J := by ring
        _ ≤ B * J := Nat.mul_le_mul_right _ hc⟩ = f c j) :
    Finset.univ.sup g = mx f B := by
  rw [mx_eq_sup]
  apply le_antisymm
  · refine Finset.sup_le fun k _ => ?_
    have hJ : 0 < J := Nat.pos_of_ne_zero fun h => by subst h; exact absurd k.isLt (by simp)
    have hc : k.val / J < B := Nat.div_lt_of_lt_mul (lt_of_lt_of_eq k.isLt (mul_comm _ _))
    have e := h (k.val / J) hc ⟨k.val % J, Nat.mod_lt _ hJ⟩
    have ek : k = ⟨k.val / J * J + k.val % J, by rw [Nat.div_add_mod']; exact k.isLt⟩ := Fin.ext (Nat.div_add_mod' _ _).symm
    rw [ek, e]
    exact le_trans (Finset.le_sup (f := f (k.val / J)) (Finset.mem_univ _))
      (Finset.le_sup (f := fun c => Finset.univ.sup (f c)) (Finset.mem_range.2 hc))
  · refine Finset.sup_le fun c hc => Finset.sup_le fun j _ => ?_
    rw [← h c (Finset.mem_range.1 hc) j]
    exact Finset.le_sup (Finset.mem_univ _)

/-- The block-by-block attention of one query is the softmax-weighted sum over all keys: every score is below plus infinity, some key
    is visible, and every key of a block not visited is masked. -/
theorem attention {B : ℕ} (S W : Fin (B * J) → EReal)
    (hS : ∀ (c : ℕ) (hc : c < B) (j : Fin J) (hk : c * J + j.val < B * J), S ⟨c * J + j.val, hk⟩ = s c j)
    (hW : ∀ (c : ℕ) (hc : c < B) (j : Fin J) (hk : c * J + j.val < B * J), W ⟨c * J + j.val, hk⟩ = v c j)
    (hs : ∀ c j, s c j < ⊤) (hv : ∃ k, S k ≠ ⊥) {n : ℕ} (hn : n ≤ B) (hb : ∀ c, n ≤ c → c < B → ∀ j, s c j = ⊥) :
    Ideal.div (ac s v n) (sm s n)
      = ∑ k, W k * Ideal.div (Ideal.exp (S k - Finset.univ.sup S)) (∑ k', Ideal.exp (S k' - Finset.univ.sup S)) := by
  have em : Finset.univ.sup S = mx s B := sup_blocks s S fun c hc j => hS c hc j _
  have el : ∑ k', Ideal.exp (S k' - Finset.univ.sup S) = sm s B := by
    rw [sm_eq s hs, sum_blocks (fun c j => Ideal.exp (s c j - mx s B)) _ fun c hc j => by rw [hS c hc j, em]]
  have ea : ∑ k', Ideal.exp (S k' - Finset.univ.sup S) * W k' = ac s v B := by
    rw [ac_eq s v hs, sum_blocks (fun c j => Ideal.exp (s c j - mx s B) * v c j) _ fun c hc j => by rw [hS c hc j, hW c hc j, em]]
  have ht : mx s B < ⊤ := mx_lt_top s hs B
  have hle : ∀ k, S k ≤ Finset.univ.sup S := fun k => Finset.le_sup (Finset.mem_univ k)
  have hlt : ∑ k', Ideal.exp (S k' - Finset.univ.sup S) ≠ ⊤ :=
    sum_ne_top _ _ (fun k _ => exp_nonneg _) fun k _ => exp_sub_ne_top (hle k) (by rw [em]; exact ht)
  have hpos : 0 < ∑ k', Ideal.exp (S k' - Finset.univ.sup S) := by
    obtain ⟨k, hk⟩ := hv
    refine lt_of_lt_of_le ?_ (Finset.single_le_sum (fun i _ => exp_nonneg (S i - Finset.univ.sup S)) (Finset.mem_univ k))
    have h1 := hle k
    have h2 : Finset.univ.sup S < ⊤ := by rw [em]; exact ht
    generalize Finset.univ.sup S = M at h1 h2 ⊢
    generalize S k = x at hk h1 ⊢
    induction x with
    | bot => exact absurd rfl hk
    | top => exact absurd (lt_of_le_of_lt h1 h2) (lt_irrefl _)
    | coe x =>
      induction M with
      | bot => exact absurd h1 (by simp)
      | top => exact absurd h2 (lt_irrefl _)
      | coe M => rw [← EReal.coe_sub, Ideal.exp_coe]; exact_mod_cast Real.exp_pos _
  rw [← div_sum _ _ _ hpos hlt, ea, el, sm_eq_ac, sm_eq_ac, ac_masked s v hs hn hb, ac_masked s _ hs hn hb]

/-- The same, the number of keys written as a number of its own. -/
theorem attention_of_eq {B N : ℕ} (hN : N = B * J) (S W : Fin N → EReal)
    (hS : ∀ (c : ℕ) (hc : c < B) (j : Fin J) (hk : c * J + j.val < N), S ⟨c * J + j.val, hk⟩ = s c j)
    (hW : ∀ (c : ℕ) (hc : c < B) (j : Fin J) (hk : c * J + j.val < N), W ⟨c * J + j.val, hk⟩ = v c j)
    (hs : ∀ c j, s c j < ⊤) (hv : ∃ k, S k ≠ ⊥) {n : ℕ} (hn : n ≤ B) (hb : ∀ c, n ≤ c → c < B → ∀ j, s c j = ⊥) :
    Ideal.div (ac s v n) (sm s n)
      = ∑ k, W k * Ideal.div (Ideal.exp (S k - Finset.univ.sup S)) (∑ k', Ideal.exp (S k' - Finset.univ.sup S)) := by
  subst hN
  exact attention s v S W hS hW hs hv hn hb

end Cert.Online

end
-- ==== Proof.AttnBlk.lean ====
/- The masked attention: what the kernel's result array holds. -/
module

public import proofs.«01_k».proof.Proof.AttnPay
public import proofs.«01_k».proof.Proof.Online
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelIdeal.Attn
open Cert.KernelIdeal Cert.KernelIdeal.Gen

/-! ## One query row's scores and values -/

/-- A query row's score at key `kc * 512 + j`: the queries' block of a batch `b`, 256 positions `i` and key-value head `g`, row `rr` of
    its 1024 (four heads of 256 positions). -/
def scr (q : Vec Ideal S4x16x4096x128 .bf16) (k : Vec Ideal S16384x512 .bf16) (bias : Vec Ideal S4x32x8x128x512 .f32)
    (b : Fin 4) (i : Fin 16) (g : Fin 4) (rr : Fin 1024) (kc : ℕ) (j : Fin 512) : EReal :=
  (∑ d : Fin 128, q (ix4 b i ⟨g.val * 1024 + rr.val, by omega⟩ d) * k (ix2 ⟨b.val * 4096 + kc % 8 * 512 + j.val, by omega⟩ ⟨g.val * 128 + d.val, by omega⟩))
    + bias (ix5 b ⟨i.val * 2 + rr.val % 256 / 128, by omega⟩ ⟨kc % 8, by omega⟩ ⟨rr.val % 256 % 128, by omega⟩ j)

/-- Lane `d` of the value at key `kc * 512 + j`. -/
def vals (za : Vec Ideal S16384x10752 .bf16) (b : Fin 4) (g : Fin 4) (d : Fin 128) (kc : ℕ) (j : Fin 512) : EReal :=
  za (ix2 ⟨b.val * 4096 + kc % 8 * 512 + j.val, by omega⟩ ⟨10240 + g.val * 128 + d.val, by omega⟩)

variable (m : (ℓ : Loc nD τ sig) → Buf (Elt Ideal) ℓ) (ρ : Dev nD → PrngReg)

/-- Every window's block index at a point. -/
theorem idx : ∀ t : Fin cfg0.N, win0_0.index t = ![t.val / 512, t.val / 32 % 16, t.val / 8 % 4, 0]
    ∧ win0_1.index t = ![t.val / 512 * 8 + min (t.val % 8) (t.val / 32 % 16 / 2), t.val / 8 % 4]
    ∧ win0_2.index t = ![t.val / 512 * 8 + min (t.val % 8) (t.val / 32 % 16 / 2), 80 + t.val / 8 % 4]
    ∧ win0_3.index t = ![t.val / 512, t.val / 32 % 16, min (t.val % 8) (t.val / 32 % 16 / 2), 0, 0]
    ∧ win0_4.index t = ![t.val / 512 * 16 + t.val / 32 % 16, t.val / 8 % 4] :=
  (by decide +kernel : ∀ t : Fin grid0.N, _)

theorem lt_N (t : Fin cfg0.N) : t.val < 2048 := lt_of_lt_of_eq t.isLt N_0

/-- A point's batch, -/
abbrev pb (t : Fin cfg0.N) : Fin 4 := ⟨t.val / 512, by have := lt_N t; omega⟩
/-- block of query positions -/
abbrev pi (t : Fin cfg0.N) : Fin 16 := ⟨t.val / 32 % 16, by omega⟩
/-- and key-value head. -/
abbrev pg (t : Fin cfg0.N) : Fin 4 := ⟨t.val / 8 % 4, by omega⟩

theorem iblk0_apply (c : Dev nD) (t : Fin cfg0.N) (r : Fin 1024) (d : Fin 128) :
    iblk m c 0 t (ix4 0 0 r d) = m ((c : Thread nD τ).loc main_arg0) (ix4 (pb t) (pi t) ⟨(pg t).val * 1024 + r.val, by omega⟩ d) := by
  blk_ext [iblk, V, idx t]

theorem iblk1_apply (c : Dev nD) (t : Fin cfg0.N) (h : t.val % 8 ≤ t.val / 32 % 16 / 2) (j : Fin 512) (d : Fin 128) :
    iblk m c 1 t (ix2 j d) = m ((c : Thread nD τ).loc main_arg1)
      (ix2 ⟨(pb t).val * 4096 + t.val % 8 % 8 * 512 + j.val, by omega⟩ ⟨(pg t).val * 128 + d.val, by omega⟩) := by
  have e := min_eq_left h
  blk_ext [iblk, V, idx t, e]

theorem iblk2_apply (c : Dev nD) (t : Fin cfg0.N) (h : t.val % 8 ≤ t.val / 32 % 16 / 2) (j : Fin 512) (d : Fin 128) :
    iblk m c 2 t (ix2 j d) = m ((c : Thread nD τ).loc main_arg2)
      (ix2 ⟨(pb t).val * 4096 + t.val % 8 % 8 * 512 + j.val, by omega⟩ ⟨10240 + (pg t).val * 128 + d.val, by omega⟩) := by
  have e := min_eq_left h
  blk_ext [iblk, V, idx t, e]

theorem iblk3_apply (c : Dev nD) (t : Fin cfg0.N) (h : t.val % 8 ≤ t.val / 32 % 16 / 2) (a : Fin 2) (x : Fin 128) (j : Fin 512) :
    iblk m c 3 t (ix5 0 a 0 x j) = m ((c : Thread nD τ).loc main_arg3)
      (ix5 (pb t) ⟨(pi t).val * 2 + a.val, by omega⟩ ⟨t.val % 8 % 8, by omega⟩ x j) := by
  have e := min_eq_left h
  blk_ext [iblk, V, idx t, e]

end Cert.KernelIdeal.Attn
-- ==== Proof.AttnState.lean ====
/- The masked attention: the state after each grid point, and what the result array holds. -/
module

public import proofs.«01_k».proof.Proof.AttnBlk

@[expose] public section

set_option maxRecDepth 16384

noncomputable section

open Idealize.ShloMosaic Idealize.ShloMosaic.TcCoe Idealize.SL.Sem
open Idealize.ShloMosaic.Pipeline (Dat)

namespace Cert.KernelIdeal.Attn
open Cert.KernelIdeal Cert.KernelIdeal.Gen

variable (m : (ℓ : Loc nD τ sig) → Buf (Elt Ideal) ℓ) (ρ : Dev nD → PrngReg)

/-- The scores of the query row `r` of a point's block. -/
abbrev sco (c : Dev nD) (t : Fin cfg0.N) (r : Fin 1024) : ℕ → Fin 512 → EReal :=
  scr (m ((c : Thread nD τ).loc main_arg0)) (m ((c : Thread nD τ).loc main_arg1)) (m ((c : Thread nD τ).loc main_arg3)) (pb t) (pi t) (pg t) r

/-- Lane `d` of the values of a point's head. -/
abbrev val (c : Dev nD) (t : Fin cfg0.N) (d : Fin 128) : ℕ → Fin 512 → EReal :=
  vals (m ((c : Thread nD τ).loc main_arg2)) (pb t) (pg t) d

/-- A state holds the first `n` key blocks' maximum, sum and weighted sum of every row. -/
def Holds (c : Dev nD) (t : Fin cfg0.N) (s : St Ideal) (n : ℕ) : Prop := ∀ r : Fin 1024,
  s.mx (ix2 r 0) = Online.mx (sco m c t r) n ∧ s.sm (ix2 r 0) = Online.sm (sco m c t r) n
    ∧ ∀ d : Fin 128, s.ac (ix2 r d) = Online.ac (sco m c t r) (val m c t d) n

theorem score_apply (c : Dev nD) (t : Fin cfg0.N) (h : t.val % 8 ≤ t.val / 32 % 16 / 2) (r : Fin 1024) (j : Fin 512) :
    k0_pay11 (F := Ideal) (iblk m c 0 t) (iblk m c 1 t) (iblk m c 3 t) (ix2 r j) = sco m c t r (t.val % 8) j := by
  rw [pay11_apply]
  simp only [iblk0_apply, iblk1_apply m c t h, iblk3_apply m c t h]
  rfl

theorem max_apply (c : Dev nD) (t : Fin cfg0.N) (h : t.val % 8 ≤ t.val / 32 % 16 / 2) (x : Vec Ideal S1024x1 .f32) (r : Fin 1024)
    (e : x (ix2 r 0) = Online.mx (sco m c t r) (t.val % 8)) :
    k0_pay12 (F := Ideal) (iblk m c 0 t) (iblk m c 1 t) (iblk m c 3 t) x (ix2 r 0) = Online.mx (sco m c t r) (t.val % 8 + 1) := by
  rw [pay12_apply, e]
  simp only [score_apply m c t h]
  rfl

/-- A visited block's update. -/
theorem upd_holds (c : Dev nD) (t : Fin cfg0.N) (h : t.val % 8 ≤ t.val / 32 % 16 / 2) (s : St Ideal) (hs : Holds m c t s (t.val % 8)) :
    Holds m c t (upd m c t s) (t.val % 8 + 1) := by
  intro r
  obtain ⟨e0, e1, e2⟩ := hs r
  have hm := max_apply m c t h s.mx r e0
  unfold upd
  rw [if_pos (by omega)]
  refine ⟨?_, ?_, fun d => ?_⟩
  · show nM (F := Ideal) _ _ _ _ _ = _
    unfold nM
    rw [pay5_apply, hm]
  · show nL (F := Ideal) _ _ _ _ _ _ = _
    rw [nL_apply, hm, e0, e1]
    simp only [score_apply m c t h]
    rfl
  · show nA (F := Ideal) _ _ _ _ _ _ _ = _
    rw [nA_apply, hm, e0, e2]
    simp only [score_apply m c t h, iblk2_apply m c t h]
    rfl

theorem ini_holds (c : Dev nD) (t : Fin cfg0.N) (h : t.val % 8 = 0) (s : St Ideal) : Holds m c t (ini t.val s) 0 := by
  intro r
  unfold ini
  rw [if_pos h]
  exact ⟨pay1_apply (ix2 r 0), pay2_apply (ix2 r 0), fun d => pay3_apply (ix2 r d)⟩

/-- The output's store changes nothing the state carries. -/
theorem fin_holds (c : Dev nD) (t : Fin cfg0.N) (n : ℕ) (s : St Ideal) (hs : Holds m c t s n) : Holds m c t (fin t.val s) n := by
  unfold fin
  split_ifs
  · exact hs
  · exact hs

theorem holds_congr (c : Dev nD) (t t' : Fin cfg0.N) (h : t.val / 8 = t'.val / 8) (n : ℕ) (s : St Ideal) (hs : Holds m c t s n) :
    Holds m c t' s n := by
  have e0 : pb t = pb t' := Fin.ext (by show t.val / 512 = t'.val / 512; omega)
  have e1 : pi t = pi t' := Fin.ext (by show t.val / 32 % 16 = t'.val / 32 % 16; omega)
  have e2 : pg t = pg t' := Fin.ext (by show t.val / 8 % 4 = t'.val / 8 % 4; omega)
  intro r
  have := hs r
  unfold sco val at this ⊢
  rw [e0, e1, e2] at this
  exact this

/-- A point's step, from the state before it. -/
theorem step_holds (c : Dev nD) (t : Fin cfg0.N) (s : St Ideal) (hs : t.val % 8 ≠ 0 → Holds m c t s (min (t.val % 8) (t.val / 32 % 16 / 2 + 1))) :
    Holds m c t (step m c t s) (min (t.val % 8 + 1) (t.val / 32 % 16 / 2 + 1)) := by
  unfold step
  refine fin_holds m c t _ _ ?_
  by_cases h : t.val % 8 ≤ t.val / 32 % 16 / 2
  · rw [min_eq_left (by omega)]
    refine upd_holds m c t h _ ?_
    by_cases h0 : t.val % 8 = 0
    · rw [h0]
      exact ini_holds m c t h0 s
    · have := hs h0
      rw [min_eq_left (by omega)] at this
      unfold ini
      rw [if_neg h0]
      exact this
  · rw [min_eq_right (by omega)]
    have h0 : t.val % 8 ≠ 0 := by omega
    have := hs h0
    rw [min_eq_right (by omega)] at this
    unfold upd ini
    rw [if_neg (by omega), if_neg h0]
    exact this

/-- After point `t` the state holds the blocks visited so far. -/
theorem stAt_holds (c : Dev nD) (n : ℕ) (hn : n < cfg0.N) :
    Holds m c ⟨n, hn⟩ (stAt m c n hn) (min (n % 8 + 1) (n / 32 % 16 / 2 + 1)) := by
  induction n with
  | zero => exact step_holds m c ⟨0, hn⟩ _ fun h => absurd rfl h
  | succ n ih =>
    refine step_holds m c ⟨n + 1, hn⟩ _ fun h => ?_
    have := ih (Nat.lt_of_succ_lt hn)
    have h' : (n + 1) % 8 ≠ 0 := h
    have e1 : n % 8 + 1 = (n + 1) % 8 := by omega
    have e2 : n / 32 = (n + 1) / 32 := by omega
    rw [e1, e2] at this
    exact holds_congr m c ⟨n, _⟩ ⟨n + 1, hn⟩ (by show n / 8 = (n + 1) / 8; omega) _ _ this

/-- From the last visited key block on, the output's buffer holds the quotient of the state. -/
theorem stAt_ob (c : Dev nD) (n : ℕ) (hn : n < cfg0.N) (h : n / 32 % 16 / 2 ≤ n % 8) :
    (stAt m c n hn).ob = heads (stAt m c n hn).ac (stAt m c n hn).sm := by
  induction n with
  | zero =>
    show (step m c ⟨0, hn⟩ _).ob = heads (step m c ⟨0, hn⟩ _).ac (step m c ⟨0, hn⟩ _).sm
    unfold step fin
    rw [if_pos (by dsimp only; omega)]
    exact nO_eq _ _
  | succ n ih =>
    show (step m c ⟨n + 1, hn⟩ (stAt m c n _)).ob = heads (step m c ⟨n + 1, hn⟩ (stAt m c n _)).ac (step m c ⟨n + 1, hn⟩ (stAt m c n _)).sm
    by_cases h2 : (n + 1) / 32 % 16 / 2 = (n + 1) % 8
    · unfold step fin
      rw [if_pos (by dsimp only; omega)]
      exact nO_eq _ _
    · have h3 : 1 ≤ (n + 1) % 8 := by omega
      have h4 : n / 32 = (n + 1) / 32 := by omega
      have h5 : n % 8 + 1 = (n + 1) % 8 := by omega
      have e := ih (Nat.lt_of_succ_lt hn) (by rw [h4]; omega)
      have es : step m c ⟨n + 1, hn⟩ (stAt m c n (Nat.lt_of_succ_lt hn)) = stAt m c n (Nat.lt_of_succ_lt hn) := by
        unfold step fin upd ini
        dsimp only
        rw [if_neg (by omega), if_neg (by omega), if_neg (by omega)]
      rw [es]
      exact e

/-! ## The result array -/

/-- What the result array holds: at position `row` and column `col`, the accumulated values of the row's visited key blocks divided
    by their accumulated weights. -/
def AT (c : Dev nD) : Vec Ideal S16384x2048 .bf16 := fun y =>
  have h0 : (y 0).val < 16384 := (y 0).isLt
  have h1 : (y 1).val < 2048 := (y 1).isLt
  let s := scr (m ((c : Thread nD τ).loc main_arg0)) (m ((c : Thread nD τ).loc main_arg1)) (m ((c : Thread nD τ).loc main_arg3))
    ⟨(y 0).val / 4096, by omega⟩ ⟨(y 0).val / 256 % 16, by omega⟩ ⟨(y 1).val / 512, by omega⟩
    ⟨(y 1).val % 512 / 128 * 256 + (y 0).val % 256, by omega⟩
  let n := (y 0).val / 256 % 16 / 2 + 1
  Ideal.div (Online.ac s (vals (m ((c : Thread nD τ).loc main_arg2)) ⟨(y 0).val / 4096, by omega⟩ ⟨(y 1).val / 512, by omega⟩
    ⟨(y 1).val % 128, by omega⟩) n) (Online.sm s n)

theorem final (c : Dev nD) : (dats m 0 c).arrAt 4 cfg0.N = AT m c := by
  refine (dats m 0 c).arrAt_eq_of_covers 4 _ (by decide +kernel) fun t hf y => ?_
  have h7 : t.val % 8 = 7 := (flush0_4 t).mp hf
  have ht := lt_N t
  blk_simp
  rw [after0_4, stAt_ob m c t.val t.isLt (by omega)]
  idx_vars y
  have e : ((View.whole main_v0).slice (win0_4.rect t)).emb (ix2 y0 y1)
      = ix2 ⟨(t.val / 512 * 16 + t.val / 32 % 16) * 256 + y0.val, by omega⟩ ⟨t.val / 8 % 4 * 512 + y1.val, by omega⟩ := by
    blk_ext [idx t]
  rw [e]
  obtain ⟨-, e1, e2⟩ := stAt_holds m c t.val t.isLt ⟨y1.val / 128 * 256 + y0.val, by omega⟩
  show Ideal.div ((stAt m c t.val t.isLt).ac (ix2 ⟨y1.val / 128 * 256 + y0.val, _⟩ ⟨y1.val % 128, _⟩))
    ((stAt m c t.val t.isLt).sm (ix2 ⟨y1.val / 128 * 256 + y0.val, _⟩ 0)) = _
  rw [e1, e2 ⟨y1.val % 128, by omega⟩, min_eq_right (by omega)]
  unfold AT sco val
  dsimp only
  have a1 : (⟨((t.val / 512 * 16 + t.val / 32 % 16) * 256 + y0.val) / 4096, by omega⟩ : Fin 4) = pb t := Fin.ext (by dsimp only; omega)
  have a2 : (⟨((t.val / 512 * 16 + t.val / 32 % 16) * 256 + y0.val) / 256 % 16, by omega⟩ : Fin 16) = pi t := Fin.ext (by dsimp only; omega)
  have a3 : (⟨(t.val / 8 % 4 * 512 + y1.val) / 512, by omega⟩ : Fin 4) = pg t := Fin.ext (by dsimp only; omega)
  have a4 : (⟨(t.val / 8 % 4 * 512 + y1.val) % 512 / 128 * 256 + ((t.val / 512 * 16 + t.val / 32 % 16) * 256 + y0.val) % 256, by omega⟩ : Fin 1024)
      = ⟨y1.val / 128 * 256 + y0.val, by omega⟩ := Fin.ext (by dsimp only; omega)
  have a5 : (⟨(t.val / 8 % 4 * 512 + y1.val) % 128, by omega⟩ : Fin 128) = ⟨y1.val % 128, by omega⟩ := Fin.ext (by dsimp only; omega)
  have a6 : ((t.val / 512 * 16 + t.val / 32 % 16) * 256 + y0.val) / 256 % 16 = t.val / 32 % 16 := by omega
  erw [a1, a2, a3, a4, a5, a6]

/-- The run, read: the result array at `AT`, the arguments unchanged. -/
theorem run : θ_run defs (onTc (τ := τ) (main (F := Ideal))) ⟨m, fun _ => 0, ρ⟩ fun r => ∀ c : Dev nD,
      r.2.mem ((c : Thread nD τ).loc main_v0) = AT m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨((h c).1 4).trans (final m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c)))⟩) (run_main m ρ)

end Cert.KernelIdeal.Attn
-- ==== Proof.Attn.lean ====
/- The attention call computes the reference's attention. -/
module

public import proofs.«01_k».proof.Defs
public import proofs.«01_k».proof.Proof.AttnPre
public import proofs.«01_k».proof.Proof.AttnRef
public import proofs.«01_k».proof.Proof.AttnState
public import proofs.«01_k».proof.Proof.Online

@[expose] public section

noncomputable section

namespace Cert.Proof.Attn

open Idealize.ShloMosaic
open Cert.KernelIdeal.Attn (scr vals AT)
open Cert.ReferenceIdeal.Attn (S)
open Cert.Pre_scores_defined.Attn (Reads)

section Cell

variable (q : FVec Ideal Cert.KernelIdeal.S4x16x4096x128 .bf16) (k : FVec Ideal Cert.KernelIdeal.S16384x512 .bf16)
  (za : FVec Ideal Cert.KernelIdeal.S16384x10752 .bf16) (bias : FVec Ideal Cert.KernelIdeal.S4x32x8x128x512 .f32)

theorem mul_fin {x y : EReal} (hx : x ≠ ⊥) (hx' : x ≠ ⊤) (hy : y ≠ ⊥) (hy' : y ≠ ⊤) : x * y ≠ ⊥ ∧ x * y ≠ ⊤ := by
  lift x to ℝ using ⟨hx', hx⟩
  lift y to ℝ using ⟨hy', hy⟩
  rw [← EReal.coe_mul]
  exact ⟨EReal.coe_ne_bot _, EReal.coe_ne_top _⟩

theorem sum_fin {ι : Type} [Fintype ι] (f : ι → EReal) (h : ∀ i, f i ≠ ⊥ ∧ f i ≠ ⊤) : ∑ i, f i ≠ ⊥ ∧ ∑ i, f i ≠ ⊤ := by
  refine Finset.sum_induction f (fun x => x ≠ ⊥ ∧ x ≠ ⊤) (fun x y hx hy => ?_) ⟨EReal.zero_ne_bot, EReal.zero_ne_top⟩ fun i _ => h i
  obtain ⟨hx, hx'⟩ := hx
  obtain ⟨hy, hy'⟩ := hy
  lift x to ℝ using ⟨hx', hx⟩
  lift y to ℝ using ⟨hy', hy⟩
  rw [← EReal.coe_add]
  exact ⟨EReal.coe_ne_bot _, EReal.coe_ne_top _⟩

variable (H : Reads q k bias) (b : Fin 4) (i : Fin 16) (g h : Fin 4) (x : Fin 256)

include H in
theorem dot_fin (r : Fin 4096) (rr : Fin 16384) (cc : Fin 128 → Fin 512) :
    ∑ d : Fin 128, (q (ix4 b i r d) : EReal) * k (ix2 rr (cc d)) ≠ ⊥ ∧ ∑ d : Fin 128, (q (ix4 b i r d) : EReal) * k (ix2 rr (cc d)) ≠ ⊤ :=
  sum_fin _ fun d => mul_fin (H.q_bot _) (H.q_top _) (H.k_bot _) (H.k_top _)

include H in
theorem scr_lt (rr : Fin 1024) (c : ℕ) (j : Fin 512) : scr q k bias b i g rr c j < ⊤ := by
  unfold scr
  exact EReal.add_lt_top (dot_fin q k bias H b i _ _ _).2 (H.lt _).ne

include H in
theorem scr_bot (rr : Fin 1024) (c : ℕ) (hc : c < 8) (j : Fin 512) (hm : i.val * 256 + rr.val % 256 < c * 512 + j.val) :
    scr q k bias b i g rr c j = ⊥ := by
  unfold scr
  rw [H.mask b ⟨i.val * 2 + rr.val % 256 / 128, _⟩ ⟨c % 8, _⟩ ⟨rr.val % 256 % 128, _⟩ j (by dsimp only; omega), EReal.add_bot]

include H in
theorem S_eq (c : ℕ) (hc : c < 8) (j : Fin 512) (hk : c * 512 + j.val < 4096) :
    S q k bias b ⟨i.val * 256 + x.val, by omega⟩ g h ⟨c * 512 + j.val, hk⟩ = scr q k bias b i g ⟨h.val * 256 + x.val, by omega⟩ c j := by
  by_cases hm : c * 512 + j.val ≤ i.val * 256 + x.val
  · unfold S scr
    rw [if_pos (by dsimp only; omega)]
    refine congrArg₂ (· + ·) ?_ ?_
    · refine Finset.sum_congr rfl fun d _ => ?_
      rw [mul_comm]
      refine congrArg₂ (· * ·) (congrArg q (congrArg₂ (fun a b' => ix4 b a b' d) (Fin.ext ?_) (Fin.ext ?_)))
        (congrArg k (congrArg₂ ix2 (Fin.ext ?_) rfl)) <;> dsimp only <;> omega
    · refine congrArg bias ?_
      have e1 : (⟨(i.val * 256 + x.val) / 128, by omega⟩ : Fin 32) = ⟨i.val * 2 + (h.val * 256 + x.val) % 256 / 128, by omega⟩ := Fin.ext (by dsimp only; omega)
      have e2 : (⟨(c * 512 + j.val) / 512, by omega⟩ : Fin 8) = ⟨c % 8, by omega⟩ := Fin.ext (by dsimp only; omega)
      have e3 : (⟨(i.val * 256 + x.val) % 128, by omega⟩ : Fin 128) = ⟨(h.val * 256 + x.val) % 256 % 128, by omega⟩ := Fin.ext (by dsimp only; omega)
      have e4 : (⟨(c * 512 + j.val) % 512, by omega⟩ : Fin 512) = j := Fin.ext (by dsimp only; omega)
      rw [e1, e2, e3, e4]
  · rw [scr_bot q k bias H b i g _ c hc j (by dsimp only; omega)]
    unfold S
    rw [if_neg (by dsimp only; omega)]

include H in
theorem cell (d : Fin 128) :
    Ideal.div (Online.ac (scr q k bias b i g ⟨h.val * 256 + x.val, by omega⟩) (vals za b g d) (i.val / 2 + 1))
        (Online.sm (scr q k bias b i g ⟨h.val * 256 + x.val, by omega⟩) (i.val / 2 + 1))
      = ∑ kk : Fin 4096, za (ix2 ⟨b.val * 4096 + kk.val, by omega⟩ ⟨10240 + (g.val * 128 + d.val), by omega⟩)
          * Ideal.div (Ideal.exp (S q k bias b ⟨i.val * 256 + x.val, by omega⟩ g h kk - Finset.univ.sup (S q k bias b ⟨i.val * 256 + x.val, by omega⟩ g h)))
              (∑ k' : Fin 4096, Ideal.exp (S q k bias b ⟨i.val * 256 + x.val, by omega⟩ g h k' - Finset.univ.sup (S q k bias b ⟨i.val * 256 + x.val, by omega⟩ g h))) := by
  refine Online.attention_of_eq (B := 8) (J := 512) (N := 4096) _ _ rfl (S q k bias b ⟨i.val * 256 + x.val, by omega⟩ g h)
    (fun kk => za (ix2 ⟨b.val * 4096 + kk.val, by omega⟩ ⟨10240 + (g.val * 128 + d.val), by omega⟩)) ?_ ?_ ?_ ?_ (by omega) ?_
  · exact fun c hc j hk => S_eq q k bias H b i g h x c hc j hk
  · intro c hc j hk
    unfold vals
    refine congrArg za (congrArg₂ ix2 (Fin.ext ?_) (Fin.ext ?_)) <;> dsimp only <;> omega
  · exact fun c j => scr_lt q k bias H b i g _ c j
  · obtain ⟨c, j, hb⟩ := H.sel b ⟨i.val * 2 + (h.val * 256 + x.val) % 256 / 128, by omega⟩ ⟨(h.val * 256 + x.val) % 256 % 128, by omega⟩
    refine ⟨⟨c.val * 512 + j.val, by omega⟩, ?_⟩
    rw [S_eq q k bias H b i g h x c.val c.isLt j (by omega)]
    unfold scr
    have e : (⟨c.val % 8, by omega⟩ : Fin 8) = c := Fin.ext (by dsimp only; omega)
    rw [e]
    intro hbot
    rcases EReal.add_eq_bot_iff.1 hbot with hh | hh
    · exact (dot_fin q k bias H b i _ _ _).1 hh
    · exact hb hh
  · intro c h1 h2 j
    exact scr_bot q k bias H b i g _ c h2 j (by dsimp only; omega)

end Cell

/-- At `Ideal` the kernel's result array and the reference's agree, where the scores are defined. -/
theorem algebraic : Cert.algebraic_KernelIdeal_ReferenceIdeal_pre_scores_defined := by
  intro m g m' g' hp hag
  refine ⟨fun c => AT m c, Cert.KernelIdeal.Attn.run m g, ?_⟩
  refine (θ_run _ _ _).mono (fun r h c => ⟨?_, (h c).2⟩) (Cert.ReferenceIdeal.Value.run (F := Ideal) m' g')
  obtain ⟨e0, e1, e2, e3⟩ := hag c
  refine (h c).1.trans ((Cert.ReferenceIdeal.Read.val_main_v39_eq _ _).trans ?_)
  rw [e0, e1, e2, e3]
  have H := Cert.Pre_scores_defined.Attn.reads _ _ _ _ (hp c)
  funext y
  idx_vars y
  rw [Cert.ReferenceIdeal.Attn.v39_apply]
  have h0 := y0.isLt
  have h1 := y1.isLt
  have e := cell _ _ (m ((c.tc : Thread Cert.KernelIdeal.nD Cert.KernelIdeal.τ).loc Cert.KernelIdeal.main_arg2)) _ H
    ⟨y0.val / 4096, by omega⟩ ⟨y0.val / 256 % 16, by omega⟩ ⟨y1.val / 512, by omega⟩ ⟨y1.val / 128 % 4, by omega⟩ ⟨y0.val % 256, by omega⟩ ⟨y1.val % 128, by omega⟩
  have a1 : (⟨y0.val / 256 % 16 * 256 + y0.val % 256, by omega⟩ : Fin 4096) = ⟨y0.val % 4096, by omega⟩ := Fin.ext (by dsimp only; omega)
  have a2 : (⟨y1.val / 128 % 4 * 256 + y0.val % 256, by omega⟩ : Fin 1024) = ⟨y1.val % 512 / 128 * 256 + y0.val % 256, by omega⟩ := Fin.ext (by dsimp only; omega)
  rw [a1, a2] at e
  exact e.symm

end Cert.Proof.Attn

end
-- ==== Proof.UpKRuns.lean ====
/- The experts' gate and up projections: the body at a used tile. -/
module

public import proofs.«01_k».proof.Proof.Gen.KernelUp.Skeleton
public import proofs.«01_k».proof.Proof.Gen.KernelUp.Launch
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.BitExact
public import Idealize.ShloMosaic.Adequacy
public import Idealize.ShloMosaic.Init

@[expose] public section

set_option maxRecDepth 16384
set_option Elab.async false

noncomputable section

namespace Cert.KernelUp.Exp

open Cert.KernelUp Cert.KernelUp.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The type of states' assertions. -/
local notation "𝕄" => MT nD τ sig Unit (Elt Bits) ℕ (UR sig nD τ) ℕ

/-- The tables and the scratches, whole. -/
abbrev tbM0_0 : Memref sig .tc .smem S288 .i32 := Memref.whole main_arg0
abbrev tbM0_1 : Memref sig .tc .smem S1 .i32 := Memref.whole main_arg1
abbrev scM0_0 : Memref sig .tc .vmem S2048x512 .bf16 := Memref.whole cc0_scratch0
abbrev scM0_1 : Memref sig .tc .vmem S2048x512 .bf16 := Memref.whole cc0_scratch1

/-- The test of the first tile or of a new expert. -/
abbrev newExpert (T0 : S288.Idx → BitVec 32) (i : grid0.Coords) : Prop := (Scalar.cmpi .ne (Scalar.extui (Scalar.ori (Scalar.cmpi .eq (BitVec.ofNat 32 (i 1).val) 0#32) (Scalar.cmpi .ne (View.readAt (Elt Bits) (tbM0_0).view (Rect.unit (s := S288) (k0_off2 i) S1.size (k0_off2_inb i)).toLoadRect T0 (Shape.Idx.first (numel1_S1.symm ▸ Nat.one_pos))) (View.readAt (Elt Bits) (tbM0_0).view (Rect.unit (s := S288) (k0_off3 i) S1.size (k0_off3_inb i)).toLoadRect T0 (Shape.Idx.first (numel1_S1.symm ▸ Nat.one_pos)))))) 0#32) = 1#1

/-! ## The body at a used tile -/

/-- One buffer of the output's window, through which its contents are stated. -/
abbrev VO0_5 : View sig .tc .vmem S256x512 .bf16 := (Memref.whole cc0_stg5_0 : Memref sig .tc .vmem S256x512 .bf16).view

set_option backward.proofsInPublic true in
set_option maxHeartbeats 8000000 in
/-- A used tile of a new expert: what the body leaves in the output's block and in the two scratches, with the run that leaves it. -/
noncomputable def kernelRun0_A (c : Dev nD) (i : grid0.Coords) (arg4 : Memref sig .tc .vmem S256x2048 .bf16) (harg4 : arg4.IsWhole) (arg5 : Memref sig .tc .vmem S1x2048x512 .f32) (harg5 : arg5.IsWhole) (arg6 : Memref sig .tc .vmem S1x2048x512 .f32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S256x512 .bf16) (harg9 : arg9.IsWhole) (T0 : (S288.Idx → Elt Bits .i32)) (T1 : (S1.Idx → Elt Bits .i32))
     (x0 : (S256x2048.Idx → Elt Bits .bf16)) (x1 : (S1x2048x512.Idx → Elt Bits .f32)) (x2 : (S1x2048x512.Idx → Elt Bits .f32)) (x3 : (S1x1x512.Idx → Elt Bits .f32)) (x4 : (S1x1x512.Idx → Elt Bits .f32)) (k0_h1 : k0_cond1 i (View.readAt (Elt Bits) (tbM0_1).view (Rect.unit (s := S1) ![0] S1.size inb_S1_S1_0).toLoadRect T1 (Shape.Idx.first (numel1_S1.symm ▸ Nat.one_pos))) = 1#1) (hc1 : newExpert T0 i) :
    Σ' (out0 : List (View.Piece (Elt Bits) S256x512 .bf16)) (out1 : Buf (Elt Bits) ((c : Thread nD τ).loc cc0_scratch0)), { out2 : Buf (Elt Bits) ((c : Thread nD τ).loc cc0_scratch1) //
      ∀ (xa0 : Buf (Elt Bits) ((c : Thread nD τ).loc cc0_scratch0)) (xa1 : Buf (Elt Bits) ((c : Thread nD τ).loc cc0_scratch1)) (K : PUnit → sProp 𝕄),
        iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (arg7.view.loc (c : Thread nD τ) ↦[arg7.view.set]{fullShare} arg7.view.rep x3)
          ∗ (arg8.view.loc (c : Thread nD τ) ↦[arg8.view.set]{fullShare} arg8.view.rep x4)
          ∗ (tbM0_0.view.loc (c : Thread nD τ) ↦{fullShare.right} T0)
          ∗ (tbM0_1.view.loc (c : Thread nD τ) ↦{fullShare.right} T1)
          ∗ (∃ d, owns (c : Thread nD τ) arg9 fullShare d)
          ∗ (scM0_0.view.loc (c : Thread nD τ) ↦{fullShare} xa0)
          ∗ (scM0_1.view.loc (c : Thread nD τ) ↦{fullShare} xa1)
          ∗ (iprop((arg4.view.loc (c : Thread nD τ) ↦[arg4.view.set]{fullShare} arg4.view.rep x0)
              ∗ (arg5.view.loc (c : Thread nD τ) ↦[arg5.view.set]{fullShare} arg5.view.rep x1)
              ∗ (arg6.view.loc (c : Thread nD τ) ↦[arg6.view.set]{fullShare} arg6.view.rep x2)
              ∗ (arg7.view.loc (c : Thread nD τ) ↦[arg7.view.set]{fullShare} arg7.view.rep x3)
              ∗ (arg8.view.loc (c : Thread nD τ) ↦[arg8.view.set]{fullShare} arg8.view.rep x4)
              ∗ (tbM0_0.view.loc (c : Thread nD τ) ↦{fullShare.right} T0)
              ∗ (tbM0_1.view.loc (c : Thread nD τ) ↦{fullShare.right} T1)
              ∗ (∃ f, arg9.view.loc (c : Thread nD τ) ↦[arg9.view.set]{fullShare} arg9.view.writes (Elt Bits) f out0)
              ∗ (scM0_0.view.loc (c : Thread nD τ) ↦{fullShare} out1)
              ∗ (scM0_1.view.loc (c : Thread nD τ) ↦{fullShare} out2)) -∗ K ⟨⟩))
          ⊢ wp frame (wpE (defs₀ (F := Bits)) Variants.none c none) Set.univ (cc0_expert_gate_up i tbM0_0 (Memref.isWhole_whole _) tbM0_1 (Memref.isWhole_whole _) arg4 harg4 arg5 harg5 arg6 harg6 arg7 harg7 arg8 harg8 arg9 harg9 scM0_0 (Memref.isWhole_whole _) scM0_1 (Memref.isWhole_whole _)) K } :=
  ⟨_, _, _, fun (xa0 : Buf (Elt Bits) ((c : Thread nD τ).loc cc0_scratch0)) (xa1 : Buf (Elt Bits) ((c : Thread nD τ).loc cc0_scratch1)) K => by
    unfold owns
    rw [cc0_expert_gate_up_eq_skeleton]; unfold cc0_expert_gate_up_skel
    iintro ⟨H0, H1, H2, H3, H4, HT0, HT1, ⟨%d5, %f5, -, HO5⟩, HS0, HS1, Hk⟩
    have hS0 : scM0_0.IsWhole := Memref.isWhole_whole _
    have hS1 : scM0_1.IsWhole := Memref.isWhole_whole _
    have hT0 : tbM0_0.IsWhole := Memref.isWhole_whole _
    have hT1 : tbM0_1.IsWhole := Memref.isWhole_whole _
    sl_exec! (disch := first | (guard_target = k0_cond1 _ _ = _; exact k0_h1) | (guard_target = Scalar.cmpi = _; exact hc1))
    sl_step
    iapply Hk
    isplitl [H0]; · iexact H0
    isplitl [H1]; · iexact H1
    isplitl [H2]; · iexact H2
    isplitl [H3]; · iexact H3
    isplitl [H4]; · iexact H4
    isplitl [HT0]; · iexact HT0
    isplitl [HT1]; · iexact HT1
    isplitl [HO5]; · iexists _; iexact HO5
    isplitl [HS0]; · iexact HS0
    iexact HS1⟩

/-- The stores cover the output's block. -/
theorem cover0_A_5 (c : Dev nD) (i : grid0.Coords) (arg4 : Memref sig .tc .vmem S256x2048 .bf16) (harg4 : arg4.IsWhole) (arg5 : Memref sig .tc .vmem S1x2048x512 .f32) (harg5 : arg5.IsWhole) (arg6 : Memref sig .tc .vmem S1x2048x512 .f32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S256x512 .bf16) (harg9 : arg9.IsWhole) (T0 : (S288.Idx → Elt Bits .i32)) (T1 : (S1.Idx → Elt Bits .i32))
     (x0 : (S256x2048.Idx → Elt Bits .bf16)) (x1 : (S1x2048x512.Idx → Elt Bits .f32)) (x2 : (S1x2048x512.Idx → Elt Bits .f32)) (x3 : (S1x1x512.Idx → Elt Bits .f32)) (x4 : (S1x1x512.Idx → Elt Bits .f32)) (k0_h1 : k0_cond1 i (View.readAt (Elt Bits) (tbM0_1).view (Rect.unit (s := S1) ![0] S1.size inb_S1_S1_0).toLoadRect T1 (Shape.Idx.first (numel1_S1.symm ▸ Nat.one_pos))) = 1#1) (hc1 : newExpert T0 i) (y : S256x512.Idx) :
    ∃ pc ∈ (kernelRun0_A c i arg4 harg4 arg5 harg5 arg6 harg6 arg7 harg7 arg8 harg8 arg9 harg9 T0 T1 x0 x1 x2 x3 x4 k0_h1 hc1).1, y ∈ pc.1.set :=
  View.cover_of_tiledL (kernelRun0_A c i arg4 harg4 arg5 harg5 arg6 harg6 arg7 harg7 arg8 harg8 arg9 harg9 T0 T1 x0 x1 x2 x3 x4 k0_h1 hc1).1 S256x512.size (by sl_kernel_rfl) y

/-- What is left in the output's block. -/
def out0_A_5 (c : Dev nD) (i : grid0.Coords) (arg4 : Memref sig .tc .vmem S256x2048 .bf16) (harg4 : arg4.IsWhole) (arg5 : Memref sig .tc .vmem S1x2048x512 .f32) (harg5 : arg5.IsWhole) (arg6 : Memref sig .tc .vmem S1x2048x512 .f32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S256x512 .bf16) (harg9 : arg9.IsWhole) (T0 : (S288.Idx → Elt Bits .i32)) (T1 : (S1.Idx → Elt Bits .i32))
     (x0 : (S256x2048.Idx → Elt Bits .bf16)) (x1 : (S1x2048x512.Idx → Elt Bits .f32)) (x2 : (S1x2048x512.Idx → Elt Bits .f32)) (x3 : (S1x1x512.Idx → Elt Bits .f32)) (x4 : (S1x1x512.Idx → Elt Bits .f32)) (k0_h1 : k0_cond1 i (View.readAt (Elt Bits) (tbM0_1).view (Rect.unit (s := S1) ![0] S1.size inb_S1_S1_0).toLoadRect T1 (Shape.Idx.first (numel1_S1.symm ▸ Nat.one_pos))) = 1#1) (hc1 : newExpert T0 i) : (S256x512.Idx → Elt Bits .bf16) :=
  VO0_5.read (Elt Bits) (VO0_5.writes (Elt Bits) VO0_5.junk (kernelRun0_A c i arg4 harg4 arg5 harg5 arg6 harg6 arg7 harg7 arg8 harg8 arg9 harg9 T0 T1 x0 x1 x2 x3 x4 k0_h1 hc1).1)

set_option backward.proofsInPublic true in
set_option maxHeartbeats 8000000 in
/-- A used tile of the same expert as before: what the body leaves in the output's block and in the two scratches, with the run. -/
noncomputable def kernelRun0_B (c : Dev nD) (i : grid0.Coords) (arg4 : Memref sig .tc .vmem S256x2048 .bf16) (harg4 : arg4.IsWhole) (arg5 : Memref sig .tc .vmem S1x2048x512 .f32) (harg5 : arg5.IsWhole) (arg6 : Memref sig .tc .vmem S1x2048x512 .f32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S256x512 .bf16) (harg9 : arg9.IsWhole) (T0 : (S288.Idx → Elt Bits .i32)) (T1 : (S1.Idx → Elt Bits .i32))
     (x0 : (S256x2048.Idx → Elt Bits .bf16)) (x1 : (S1x2048x512.Idx → Elt Bits .f32)) (x2 : (S1x2048x512.Idx → Elt Bits .f32)) (x3 : (S1x1x512.Idx → Elt Bits .f32)) (x4 : (S1x1x512.Idx → Elt Bits .f32)) (xa0 : Buf (Elt Bits) ((c : Thread nD τ).loc cc0_scratch0)) (xa1 : Buf (Elt Bits) ((c : Thread nD τ).loc cc0_scratch1)) (k0_h1 : k0_cond1 i (View.readAt (Elt Bits) (tbM0_1).view (Rect.unit (s := S1) ![0] S1.size inb_S1_S1_0).toLoadRect T1 (Shape.Idx.first (numel1_S1.symm ▸ Nat.one_pos))) = 1#1) (hc1 : ¬ newExpert T0 i) :
    Σ' (out0 : List (View.Piece (Elt Bits) S256x512 .bf16)) (out1 : Buf (Elt Bits) ((c : Thread nD τ).loc cc0_scratch0)), { out2 : Buf (Elt Bits) ((c : Thread nD τ).loc cc0_scratch1) //
      ∀ (K : PUnit → sProp 𝕄),
        iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (arg7.view.loc (c : Thread nD τ) ↦[arg7.view.set]{fullShare} arg7.view.rep x3)
          ∗ (arg8.view.loc (c : Thread nD τ) ↦[arg8.view.set]{fullShare} arg8.view.rep x4)
          ∗ (tbM0_0.view.loc (c : Thread nD τ) ↦{fullShare.right} T0)
          ∗ (tbM0_1.view.loc (c : Thread nD τ) ↦{fullShare.right} T1)
          ∗ (∃ d, owns (c : Thread nD τ) arg9 fullShare d)
          ∗ (scM0_0.view.loc (c : Thread nD τ) ↦{fullShare} xa0)
          ∗ (scM0_1.view.loc (c : Thread nD τ) ↦{fullShare} xa1)
          ∗ (iprop((arg4.view.loc (c : Thread nD τ) ↦[arg4.view.set]{fullShare} arg4.view.rep x0)
              ∗ (arg5.view.loc (c : Thread nD τ) ↦[arg5.view.set]{fullShare} arg5.view.rep x1)
              ∗ (arg6.view.loc (c : Thread nD τ) ↦[arg6.view.set]{fullShare} arg6.view.rep x2)
              ∗ (arg7.view.loc (c : Thread nD τ) ↦[arg7.view.set]{fullShare} arg7.view.rep x3)
              ∗ (arg8.view.loc (c : Thread nD τ) ↦[arg8.view.set]{fullShare} arg8.view.rep x4)
              ∗ (tbM0_0.view.loc (c : Thread nD τ) ↦{fullShare.right} T0)
              ∗ (tbM0_1.view.loc (c : Thread nD τ) ↦{fullShare.right} T1)
              ∗ (∃ f, arg9.view.loc (c : Thread nD τ) ↦[arg9.view.set]{fullShare} arg9.view.writes (Elt Bits) f out0)
              ∗ (scM0_0.view.loc (c : Thread nD τ) ↦{fullShare} out1)
              ∗ (scM0_1.view.loc (c : Thread nD τ) ↦{fullShare} out2)) -∗ K ⟨⟩))
          ⊢ wp frame (wpE (defs₀ (F := Bits)) Variants.none c none) Set.univ (cc0_expert_gate_up i tbM0_0 (Memref.isWhole_whole _) tbM0_1 (Memref.isWhole_whole _) arg4 harg4 arg5 harg5 arg6 harg6 arg7 harg7 arg8 harg8 arg9 harg9 scM0_0 (Memref.isWhole_whole _) scM0_1 (Memref.isWhole_whole _)) K } :=
  ⟨_, _, _, fun K => by
    unfold owns
    rw [cc0_expert_gate_up_eq_skeleton]; unfold cc0_expert_gate_up_skel
    iintro ⟨H0, H1, H2, H3, H4, HT0, HT1, ⟨%d5, %f5, -, HO5⟩, HS0, HS1, Hk⟩
    have hS0 : scM0_0.IsWhole := Memref.isWhole_whole _
    have hS1 : scM0_1.IsWhole := Memref.isWhole_whole _
    have hT0 : tbM0_0.IsWhole := Memref.isWhole_whole _
    have hT1 : tbM0_1.IsWhole := Memref.isWhole_whole _
    sl_exec! (disch := first | (guard_target = k0_cond1 _ _ = _; exact k0_h1) | (guard_target = ¬(Scalar.cmpi = _); exact hc1))
    sl_step
    iapply Hk
    isplitl [H0]; · iexact H0
    isplitl [H1]; · iexact H1
    isplitl [H2]; · iexact H2
    isplitl [H3]; · iexact H3
    isplitl [H4]; · iexact H4
    isplitl [HT0]; · iexact HT0
    isplitl [HT1]; · iexact HT1
    isplitl [HO5]; · iexists _; iexact HO5
    isplitl [HS0]; · iexact HS0
    iexact HS1⟩

/-- The stores cover the output's block. -/
theorem cover0_B_5 (c : Dev nD) (i : grid0.Coords) (arg4 : Memref sig .tc .vmem S256x2048 .bf16) (harg4 : arg4.IsWhole) (arg5 : Memref sig .tc .vmem S1x2048x512 .f32) (harg5 : arg5.IsWhole) (arg6 : Memref sig .tc .vmem S1x2048x512 .f32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S256x512 .bf16) (harg9 : arg9.IsWhole) (T0 : (S288.Idx → Elt Bits .i32)) (T1 : (S1.Idx → Elt Bits .i32))
     (x0 : (S256x2048.Idx → Elt Bits .bf16)) (x1 : (S1x2048x512.Idx → Elt Bits .f32)) (x2 : (S1x2048x512.Idx → Elt Bits .f32)) (x3 : (S1x1x512.Idx → Elt Bits .f32)) (x4 : (S1x1x512.Idx → Elt Bits .f32)) (xa0 : Buf (Elt Bits) ((c : Thread nD τ).loc cc0_scratch0)) (xa1 : Buf (Elt Bits) ((c : Thread nD τ).loc cc0_scratch1)) (k0_h1 : k0_cond1 i (View.readAt (Elt Bits) (tbM0_1).view (Rect.unit (s := S1) ![0] S1.size inb_S1_S1_0).toLoadRect T1 (Shape.Idx.first (numel1_S1.symm ▸ Nat.one_pos))) = 1#1) (hc1 : ¬ newExpert T0 i) (y : S256x512.Idx) :
    ∃ pc ∈ (kernelRun0_B c i arg4 harg4 arg5 harg5 arg6 harg6 arg7 harg7 arg8 harg8 arg9 harg9 T0 T1 x0 x1 x2 x3 x4 xa0 xa1 k0_h1 hc1).1, y ∈ pc.1.set :=
  View.cover_of_tiledL (kernelRun0_B c i arg4 harg4 arg5 harg5 arg6 harg6 arg7 harg7 arg8 harg8 arg9 harg9 T0 T1 x0 x1 x2 x3 x4 xa0 xa1 k0_h1 hc1).1 S256x512.size (by sl_kernel_rfl) y

/-- What is left in the output's block. -/
def out0_B_5 (c : Dev nD) (i : grid0.Coords) (arg4 : Memref sig .tc .vmem S256x2048 .bf16) (harg4 : arg4.IsWhole) (arg5 : Memref sig .tc .vmem S1x2048x512 .f32) (harg5 : arg5.IsWhole) (arg6 : Memref sig .tc .vmem S1x2048x512 .f32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S256x512 .bf16) (harg9 : arg9.IsWhole) (T0 : (S288.Idx → Elt Bits .i32)) (T1 : (S1.Idx → Elt Bits .i32))
     (x0 : (S256x2048.Idx → Elt Bits .bf16)) (x1 : (S1x2048x512.Idx → Elt Bits .f32)) (x2 : (S1x2048x512.Idx → Elt Bits .f32)) (x3 : (S1x1x512.Idx → Elt Bits .f32)) (x4 : (S1x1x512.Idx → Elt Bits .f32)) (xa0 : Buf (Elt Bits) ((c : Thread nD τ).loc cc0_scratch0)) (xa1 : Buf (Elt Bits) ((c : Thread nD τ).loc cc0_scratch1)) (k0_h1 : k0_cond1 i (View.readAt (Elt Bits) (tbM0_1).view (Rect.unit (s := S1) ![0] S1.size inb_S1_S1_0).toLoadRect T1 (Shape.Idx.first (numel1_S1.symm ▸ Nat.one_pos))) = 1#1) (hc1 : ¬ newExpert T0 i) : (S256x512.Idx → Elt Bits .bf16) :=
  VO0_5.read (Elt Bits) (VO0_5.writes (Elt Bits) VO0_5.junk (kernelRun0_B c i arg4 harg4 arg5 harg5 arg6 harg6 arg7 harg7 arg8 harg8 arg9 harg9 T0 T1 x0 x1 x2 x3 x4 xa0 xa1 k0_h1 hc1).1)

end Cert.KernelUp.Exp

end
-- ==== Proof.UpKPaths.lean ====
/- The experts' gate and up projections: the launch at any admissible tables, and what it leaves. -/
module

public import proofs.«01_k».proof.Proof.UpKTab

@[expose] public section

set_option maxRecDepth 16384
set_option Elab.async false

noncomputable section

namespace Cert.KernelUp.Exp

open Cert.KernelUp Cert.KernelUp.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The type of states' assertions. -/
local notation "𝕄" => MT nD τ sig Unit (Elt Bits) ℕ (UR sig nD τ) ℕ

/-- The resource algebra's embedding. -/
abbrev EP : Emb (UR sig nD τ) 𝕄 := emb₁

/-! ## The paths' values -/

theorem out_A (c : Dev nD) (i : grid0.Coords) (arg4 : Memref sig .tc .vmem S256x2048 .bf16) (harg4 : arg4.IsWhole) (arg5 : Memref sig .tc .vmem S1x2048x512 .f32) (harg5 : arg5.IsWhole) (arg6 : Memref sig .tc .vmem S1x2048x512 .f32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S256x512 .bf16) (harg9 : arg9.IsWhole) (T0 : (S288.Idx → Elt Bits .i32)) (T1 : (S1.Idx → Elt Bits .i32)) (x0 : (S256x2048.Idx → Elt Bits .bf16)) (x1 : (S1x2048x512.Idx → Elt Bits .f32)) (x2 : (S1x2048x512.Idx → Elt Bits .f32)) (x3 : (S1x1x512.Idx → Elt Bits .f32)) (x4 : (S1x1x512.Idx → Elt Bits .f32)) (k0_h1 : k0_cond1 i (View.readAt (Elt Bits) (tbM0_1).view (Rect.unit (s := S1) ![0] S1.size inb_S1_S1_0).toLoadRect T1 (Shape.Idx.first (numel1_S1.symm ▸ Nat.one_pos))) = 1#1) (hc1 : newExpert T0 i) :
    out0_A_5 c i arg4 harg4 arg5 harg5 arg6 harg6 arg7 harg7 arg8 harg8 arg9 harg9 T0 T1 x0 x1 x2 x3 x4 k0_h1 hc1 = k0_pay1 (k0_pay4 x0 (k0_pay3 x2) x4) (k0_pay5 x0 (k0_pay2 x1) x3) := by
  unfold out0_A_5
  frame_out
  rw [View.read_rep, View.read_rep, View.read_rep, View.read_rep, View.read_rep]

theorem out_B (c : Dev nD) (i : grid0.Coords) (arg4 : Memref sig .tc .vmem S256x2048 .bf16) (harg4 : arg4.IsWhole) (arg5 : Memref sig .tc .vmem S1x2048x512 .f32) (harg5 : arg5.IsWhole) (arg6 : Memref sig .tc .vmem S1x2048x512 .f32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S256x512 .bf16) (harg9 : arg9.IsWhole) (T0 : (S288.Idx → Elt Bits .i32)) (T1 : (S1.Idx → Elt Bits .i32)) (x0 : (S256x2048.Idx → Elt Bits .bf16)) (x1 : (S1x2048x512.Idx → Elt Bits .f32)) (x2 : (S1x2048x512.Idx → Elt Bits .f32)) (x3 : (S1x1x512.Idx → Elt Bits .f32)) (x4 : (S1x1x512.Idx → Elt Bits .f32)) (xa0 : Buf (Elt Bits) ((c : Thread nD τ).loc cc0_scratch0)) (xa1 : Buf (Elt Bits) ((c : Thread nD τ).loc cc0_scratch1)) (k0_h1 : k0_cond1 i (View.readAt (Elt Bits) (tbM0_1).view (Rect.unit (s := S1) ![0] S1.size inb_S1_S1_0).toLoadRect T1 (Shape.Idx.first (numel1_S1.symm ▸ Nat.one_pos))) = 1#1) (hc1 : ¬ newExpert T0 i) :
    out0_B_5 c i arg4 harg4 arg5 harg5 arg6 harg6 arg7 harg7 arg8 harg8 arg9 harg9 T0 T1 x0 x1 x2 x3 x4 xa0 xa1 k0_h1 hc1 = k0_pay1 (k0_pay4 x0 xa1 x4) (k0_pay5 x0 xa0 x3) := by
  unfold out0_B_5
  frame_out
  rw [View.read_rep, View.read_rep, View.read_rep, View.read_whole, View.read_whole]

theorem scr_A0 (c : Dev nD) (i : grid0.Coords) (arg4 : Memref sig .tc .vmem S256x2048 .bf16) (harg4 : arg4.IsWhole) (arg5 : Memref sig .tc .vmem S1x2048x512 .f32) (harg5 : arg5.IsWhole) (arg6 : Memref sig .tc .vmem S1x2048x512 .f32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S256x512 .bf16) (harg9 : arg9.IsWhole) (T0 : (S288.Idx → Elt Bits .i32)) (T1 : (S1.Idx → Elt Bits .i32)) (x0 : (S256x2048.Idx → Elt Bits .bf16)) (x1 : (S1x2048x512.Idx → Elt Bits .f32)) (x2 : (S1x2048x512.Idx → Elt Bits .f32)) (x3 : (S1x1x512.Idx → Elt Bits .f32)) (x4 : (S1x1x512.Idx → Elt Bits .f32)) (k0_h1 : k0_cond1 i (View.readAt (Elt Bits) (tbM0_1).view (Rect.unit (s := S1) ![0] S1.size inb_S1_S1_0).toLoadRect T1 (Shape.Idx.first (numel1_S1.symm ▸ Nat.one_pos))) = 1#1) (hc1 : newExpert T0 i) :
    (kernelRun0_A c i arg4 harg4 arg5 harg5 arg6 harg6 arg7 harg7 arg8 harg8 arg9 harg9 T0 T1 x0 x1 x2 x3 x4 k0_h1 hc1).2.1 = k0_pay2 x1 := by
  have e : (View.whole cc0_scratch0).read (Elt Bits) (kernelRun0_A c i arg4 harg4 arg5 harg5 arg6 harg6 arg7 harg7 arg8 harg8 arg9 harg9 T0 T1 x0 x1 x2 x3 x4 k0_h1 hc1).2.1 = k0_pay2 x1 := by
    frame_out
    rw [View.read_rep]
    exact View.canon_unit_zero (funext fun a => by fin_cases a <;> rfl) _ _
  exact e

theorem scr_A1 (c : Dev nD) (i : grid0.Coords) (arg4 : Memref sig .tc .vmem S256x2048 .bf16) (harg4 : arg4.IsWhole) (arg5 : Memref sig .tc .vmem S1x2048x512 .f32) (harg5 : arg5.IsWhole) (arg6 : Memref sig .tc .vmem S1x2048x512 .f32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S256x512 .bf16) (harg9 : arg9.IsWhole) (T0 : (S288.Idx → Elt Bits .i32)) (T1 : (S1.Idx → Elt Bits .i32)) (x0 : (S256x2048.Idx → Elt Bits .bf16)) (x1 : (S1x2048x512.Idx → Elt Bits .f32)) (x2 : (S1x2048x512.Idx → Elt Bits .f32)) (x3 : (S1x1x512.Idx → Elt Bits .f32)) (x4 : (S1x1x512.Idx → Elt Bits .f32)) (k0_h1 : k0_cond1 i (View.readAt (Elt Bits) (tbM0_1).view (Rect.unit (s := S1) ![0] S1.size inb_S1_S1_0).toLoadRect T1 (Shape.Idx.first (numel1_S1.symm ▸ Nat.one_pos))) = 1#1) (hc1 : newExpert T0 i) :
    (kernelRun0_A c i arg4 harg4 arg5 harg5 arg6 harg6 arg7 harg7 arg8 harg8 arg9 harg9 T0 T1 x0 x1 x2 x3 x4 k0_h1 hc1).2.2.1 = k0_pay3 x2 := by
  have e : (View.whole cc0_scratch1).read (Elt Bits) (kernelRun0_A c i arg4 harg4 arg5 harg5 arg6 harg6 arg7 harg7 arg8 harg8 arg9 harg9 T0 T1 x0 x1 x2 x3 x4 k0_h1 hc1).2.2.1 = k0_pay3 x2 := by
    frame_out
    rw [View.read_rep]
    exact View.canon_unit_zero (funext fun a => by fin_cases a <;> rfl) _ _
  exact e

theorem scr_B0 (c : Dev nD) (i : grid0.Coords) (arg4 : Memref sig .tc .vmem S256x2048 .bf16) (harg4 : arg4.IsWhole) (arg5 : Memref sig .tc .vmem S1x2048x512 .f32) (harg5 : arg5.IsWhole) (arg6 : Memref sig .tc .vmem S1x2048x512 .f32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S256x512 .bf16) (harg9 : arg9.IsWhole) (T0 : (S288.Idx → Elt Bits .i32)) (T1 : (S1.Idx → Elt Bits .i32)) (x0 : (S256x2048.Idx → Elt Bits .bf16)) (x1 : (S1x2048x512.Idx → Elt Bits .f32)) (x2 : (S1x2048x512.Idx → Elt Bits .f32)) (x3 : (S1x1x512.Idx → Elt Bits .f32)) (x4 : (S1x1x512.Idx → Elt Bits .f32)) (xa0 : Buf (Elt Bits) ((c : Thread nD τ).loc cc0_scratch0)) (xa1 : Buf (Elt Bits) ((c : Thread nD τ).loc cc0_scratch1)) (k0_h1 : k0_cond1 i (View.readAt (Elt Bits) (tbM0_1).view (Rect.unit (s := S1) ![0] S1.size inb_S1_S1_0).toLoadRect T1 (Shape.Idx.first (numel1_S1.symm ▸ Nat.one_pos))) = 1#1) (hc1 : ¬ newExpert T0 i) :
    (kernelRun0_B c i arg4 harg4 arg5 harg5 arg6 harg6 arg7 harg7 arg8 harg8 arg9 harg9 T0 T1 x0 x1 x2 x3 x4 xa0 xa1 k0_h1 hc1).2.1 = xa0 := rfl

theorem scr_B1 (c : Dev nD) (i : grid0.Coords) (arg4 : Memref sig .tc .vmem S256x2048 .bf16) (harg4 : arg4.IsWhole) (arg5 : Memref sig .tc .vmem S1x2048x512 .f32) (harg5 : arg5.IsWhole) (arg6 : Memref sig .tc .vmem S1x2048x512 .f32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S256x512 .bf16) (harg9 : arg9.IsWhole) (T0 : (S288.Idx → Elt Bits .i32)) (T1 : (S1.Idx → Elt Bits .i32)) (x0 : (S256x2048.Idx → Elt Bits .bf16)) (x1 : (S1x2048x512.Idx → Elt Bits .f32)) (x2 : (S1x2048x512.Idx → Elt Bits .f32)) (x3 : (S1x1x512.Idx → Elt Bits .f32)) (x4 : (S1x1x512.Idx → Elt Bits .f32)) (xa0 : Buf (Elt Bits) ((c : Thread nD τ).loc cc0_scratch0)) (xa1 : Buf (Elt Bits) ((c : Thread nD τ).loc cc0_scratch1)) (k0_h1 : k0_cond1 i (View.readAt (Elt Bits) (tbM0_1).view (Rect.unit (s := S1) ![0] S1.size inb_S1_S1_0).toLoadRect T1 (Shape.Idx.first (numel1_S1.symm ▸ Nat.one_pos))) = 1#1) (hc1 : ¬ newExpert T0 i) :
    (kernelRun0_B c i arg4 harg4 arg5 harg5 arg6 harg6 arg7 harg7 arg8 harg8 arg9 harg9 T0 T1 x0 x1 x2 x3 x4 xa0 xa1 k0_h1 hc1).2.2.1 = xa1 := rfl

set_option maxHeartbeats 8000000 in
/-- A tile that is not used: the body reads the second table and leaves everything as it is. -/
theorem run_C (c : Dev nD) (i : grid0.Coords) (arg4 : Memref sig .tc .vmem S256x2048 .bf16) (harg4 : arg4.IsWhole) (arg5 : Memref sig .tc .vmem S1x2048x512 .f32) (harg5 : arg5.IsWhole) (arg6 : Memref sig .tc .vmem S1x2048x512 .f32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S256x512 .bf16) (harg9 : arg9.IsWhole) (T0 : (S288.Idx → Elt Bits .i32)) (T1 : (S1.Idx → Elt Bits .i32)) (k0_h1 : ¬ k0_cond1 i (View.readAt (Elt Bits) (tbM0_1).view (Rect.unit (s := S1) ![0] S1.size inb_S1_S1_0).toLoadRect T1 (Shape.Idx.first (numel1_S1.symm ▸ Nat.one_pos))) = 1#1) (K : PUnit → sProp 𝕄) :
    iprop((tbM0_1.view.loc (c : Thread nD τ) ↦{fullShare.right} T1) ∗ ((tbM0_1.view.loc (c : Thread nD τ) ↦{fullShare.right} T1) -∗ K ⟨⟩))
      ⊢ wp frame (wpE (defs₀ (F := Bits)) Variants.none c none) Set.univ (cc0_expert_gate_up i tbM0_0 (Memref.isWhole_whole _) tbM0_1 (Memref.isWhole_whole _) arg4 harg4 arg5 harg5 arg6 harg6 arg7 harg7 arg8 harg8 arg9 harg9 scM0_0 (Memref.isWhole_whole _) scM0_1 (Memref.isWhole_whole _)) K := by
  rw [cc0_expert_gate_up_eq_skeleton]; unfold cc0_expert_gate_up_skel
  iintro ⟨HT1, Hk⟩
  have hS0 : scM0_0.IsWhole := Memref.isWhole_whole _
  have hS1 : scM0_1.IsWhole := Memref.isWhole_whole _
  have hT0 : tbM0_0.IsWhole := Memref.isWhole_whole _
  have hT1 : tbM0_1.IsWhole := Memref.isWhole_whole _
  sl_exec! (disch := first | (guard_target = ¬(k0_cond1 _ _ = _); exact k0_h1))
  sl_step
  iapply Hk
  iexact HT1

theorem read_T1 (T1 : S1.Idx → BitVec 32) : View.readAt (Elt Bits) (tbM0_1).view (Rect.unit (s := S1) ![0] S1.size inb_S1_S1_0).toLoadRect T1 (Shape.Idx.first (numel1_S1.symm ▸ Nat.one_pos)) = T1 (ix1 0) := congrArg T1 (first_S1 _)

theorem not_new (T0 : S288.Idx → BitVec 32) (i : grid0.Coords) (hn : ¬ newExpert T0 i) :
    (i 1).val ≠ 0 ∧ ∀ k : Fin 288, k.val = (i 1).val - 1 → T0 (ix1 ⟨(i 1).val, i1_lt i⟩) = T0 (ix1 k) := by
  have hi := i1_lt i
  let k1 : Fin 288 := ⟨(i 1).val, hi⟩
  have e2 : View.readAt (Elt Bits) (tbM0_0).view (Rect.unit (s := S288) (k0_off2 i) S1.size (k0_off2_inb i)).toLoadRect T0 (Shape.Idx.first (numel1_S1.symm ▸ Nat.one_pos)) = T0 (ix1 k1) := congrArg T0 (emb_off (k0_off2 i) k1 (toNat_i1 i) (k0_off2_inb i) _)
  have hw : Scalar.cmpi .eq (BitVec.ofNat 32 (i 1).val) 0#32 ≠ 1#1 ∧ Scalar.cmpi .ne (View.readAt (Elt Bits) (tbM0_0).view (Rect.unit (s := S288) (k0_off2 i) S1.size (k0_off2_inb i)).toLoadRect T0 (Shape.Idx.first (numel1_S1.symm ▸ Nat.one_pos))) (View.readAt (Elt Bits) (tbM0_0).view (Rect.unit (s := S288) (k0_off3 i) S1.size (k0_off3_inb i)).toLoadRect T0 (Shape.Idx.first (numel1_S1.symm ▸ Nat.one_pos))) ≠ 1#1 := by
    revert hn
    unfold newExpert
    generalize Scalar.cmpi .eq (BitVec.ofNat 32 (i 1).val) 0#32 = a
    generalize Scalar.cmpi .ne (View.readAt (Elt Bits) (tbM0_0).view (Rect.unit (s := S288) (k0_off2 i) S1.size (k0_off2_inb i)).toLoadRect T0 (Shape.Idx.first (numel1_S1.symm ▸ Nat.one_pos))) (View.readAt (Elt Bits) (tbM0_0).view (Rect.unit (s := S288) (k0_off3 i) S1.size (k0_off3_inb i)).toLoadRect T0 (Shape.Idx.first (numel1_S1.symm ▸ Nat.one_pos))) = b
    revert a b; decide
  have a1 : Affine.IsInt (BitVec.ofNat 32 (i 1).val) ((i 1).val : Int) := Affine.ofNat _ ⟨rfl, by omega⟩
  have h0 : (i 1).val ≠ 0 := fun h0 => hw.1 (by rw [h0]; decide)
  refine ⟨h0, fun k hk => ?_⟩
  have ho : k0_off3 i 0 = k.val := by
    have a3 : Affine.IsInt (1#32) (1 : Int) := Affine.ofNat 1 ⟨rfl, by omega⟩
    have a0 : Affine.IsInt (0#32) (0 : Int) := Affine.ofNat 0 ⟨rfl, by omega⟩
    have a4 := Affine.subi a1 a3 (e := ((i 1).val : Int) - 1) ⟨rfl, by omega, by omega⟩
    have a5 := Affine.maxsi a4 a0 rfl
    exact (Affine.nat_eq a5 _ (by omega)).trans rfl
  have e3 : View.readAt (Elt Bits) (tbM0_0).view (Rect.unit (s := S288) (k0_off3 i) S1.size (k0_off3_inb i)).toLoadRect T0 (Shape.Idx.first (numel1_S1.symm ▸ Nat.one_pos)) = T0 (ix1 k) := congrArg T0 (emb_off (k0_off3 i) k ho (k0_off3_inb i) _)
  rw [e2, e3] at hw
  by_contra hne
  refine hw.2 ?_
  show BitVec.ofBool (T0 (ix1 k1) != T0 (ix1 k)) = 1#1
  rw [bne_iff_ne.2 hne]; rfl

end Cert.KernelUp.Exp

end
-- ==== Proof.UpKLaunch.lean ====
/- The experts' gate and up projections: the launch, its frame, and what the precondition says of the tables. -/
module

public import proofs.«01_k».proof.Proof.UpKFrame
public import proofs.«01_k».proof.Proof.Gen.Pre_expert_range_up
public import Idealize.ShloMosaic.Lib.ReduceAll
public import Idealize.ShloMosaic.Lib.ValueIdx
public import Idealize.ShloMosaic.Lib.Claim
public import proofs.«01_k».proof.Defs

@[expose] public section

set_option maxRecDepth 16384
set_option Elab.async false

noncomputable section

namespace Cert.KernelUp.Exp

open Cert.KernelUp Cert.KernelUp.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The type of states' assertions. -/
local notation "𝕄" => MT nD τ sig Unit (Elt Bits) ℕ (UR sig nD τ) ℕ

/-! ## The launch -/

variable {T0 : S288.Idx → BitVec 32} {T1 : S1.Idx → BitVec 32} (h : Tabs T0 T1)
variable (m : (ℓ : Loc nD τ sig) → Buf (Elt Bits) ℓ) (ρ : Dev nD → PrngReg)

/-- The library's body obligation, at every point. -/
theorem body_obligation (c : Dev nD) : BodyObligation (dats h m ρ 0 c) (defs₀ (F := Bits)) Variants.none () Set.univ := fun t => by
  rw [bigSep_W0]
  exact sound_body h m ρ c t

/-- The launch element. -/
def u₀ : UR sig nD τ :=
  initOf (Pipeline.cells (pcs h) ((launch₀0 (F := Bits)).cellOf_inj fun _ => adm h))
    (Pipeline.launchToks (pcs h) ((launch₀0 (F := Bits)).cellOf_inj fun _ => adm h))

theorem prefHeld_eq (c : Dev nD) (q : Fin 2 → PosShare TreeShare) (v : pre0.Contents (Elt Bits)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

theorem phi0_intro (c : Dev nD) :
    iprop(BI.emp ∗ Pipeline.prefHeld pre0 c (fun _ => fullShare.right) (adm h).1 ∗ Pipeline.scopedRest spec0 c) ⊢ (dats h m ρ 0 c).Φ 0 := by
  rw [prefHeld_eq, scopedRest0_eq, show (dats h m ρ 0 c).Φ 0 = Phi h m ρ c 0 from rfl]
  unfold Phi
  iintro ⟨-, ⟨HT0, HT1⟩, ⟨%a0, HS0⟩, ⟨%b0, HS1⟩⟩
  isplitl [HS0 HS1]
  · iexists a0, b0; isplitr; swap
    · isplitl [HS0]
      · iexact HS0
      iexact HS1
    · ipureintro; intro t ht _; exact absurd ht (Nat.succ_ne_zero _)
  isplitl [HT0]
  · iexact HT0
  iexact HT1

theorem phiN_exit (c : Dev nD) : (dats h m ρ 0 c).Φ (Fin.last (cfgA h).N) ⊢ iprop(BI.emp ∗ Pipeline.scopedRest spec0 c) := by
  rw [scopedRest0_eq, show (dats h m ρ 0 c).Φ (Fin.last (cfgA h).N) = Phi h m ρ c (Fin.last _) from rfl]
  unfold Phi
  iintro ⟨⟨%a0, %b0, -, HS0, HS1⟩, -, -⟩
  isplitr; · iempintro
  isplitl [HS0]
  · iexists a0; iexact HS0
  iexists b0; iexact HS1

/-- Every array at what the pipeline computes, every table as it was. -/
def QC : PUnit × MemSt nD τ sig (Elt Bits) → Prop := fun r =>
  ∀ c : Dev nD, (∀ w : Fin (cfgA h).W, r.2.mem (((cfgA h).win w).arr.view.loc (c : Thread nD τ)) = (dats h m ρ 0 c).arrAt w (cfgA h).N)
    ∧ ∀ j, r.2.mem ((c : Thread nD τ).loc (pre0.ref j)) = (adm h).1 j

/-- The memory's tables are the ones the pipeline is taken at. -/
def Pinned (T0 : S288.Idx → BitVec 32) (T1 : S1.Idx → BitVec 32) : Prop :=
  ∀ c : Dev nD, m ((c : Thread nD τ).loc main_arg0) = T0 ∧ m ((c : Thread nD τ).loc main_arg1) = T1

theorem V_pre (hp : Pinned m T0 T1) (c : Dev nD) (j : Fin 2) : m ((c : Thread nD τ).loc (pre0.ref j)) = (adm h).1 j := by
  fin_cases j
  · exact (hp c).1
  · exact (hp c).2

set_option backward.isDefEq.respectTransparency.types false in
set_option maxHeartbeats 4000000 in
theorem run_main_quiescent (hp : Pinned m T0 T1) : θ_run (defs (F := Bits)) (onTc (τ := τ) (main (F := Bits))) (s₀ m ρ) (fun r => QC h m ρ r ∧ r.2.sem = fun _ => 0) :=
  Pipeline.θ_run_region_noSem_pf_quiescent pcfgs (fun _ => adm h) (dats h m ρ) () ((launch₀0 (F := Bits)).cellOf_inj fun _ => adm h) (0 : Fin 1)
    (launch₀0 (F := Bits)).win (launch₀0 (F := Bits)).pre EP defs₀ Variants.none m ρ main
    (hbody := fun c => (body_obligation h m ρ c).loose) (hne := (launch₀0 (F := Bits)).block_pos)
    (harr := (launch₀0 (F := Bits)).arr_whole) (hstage := (launch₀0 (F := Bits)).stage_whole) (howed := fun _ _ => rfl)
    (u₀ := u₀ h) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => (dats h m ρ 0 c).arrays_split_shared (launch₀0 (F := Bits)).sharedIn (launch₀0 (F := Bits)).arr_whole (fun _ _ => rfl) _ _ fun _ => rfl)
    (hpf := V_pre h m hp)
    (X := fun _ => iprop(emp)) (Y := fun _ => iprop(emp)) (Z := fun _ => iprop(emp))
    (hX := fun c => by rw [unscopedRestP0_eq]; iintro -; isplitr <;> iempintro)
    (hin := phi0_intro h m ρ)
    (hout := phiN_exit h m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- What the run leaves: the arguments as they were, the result at what the pipeline computes, every counter at zero. -/
theorem run (hp : Pinned m T0 T1) :
    θ_run (defs (F := Bits)) (onTc (τ := τ) (main (F := Bits))) ⟨m, fun _ => 0, ρ⟩ (fun r => (∀ c : Dev nD,
      r.2.mem ((c.tc : Thread nD τ).loc main_v0) = (dats h m ρ 0 c).arrAt (5 : Fin 6) (cfgA h).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ hr => ⟨fun c => ⟨(hr.1 c).1 (5 : Fin 6), ((hr.1 c).2 0).trans (hp c).1.symm, ((hr.1 c).2 1).trans (hp c).2.symm,
    ((hr.1 c).1 (0 : Fin 6)).trans ((dats h m ρ 0 c).arrAt_in (0 : Fin 6) rfl _), ((hr.1 c).1 (1 : Fin 6)).trans ((dats h m ρ 0 c).arrAt_in (1 : Fin 6) rfl _),
    ((hr.1 c).1 (3 : Fin 6)).trans ((dats h m ρ 0 c).arrAt_in (3 : Fin 6) rfl _)⟩, hr.2⟩) (run_main_quiescent h m ρ hp)

/-! ## The precondition -/

theorem tabs_of_pre (a0 : IVec S288 32) (a1 : IVec S1 32) (a2 : FVec Bits S73728x2048 .bf16) (a3 : FVec Bits S32x2048x4096 .f32) (a4 : FVec Bits S32x1x4096 .f32)
    (hh : Cert.Pre_expert_range_up.fn (F := Bits) a0 a1 a2 a3 a4 = fun _ => 1#1) : Tabs a0 a1 := by
  have : Subsingleton (⟨0, ![]⟩ : Shape).Idx := ⟨fun a b => funext fun i => i.elim0⟩
  have hh := congrFun hh (fun i => i.elim0)
  unfold Cert.Pre_expert_range_up.fn at hh
  dsimp only at hh
  obtain ⟨h1, h2⟩ := IntOp.andi_eq_one.1 hh
  have H1 := fun y => IntOp.andi_eq_one.1 (Host.reduce_andi_all _ _ _ _ _ h1 y)
  have H2 := fun y => Host.reduce_andi_all _ _ _ _ _ h2 y
  clear hh h1 h2
  have hn : (1 : Int) ≤ (a1 (ix1 0)).toInt := IntOp.cmpi_sge.1 (H2 (ix1 0))
  have hn2 : 1 ≤ (a1 (ix1 0)).toNat ∧ (a1 (ix1 0)).toNat < 2 ^ 31 := by
    rw [BitVec.toInt_eq_toNat_cond] at hn
    have := (a1 (ix1 0)).isLt
    split_ifs at hn <;> omega
  refine ⟨fun i => ?_, hn2.1, hn2.2⟩
  have e1 : (0 : Int) ≤ (a0 (ix1 i)).toInt := IntOp.cmpi_sge.1 (H1 (ix1 i)).1
  have e2 : (a0 (ix1 i)).toInt < 32 := IntOp.cmpi_slt.1 (H1 (ix1 i)).2
  rw [BitVec.toInt_eq_toNat_cond] at e1 e2
  have := (a0 (ix1 i)).isLt
  split_ifs at e1 e2 <;> omega

/-- The one device's tables, with what the precondition says of them. -/
theorem tabs (hh : Cert.Pre_KernelUp m) :
    Tabs (m (((0 : Dev nD) : Thread nD τ).loc main_arg0)) (m (((0 : Dev nD) : Thread nD τ).loc main_arg1)) :=
  tabs_of_pre _ _ _ _ _ (hh 0)

theorem pinned : Pinned m (m (((0 : Dev nD) : Thread nD τ).loc main_arg0)) (m (((0 : Dev nD) : Thread nD τ).loc main_arg1)) := fun c => by
  obtain rfl : c = 0 := Subsingleton.elim (α := Fin 1) _ _
  exact ⟨rfl, rfl⟩

/-- The frame under the precondition. -/
theorem frame_all (hh : Cert.Pre_KernelUp m) :
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ hr => ⟨fun c => (hr.1 c).2, hr.2⟩) (run (tabs m hh) m ρ (pinned m))

end Cert.KernelUp.Exp

end
-- ==== Proof.UpRuns.lean ====
/- The experts' gate and up projections: the body at a used tile. -/
module

public import proofs.«01_k».proof.Proof.Gen.KernelUpIdeal.Skeleton
public import proofs.«01_k».proof.Proof.Gen.KernelUpIdeal.Launch
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init

@[expose] public section

set_option maxRecDepth 16384
set_option Elab.async false

noncomputable section

namespace Cert.KernelUpIdeal.Exp

open Cert.KernelUpIdeal Cert.KernelUpIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The type of states' assertions. -/
local notation "𝕄" => MT nD τ sig Unit (Elt Ideal) ℕ (UR sig nD τ) ℕ

/-- The tables and the scratches, whole. -/
abbrev tbM0_0 : Memref sig .tc .smem S288 .i32 := Memref.whole main_arg0
abbrev tbM0_1 : Memref sig .tc .smem S1 .i32 := Memref.whole main_arg1
abbrev scM0_0 : Memref sig .tc .vmem S2048x512 .bf16 := Memref.whole cc0_scratch0
abbrev scM0_1 : Memref sig .tc .vmem S2048x512 .bf16 := Memref.whole cc0_scratch1

/-- The test of the first tile or of a new expert. -/
abbrev newExpert (T0 : S288.Idx → BitVec 32) (i : grid0.Coords) : Prop := (Scalar.cmpi .ne (Scalar.extui (Scalar.ori (Scalar.cmpi .eq (BitVec.ofNat 32 (i 1).val) 0#32) (Scalar.cmpi .ne (View.readAt (Elt Ideal) (tbM0_0).view (Rect.unit (s := S288) (k0_off2 i) S1.size (k0_off2_inb i)).toLoadRect T0 (Shape.Idx.first (numel1_S1.symm ▸ Nat.one_pos))) (View.readAt (Elt Ideal) (tbM0_0).view (Rect.unit (s := S288) (k0_off3 i) S1.size (k0_off3_inb i)).toLoadRect T0 (Shape.Idx.first (numel1_S1.symm ▸ Nat.one_pos)))))) 0#32) = 1#1

/-! ## The body at a used tile -/

/-- One buffer of the output's window, through which its contents are stated. -/
abbrev VO0_5 : View sig .tc .vmem S256x512 .bf16 := (Memref.whole cc0_stg5_0 : Memref sig .tc .vmem S256x512 .bf16).view

set_option backward.proofsInPublic true in
set_option maxHeartbeats 8000000 in
/-- A used tile of a new expert: what the body leaves in the output's block and in the two scratches, with the run that leaves it. -/
noncomputable def kernelRun0_A (c : Dev nD) (i : grid0.Coords) (arg4 : Memref sig .tc .vmem S256x2048 .bf16) (harg4 : arg4.IsWhole) (arg5 : Memref sig .tc .vmem S1x2048x512 .f32) (harg5 : arg5.IsWhole) (arg6 : Memref sig .tc .vmem S1x2048x512 .f32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S256x512 .bf16) (harg9 : arg9.IsWhole) (T0 : (S288.Idx → Elt Ideal .i32)) (T1 : (S1.Idx → Elt Ideal .i32))
     (x0 : (S256x2048.Idx → Elt Ideal .bf16)) (x1 : (S1x2048x512.Idx → Elt Ideal .f32)) (x2 : (S1x2048x512.Idx → Elt Ideal .f32)) (x3 : (S1x1x512.Idx → Elt Ideal .f32)) (x4 : (S1x1x512.Idx → Elt Ideal .f32)) (k0_h1 : k0_cond1 i (View.readAt (Elt Ideal) (tbM0_1).view (Rect.unit (s := S1) ![0] S1.size inb_S1_S1_0).toLoadRect T1 (Shape.Idx.first (numel1_S1.symm ▸ Nat.one_pos))) = 1#1) (hc1 : newExpert T0 i) :
    Σ' (out0 : List (View.Piece (Elt Ideal) S256x512 .bf16)) (out1 : Buf (Elt Ideal) ((c : Thread nD τ).loc cc0_scratch0)), { out2 : Buf (Elt Ideal) ((c : Thread nD τ).loc cc0_scratch1) //
      ∀ (xa0 : Buf (Elt Ideal) ((c : Thread nD τ).loc cc0_scratch0)) (xa1 : Buf (Elt Ideal) ((c : Thread nD τ).loc cc0_scratch1)) (K : PUnit → sProp 𝕄),
        iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (arg7.view.loc (c : Thread nD τ) ↦[arg7.view.set]{fullShare} arg7.view.rep x3)
          ∗ (arg8.view.loc (c : Thread nD τ) ↦[arg8.view.set]{fullShare} arg8.view.rep x4)
          ∗ (tbM0_0.view.loc (c : Thread nD τ) ↦{fullShare.right} T0)
          ∗ (tbM0_1.view.loc (c : Thread nD τ) ↦{fullShare.right} T1)
          ∗ (∃ d, owns (c : Thread nD τ) arg9 fullShare d)
          ∗ (scM0_0.view.loc (c : Thread nD τ) ↦{fullShare} xa0)
          ∗ (scM0_1.view.loc (c : Thread nD τ) ↦{fullShare} xa1)
          ∗ (iprop((arg4.view.loc (c : Thread nD τ) ↦[arg4.view.set]{fullShare} arg4.view.rep x0)
              ∗ (arg5.view.loc (c : Thread nD τ) ↦[arg5.view.set]{fullShare} arg5.view.rep x1)
              ∗ (arg6.view.loc (c : Thread nD τ) ↦[arg6.view.set]{fullShare} arg6.view.rep x2)
              ∗ (arg7.view.loc (c : Thread nD τ) ↦[arg7.view.set]{fullShare} arg7.view.rep x3)
              ∗ (arg8.view.loc (c : Thread nD τ) ↦[arg8.view.set]{fullShare} arg8.view.rep x4)
              ∗ (tbM0_0.view.loc (c : Thread nD τ) ↦{fullShare.right} T0)
              ∗ (tbM0_1.view.loc (c : Thread nD τ) ↦{fullShare.right} T1)
              ∗ (∃ f, arg9.view.loc (c : Thread nD τ) ↦[arg9.view.set]{fullShare} arg9.view.writes (Elt Ideal) f out0)
              ∗ (scM0_0.view.loc (c : Thread nD τ) ↦{fullShare} out1)
              ∗ (scM0_1.view.loc (c : Thread nD τ) ↦{fullShare} out2)) -∗ K ⟨⟩))
          ⊢ wp frame (wpE (defs₀ (F := Ideal)) Variants.none c none) Set.univ (cc0_expert_gate_up i tbM0_0 (Memref.isWhole_whole _) tbM0_1 (Memref.isWhole_whole _) arg4 harg4 arg5 harg5 arg6 harg6 arg7 harg7 arg8 harg8 arg9 harg9 scM0_0 (Memref.isWhole_whole _) scM0_1 (Memref.isWhole_whole _)) K } :=
  ⟨_, _, _, fun (xa0 : Buf (Elt Ideal) ((c : Thread nD τ).loc cc0_scratch0)) (xa1 : Buf (Elt Ideal) ((c : Thread nD τ).loc cc0_scratch1)) K => by
    unfold owns
    rw [cc0_expert_gate_up_eq_skeleton]; unfold cc0_expert_gate_up_skel
    iintro ⟨H0, H1, H2, H3, H4, HT0, HT1, ⟨%d5, %f5, -, HO5⟩, HS0, HS1, Hk⟩
    have hS0 : scM0_0.IsWhole := Memref.isWhole_whole _
    have hS1 : scM0_1.IsWhole := Memref.isWhole_whole _
    have hT0 : tbM0_0.IsWhole := Memref.isWhole_whole _
    have hT1 : tbM0_1.IsWhole := Memref.isWhole_whole _
    sl_exec! (disch := first | (guard_target = k0_cond1 _ _ = _; exact k0_h1) | (guard_target = Scalar.cmpi = _; exact hc1))
    sl_step
    iapply Hk
    isplitl [H0]; · iexact H0
    isplitl [H1]; · iexact H1
    isplitl [H2]; · iexact H2
    isplitl [H3]; · iexact H3
    isplitl [H4]; · iexact H4
    isplitl [HT0]; · iexact HT0
    isplitl [HT1]; · iexact HT1
    isplitl [HO5]; · iexists _; iexact HO5
    isplitl [HS0]; · iexact HS0
    iexact HS1⟩

/-- The stores cover the output's block. -/
theorem cover0_A_5 (c : Dev nD) (i : grid0.Coords) (arg4 : Memref sig .tc .vmem S256x2048 .bf16) (harg4 : arg4.IsWhole) (arg5 : Memref sig .tc .vmem S1x2048x512 .f32) (harg5 : arg5.IsWhole) (arg6 : Memref sig .tc .vmem S1x2048x512 .f32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S256x512 .bf16) (harg9 : arg9.IsWhole) (T0 : (S288.Idx → Elt Ideal .i32)) (T1 : (S1.Idx → Elt Ideal .i32))
     (x0 : (S256x2048.Idx → Elt Ideal .bf16)) (x1 : (S1x2048x512.Idx → Elt Ideal .f32)) (x2 : (S1x2048x512.Idx → Elt Ideal .f32)) (x3 : (S1x1x512.Idx → Elt Ideal .f32)) (x4 : (S1x1x512.Idx → Elt Ideal .f32)) (k0_h1 : k0_cond1 i (View.readAt (Elt Ideal) (tbM0_1).view (Rect.unit (s := S1) ![0] S1.size inb_S1_S1_0).toLoadRect T1 (Shape.Idx.first (numel1_S1.symm ▸ Nat.one_pos))) = 1#1) (hc1 : newExpert T0 i) (y : S256x512.Idx) :
    ∃ pc ∈ (kernelRun0_A c i arg4 harg4 arg5 harg5 arg6 harg6 arg7 harg7 arg8 harg8 arg9 harg9 T0 T1 x0 x1 x2 x3 x4 k0_h1 hc1).1, y ∈ pc.1.set :=
  View.cover_of_tiledL (kernelRun0_A c i arg4 harg4 arg5 harg5 arg6 harg6 arg7 harg7 arg8 harg8 arg9 harg9 T0 T1 x0 x1 x2 x3 x4 k0_h1 hc1).1 S256x512.size (by sl_kernel_rfl) y

/-- What is left in the output's block. -/
def out0_A_5 (c : Dev nD) (i : grid0.Coords) (arg4 : Memref sig .tc .vmem S256x2048 .bf16) (harg4 : arg4.IsWhole) (arg5 : Memref sig .tc .vmem S1x2048x512 .f32) (harg5 : arg5.IsWhole) (arg6 : Memref sig .tc .vmem S1x2048x512 .f32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S256x512 .bf16) (harg9 : arg9.IsWhole) (T0 : (S288.Idx → Elt Ideal .i32)) (T1 : (S1.Idx → Elt Ideal .i32))
     (x0 : (S256x2048.Idx → Elt Ideal .bf16)) (x1 : (S1x2048x512.Idx → Elt Ideal .f32)) (x2 : (S1x2048x512.Idx → Elt Ideal .f32)) (x3 : (S1x1x512.Idx → Elt Ideal .f32)) (x4 : (S1x1x512.Idx → Elt Ideal .f32)) (k0_h1 : k0_cond1 i (View.readAt (Elt Ideal) (tbM0_1).view (Rect.unit (s := S1) ![0] S1.size inb_S1_S1_0).toLoadRect T1 (Shape.Idx.first (numel1_S1.symm ▸ Nat.one_pos))) = 1#1) (hc1 : newExpert T0 i) : (S256x512.Idx → Elt Ideal .bf16) :=
  VO0_5.read (Elt Ideal) (VO0_5.writes (Elt Ideal) VO0_5.junk (kernelRun0_A c i arg4 harg4 arg5 harg5 arg6 harg6 arg7 harg7 arg8 harg8 arg9 harg9 T0 T1 x0 x1 x2 x3 x4 k0_h1 hc1).1)

set_option backward.proofsInPublic true in
set_option maxHeartbeats 8000000 in
/-- A used tile of the same expert as before: what the body leaves in the output's block and in the two scratches, with the run. -/
noncomputable def kernelRun0_B (c : Dev nD) (i : grid0.Coords) (arg4 : Memref sig .tc .vmem S256x2048 .bf16) (harg4 : arg4.IsWhole) (arg5 : Memref sig .tc .vmem S1x2048x512 .f32) (harg5 : arg5.IsWhole) (arg6 : Memref sig .tc .vmem S1x2048x512 .f32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S256x512 .bf16) (harg9 : arg9.IsWhole) (T0 : (S288.Idx → Elt Ideal .i32)) (T1 : (S1.Idx → Elt Ideal .i32))
     (x0 : (S256x2048.Idx → Elt Ideal .bf16)) (x1 : (S1x2048x512.Idx → Elt Ideal .f32)) (x2 : (S1x2048x512.Idx → Elt Ideal .f32)) (x3 : (S1x1x512.Idx → Elt Ideal .f32)) (x4 : (S1x1x512.Idx → Elt Ideal .f32)) (xa0 : Buf (Elt Ideal) ((c : Thread nD τ).loc cc0_scratch0)) (xa1 : Buf (Elt Ideal) ((c : Thread nD τ).loc cc0_scratch1)) (k0_h1 : k0_cond1 i (View.readAt (Elt Ideal) (tbM0_1).view (Rect.unit (s := S1) ![0] S1.size inb_S1_S1_0).toLoadRect T1 (Shape.Idx.first (numel1_S1.symm ▸ Nat.one_pos))) = 1#1) (hc1 : ¬ newExpert T0 i) :
    Σ' (out0 : List (View.Piece (Elt Ideal) S256x512 .bf16)) (out1 : Buf (Elt Ideal) ((c : Thread nD τ).loc cc0_scratch0)), { out2 : Buf (Elt Ideal) ((c : Thread nD τ).loc cc0_scratch1) //
      ∀ (K : PUnit → sProp 𝕄),
        iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (arg7.view.loc (c : Thread nD τ) ↦[arg7.view.set]{fullShare} arg7.view.rep x3)
          ∗ (arg8.view.loc (c : Thread nD τ) ↦[arg8.view.set]{fullShare} arg8.view.rep x4)
          ∗ (tbM0_0.view.loc (c : Thread nD τ) ↦{fullShare.right} T0)
          ∗ (tbM0_1.view.loc (c : Thread nD τ) ↦{fullShare.right} T1)
          ∗ (∃ d, owns (c : Thread nD τ) arg9 fullShare d)
          ∗ (scM0_0.view.loc (c : Thread nD τ) ↦{fullShare} xa0)
          ∗ (scM0_1.view.loc (c : Thread nD τ) ↦{fullShare} xa1)
          ∗ (iprop((arg4.view.loc (c : Thread nD τ) ↦[arg4.view.set]{fullShare} arg4.view.rep x0)
              ∗ (arg5.view.loc (c : Thread nD τ) ↦[arg5.view.set]{fullShare} arg5.view.rep x1)
              ∗ (arg6.view.loc (c : Thread nD τ) ↦[arg6.view.set]{fullShare} arg6.view.rep x2)
              ∗ (arg7.view.loc (c : Thread nD τ) ↦[arg7.view.set]{fullShare} arg7.view.rep x3)
              ∗ (arg8.view.loc (c : Thread nD τ) ↦[arg8.view.set]{fullShare} arg8.view.rep x4)
              ∗ (tbM0_0.view.loc (c : Thread nD τ) ↦{fullShare.right} T0)
              ∗ (tbM0_1.view.loc (c : Thread nD τ) ↦{fullShare.right} T1)
              ∗ (∃ f, arg9.view.loc (c : Thread nD τ) ↦[arg9.view.set]{fullShare} arg9.view.writes (Elt Ideal) f out0)
              ∗ (scM0_0.view.loc (c : Thread nD τ) ↦{fullShare} out1)
              ∗ (scM0_1.view.loc (c : Thread nD τ) ↦{fullShare} out2)) -∗ K ⟨⟩))
          ⊢ wp frame (wpE (defs₀ (F := Ideal)) Variants.none c none) Set.univ (cc0_expert_gate_up i tbM0_0 (Memref.isWhole_whole _) tbM0_1 (Memref.isWhole_whole _) arg4 harg4 arg5 harg5 arg6 harg6 arg7 harg7 arg8 harg8 arg9 harg9 scM0_0 (Memref.isWhole_whole _) scM0_1 (Memref.isWhole_whole _)) K } :=
  ⟨_, _, _, fun K => by
    unfold owns
    rw [cc0_expert_gate_up_eq_skeleton]; unfold cc0_expert_gate_up_skel
    iintro ⟨H0, H1, H2, H3, H4, HT0, HT1, ⟨%d5, %f5, -, HO5⟩, HS0, HS1, Hk⟩
    have hS0 : scM0_0.IsWhole := Memref.isWhole_whole _
    have hS1 : scM0_1.IsWhole := Memref.isWhole_whole _
    have hT0 : tbM0_0.IsWhole := Memref.isWhole_whole _
    have hT1 : tbM0_1.IsWhole := Memref.isWhole_whole _
    sl_exec! (disch := first | (guard_target = k0_cond1 _ _ = _; exact k0_h1) | (guard_target = ¬(Scalar.cmpi = _); exact hc1))
    sl_step
    iapply Hk
    isplitl [H0]; · iexact H0
    isplitl [H1]; · iexact H1
    isplitl [H2]; · iexact H2
    isplitl [H3]; · iexact H3
    isplitl [H4]; · iexact H4
    isplitl [HT0]; · iexact HT0
    isplitl [HT1]; · iexact HT1
    isplitl [HO5]; · iexists _; iexact HO5
    isplitl [HS0]; · iexact HS0
    iexact HS1⟩

/-- The stores cover the output's block. -/
theorem cover0_B_5 (c : Dev nD) (i : grid0.Coords) (arg4 : Memref sig .tc .vmem S256x2048 .bf16) (harg4 : arg4.IsWhole) (arg5 : Memref sig .tc .vmem S1x2048x512 .f32) (harg5 : arg5.IsWhole) (arg6 : Memref sig .tc .vmem S1x2048x512 .f32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S256x512 .bf16) (harg9 : arg9.IsWhole) (T0 : (S288.Idx → Elt Ideal .i32)) (T1 : (S1.Idx → Elt Ideal .i32))
     (x0 : (S256x2048.Idx → Elt Ideal .bf16)) (x1 : (S1x2048x512.Idx → Elt Ideal .f32)) (x2 : (S1x2048x512.Idx → Elt Ideal .f32)) (x3 : (S1x1x512.Idx → Elt Ideal .f32)) (x4 : (S1x1x512.Idx → Elt Ideal .f32)) (xa0 : Buf (Elt Ideal) ((c : Thread nD τ).loc cc0_scratch0)) (xa1 : Buf (Elt Ideal) ((c : Thread nD τ).loc cc0_scratch1)) (k0_h1 : k0_cond1 i (View.readAt (Elt Ideal) (tbM0_1).view (Rect.unit (s := S1) ![0] S1.size inb_S1_S1_0).toLoadRect T1 (Shape.Idx.first (numel1_S1.symm ▸ Nat.one_pos))) = 1#1) (hc1 : ¬ newExpert T0 i) (y : S256x512.Idx) :
    ∃ pc ∈ (kernelRun0_B c i arg4 harg4 arg5 harg5 arg6 harg6 arg7 harg7 arg8 harg8 arg9 harg9 T0 T1 x0 x1 x2 x3 x4 xa0 xa1 k0_h1 hc1).1, y ∈ pc.1.set :=
  View.cover_of_tiledL (kernelRun0_B c i arg4 harg4 arg5 harg5 arg6 harg6 arg7 harg7 arg8 harg8 arg9 harg9 T0 T1 x0 x1 x2 x3 x4 xa0 xa1 k0_h1 hc1).1 S256x512.size (by sl_kernel_rfl) y

/-- What is left in the output's block. -/
def out0_B_5 (c : Dev nD) (i : grid0.Coords) (arg4 : Memref sig .tc .vmem S256x2048 .bf16) (harg4 : arg4.IsWhole) (arg5 : Memref sig .tc .vmem S1x2048x512 .f32) (harg5 : arg5.IsWhole) (arg6 : Memref sig .tc .vmem S1x2048x512 .f32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S256x512 .bf16) (harg9 : arg9.IsWhole) (T0 : (S288.Idx → Elt Ideal .i32)) (T1 : (S1.Idx → Elt Ideal .i32))
     (x0 : (S256x2048.Idx → Elt Ideal .bf16)) (x1 : (S1x2048x512.Idx → Elt Ideal .f32)) (x2 : (S1x2048x512.Idx → Elt Ideal .f32)) (x3 : (S1x1x512.Idx → Elt Ideal .f32)) (x4 : (S1x1x512.Idx → Elt Ideal .f32)) (xa0 : Buf (Elt Ideal) ((c : Thread nD τ).loc cc0_scratch0)) (xa1 : Buf (Elt Ideal) ((c : Thread nD τ).loc cc0_scratch1)) (k0_h1 : k0_cond1 i (View.readAt (Elt Ideal) (tbM0_1).view (Rect.unit (s := S1) ![0] S1.size inb_S1_S1_0).toLoadRect T1 (Shape.Idx.first (numel1_S1.symm ▸ Nat.one_pos))) = 1#1) (hc1 : ¬ newExpert T0 i) : (S256x512.Idx → Elt Ideal .bf16) :=
  VO0_5.read (Elt Ideal) (VO0_5.writes (Elt Ideal) VO0_5.junk (kernelRun0_B c i arg4 harg4 arg5 harg5 arg6 harg6 arg7 harg7 arg8 harg8 arg9 harg9 T0 T1 x0 x1 x2 x3 x4 xa0 xa1 k0_h1 hc1).1)

end Cert.KernelUpIdeal.Exp

end
-- ==== Proof.UpTab.lean ====
/- The experts' gate and up projections: what the two tables say of the grid. -/
module

public import proofs.«01_k».proof.Proof.UpRuns
public import Idealize.ShloMosaic.Lib.Pipeline.ValueKit
public import Idealize.ShloMosaic.Lib.Pointwise

@[expose] public section

set_option maxRecDepth 16384

noncomputable section

namespace Cert.KernelUpIdeal.Exp

open Cert.KernelUpIdeal Cert.KernelUpIdeal.Gen
open Idealize.ShloMosaic
open Idealize.ShloMosaic.TcCoe Idealize.ShloMosaic.Tactic
open Idealize.ShloMosaic.Pipeline (Dat Cfg Window)

/-- The tables are admissible: every tile's expert is one of the 32, and at least one tile is used. -/
structure Tabs (T0 : S288.Idx → BitVec 32) (T1 : S1.Idx → BitVec 32) : Prop where
  te : ∀ i : Fin 288, (T0 (ix1 i)).toNat < 32
  pos : 1 ≤ (T1 (ix1 0)).toNat
  lt : (T1 (ix1 0)).toNat < 2 ^ 31

variable (T0 : S288.Idx → BitVec 32) (T1 : S1.Idx → BitVec 32)

/-- The tables as the launch reads them. -/
def pf : pre0.Contents (Elt Ideal) := fun | ⟨0, _⟩ => T0 | ⟨1, _⟩ => T1 | ⟨_ + 2, h⟩ => absurd h (by simp)

/-- The number of used tiles. -/
def nu : ℕ := (T1 (ix1 0)).toNat

theorem i1_lt (i : grid0.Coords) : (i 1).val < 288 := (i 1).isLt
theorem i0_lt (i : grid0.Coords) : (i 0).val < 4 := (i 0).isLt

theorem toNat_i1 (i : grid0.Coords) : (BitVec.ofNat 32 (i 1).val).toNat = (i 1).val := by
  have := i1_lt i
  rw [BitVec.toNat_ofNat, Nat.mod_eq_of_lt (by omega)]
theorem toNat_i0 (i : grid0.Coords) : (BitVec.ofNat 32 (i 0).val).toNat = (i 0).val := by
  have := i0_lt i
  rw [BitVec.toNat_ofNat, Nat.mod_eq_of_lt (by omega)]

/-- The word of a table of one element. -/
theorem first_S1 (x : S1.Idx) : x = ix1 0 := funext fun a => by
  match a with
  | ⟨0, _⟩ => exact Subsingleton.elim (α := Fin 1) _ _

variable {T0 T1}

/-- The smaller of the tile and the last used tile, as the index maps compute it. -/
theorem min_word (h : Tabs T0 T1) (i : grid0.Coords) :
    (Scalar.minsi (BitVec.ofNat 32 (i 1).val) (Scalar.subi (T1 (ix1 0)) 1#32)).toNat = min (i 1).val (nu T1 - 1) := by
  have h1 := h.pos; have h2 := h.lt; have hi := i1_lt i
  have e : (T1 (ix1 0)).toInt = (nu T1 : Int) := by
    unfold nu; rw [BitVec.toInt_eq_toNat_cond]; rw [if_pos (by omega)]
  have a1 : Affine.IsInt (BitVec.ofNat 32 (i 1).val) ((i 1).val : Int) := Affine.ofNat _ ⟨rfl, by omega⟩
  have a2 : Affine.IsInt (T1 (ix1 0)) (nu T1 : Int) := e ▸ Affine.word _
  have a3 : Affine.IsInt (1#32) (1 : Int) := Affine.ofNat 1 ⟨rfl, by omega⟩
  have hnu : 1 ≤ nu T1 ∧ nu T1 < 2 ^ 31 := ⟨h1, h2⟩
  have a4 := Affine.subi a2 a3 (e := (nu T1 : Int) - 1) ⟨rfl, by omega, by omega⟩
  exact Affine.nat_eq (Affine.minsi a1 a4 rfl) _ (by omega)

theorem transform_0 (h : Tabs T0 T1) (i : grid0.Coords) : cc0_transform_0 inb_S1_S1_0 numel1_S1 (pf T0 T1) i = ![min (i 1).val (nu T1 - 1), 0] := by
  rw [← min_word h i, ← first_S1 ((Rect.unit (s := S1) ![0] S1.size inb_S1_S1_0).emb (Shape.Idx.first (numel1_S1.symm ▸ Nat.one_pos)))]
  rfl
theorem transform_5 (h : Tabs T0 T1) (i : grid0.Coords) : cc0_transform_5 inb_S1_S1_0 numel1_S1 (pf T0 T1) i = ![min (i 1).val (nu T1 - 1), (i 0).val] := by
  rw [← min_word h i, ← first_S1 ((Rect.unit (s := S1) ![0] S1.size inb_S1_S1_0).emb (Shape.Idx.first (numel1_S1.symm ▸ Nat.one_pos))), ← toNat_i0 i]
  rfl

theorem emb_off (off : Fin 1 → ℕ) (k : Fin 288) (hk : off 0 = k.val) (hb : ∀ a, off a + S1.size a ≤ S288.size a)
    (x : (Rect.unit (s := S288) off S1.size hb).shape.Idx) : (Rect.unit (s := S288) off S1.size hb).emb x = ix1 k := by
  funext a
  match a with
  | ⟨0, _⟩ =>
    apply Fin.ext
    rw [Rect.emb_apply]
    have hx : (x 0).val < 1 := (x 0).isLt
    show off 0 + 1 * (x 0).val = k.val
    omega

theorem transform_1 (i : grid0.Coords) : cc0_transform_1 k0_off1_inb numel1_S1 (pf T0 T1) i = ![(T0 (ix1 (i 1))).toNat, 0, (i 0).val] := by
  rw [← toNat_i0 i, ← emb_off (k0_off1 i) (i 1) (toNat_i1 i) (k0_off1_inb i) (Shape.Idx.first (numel1_S1.symm ▸ Nat.one_pos))]
  rfl
/-- The column block of the second half of the weights, as the index maps compute it. -/
theorem toNat_4 (i : grid0.Coords) : (Scalar.addi 4#32 (BitVec.ofNat 32 (i 0).val)).toNat = 4 + (i 0).val := by
  have := i0_lt i
  show (4#32 + BitVec.ofNat 32 (i 0).val).toNat = _
  rw [BitVec.toNat_add, BitVec.toNat_ofNat, BitVec.toNat_ofNat]
  omega
theorem transform_2 (i : grid0.Coords) : cc0_transform_2 k0_off1_inb numel1_S1 (pf T0 T1) i = ![(T0 (ix1 (i 1))).toNat, 0, 4 + (i 0).val] := by
  rw [← toNat_4 i, ← emb_off (k0_off1 i) (i 1) (toNat_i1 i) (k0_off1_inb i) (Shape.Idx.first (numel1_S1.symm ▸ Nat.one_pos))]
  rfl
theorem transform_3 (i : grid0.Coords) : cc0_transform_3 k0_off1_inb numel1_S1 (pf T0 T1) i = ![(T0 (ix1 (i 1))).toNat, 0, (i 0).val] := by
  rw [← toNat_i0 i, ← emb_off (k0_off1 i) (i 1) (toNat_i1 i) (k0_off1_inb i) (Shape.Idx.first (numel1_S1.symm ▸ Nat.one_pos))]
  rfl
theorem transform_4 (i : grid0.Coords) : cc0_transform_4 k0_off1_inb numel1_S1 (pf T0 T1) i = ![(T0 (ix1 (i 1))).toNat, 0, 4 + (i 0).val] := by
  rw [← toNat_4 i, ← emb_off (k0_off1 i) (i 1) (toNat_i1 i) (k0_off1_inb i) (Shape.Idx.first (numel1_S1.symm ▸ Nat.one_pos))]
  rfl

theorem ok (h : Tabs T0 T1) : ok0 (F := Ideal) (pf T0 T1) := by
  refine ⟨fun i => ?_, fun i => ?_, fun i => ?_, fun i => ?_, fun i => ?_, fun i => ?_⟩
  · have := i1_lt i
    refine ⟨fun a => ?_, .inr (Affine.block_words_dvd (s := S73728x2048) (p := EltTy.packing .bf16) (by decide) (by decide))⟩
    rw [transform_0 h]
    match a with
    | ⟨0, _⟩ => show (min (i 1).val (nu T1 - 1) + 1) * 256 ≤ 73728; omega
    | ⟨1, _⟩ => show (0 + 1) * 2048 ≤ 2048; omega
  · have := h.te (i 1); have := i0_lt i
    refine ⟨fun a => ?_, .inl rfl⟩
    rw [transform_1]
    match a with
    | ⟨0, _⟩ => show ((T0 (ix1 (i 1))).toNat + 1) * 1 ≤ 32; omega
    | ⟨1, _⟩ => show (0 + 1) * 2048 ≤ 2048; omega
    | ⟨2, _⟩ => show ((i 0).val + 1) * 512 ≤ 4096; omega
  · have := h.te (i 1); have := i0_lt i
    refine ⟨fun a => ?_, .inl rfl⟩
    rw [transform_2]
    match a with
    | ⟨0, _⟩ => show ((T0 (ix1 (i 1))).toNat + 1) * 1 ≤ 32; omega
    | ⟨1, _⟩ => show (0 + 1) * 2048 ≤ 2048; omega
    | ⟨2, _⟩ => show (4 + (i 0).val + 1) * 512 ≤ 4096; omega
  · have := h.te (i 1); have := i0_lt i
    refine ⟨fun a => ?_, .inl rfl⟩
    rw [transform_3]
    match a with
    | ⟨0, _⟩ => show ((T0 (ix1 (i 1))).toNat + 1) * 1 ≤ 32; omega
    | ⟨1, _⟩ => show (0 + 1) * 1 ≤ 1; omega
    | ⟨2, _⟩ => show ((i 0).val + 1) * 512 ≤ 4096; omega
  · have := h.te (i 1); have := i0_lt i
    refine ⟨fun a => ?_, .inl rfl⟩
    rw [transform_4]
    match a with
    | ⟨0, _⟩ => show ((T0 (ix1 (i 1))).toNat + 1) * 1 ≤ 32; omega
    | ⟨1, _⟩ => show (0 + 1) * 1 ≤ 1; omega
    | ⟨2, _⟩ => show (4 + (i 0).val + 1) * 512 ≤ 4096; omega
  · have := i1_lt i; have := i0_lt i
    refine ⟨fun a => ?_, .inr (Affine.block_words_dvd (s := S73728x2048) (p := EltTy.packing .bf16) (by decide) (by decide))⟩
    rw [transform_5 h]
    match a with
    | ⟨0, _⟩ => show (min (i 1).val (nu T1 - 1) + 1) * 256 ≤ 73728; omega
    | ⟨1, _⟩ => show ((i 0).val + 1) * 512 ≤ 2048; omega

/-- The launch's choice of tables, and the pipeline at it. -/
def adm (h : Tabs T0 T1) : (pcfg0 (F := Ideal)).Adm := ⟨pf T0 T1, ok h⟩
abbrev cfgA (h : Tabs T0 T1) : Pipeline.Cfg sig Λ₀ := cfg0 (F := Ideal) (adm h)
abbrev pcs (h : Tabs T0 T1) : Fin 1 → Pipeline.Cfg sig Λ₀ := Pipeline.pin (pcfgs (F := Ideal)) fun _ => adm h

/-! ## The points -/

theorem crd1 (h : Tabs T0 T1) (t : Fin (cfgA h).N) : ((cfgA h).grid.coords t 1).val = t.val % 288 :=
  (Pipeline.Grid.coords_val (G := grid0) t 1 (S := 1) (B := 288) (by decide) rfl).trans (by rw [Nat.div_one])
theorem crd0 (h : Tabs T0 T1) (t : Fin (cfgA h).N) : ((cfgA h).grid.coords t 0).val = t.val / 288 := by
  have ht : t.val < 1152 := t.isLt.trans_eq N_0
  refine (Pipeline.Grid.coords_val (G := grid0) t 0 (S := 288) (B := 4) (by decide) rfl).trans ?_
  omega

theorem index5 (h : Tabs T0 T1) (t : Fin (cfgA h).N) : ((cfgA h).win (5 : Fin 6)).index t = ![min (t.val % 288) (nu T1 - 1), t.val / 288] := by
  rw [← crd1 h t, ← crd0 h t]; exact transform_5 h _

/-- The body's first test: is the tile used. -/
theorem cond_word (h : Tabs T0 T1) (i : grid0.Coords) : k0_cond1 i (T1 (ix1 0)) = 1#1 ↔ (i 1).val < nu T1 := by
  have h1 := h.pos; have h2 := h.lt; have hi := i1_lt i
  have e : (T1 (ix1 0)).toInt = (nu T1 : Int) := by
    unfold nu; rw [BitVec.toInt_eq_toNat_cond]; rw [if_pos (by omega)]
  have a1 : Affine.IsInt (BitVec.ofNat 32 (i 1).val) ((i 1).val : Int) := Affine.ofNat _ ⟨rfl, by omega⟩
  have a2 : Affine.IsInt (T1 (ix1 0)) (nu T1 : Int) := e ▸ Affine.word _
  have hg : k0_cond1 i (T1 (ix1 0)) = 1#1 ↔ Scalar.cmpi .slt (BitVec.ofNat 32 (i 1).val) (T1 (ix1 0)) = 1#1 := by
    show Scalar.cmpi .ne (Scalar.extui (Scalar.cmpi .slt (BitVec.ofNat 32 (i 1).val) (T1 (ix1 0)))) 0#32 = 1#1 ↔ _
    generalize Scalar.cmpi .slt (BitVec.ofNat 32 (i 1).val) (T1 (ix1 0)) = b
    revert b; decide
  rw [hg]
  constructor
  · intro hh; by_contra hc
    exact Affine.slt_fails a1 a2 (by omega) hh
  · intro hh; exact Affine.slt_holds a1 a2 (by omega)

theorem idle5 (h : Tabs T0 T1) (t : Fin (cfgA h).N) : (cfgA h).idle (5 : Fin 6) ((cfgA h).grid.coords t) = true ↔ nu T1 ≤ t.val % 288 := by
  have e : (cfgA h).idle (5 : Fin 6) ((cfgA h).grid.coords t) = !(k0_cond1 ((cfgA h).grid.coords t) (T1 (ix1 0)) == 1#1) := by
    rw [← first_S1 (fun a => ⟨(![0] : Fin 1 → ℕ) a, by revert a; decide⟩)]
    rfl
  rw [e, Bool.not_eq_true', beq_eq_false_iff_ne, ne_eq, cond_word h, crd1]
  omega

theorem flush5 (h : Tabs T0 T1) (t : Fin (cfgA h).N) : ((cfgA h).win (5 : Fin 6)).flush t = true ↔ (t.val % 288 + 1 < nu T1 ∨ t.val % 288 = 287) := by
  have ht : t.val < 1152 := t.isLt.trans_eq N_0
  have hp : 1 ≤ nu T1 := h.pos
  have hN : (cfgA h).grid.N = 1152 := N_0
  rw [Pipeline.Window.flush_out _ rfl]
  constructor
  · rintro (he | ⟨h', hne⟩)
    · right; omega
    · by_contra hc
      apply hne
      rw [index5, index5]
      show ![min ((t.val + 1) % 288) (nu T1 - 1), (t.val + 1) / 288] = _
      rw [show min ((t.val + 1) % 288) (nu T1 - 1) = min (t.val % 288) (nu T1 - 1) by omega, show (t.val + 1) / 288 = t.val / 288 by omega]
  · intro hc
    by_cases he : t.val + 1 = 1152
    · left; omega
    · right
      refine ⟨by omega, fun heq => ?_⟩
      rw [index5, index5] at heq
      have h0 : min ((t.val + 1) % 288) (nu T1 - 1) = min (t.val % 288) (nu T1 - 1) := congrFun heq 0
      have h1 : (t.val + 1) / 288 = t.val / 288 := congrFun heq 1
      omega

theorem fresh5 (h : Tabs T0 T1) : ∀ (n : ℕ) (hn : n < (cfgA h).N), nu T1 ≤ n % 288 → (cfgA h).fresh (5 : Fin 6) n = false
  | 0, _, hi => absurd hi (by have := h.pos; unfold nu; simp; omega)
  | n + 1, hn, hi => by
    have hp : 1 ≤ nu T1 := h.pos
    have hn' : n < (cfgA h).N := Nat.lt_of_succ_lt hn
    have hm : (n + 1) % 288 = n % 288 + 1 := by omega
    rw [Pipeline.Cfg.fresh_succ _ _ n hn', Bool.or_eq_false_iff]
    constructor
    · rw [← Bool.not_eq_true, flush5]
      show ¬(n % 288 + 1 < nu T1 ∨ n % 288 = 287)
      omega
    · rw [Bool.and_eq_false_iff]
      by_cases hu : nu T1 ≤ n % 288
      · exact .inr (fresh5 h n hn' hu)
      · refine .inl ?_
        rw [← Bool.not_eq_true, idle5]; exact hu

end Cert.KernelUpIdeal.Exp

end
-- ==== Proof.UpPaths.lean ====
/- The experts' gate and up projections: the launch at any admissible tables, and what it leaves. -/
module

public import proofs.«01_k».proof.Proof.UpTab

@[expose] public section

set_option maxRecDepth 16384
set_option Elab.async false

noncomputable section

namespace Cert.KernelUpIdeal.Exp

open Cert.KernelUpIdeal Cert.KernelUpIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The type of states' assertions. -/
local notation "𝕄" => MT nD τ sig Unit (Elt Ideal) ℕ (UR sig nD τ) ℕ

/-- The resource algebra's embedding. -/
abbrev EP : Emb (UR sig nD τ) 𝕄 := emb₁

/-! ## The paths' values -/

theorem out_A (c : Dev nD) (i : grid0.Coords) (arg4 : Memref sig .tc .vmem S256x2048 .bf16) (harg4 : arg4.IsWhole) (arg5 : Memref sig .tc .vmem S1x2048x512 .f32) (harg5 : arg5.IsWhole) (arg6 : Memref sig .tc .vmem S1x2048x512 .f32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S256x512 .bf16) (harg9 : arg9.IsWhole) (T0 : (S288.Idx → Elt Ideal .i32)) (T1 : (S1.Idx → Elt Ideal .i32)) (x0 : (S256x2048.Idx → Elt Ideal .bf16)) (x1 : (S1x2048x512.Idx → Elt Ideal .f32)) (x2 : (S1x2048x512.Idx → Elt Ideal .f32)) (x3 : (S1x1x512.Idx → Elt Ideal .f32)) (x4 : (S1x1x512.Idx → Elt Ideal .f32)) (k0_h1 : k0_cond1 i (View.readAt (Elt Ideal) (tbM0_1).view (Rect.unit (s := S1) ![0] S1.size inb_S1_S1_0).toLoadRect T1 (Shape.Idx.first (numel1_S1.symm ▸ Nat.one_pos))) = 1#1) (hc1 : newExpert T0 i) :
    out0_A_5 c i arg4 harg4 arg5 harg5 arg6 harg6 arg7 harg7 arg8 harg8 arg9 harg9 T0 T1 x0 x1 x2 x3 x4 k0_h1 hc1 = k0_pay1 (k0_pay4 x0 (k0_pay3 x2) x4) (k0_pay5 x0 (k0_pay2 x1) x3) := by
  unfold out0_A_5
  frame_out
  rw [View.read_rep, View.read_rep, View.read_rep, View.read_rep, View.read_rep]

theorem out_B (c : Dev nD) (i : grid0.Coords) (arg4 : Memref sig .tc .vmem S256x2048 .bf16) (harg4 : arg4.IsWhole) (arg5 : Memref sig .tc .vmem S1x2048x512 .f32) (harg5 : arg5.IsWhole) (arg6 : Memref sig .tc .vmem S1x2048x512 .f32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S256x512 .bf16) (harg9 : arg9.IsWhole) (T0 : (S288.Idx → Elt Ideal .i32)) (T1 : (S1.Idx → Elt Ideal .i32)) (x0 : (S256x2048.Idx → Elt Ideal .bf16)) (x1 : (S1x2048x512.Idx → Elt Ideal .f32)) (x2 : (S1x2048x512.Idx → Elt Ideal .f32)) (x3 : (S1x1x512.Idx → Elt Ideal .f32)) (x4 : (S1x1x512.Idx → Elt Ideal .f32)) (xa0 : Buf (Elt Ideal) ((c : Thread nD τ).loc cc0_scratch0)) (xa1 : Buf (Elt Ideal) ((c : Thread nD τ).loc cc0_scratch1)) (k0_h1 : k0_cond1 i (View.readAt (Elt Ideal) (tbM0_1).view (Rect.unit (s := S1) ![0] S1.size inb_S1_S1_0).toLoadRect T1 (Shape.Idx.first (numel1_S1.symm ▸ Nat.one_pos))) = 1#1) (hc1 : ¬ newExpert T0 i) :
    out0_B_5 c i arg4 harg4 arg5 harg5 arg6 harg6 arg7 harg7 arg8 harg8 arg9 harg9 T0 T1 x0 x1 x2 x3 x4 xa0 xa1 k0_h1 hc1 = k0_pay1 (k0_pay4 x0 xa1 x4) (k0_pay5 x0 xa0 x3) := by
  unfold out0_B_5
  frame_out
  rw [View.read_rep, View.read_rep, View.read_rep, View.read_whole, View.read_whole]

theorem scr_A0 (c : Dev nD) (i : grid0.Coords) (arg4 : Memref sig .tc .vmem S256x2048 .bf16) (harg4 : arg4.IsWhole) (arg5 : Memref sig .tc .vmem S1x2048x512 .f32) (harg5 : arg5.IsWhole) (arg6 : Memref sig .tc .vmem S1x2048x512 .f32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S256x512 .bf16) (harg9 : arg9.IsWhole) (T0 : (S288.Idx → Elt Ideal .i32)) (T1 : (S1.Idx → Elt Ideal .i32)) (x0 : (S256x2048.Idx → Elt Ideal .bf16)) (x1 : (S1x2048x512.Idx → Elt Ideal .f32)) (x2 : (S1x2048x512.Idx → Elt Ideal .f32)) (x3 : (S1x1x512.Idx → Elt Ideal .f32)) (x4 : (S1x1x512.Idx → Elt Ideal .f32)) (k0_h1 : k0_cond1 i (View.readAt (Elt Ideal) (tbM0_1).view (Rect.unit (s := S1) ![0] S1.size inb_S1_S1_0).toLoadRect T1 (Shape.Idx.first (numel1_S1.symm ▸ Nat.one_pos))) = 1#1) (hc1 : newExpert T0 i) :
    (kernelRun0_A c i arg4 harg4 arg5 harg5 arg6 harg6 arg7 harg7 arg8 harg8 arg9 harg9 T0 T1 x0 x1 x2 x3 x4 k0_h1 hc1).2.1 = k0_pay2 x1 := by
  have e : (View.whole cc0_scratch0).read (Elt Ideal) (kernelRun0_A c i arg4 harg4 arg5 harg5 arg6 harg6 arg7 harg7 arg8 harg8 arg9 harg9 T0 T1 x0 x1 x2 x3 x4 k0_h1 hc1).2.1 = k0_pay2 x1 := by
    frame_out
    rw [View.read_rep]
    exact View.canon_unit_zero (funext fun a => by fin_cases a <;> rfl) _ _
  exact e

theorem scr_A1 (c : Dev nD) (i : grid0.Coords) (arg4 : Memref sig .tc .vmem S256x2048 .bf16) (harg4 : arg4.IsWhole) (arg5 : Memref sig .tc .vmem S1x2048x512 .f32) (harg5 : arg5.IsWhole) (arg6 : Memref sig .tc .vmem S1x2048x512 .f32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S256x512 .bf16) (harg9 : arg9.IsWhole) (T0 : (S288.Idx → Elt Ideal .i32)) (T1 : (S1.Idx → Elt Ideal .i32)) (x0 : (S256x2048.Idx → Elt Ideal .bf16)) (x1 : (S1x2048x512.Idx → Elt Ideal .f32)) (x2 : (S1x2048x512.Idx → Elt Ideal .f32)) (x3 : (S1x1x512.Idx → Elt Ideal .f32)) (x4 : (S1x1x512.Idx → Elt Ideal .f32)) (k0_h1 : k0_cond1 i (View.readAt (Elt Ideal) (tbM0_1).view (Rect.unit (s := S1) ![0] S1.size inb_S1_S1_0).toLoadRect T1 (Shape.Idx.first (numel1_S1.symm ▸ Nat.one_pos))) = 1#1) (hc1 : newExpert T0 i) :
    (kernelRun0_A c i arg4 harg4 arg5 harg5 arg6 harg6 arg7 harg7 arg8 harg8 arg9 harg9 T0 T1 x0 x1 x2 x3 x4 k0_h1 hc1).2.2.1 = k0_pay3 x2 := by
  have e : (View.whole cc0_scratch1).read (Elt Ideal) (kernelRun0_A c i arg4 harg4 arg5 harg5 arg6 harg6 arg7 harg7 arg8 harg8 arg9 harg9 T0 T1 x0 x1 x2 x3 x4 k0_h1 hc1).2.2.1 = k0_pay3 x2 := by
    frame_out
    rw [View.read_rep]
    exact View.canon_unit_zero (funext fun a => by fin_cases a <;> rfl) _ _
  exact e

theorem scr_B0 (c : Dev nD) (i : grid0.Coords) (arg4 : Memref sig .tc .vmem S256x2048 .bf16) (harg4 : arg4.IsWhole) (arg5 : Memref sig .tc .vmem S1x2048x512 .f32) (harg5 : arg5.IsWhole) (arg6 : Memref sig .tc .vmem S1x2048x512 .f32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S256x512 .bf16) (harg9 : arg9.IsWhole) (T0 : (S288.Idx → Elt Ideal .i32)) (T1 : (S1.Idx → Elt Ideal .i32)) (x0 : (S256x2048.Idx → Elt Ideal .bf16)) (x1 : (S1x2048x512.Idx → Elt Ideal .f32)) (x2 : (S1x2048x512.Idx → Elt Ideal .f32)) (x3 : (S1x1x512.Idx → Elt Ideal .f32)) (x4 : (S1x1x512.Idx → Elt Ideal .f32)) (xa0 : Buf (Elt Ideal) ((c : Thread nD τ).loc cc0_scratch0)) (xa1 : Buf (Elt Ideal) ((c : Thread nD τ).loc cc0_scratch1)) (k0_h1 : k0_cond1 i (View.readAt (Elt Ideal) (tbM0_1).view (Rect.unit (s := S1) ![0] S1.size inb_S1_S1_0).toLoadRect T1 (Shape.Idx.first (numel1_S1.symm ▸ Nat.one_pos))) = 1#1) (hc1 : ¬ newExpert T0 i) :
    (kernelRun0_B c i arg4 harg4 arg5 harg5 arg6 harg6 arg7 harg7 arg8 harg8 arg9 harg9 T0 T1 x0 x1 x2 x3 x4 xa0 xa1 k0_h1 hc1).2.1 = xa0 := rfl

theorem scr_B1 (c : Dev nD) (i : grid0.Coords) (arg4 : Memref sig .tc .vmem S256x2048 .bf16) (harg4 : arg4.IsWhole) (arg5 : Memref sig .tc .vmem S1x2048x512 .f32) (harg5 : arg5.IsWhole) (arg6 : Memref sig .tc .vmem S1x2048x512 .f32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S256x512 .bf16) (harg9 : arg9.IsWhole) (T0 : (S288.Idx → Elt Ideal .i32)) (T1 : (S1.Idx → Elt Ideal .i32)) (x0 : (S256x2048.Idx → Elt Ideal .bf16)) (x1 : (S1x2048x512.Idx → Elt Ideal .f32)) (x2 : (S1x2048x512.Idx → Elt Ideal .f32)) (x3 : (S1x1x512.Idx → Elt Ideal .f32)) (x4 : (S1x1x512.Idx → Elt Ideal .f32)) (xa0 : Buf (Elt Ideal) ((c : Thread nD τ).loc cc0_scratch0)) (xa1 : Buf (Elt Ideal) ((c : Thread nD τ).loc cc0_scratch1)) (k0_h1 : k0_cond1 i (View.readAt (Elt Ideal) (tbM0_1).view (Rect.unit (s := S1) ![0] S1.size inb_S1_S1_0).toLoadRect T1 (Shape.Idx.first (numel1_S1.symm ▸ Nat.one_pos))) = 1#1) (hc1 : ¬ newExpert T0 i) :
    (kernelRun0_B c i arg4 harg4 arg5 harg5 arg6 harg6 arg7 harg7 arg8 harg8 arg9 harg9 T0 T1 x0 x1 x2 x3 x4 xa0 xa1 k0_h1 hc1).2.2.1 = xa1 := rfl

set_option maxHeartbeats 8000000 in
/-- A tile that is not used: the body reads the second table and leaves everything as it is. -/
theorem run_C (c : Dev nD) (i : grid0.Coords) (arg4 : Memref sig .tc .vmem S256x2048 .bf16) (harg4 : arg4.IsWhole) (arg5 : Memref sig .tc .vmem S1x2048x512 .f32) (harg5 : arg5.IsWhole) (arg6 : Memref sig .tc .vmem S1x2048x512 .f32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S256x512 .bf16) (harg9 : arg9.IsWhole) (T0 : (S288.Idx → Elt Ideal .i32)) (T1 : (S1.Idx → Elt Ideal .i32)) (k0_h1 : ¬ k0_cond1 i (View.readAt (Elt Ideal) (tbM0_1).view (Rect.unit (s := S1) ![0] S1.size inb_S1_S1_0).toLoadRect T1 (Shape.Idx.first (numel1_S1.symm ▸ Nat.one_pos))) = 1#1) (K : PUnit → sProp 𝕄) :
    iprop((tbM0_1.view.loc (c : Thread nD τ) ↦{fullShare.right} T1) ∗ ((tbM0_1.view.loc (c : Thread nD τ) ↦{fullShare.right} T1) -∗ K ⟨⟩))
      ⊢ wp frame (wpE (defs₀ (F := Ideal)) Variants.none c none) Set.univ (cc0_expert_gate_up i tbM0_0 (Memref.isWhole_whole _) tbM0_1 (Memref.isWhole_whole _) arg4 harg4 arg5 harg5 arg6 harg6 arg7 harg7 arg8 harg8 arg9 harg9 scM0_0 (Memref.isWhole_whole _) scM0_1 (Memref.isWhole_whole _)) K := by
  rw [cc0_expert_gate_up_eq_skeleton]; unfold cc0_expert_gate_up_skel
  iintro ⟨HT1, Hk⟩
  have hS0 : scM0_0.IsWhole := Memref.isWhole_whole _
  have hS1 : scM0_1.IsWhole := Memref.isWhole_whole _
  have hT0 : tbM0_0.IsWhole := Memref.isWhole_whole _
  have hT1 : tbM0_1.IsWhole := Memref.isWhole_whole _
  sl_exec! (disch := first | (guard_target = ¬(k0_cond1 _ _ = _); exact k0_h1))
  sl_step
  iapply Hk
  iexact HT1

theorem read_T1 (T1 : S1.Idx → BitVec 32) : View.readAt (Elt Ideal) (tbM0_1).view (Rect.unit (s := S1) ![0] S1.size inb_S1_S1_0).toLoadRect T1 (Shape.Idx.first (numel1_S1.symm ▸ Nat.one_pos)) = T1 (ix1 0) := congrArg T1 (first_S1 _)

theorem not_new (T0 : S288.Idx → BitVec 32) (i : grid0.Coords) (hn : ¬ newExpert T0 i) :
    (i 1).val ≠ 0 ∧ ∀ k : Fin 288, k.val = (i 1).val - 1 → T0 (ix1 ⟨(i 1).val, i1_lt i⟩) = T0 (ix1 k) := by
  have hi := i1_lt i
  let k1 : Fin 288 := ⟨(i 1).val, hi⟩
  have e2 : View.readAt (Elt Ideal) (tbM0_0).view (Rect.unit (s := S288) (k0_off2 i) S1.size (k0_off2_inb i)).toLoadRect T0 (Shape.Idx.first (numel1_S1.symm ▸ Nat.one_pos)) = T0 (ix1 k1) := congrArg T0 (emb_off (k0_off2 i) k1 (toNat_i1 i) (k0_off2_inb i) _)
  have hw : Scalar.cmpi .eq (BitVec.ofNat 32 (i 1).val) 0#32 ≠ 1#1 ∧ Scalar.cmpi .ne (View.readAt (Elt Ideal) (tbM0_0).view (Rect.unit (s := S288) (k0_off2 i) S1.size (k0_off2_inb i)).toLoadRect T0 (Shape.Idx.first (numel1_S1.symm ▸ Nat.one_pos))) (View.readAt (Elt Ideal) (tbM0_0).view (Rect.unit (s := S288) (k0_off3 i) S1.size (k0_off3_inb i)).toLoadRect T0 (Shape.Idx.first (numel1_S1.symm ▸ Nat.one_pos))) ≠ 1#1 := by
    revert hn
    unfold newExpert
    generalize Scalar.cmpi .eq (BitVec.ofNat 32 (i 1).val) 0#32 = a
    generalize Scalar.cmpi .ne (View.readAt (Elt Ideal) (tbM0_0).view (Rect.unit (s := S288) (k0_off2 i) S1.size (k0_off2_inb i)).toLoadRect T0 (Shape.Idx.first (numel1_S1.symm ▸ Nat.one_pos))) (View.readAt (Elt Ideal) (tbM0_0).view (Rect.unit (s := S288) (k0_off3 i) S1.size (k0_off3_inb i)).toLoadRect T0 (Shape.Idx.first (numel1_S1.symm ▸ Nat.one_pos))) = b
    revert a b; decide
  have a1 : Affine.IsInt (BitVec.ofNat 32 (i 1).val) ((i 1).val : Int) := Affine.ofNat _ ⟨rfl, by omega⟩
  have h0 : (i 1).val ≠ 0 := fun h0 => hw.1 (by rw [h0]; decide)
  refine ⟨h0, fun k hk => ?_⟩
  have ho : k0_off3 i 0 = k.val := by
    have a3 : Affine.IsInt (1#32) (1 : Int) := Affine.ofNat 1 ⟨rfl, by omega⟩
    have a0 : Affine.IsInt (0#32) (0 : Int) := Affine.ofNat 0 ⟨rfl, by omega⟩
    have a4 := Affine.subi a1 a3 (e := ((i 1).val : Int) - 1) ⟨rfl, by omega, by omega⟩
    have a5 := Affine.maxsi a4 a0 rfl
    exact (Affine.nat_eq a5 _ (by omega)).trans rfl
  have e3 : View.readAt (Elt Ideal) (tbM0_0).view (Rect.unit (s := S288) (k0_off3 i) S1.size (k0_off3_inb i)).toLoadRect T0 (Shape.Idx.first (numel1_S1.symm ▸ Nat.one_pos)) = T0 (ix1 k) := congrArg T0 (emb_off (k0_off3 i) k ho (k0_off3_inb i) _)
  rw [e2, e3] at hw
  by_contra hne
  refine hw.2 ?_
  show BitVec.ofBool (T0 (ix1 k1) != T0 (ix1 k)) = 1#1
  rw [bne_iff_ne.2 hne]; rfl

end Cert.KernelUpIdeal.Exp

end
-- ==== Proof.UpFrame.lean ====
/- The experts' gate and up projections: the launch at any admissible tables, and what it leaves. -/
module

public import proofs.«01_k».proof.Proof.UpPaths

@[expose] public section

set_option maxRecDepth 16384
set_option Elab.async false

noncomputable section

namespace Cert.KernelUpIdeal.Exp

open Cert.KernelUpIdeal Cert.KernelUpIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The type of states' assertions. -/
local notation "𝕄" => MT nD τ sig Unit (Elt Ideal) ℕ (UR sig nD τ) ℕ

/-! ## The windows' blocks -/

variable {T0 : S288.Idx → BitVec 32} {T1 : S1.Idx → BitVec 32} (h : Tabs T0 T1)
variable (m : (ℓ : Loc nD τ sig) → Buf (Elt Ideal) ℓ) (ρ : Dev nD → PrngReg)

/-- Point `t`'s coordinates. -/
abbrev crd (t : Fin (cfgA h).N) : (cfgA h).grid.Coords := (cfgA h).grid.coords t
abbrev ms0_0 (t : Fin (cfgA h).N) : Memref sig .tc .vmem S256x2048 .bf16 := spec0_0.stage ((cfgA h).slots t (0 : Fin 6))
abbrev hs0_0 (t : Fin (cfgA h).N) : (ms0_0 h t).IsWhole := hstage0_0 (((cfgA h).slots t (0 : Fin 6)).cast nbuf0_0)
abbrev ms0_1 (t : Fin (cfgA h).N) : Memref sig .tc .vmem S1x2048x512 .f32 := spec0_1.stage ((cfgA h).slots t (1 : Fin 6))
abbrev hs0_1 (t : Fin (cfgA h).N) : (ms0_1 h t).IsWhole := hstage0_1 (((cfgA h).slots t (1 : Fin 6)).cast nbuf0_1)
abbrev ms0_2 (t : Fin (cfgA h).N) : Memref sig .tc .vmem S1x2048x512 .f32 := spec0_2.stage ((cfgA h).slots t (2 : Fin 6))
abbrev hs0_2 (t : Fin (cfgA h).N) : (ms0_2 h t).IsWhole := hstage0_2 (((cfgA h).slots t (2 : Fin 6)).cast nbuf0_2)
abbrev ms0_3 (t : Fin (cfgA h).N) : Memref sig .tc .vmem S1x1x512 .f32 := spec0_3.stage ((cfgA h).slots t (3 : Fin 6))
abbrev hs0_3 (t : Fin (cfgA h).N) : (ms0_3 h t).IsWhole := hstage0_3 (((cfgA h).slots t (3 : Fin 6)).cast nbuf0_3)
abbrev ms0_4 (t : Fin (cfgA h).N) : Memref sig .tc .vmem S1x1x512 .f32 := spec0_4.stage ((cfgA h).slots t (4 : Fin 6))
abbrev hs0_4 (t : Fin (cfgA h).N) : (ms0_4 h t).IsWhole := hstage0_4 (((cfgA h).slots t (4 : Fin 6)).cast nbuf0_4)
abbrev ms0_5 (t : Fin (cfgA h).N) : Memref sig .tc .vmem S256x512 .bf16 := spec0_5.stage ((cfgA h).slots t (5 : Fin 6))
abbrev hs0_5 (t : Fin (cfgA h).N) : (ms0_5 h t).IsWhole := hstage0_5 (((cfgA h).slots t (5 : Fin 6)).cast nbuf0_5)

/-- Window `w`'s block at point `t`, read off its array at launch. -/
def iblk (c : Dev nD) (w : Fin (cfgA h).W) (t : Fin (cfgA h).N) : (((cfgA h).win w).xblock (crd h t)).Idx → Elt Ideal ((cfgA h).win w).elt :=
  (((cfgA h).win w).blk t).view.read (Elt Ideal) ((s₀ m ρ).mem (((cfgA h).win w).arr.view.loc (c : Thread nD τ)))

/-- The gate's weight block as its scratch holds it. -/
def scv0 (c : Dev nD) (t : Fin (cfgA h).N) : S2048x512.Idx → Elt Ideal .bf16 := k0_pay2 (iblk h m ρ c (1 : Fin 6) t)
/-- The up projection's weight block as its scratch holds it. -/
def scv1 (c : Dev nD) (t : Fin (cfgA h).N) : S2048x512.Idx → Elt Ideal .bf16 := k0_pay3 (iblk h m ρ c (2 : Fin 6) t)

/-- What the body stores at a used tile. -/
def outv (c : Dev nD) (t : Fin (cfgA h).N) : S256x512.Idx → Elt Ideal .bf16 :=
  k0_pay1 (k0_pay4 (iblk h m ρ c (0 : Fin 6) t) (scv1 h m ρ c t) (iblk h m ρ c (4 : Fin 6) t))
    (k0_pay5 (iblk h m ρ c (0 : Fin 6) t) (scv0 h m ρ c t) (iblk h m ρ c (3 : Fin 6) t))

/-- The last used tile's point at or before `t`, in the same half of the columns. -/
def lst (t : Fin (cfgA h).N) : Fin (cfgA h).N := ⟨t.val - (t.val % 288 - min (t.val % 288) (nu T1 - 1)), lt_of_le_of_lt (Nat.sub_le _ _) t.isLt⟩

theorem lst_used (t : Fin (cfgA h).N) (hu : t.val % 288 < nu T1) : lst h t = t :=
  Fin.ext (by show t.val - (t.val % 288 - min (t.val % 288) (nu T1 - 1)) = t.val; omega)

theorem lst_idle (t t' : Fin (cfgA h).N) (hu : nu T1 ≤ t.val % 288) (ht : t'.val = t.val - 1) : lst h t = lst h t' :=
  Fin.ext (by
    have hp : 1 ≤ nu T1 := h.pos
    show t.val - (t.val % 288 - min (t.val % 288) (nu T1 - 1)) = t'.val - (t'.val % 288 - min (t'.val % 288) (nu T1 - 1))
    omega)

/-- Blocks of a window whose index is the same are the same. -/
theorem iblk1_congr (c : Dev nD) (t t' : Fin (cfgA h).N) (e : ((cfgA h).win (1 : Fin 6)).index t = ((cfgA h).win (1 : Fin 6)).index t') :
    (iblk h m ρ c (1 : Fin 6) t : S1x2048x512.Idx → Elt Ideal .f32) = iblk h m ρ c (1 : Fin 6) t' := by
  funext x
  unfold iblk
  exact congrArg (View.read (Elt Ideal) ((cfgA h).win (1 : Fin 6)).arr.view ((s₀ m ρ).mem (((cfgA h).win (1 : Fin 6)).arr.view.loc (c : Thread nD τ))))
    (funext fun a => Fin.ext (by
      show ((cfgA h).win (1 : Fin 6)).index t a * _ + 1 * (x a).val = ((cfgA h).win (1 : Fin 6)).index t' a * _ + 1 * (x a).val
      rw [e]))

theorem iblk2_congr (c : Dev nD) (t t' : Fin (cfgA h).N) (e : ((cfgA h).win (2 : Fin 6)).index t = ((cfgA h).win (2 : Fin 6)).index t') :
    (iblk h m ρ c (2 : Fin 6) t : S1x2048x512.Idx → Elt Ideal .f32) = iblk h m ρ c (2 : Fin 6) t' := by
  funext x
  unfold iblk
  exact congrArg (View.read (Elt Ideal) ((cfgA h).win (2 : Fin 6)).arr.view ((s₀ m ρ).mem (((cfgA h).win (2 : Fin 6)).arr.view.loc (c : Thread nD τ))))
    (funext fun a => Fin.ext (by
      show ((cfgA h).win (2 : Fin 6)).index t a * _ + 1 * (x a).val = ((cfgA h).win (2 : Fin 6)).index t' a * _ + 1 * (x a).val
      rw [e]))

theorem index1 (t : Fin (cfgA h).N) : ((cfgA h).win (1 : Fin 6)).index t = ![(T0 (ix1 ⟨t.val % 288, Nat.mod_lt _ (by decide)⟩)).toNat, 0, t.val / 288] := by
  have e : (⟨t.val % 288, Nat.mod_lt _ (by decide)⟩ : Fin 288) = crd h t 1 := Fin.ext (crd1 h t).symm
  rw [e, ← crd0 h t]; exact transform_1 _

theorem index2 (t : Fin (cfgA h).N) : ((cfgA h).win (2 : Fin 6)).index t = ![(T0 (ix1 ⟨t.val % 288, Nat.mod_lt _ (by decide)⟩)).toNat, 0, 4 + t.val / 288] := by
  have e : (⟨t.val % 288, Nat.mod_lt _ (by decide)⟩ : Fin 288) = crd h t 1 := Fin.ext (crd1 h t).symm
  rw [e, ← crd0 h t]; exact transform_2 _

theorem index3 (t : Fin (cfgA h).N) : ((cfgA h).win (3 : Fin 6)).index t = ![(T0 (ix1 ⟨t.val % 288, Nat.mod_lt _ (by decide)⟩)).toNat, 0, t.val / 288] := by
  have e : (⟨t.val % 288, Nat.mod_lt _ (by decide)⟩ : Fin 288) = crd h t 1 := Fin.ext (crd1 h t).symm
  rw [e, ← crd0 h t]; exact transform_3 _

theorem index4 (t : Fin (cfgA h).N) : ((cfgA h).win (4 : Fin 6)).index t = ![(T0 (ix1 ⟨t.val % 288, Nat.mod_lt _ (by decide)⟩)).toNat, 0, 4 + t.val / 288] := by
  have e : (⟨t.val % 288, Nat.mod_lt _ (by decide)⟩ : Fin 288) = crd h t 1 := Fin.ext (crd1 h t).symm
  rw [e, ← crd0 h t]; exact transform_4 _

theorem index0 (t : Fin (cfgA h).N) : ((cfgA h).win (0 : Fin 6)).index t = ![min (t.val % 288) (nu T1 - 1), 0] := by
  rw [← crd1 h t]; exact transform_0 h _

/-- At a used tile of the same expert as the tile before, the scratch's block is the one of the tile before. -/
theorem scv0_prev (c : Dev nD) (t t' : Fin (cfgA h).N) (hn : ¬ newExpert T0 (crd h t)) (ht : t'.val + 1 = t.val) :
    scv0 h m ρ c t' = scv0 h m ρ c t := by
  obtain ⟨h0, hk⟩ := not_new T0 (crd h t) hn
  rw [crd1] at h0
  have hk' := hk ⟨t'.val % 288, Nat.mod_lt _ (by decide)⟩ (by rw [crd1]; show t'.val % 288 = _; omega)
  unfold scv0
  rw [iblk1_congr h m ρ c t' t]
  rw [index1, index1, ← hk']
  have e : (⟨t.val % 288, Nat.mod_lt _ (by decide)⟩ : Fin 288) = ⟨(crd h t 1).val, i1_lt (crd h t)⟩ := Fin.ext (crd1 h t).symm
  rw [e, show t'.val / 288 = t.val / 288 by omega]

theorem scv1_prev (c : Dev nD) (t t' : Fin (cfgA h).N) (hn : ¬ newExpert T0 (crd h t)) (ht : t'.val + 1 = t.val) :
    scv1 h m ρ c t' = scv1 h m ρ c t := by
  obtain ⟨h0, hk⟩ := not_new T0 (crd h t) hn
  rw [crd1] at h0
  have hk' := hk ⟨t'.val % 288, Nat.mod_lt _ (by decide)⟩ (by rw [crd1]; show t'.val % 288 = _; omega)
  unfold scv1
  rw [iblk2_congr h m ρ c t' t]
  rw [index2, index2, ← hk']
  have e : (⟨t.val % 288, Nat.mod_lt _ (by decide)⟩ : Fin 288) = ⟨(crd h t 1).val, i1_lt (crd h t)⟩ := Fin.ext (crd1 h t).symm
  rw [e, show t'.val / 288 = t.val / 288 by omega]

/-! ## The proof data -/

/-- What is known of the scratches before position `n`: after a used tile they hold that tile's weight blocks. -/
def ScOK (c : Dev nD) (n : ℕ) (a b : S2048x512.Idx → Elt Ideal .bf16) : Prop :=
  ∀ t : Fin (cfgA h).N, t.val + 1 = n → t.val % 288 < nu T1 → a = scv0 h m ρ c t ∧ b = scv1 h m ρ c t

/-- The invariant before a position: the scratches, and the body's halves of the tables. -/
def Phi (c : Dev nD) (t : Fin ((cfgA h).N + 1)) : sProp 𝕄 :=
  iprop((∃ a b, ⌜ScOK h m ρ c t.val a b⌝ ∗ (scM0_0.view.loc (c : Thread nD τ) ↦{fullShare} a) ∗ (scM0_1.view.loc (c : Thread nD τ) ↦{fullShare} b)) ∗ (tbM0_0.view.loc (c : Thread nD τ) ↦{fullShare.right} T0) ∗ (tbM0_1.view.loc (c : Thread nD τ) ↦{fullShare.right} T1))

def dats (_ : Fin 1) (c : Dev nD) : Dat τ (Elt Ideal) Unit ℕ (UR sig nD τ) ℕ (cfgA h) c where
  A w := (s₀ m ρ).mem (((cfgA h).win w).arr.view.loc (c : Thread nD τ))
  after w t := match w with
    | ⟨0, _⟩ => iblk h m ρ c (0 : Fin 6) t
    | ⟨1, _⟩ => iblk h m ρ c (1 : Fin 6) t
    | ⟨2, _⟩ => iblk h m ρ c (2 : Fin 6) t
    | ⟨3, _⟩ => iblk h m ρ c (3 : Fin 6) t
    | ⟨4, _⟩ => iblk h m ρ c (4 : Fin 6) t
    | ⟨5, _⟩ => outv h m ρ c (lst h t)
  Φ t := Phi h m ρ c t
  q w := Pipeline.shareOf (cfgA h).spec w
  owed _ := 0

theorem after0_0 (c : Dev nD) (t : Fin (cfgA h).N) : (dats h m ρ 0 c).after (0 : Fin 6) t = iblk h m ρ c (0 : Fin 6) t := rfl
theorem after0_1 (c : Dev nD) (t : Fin (cfgA h).N) : (dats h m ρ 0 c).after (1 : Fin 6) t = iblk h m ρ c (1 : Fin 6) t := rfl
theorem after0_2 (c : Dev nD) (t : Fin (cfgA h).N) : (dats h m ρ 0 c).after (2 : Fin 6) t = iblk h m ρ c (2 : Fin 6) t := rfl
theorem after0_3 (c : Dev nD) (t : Fin (cfgA h).N) : (dats h m ρ 0 c).after (3 : Fin 6) t = iblk h m ρ c (3 : Fin 6) t := rfl
theorem after0_4 (c : Dev nD) (t : Fin (cfgA h).N) : (dats h m ρ 0 c).after (4 : Fin 6) t = iblk h m ρ c (4 : Fin 6) t := rfl
theorem after0_5 (c : Dev nD) (t : Fin (cfgA h).N) : (dats h m ρ 0 c).after (5 : Fin 6) t = outv h m ρ c (lst h t) := rfl

theorem before0_0 (c : Dev nD) (t : Fin (cfgA h).N) (d) : (dats h m ρ 0 c).before (0 : Fin 6) t d = iblk h m ρ c (0 : Fin 6) t :=
  ((dats h m ρ 0 c).before_in_eq_fetched (0 : Fin 6) rfl (fun _ => rfl) (fun _ _ _ => rfl) (fun t => by rw [after0_0]; unfold Dat.blockOf iblk; rfl) t d).trans
    (by unfold Dat.fetched Dat.blockOf iblk; rfl)

theorem before0_1 (c : Dev nD) (t : Fin (cfgA h).N) (d) : (dats h m ρ 0 c).before (1 : Fin 6) t d = iblk h m ρ c (1 : Fin 6) t :=
  ((dats h m ρ 0 c).before_in_eq_fetched (1 : Fin 6) rfl (fun _ => rfl) (fun _ _ _ => rfl) (fun t => by rw [after0_1]; unfold Dat.blockOf iblk; rfl) t d).trans
    (by unfold Dat.fetched Dat.blockOf iblk; rfl)

theorem before0_2 (c : Dev nD) (t : Fin (cfgA h).N) (d) : (dats h m ρ 0 c).before (2 : Fin 6) t d = iblk h m ρ c (2 : Fin 6) t :=
  ((dats h m ρ 0 c).before_in_eq_fetched (2 : Fin 6) rfl (fun _ => rfl) (fun _ _ _ => rfl) (fun t => by rw [after0_2]; unfold Dat.blockOf iblk; rfl) t d).trans
    (by unfold Dat.fetched Dat.blockOf iblk; rfl)

theorem before0_3 (c : Dev nD) (t : Fin (cfgA h).N) (d) : (dats h m ρ 0 c).before (3 : Fin 6) t d = iblk h m ρ c (3 : Fin 6) t :=
  ((dats h m ρ 0 c).before_in_eq_fetched (3 : Fin 6) rfl (fun _ => rfl) (fun _ _ _ => rfl) (fun t => by rw [after0_3]; unfold Dat.blockOf iblk; rfl) t d).trans
    (by unfold Dat.fetched Dat.blockOf iblk; rfl)

theorem before0_4 (c : Dev nD) (t : Fin (cfgA h).N) (d) : (dats h m ρ 0 c).before (4 : Fin 6) t d = iblk h m ρ c (4 : Fin 6) t :=
  ((dats h m ρ 0 c).before_in_eq_fetched (4 : Fin 6) rfl (fun _ => rfl) (fun _ _ _ => rfl) (fun t => by rw [after0_4]; unfold Dat.blockOf iblk; rfl) t d).trans
    (by unfold Dat.fetched Dat.blockOf iblk; rfl)

theorem hcarry0_5 (c : Dev nD) : ∀ (t : Fin (cfgA h).N) (ht : t.val ≠ 0), (cfgA h).idle (5 : Fin 6) ((cfgA h).grid.coords t) = true → (cfgA h).fresh (5 : Fin 6) t.val = false →
    (dats h m ρ 0 c).after (5 : Fin 6) t = (dats h m ρ 0 c).after (5 : Fin 6) ⟨t.val - 1, by omega⟩ := by
  intro t ht hi hf
  rw [after0_5, after0_5, lst_idle h t ⟨t.val - 1, by omega⟩ ((idle5 h t).1 hi) rfl]

/-- At a tile that is not used the output's buffer holds what the last used tile left. -/
theorem before0_5_idle (c : Dev nD) (t : Fin (cfgA h).N) (hu : nu T1 ≤ t.val % 288) (d) :
    (dats h m ρ 0 c).before (5 : Fin 6) t d = outv h m ρ c (lst h t) := by
  have hp : 1 ≤ nu T1 := h.pos
  have h0 : t.val ≠ 0 := fun h0 => by rw [h0] at hu; omega
  rw [(dats h m ρ 0 c).before_out_traj (5 : Fin 6) rfl (fun _ _ => rfl) (hcarry0_5 h m ρ c) t.val t rfl d]
  have hf := fresh5 h t.val t.isLt hu
  simp only [hf, Bool.false_eq_true, ↓reduceIte]
  rw [after0_5]
  exact congrArg _ (lst_idle h t ⟨t.val - 1, by omega⟩ hu rfl).symm

/-! ## The body at a point -/

abbrev bodyAt0 (t : Fin (cfgA h).N) : Prog (TpuEff nD τ sig (Elt Ideal) Λ₀ .tc) PUnit :=
  cc0_expert_gate_up (crd h t) (Memref.whole main_arg0) (Memref.isWhole_whole _) (Memref.whole main_arg1) (Memref.isWhole_whole _) (ms0_0 h t) (hs0_0 h t) (ms0_1 h t) (hs0_1 h t) (ms0_2 h t) (hs0_2 h t) (ms0_3 h t) (hs0_3 h t) (ms0_4 h t) (hs0_4 h t) (ms0_5 h t) (hs0_5 h t) (Memref.whole cc0_scratch0) (Memref.isWhole_whole _) (Memref.whole cc0_scratch1) (Memref.isWhole_whole _)

theorem idle5_false (t : Fin (cfgA h).N) (hu : t.val % 288 < nu T1) : (cfgA h).idle (5 : Fin 6) ((cfgA h).grid.coords t) = false := by
  rw [← Bool.not_eq_true, idle5]; omega

set_option maxHeartbeats 4000000 in
theorem sound_body (c : Dev nD) (t : Fin (cfgA h).N) :
    iprop((dats h m ρ 0 c).Φ t.castSucc ∗ (dats h m ρ 0 c).owesAt () t.castSucc
        ∗ (∃ d, owns (c : Thread nD τ) (ms0_0 h t) fullShare ((dats h m ρ 0 c).before (0 : Fin 6) t d))
        ∗ (∃ d, owns (c : Thread nD τ) (ms0_1 h t) fullShare ((dats h m ρ 0 c).before (1 : Fin 6) t d))
        ∗ (∃ d, owns (c : Thread nD τ) (ms0_2 h t) fullShare ((dats h m ρ 0 c).before (2 : Fin 6) t d))
        ∗ (∃ d, owns (c : Thread nD τ) (ms0_3 h t) fullShare ((dats h m ρ 0 c).before (3 : Fin 6) t d))
        ∗ (∃ d, owns (c : Thread nD τ) (ms0_4 h t) fullShare ((dats h m ρ 0 c).before (4 : Fin 6) t d))
        ∗ (∃ d, owns (c : Thread nD τ) (ms0_5 h t) fullShare ((dats h m ρ 0 c).before (5 : Fin 6) t d)))
      ⊢ wp frame (wpE (defs₀ (F := Ideal)) Variants.none c none) Set.univ (bodyAt0 h t) fun _ =>
          iprop((dats h m ρ 0 c).Φ t.succ ∗ (dats h m ρ 0 c).owesAt () t.succ
            ∗ bigSep Finset.univ fun w : Fin (cfgA h).W =>
                match (cfgA h).idle w ((cfgA h).grid.coords t) with
                | true =>
                  match ((cfgA h).win w).flush t with
                  | false => iprop(∃ d, owns (c : Thread nD τ) (((cfgA h).win w).stage ((cfgA h).slots t w)) fullShare ((dats h m ρ 0 c).before w t d))
                  | true => owns (c : Thread nD τ) (((cfgA h).win w).stage ((cfgA h).slots t w)) fullShare ((dats h m ρ 0 c).after w t)
                | false => owns (c : Thread nD τ) (((cfgA h).win w).stage ((cfgA h).slots t w)) fullShare ((dats h m ρ 0 c).after w t)) := by
  rw [bigSep_W0]
  by_cases hu : t.val % 288 < nu T1
  · have i5 := idle5_false h t hu
    have k0_h1 := (congrArg (fun x => k0_cond1 (crd h t) x = 1#1) (read_T1 T1)).mpr ((cond_word h (crd h t)).2 (by rw [crd1]; exact hu))
    by_cases hc1 : newExpert T0 (crd h t)
    · rewrite [i5]
      simp only [before0_0, before0_1, before0_2, before0_3, before0_4, after0_0, after0_1, after0_2, after0_3, after0_4, after0_5]
      rewrite [show (dats h m ρ 0 c).Φ t.succ = Phi h m ρ c t.succ from rfl, show (dats h m ρ 0 c).Φ t.castSucc = Phi h m ρ c t.castSucc from rfl,
        show (dats h m ρ 0 c).owesAt () t.succ = (dats h m ρ 0 c).owesAt () t.castSucc from rfl]
      unfold Phi; simp only [Fin.val_castSucc, Fin.val_succ]
      iintro ⟨⟨⟨%a0, %b0, %ha0, HS0, HS1⟩, HT0, HT1⟩, Ho, ⟨%d0, H0⟩, ⟨%d1, H1⟩, ⟨%d2, H2⟩, ⟨%d3, H3⟩, ⟨%d4, H4⟩, ⟨%d5, H5⟩⟩
      iapply ((kernelRun0_A c (crd h t) (ms0_0 h t) (hs0_0 h t) (ms0_1 h t) (hs0_1 h t) (ms0_2 h t) (hs0_2 h t) (ms0_3 h t) (hs0_3 h t) (ms0_4 h t) (hs0_4 h t) (ms0_5 h t) (hs0_5 h t) T0 T1 (iblk h m ρ c (0 : Fin 6) t) (iblk h m ρ c (1 : Fin 6) t) (iblk h m ρ c (2 : Fin 6) t) (iblk h m ρ c (3 : Fin 6) t) (iblk h m ρ c (4 : Fin 6) t) k0_h1 hc1).2.2.2 a0 b0 _)
      isplitl [H0]; · iapply rep_of_owns; iexact H0
      isplitl [H1]; · iapply rep_of_owns; iexact H1
      isplitl [H2]; · iapply rep_of_owns; iexact H2
      isplitl [H3]; · iapply rep_of_owns; iexact H3
      isplitl [H4]; · iapply rep_of_owns; iexact H4
      isplitl [HT0]; · iexact HT0
      isplitl [HT1]; · iexact HT1
      isplitl [H5]; · iexists _; iexact H5
      isplitl [HS0]; · iexact HS0
      isplitl [HS1]; · iexact HS1
      iintro ⟨H0, H1, H2, H3, H4, HT0, HT1, ⟨%e5, H5⟩, HS0, HS1⟩
      isplitl [HS0 HS1 HT0 HT1]
      · isplitl [HS0 HS1]
        · iexists _, _; isplitr; swap
          · isplitl [HS0]
            · iexact HS0
            iexact HS1
          · ipureintro; intro t' ht' _
            obtain rfl : t' = t := Fin.ext (by omega)
            exact ⟨scr_A0 c _ _ _ _ _ _ _ _ _ _ _ _ _ T0 T1 _ _ _ _ _ k0_h1 hc1, scr_A1 c _ _ _ _ _ _ _ _ _ _ _ _ _ T0 T1 _ _ _ _ _ k0_h1 hc1⟩
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      isplitl [H4]
      · iapply owns_of_rep; iexact H4
      unfold owns; iexists _; isplitr; swap
      · iexact H5
      · ipureintro
        rw [lst_used h t hu]
        exact (View.read_writes_of_cover _ _ _ _ _ (cover0_A_5 c _ _ _ _ _ _ _ _ _ _ _ _ _ _ _ _ _ _ _ _ _ _)).trans
          (out_A c (crd h t) (ms0_0 h t) (hs0_0 h t) (ms0_1 h t) (hs0_1 h t) (ms0_2 h t) (hs0_2 h t) (ms0_3 h t) (hs0_3 h t) (ms0_4 h t) (hs0_4 h t) (ms0_5 h t) (hs0_5 h t) T0 T1 (iblk h m ρ c (0 : Fin 6) t) (iblk h m ρ c (1 : Fin 6) t) (iblk h m ρ c (2 : Fin 6) t) (iblk h m ρ c (3 : Fin 6) t) (iblk h m ρ c (4 : Fin 6) t) k0_h1 hc1)
    · rewrite [i5]
      simp only [before0_0, before0_1, before0_2, before0_3, before0_4, after0_0, after0_1, after0_2, after0_3, after0_4, after0_5]
      rewrite [show (dats h m ρ 0 c).Φ t.succ = Phi h m ρ c t.succ from rfl, show (dats h m ρ 0 c).Φ t.castSucc = Phi h m ρ c t.castSucc from rfl,
        show (dats h m ρ 0 c).owesAt () t.succ = (dats h m ρ 0 c).owesAt () t.castSucc from rfl]
      unfold Phi; simp only [Fin.val_castSucc, Fin.val_succ]
      iintro ⟨⟨⟨%a0, %b0, %ha0, HS0, HS1⟩, HT0, HT1⟩, Ho, ⟨%d0, H0⟩, ⟨%d1, H1⟩, ⟨%d2, H2⟩, ⟨%d3, H3⟩, ⟨%d4, H4⟩, ⟨%d5, H5⟩⟩
      have hab : a0 = scv0 h m ρ c t ∧ b0 = scv1 h m ρ c t := by
        have h0 := (not_new T0 (crd h t) hc1).1
        rw [crd1] at h0
        have e := ha0 ⟨t.val - 1, by omega⟩ (by show t.val - 1 + 1 = t.val; omega) (by show (t.val - 1) % 288 < _; omega)
        exact ⟨e.1.trans (scv0_prev h m ρ c t ⟨t.val - 1, by omega⟩ hc1 (by show t.val - 1 + 1 = t.val; omega)),
          e.2.trans (scv1_prev h m ρ c t ⟨t.val - 1, by omega⟩ hc1 (by show t.val - 1 + 1 = t.val; omega))⟩
      obtain ⟨ea, eb⟩ := hab
      iapply ((kernelRun0_B c (crd h t) (ms0_0 h t) (hs0_0 h t) (ms0_1 h t) (hs0_1 h t) (ms0_2 h t) (hs0_2 h t) (ms0_3 h t) (hs0_3 h t) (ms0_4 h t) (hs0_4 h t) (ms0_5 h t) (hs0_5 h t) T0 T1 (iblk h m ρ c (0 : Fin 6) t) (iblk h m ρ c (1 : Fin 6) t) (iblk h m ρ c (2 : Fin 6) t) (iblk h m ρ c (3 : Fin 6) t) (iblk h m ρ c (4 : Fin 6) t) a0 b0 k0_h1 hc1).2.2.2 _)
      isplitl [H0]; · iapply rep_of_owns; iexact H0
      isplitl [H1]; · iapply rep_of_owns; iexact H1
      isplitl [H2]; · iapply rep_of_owns; iexact H2
      isplitl [H3]; · iapply rep_of_owns; iexact H3
      isplitl [H4]; · iapply rep_of_owns; iexact H4
      isplitl [HT0]; · iexact HT0
      isplitl [HT1]; · iexact HT1
      isplitl [H5]; · iexists _; iexact H5
      isplitl [HS0]; · iexact HS0
      isplitl [HS1]; · iexact HS1
      iintro ⟨H0, H1, H2, H3, H4, HT0, HT1, ⟨%e5, H5⟩, HS0, HS1⟩
      isplitl [HS0 HS1 HT0 HT1]
      · isplitl [HS0 HS1]
        · iexists _, _; isplitr; swap
          · isplitl [HS0]
            · iexact HS0
            iexact HS1
          · ipureintro; intro t' ht' _
            obtain rfl : t' = t := Fin.ext (by omega)
            exact ⟨(scr_B0 c _ _ _ _ _ _ _ _ _ _ _ _ _ T0 T1 _ _ _ _ _ a0 b0 k0_h1 hc1).trans ea, (scr_B1 c _ _ _ _ _ _ _ _ _ _ _ _ _ T0 T1 _ _ _ _ _ a0 b0 k0_h1 hc1).trans eb⟩
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      isplitl [H4]
      · iapply owns_of_rep; iexact H4
      unfold owns; iexists _; isplitr; swap
      · iexact H5
      · ipureintro
        rw [lst_used h t hu]
        exact (View.read_writes_of_cover _ _ _ _ _ (cover0_B_5 c _ _ _ _ _ _ _ _ _ _ _ _ _ _ _ _ _ _ _ _ _ _ _ _)).trans
          ((out_B c (crd h t) (ms0_0 h t) (hs0_0 h t) (ms0_1 h t) (hs0_1 h t) (ms0_2 h t) (hs0_2 h t) (ms0_3 h t) (hs0_3 h t) (ms0_4 h t) (hs0_4 h t) (ms0_5 h t) (hs0_5 h t) T0 T1 (iblk h m ρ c (0 : Fin 6) t) (iblk h m ρ c (1 : Fin 6) t) (iblk h m ρ c (2 : Fin 6) t) (iblk h m ρ c (3 : Fin 6) t) (iblk h m ρ c (4 : Fin 6) t) a0 b0 k0_h1 hc1).trans (by rw [ea, eb]; rfl))
  · have hi : nu T1 ≤ t.val % 288 := by omega
    have i5 := (idle5 h t).2 hi
    have k0_h1 : ¬ k0_cond1 (crd h t) (View.readAt (Elt Ideal) (tbM0_1).view (Rect.unit (s := S1) ![0] S1.size inb_S1_S1_0).toLoadRect T1 (Shape.Idx.first (numel1_S1.symm ▸ Nat.one_pos))) = 1#1 := by
      rw [read_T1, cond_word h, crd1]; exact hu
    rewrite [i5]
    simp only [before0_0, before0_1, before0_2, before0_3, before0_4, after0_0, after0_1, after0_2, after0_3, after0_4, after0_5, before0_5_idle h m ρ c t hi]
    rewrite [show (dats h m ρ 0 c).Φ t.succ = Phi h m ρ c t.succ from rfl, show (dats h m ρ 0 c).Φ t.castSucc = Phi h m ρ c t.castSucc from rfl,
      show (dats h m ρ 0 c).owesAt () t.succ = (dats h m ρ 0 c).owesAt () t.castSucc from rfl]
    unfold Phi; simp only [Fin.val_castSucc, Fin.val_succ]
    iintro ⟨⟨⟨%a0, %b0, %ha0, HS0, HS1⟩, HT0, HT1⟩, Ho, ⟨%d0, H0⟩, ⟨%d1, H1⟩, ⟨%d2, H2⟩, ⟨%d3, H3⟩, ⟨%d4, H4⟩, ⟨%d5, H5⟩⟩
    iapply (run_C c (crd h t) (ms0_0 h t) (hs0_0 h t) (ms0_1 h t) (hs0_1 h t) (ms0_2 h t) (hs0_2 h t) (ms0_3 h t) (hs0_3 h t) (ms0_4 h t) (hs0_4 h t) (ms0_5 h t) (hs0_5 h t) T0 T1 k0_h1 _)
    isplitl [HT1]; · iexact HT1
    iintro HT1
    isplitl [HS0 HS1 HT0 HT1]
    · isplitl [HS0 HS1]
      · iexists a0, b0; isplitr; swap
        · isplitl [HS0]
          · iexact HS0
          iexact HS1
        · ipureintro; intro t' ht' hu'
          obtain rfl : t' = t := Fin.ext (by omega)
          exact absurd hu' hu
      isplitl [HT0]
      · iexact HT0
      iexact HT1
    isplitl [Ho]; · iexact Ho
    isplitl [H0]; · iexact H0
    isplitl [H1]; · iexact H1
    isplitl [H2]; · iexact H2
    isplitl [H3]; · iexact H3
    isplitl [H4]; · iexact H4
    rcases hfl : ((cfgA h).win (5 : Fin 6)).flush t with _ | _
    · iexists d5; iexact H5
    · iexact H5

end Cert.KernelUpIdeal.Exp

end
-- ==== Proof.UpLaunch.lean ====
/- The experts' gate and up projections: the launch, its frame, and what the precondition says of the tables. -/
module

public import proofs.«01_k».proof.Proof.UpFrame
public import proofs.«01_k».proof.Proof.Gen.Pre_expert_range_up
public import Idealize.ShloMosaic.Lib.ReduceAll
public import Idealize.ShloMosaic.Lib.ValueIdx
public import Idealize.ShloMosaic.Lib.Claim
public import proofs.«01_k».proof.Defs

@[expose] public section

set_option maxRecDepth 16384
set_option Elab.async false

noncomputable section

namespace Cert.KernelUpIdeal.Exp

open Cert.KernelUpIdeal Cert.KernelUpIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The type of states' assertions. -/
local notation "𝕄" => MT nD τ sig Unit (Elt Ideal) ℕ (UR sig nD τ) ℕ

/-! ## The launch -/

variable {T0 : S288.Idx → BitVec 32} {T1 : S1.Idx → BitVec 32} (h : Tabs T0 T1)
variable (m : (ℓ : Loc nD τ sig) → Buf (Elt Ideal) ℓ) (ρ : Dev nD → PrngReg)

/-- The library's body obligation, at every point. -/
theorem body_obligation (c : Dev nD) : BodyObligation (dats h m ρ 0 c) (defs₀ (F := Ideal)) Variants.none () Set.univ := fun t => by
  rw [bigSep_W0]
  exact sound_body h m ρ c t

/-- The launch element. -/
def u₀ : UR sig nD τ :=
  initOf (Pipeline.cells (pcs h) ((launch₀0 (F := Ideal)).cellOf_inj fun _ => adm h))
    (Pipeline.launchToks (pcs h) ((launch₀0 (F := Ideal)).cellOf_inj fun _ => adm h))

theorem prefHeld_eq (c : Dev nD) (q : Fin 2 → PosShare TreeShare) (v : pre0.Contents (Elt Ideal)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

theorem phi0_intro (c : Dev nD) :
    iprop(BI.emp ∗ Pipeline.prefHeld pre0 c (fun _ => fullShare.right) (adm h).1 ∗ Pipeline.scopedRest spec0 c) ⊢ (dats h m ρ 0 c).Φ 0 := by
  rw [prefHeld_eq, scopedRest0_eq, show (dats h m ρ 0 c).Φ 0 = Phi h m ρ c 0 from rfl]
  unfold Phi
  iintro ⟨-, ⟨HT0, HT1⟩, ⟨%a0, HS0⟩, ⟨%b0, HS1⟩⟩
  isplitl [HS0 HS1]
  · iexists a0, b0; isplitr; swap
    · isplitl [HS0]
      · iexact HS0
      iexact HS1
    · ipureintro; intro t ht _; exact absurd ht (Nat.succ_ne_zero _)
  isplitl [HT0]
  · iexact HT0
  iexact HT1

theorem phiN_exit (c : Dev nD) : (dats h m ρ 0 c).Φ (Fin.last (cfgA h).N) ⊢ iprop(BI.emp ∗ Pipeline.scopedRest spec0 c) := by
  rw [scopedRest0_eq, show (dats h m ρ 0 c).Φ (Fin.last (cfgA h).N) = Phi h m ρ c (Fin.last _) from rfl]
  unfold Phi
  iintro ⟨⟨%a0, %b0, -, HS0, HS1⟩, -, -⟩
  isplitr; · iempintro
  isplitl [HS0]
  · iexists a0; iexact HS0
  iexists b0; iexact HS1

/-- Every array at what the pipeline computes, every table as it was. -/
def QC : PUnit × MemSt nD τ sig (Elt Ideal) → Prop := fun r =>
  ∀ c : Dev nD, (∀ w : Fin (cfgA h).W, r.2.mem (((cfgA h).win w).arr.view.loc (c : Thread nD τ)) = (dats h m ρ 0 c).arrAt w (cfgA h).N)
    ∧ ∀ j, r.2.mem ((c : Thread nD τ).loc (pre0.ref j)) = (adm h).1 j

/-- The memory's tables are the ones the pipeline is taken at. -/
def Pinned (T0 : S288.Idx → BitVec 32) (T1 : S1.Idx → BitVec 32) : Prop :=
  ∀ c : Dev nD, m ((c : Thread nD τ).loc main_arg0) = T0 ∧ m ((c : Thread nD τ).loc main_arg1) = T1

theorem V_pre (hp : Pinned m T0 T1) (c : Dev nD) (j : Fin 2) : m ((c : Thread nD τ).loc (pre0.ref j)) = (adm h).1 j := by
  fin_cases j
  · exact (hp c).1
  · exact (hp c).2

set_option backward.isDefEq.respectTransparency.types false in
set_option maxHeartbeats 4000000 in
theorem run_main_quiescent (hp : Pinned m T0 T1) : θ_run (defs (F := Ideal)) (onTc (τ := τ) (main (F := Ideal))) (s₀ m ρ) (fun r => QC h m ρ r ∧ r.2.sem = fun _ => 0) :=
  Pipeline.θ_run_region_noSem_pf_quiescent pcfgs (fun _ => adm h) (dats h m ρ) () ((launch₀0 (F := Ideal)).cellOf_inj fun _ => adm h) (0 : Fin 1)
    (launch₀0 (F := Ideal)).win (launch₀0 (F := Ideal)).pre EP defs₀ Variants.none m ρ main
    (hbody := fun c => (body_obligation h m ρ c).loose) (hne := (launch₀0 (F := Ideal)).block_pos)
    (harr := (launch₀0 (F := Ideal)).arr_whole) (hstage := (launch₀0 (F := Ideal)).stage_whole) (howed := fun _ _ => rfl)
    (u₀ := u₀ h) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => (dats h m ρ 0 c).arrays_split_shared (launch₀0 (F := Ideal)).sharedIn (launch₀0 (F := Ideal)).arr_whole (fun _ _ => rfl) _ _ fun _ => rfl)
    (hpf := V_pre h m hp)
    (X := fun _ => iprop(emp)) (Y := fun _ => iprop(emp)) (Z := fun _ => iprop(emp))
    (hX := fun c => by rw [unscopedRestP0_eq]; iintro -; isplitr <;> iempintro)
    (hin := phi0_intro h m ρ)
    (hout := phiN_exit h m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- What the run leaves: the arguments as they were, the result at what the pipeline computes, every counter at zero. -/
theorem run (hp : Pinned m T0 T1) :
    θ_run (defs (F := Ideal)) (onTc (τ := τ) (main (F := Ideal))) ⟨m, fun _ => 0, ρ⟩ (fun r => (∀ c : Dev nD,
      r.2.mem ((c.tc : Thread nD τ).loc main_v0) = (dats h m ρ 0 c).arrAt (5 : Fin 6) (cfgA h).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ hr => ⟨fun c => ⟨(hr.1 c).1 (5 : Fin 6), ((hr.1 c).2 0).trans (hp c).1.symm, ((hr.1 c).2 1).trans (hp c).2.symm,
    ((hr.1 c).1 (0 : Fin 6)).trans ((dats h m ρ 0 c).arrAt_in (0 : Fin 6) rfl _), ((hr.1 c).1 (1 : Fin 6)).trans ((dats h m ρ 0 c).arrAt_in (1 : Fin 6) rfl _),
    ((hr.1 c).1 (3 : Fin 6)).trans ((dats h m ρ 0 c).arrAt_in (3 : Fin 6) rfl _)⟩, hr.2⟩) (run_main_quiescent h m ρ hp)

/-! ## The precondition -/

theorem tabs_of_pre (a0 : IVec S288 32) (a1 : IVec S1 32) (a2 : FVec Ideal S73728x2048 .bf16) (a3 : FVec Ideal S32x2048x4096 .f32) (a4 : FVec Ideal S32x1x4096 .f32)
    (hh : Cert.Pre_expert_range_up.fn (F := Ideal) a0 a1 a2 a3 a4 = fun _ => 1#1) : Tabs a0 a1 := by
  have : Subsingleton (⟨0, ![]⟩ : Shape).Idx := ⟨fun a b => funext fun i => i.elim0⟩
  have hh := congrFun hh (fun i => i.elim0)
  unfold Cert.Pre_expert_range_up.fn at hh
  dsimp only at hh
  obtain ⟨h1, h2⟩ := IntOp.andi_eq_one.1 hh
  have H1 := fun y => IntOp.andi_eq_one.1 (Host.reduce_andi_all _ _ _ _ _ h1 y)
  have H2 := fun y => Host.reduce_andi_all _ _ _ _ _ h2 y
  clear hh h1 h2
  have hn : (1 : Int) ≤ (a1 (ix1 0)).toInt := IntOp.cmpi_sge.1 (H2 (ix1 0))
  have hn2 : 1 ≤ (a1 (ix1 0)).toNat ∧ (a1 (ix1 0)).toNat < 2 ^ 31 := by
    rw [BitVec.toInt_eq_toNat_cond] at hn
    have := (a1 (ix1 0)).isLt
    split_ifs at hn <;> omega
  refine ⟨fun i => ?_, hn2.1, hn2.2⟩
  have e1 : (0 : Int) ≤ (a0 (ix1 i)).toInt := IntOp.cmpi_sge.1 (H1 (ix1 i)).1
  have e2 : (a0 (ix1 i)).toInt < 32 := IntOp.cmpi_slt.1 (H1 (ix1 i)).2
  rw [BitVec.toInt_eq_toNat_cond] at e1 e2
  have := (a0 (ix1 i)).isLt
  split_ifs at e1 e2 <;> omega

/-- The one device's tables, with what the precondition says of them. -/
theorem tabs (hh : Cert.Pre_KernelUpIdeal m) :
    Tabs (m (((0 : Dev nD) : Thread nD τ).loc main_arg0)) (m (((0 : Dev nD) : Thread nD τ).loc main_arg1)) :=
  tabs_of_pre _ _ _ _ _ (hh 0)

theorem pinned : Pinned m (m (((0 : Dev nD) : Thread nD τ).loc main_arg0)) (m (((0 : Dev nD) : Thread nD τ).loc main_arg1)) := fun c => by
  obtain rfl : c = 0 := Subsingleton.elim (α := Fin 1) _ _
  exact ⟨rfl, rfl⟩

/-- The frame under the precondition. -/
theorem frame_all (hh : Cert.Pre_KernelUpIdeal m) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ hr => ⟨fun c => (hr.1 c).2, hr.2⟩) (run (tabs m hh) m ρ (pinned m))

end Cert.KernelUpIdeal.Exp

end
-- ==== Proof.Slab.lean ====
/- A whole expert's matrix taken out of the stack by a table of experts, read at one element. -/
module

public import Idealize.ShloMosaic.Lib.ValueIdx
public import Idealize.ShloMosaic.Lib.ReduceAll
public import Idealize.ShloMosaic.Lib.Affine
public import Idealize.ShloMosaic.Lib.Pointwise

@[expose] public section

set_option maxRecDepth 16384

noncomputable section

namespace Cert.Slab

open Idealize.ShloMosaic

/-- The dimension numbers of `w[e]` for a stack `w : [N, A, B]` and a table `e : [n]`. -/
abbrev dims (N A B n : ℕ) (wf : GatherDims.WF ⟨3, ![N, A, B]⟩ ⟨2, ![n, 1]⟩ ⟨3, ![n, A, B]⟩ [1, 2] [0] [] [0] [] 1 ![1, A, B]) :
    GatherDims ⟨3, ![N, A, B]⟩ ⟨2, ![n, 1]⟩ ⟨3, ![n, A, B]⟩ where
  offsetDims := [1, 2]
  collapsedSliceDims := [0]
  operandBatchingDims := []
  startIndicesBatchingDims := []
  startIndexMap := [0]
  indexVectorDim := 1
  sliceSizes := ![1, A, B]
  wf := wf

/-- `w[e]` at `(i, a, b)` is the stack's element `(e i, a, b)` where `e i` is in range. -/
theorem apply {α : Type} {N A B n : ℕ} (wf : GatherDims.WF ⟨3, ![N, A, B]⟩ ⟨2, ![n, 1]⟩ ⟨3, ![n, A, B]⟩ [1, 2] [0] [] [0] [] 1 ![1, A, B])
    (x : (⟨3, ![N, A, B]⟩ : Shape).Idx → α) (idx : IVec ⟨2, ![n, 1]⟩ 32) (i : Fin n) (a : Fin A) (b : Fin B) (e : Fin N)
    (he : (idx (ix2 i 0)).toNat = e.val) (hN : N < 2 ^ 31) :
    Host.gather (dims N A B n wf) x idx (ix3 i a b) = x (ix3 e a b) := by
  unfold Host.gather
  refine congrArg x (funext fun q => Fin.ext ?_)
  show (dims N A B n wf).start (ix3 i a b) idx q + (dims N A B n wf).batchCoord (ix3 i a b) q
      + (dims N A B n wf).offCoord (ix3 i a b) q = _
  rw [GatherDims.batchCoord_eq_zero _ _ _ List.not_mem_nil]
  have h012 : q = 0 ∨ q = 1 ∨ q = 2 := by
    match q with
    | ⟨0, _⟩ => exact .inl rfl
    | ⟨1, _⟩ => exact .inr (.inl rfl)
    | ⟨2, _⟩ => exact .inr (.inr rfl)
  rcases h012 with rfl | rfl | rfl
  · rw [GatherDims.offCoord_eq_zero _ _ _ (fun h => ((GatherDims.mem_sKept _ _).mp h).1 (List.mem_singleton.mpr rfl))]
    unfold GatherDims.start
    rw [dif_pos (show (0 : Fin 3) ∈ (dims N A B n wf).startIndexMap from List.mem_singleton.mpr rfl)]
    have hsi : (dims N A B n wf).siIdx (ix3 i a b) ⟨List.idxOf (0 : Fin 3) (dims N A B n wf).startIndexMap,
        List.idxOf_lt_length_iff.2 (List.mem_singleton.mpr rfl)⟩ = ix2 i 0 := by
      funext c; refine Fin.ext ?_
      match c with
      | ⟨0, _⟩ => rfl
      | ⟨1, _⟩ => rfl
    have hs : ((idx (ix2 i 0)).toInt.toNat) = e.val := by
      rw [BitVec.toInt_eq_toNat_cond, if_pos (by have := e.isLt; omega)]
      omega
    show min (idx ((dims N A B n wf).siIdx (ix3 i a b) ⟨List.idxOf (0 : Fin 3) (dims N A B n wf).startIndexMap,
        List.idxOf_lt_length_iff.2 (List.mem_singleton.mpr rfl)⟩)).toInt.toNat (N - 1) + 0 + 0 = e.val
    rw [hsi, hs]
    have := e.isLt
    omega
  · unfold GatherDims.start
    rw [dif_neg (show ¬ (1 : Fin 3) ∈ (dims N A B n wf).startIndexMap from fun h => absurd (List.mem_singleton.mp h) (by decide : ¬ (1 : Fin 3) = 0))]
    exact (Nat.zero_add _).trans rfl
  · unfold GatherDims.start
    rw [dif_neg (show ¬ (2 : Fin 3) ∈ (dims N A B n wf).startIndexMap from fun h => absurd (List.mem_singleton.mp h) (by decide : ¬ (2 : Fin 3) = 0))]
    exact (Nat.zero_add _).trans rfl

/-- The table's word as the host wraps a negative one: an entry in range stays. -/
theorem wrap_word (v : BitVec 32) (hv : v.toNat < 2 ^ 31) (z : BitVec 32) :
    Scalar.select (IntOp.cmpi .slt v 0#32) z v = v := by
  have e : IntOp.cmpi .slt v 0#32 = 0#1 := by
    rcases BitVec.eq_zero_or_eq_one (IntOp.cmpi .slt v 0#32) with hz | ho
    · exact hz
    · have := IntOp.cmpi_slt.1 ho
      rw [BitVec.toInt_eq_toNat_cond, if_pos (by omega)] at this
      have z0 : (0#32 : BitVec 32).toInt = 0 := by decide
      omega
  rw [e]; rfl

end Cert.Slab

end
-- ==== Proof.UpRef.lean ====
/- The experts' gate and up projections: the reference's result at one element, and the rows the claim speaks of. -/
module

public import proofs.«01_k».proof.Proof.Slab
public import proofs.«01_k».proof.Proof.Gen.ReferenceUpIdeal.Read
public import proofs.«01_k».proof.Proof.Gen.On_used_rows_up
public import Idealize.ShloMosaic.Lib.Routing.Words
public import Idealize.ShloMosaic.Lib.Pointwise

@[expose] public section

set_option maxRecDepth 16384

noncomputable section

open Idealize.ShloMosaic Idealize.ShloMosaic.TcCoe

namespace Cert.Gate

/-- The clamped gate: the gate, at most seven. -/
def clampG (g : EReal) : EReal := min g (Ideal.ofBits .f32 0x40E00000#32)

/-- The activation: the up projection clamped to plus and minus seven, plus one, times the clamped gate times the logistic
    function of 1.702 times the clamped gate. -/
def act (g u : EReal) : EReal :=
  (min (Ideal.ofBits .f32 0x40E00000#32) (max (Ideal.ofBits .f32 0xC0E00000#32) u) + 1)
    * (clampG g * Ideal.logistic (Ideal.ofBits .f32 0x3FD9DB23#32 * clampG g))

end Cert.Gate

namespace Cert.ReferenceUpIdeal.Exp

open Cert.ReferenceUpIdeal Cert.ReferenceUpIdeal.Gen Cert.ReferenceUpIdeal.Read Cert.Gate

variable (T0 : Vec Ideal S288 .i32) (x : Vec Ideal S73728x2048 .bf16) (w : Vec Ideal S32x2048x4096 .f32) (b : Vec Ideal S32x1x4096 .f32)

theorem v7_apply (i : Fin 288) (hi : (T0 (ix1 i)).toNat < 32) : val_main_v7 (F := Ideal) T0 (ix2 i 0) = T0 (ix1 i) := by
  rw [val_main_v7_apply, show idx_main_v7 (ix2 i 0) = ix1 i from funext fun a => by match a with | ⟨0, _⟩ => rfl,
    val_main_v6_apply, val_main_v3_apply, val_main_v2_apply, val_main_c_apply]
  exact Slab.wrap_word _ (by omega) _

theorem v16_apply (i : Fin 288) (hi : (T0 (ix1 i)).toNat < 32) : val_main_v16 (F := Ideal) T0 (ix2 i 0) = T0 (ix1 i) := by
  rw [val_main_v16_apply, show idx_main_v16 (ix2 i 0) = ix1 i from funext fun a => by match a with | ⟨0, _⟩ => rfl,
    val_main_v15_apply, val_main_v12_apply, val_main_v11_apply, val_main_c_1_apply]
  exact Slab.wrap_word _ (by omega) _

theorem v26_apply (i : Fin 288) (hi : (T0 (ix1 i)).toNat < 32) : val_main_v26 (F := Ideal) T0 (ix2 i 0) = T0 (ix1 i) := by
  rw [val_main_v26_apply, show idx_main_v26 (ix2 i 0) = ix1 i from funext fun a => by match a with | ⟨0, _⟩ => rfl,
    val_main_v25_apply, val_main_v22_apply, val_main_v21_apply, val_main_c_3_apply]
  exact Slab.wrap_word _ (by omega) _

theorem v35_apply (i : Fin 288) (hi : (T0 (ix1 i)).toNat < 32) : val_main_v35 (F := Ideal) T0 (ix2 i 0) = T0 (ix1 i) := by
  rw [val_main_v35_apply, show idx_main_v35 (ix2 i 0) = ix1 i from funext fun a => by match a with | ⟨0, _⟩ => rfl,
    val_main_v34_apply, val_main_v31_apply, val_main_v30_apply, val_main_c_5_apply]
  exact Slab.wrap_word _ (by omega) _

theorem v8_apply (i : Fin 288) (hi : (T0 (ix1 i)).toNat < 32) (k : Fin 2048) (f : Fin 4096) :
    val_main_v8 (F := Ideal) T0 w (ix3 i k f) = w (ix3 ⟨(T0 (ix1 i)).toNat, hi⟩ k f) := by
  unfold val_main_v8
  exact Slab.apply _ w _ i k f ⟨(T0 (ix1 i)).toNat, hi⟩ (by rw [v7_apply T0 i hi]) (by decide)

theorem v17_apply (i : Fin 288) (hi : (T0 (ix1 i)).toNat < 32) (f : Fin 4096) :
    val_main_v17 (F := Ideal) T0 b (ix3 i 0 f) = b (ix3 ⟨(T0 (ix1 i)).toNat, hi⟩ 0 f) := by
  unfold val_main_v17
  exact Slab.apply _ b _ i 0 f ⟨(T0 (ix1 i)).toNat, hi⟩ (by rw [v16_apply T0 i hi]) (by decide)

theorem v27_apply (i : Fin 288) (hi : (T0 (ix1 i)).toNat < 32) (k : Fin 2048) (f : Fin 4096) :
    val_main_v27 (F := Ideal) T0 w (ix3 i k f) = w (ix3 ⟨(T0 (ix1 i)).toNat, hi⟩ k f) := by
  unfold val_main_v27
  exact Slab.apply _ w _ i k f ⟨(T0 (ix1 i)).toNat, hi⟩ (by rw [v26_apply T0 i hi]) (by decide)

theorem v36_apply (i : Fin 288) (hi : (T0 (ix1 i)).toNat < 32) (f : Fin 4096) :
    val_main_v36 (F := Ideal) T0 b (ix3 i 0 f) = b (ix3 ⟨(T0 (ix1 i)).toNat, hi⟩ 0 f) := by
  unfold val_main_v36
  exact Slab.apply _ b _ i 0 f ⟨(T0 (ix1 i)).toNat, hi⟩ (by rw [v35_apply T0 i hi]) (by decide)

/-- The gate's element: row `r` times its tile's expert, plus that expert's bias. -/
theorem gate_apply (r : Fin 73728) (f : Fin 2048) (i : Fin 288) (q : Fin 256) (hr : r.val = i.val * 256 + q.val) (hi : (T0 (ix1 i)).toNat < 32)
    (F : Fin 4096) (hF : F.val = f.val) :
    val_main_v20 (F := Ideal) T0 x w b (ix3 i q f)
      = (∑ k : Fin 2048, x (ix2 r k) * w (ix3 ⟨(T0 (ix1 i)).toNat, hi⟩ k F)) + b (ix3 ⟨(T0 (ix1 i)).toNat, hi⟩ 0 F) := by
  rw [val_main_v20_apply, val_main_v10_apply, val_main_v19_apply, val_main_v18_apply]
  refine (show ∀ y z : EReal, FloatOps.addf (F := Ideal) (φ := .f32) y z = y + z from fun _ _ => rfl) _ _ |>.trans ?_
  refine congrArg₂ (· + ·) (Finset.sum_congr rfl fun k _ => ?_) ?_
  · rw [val_main_v1_apply, val_main_v0_apply, val_main_v9_apply]
    refine congrArg₂ (· * ·) ?_ ?_
    · refine (show ∀ y : EReal, FloatOps.extf (F := Ideal) .f32 bitsLt_bf16_f32 y = y from fun _ => rfl) _ |>.trans (congrArg x ?_)
      have hk := k.isLt
      funext a
      apply Fin.ext
      match a with
      | ⟨0, _⟩ => show ((i.val * 256 + q.val) * 2048 + k.val) / 2048 = r.val; omega
      | ⟨1, _⟩ => show ((i.val * 256 + q.val) * 2048 + k.val) % 2048 = k.val; omega
    · rw [← v8_apply T0 w i hi k F]
      refine congrArg _ (funext fun a => Fin.ext ?_)
      match a with
      | ⟨0, _⟩ => rfl
      | ⟨1, _⟩ => rfl
      | ⟨2, _⟩ => exact hF.symm
  · rw [← v17_apply T0 b i hi F]
    refine congrArg _ (funext fun a => Fin.ext ?_)
    match a with
    | ⟨0, _⟩ => rfl
    | ⟨1, _⟩ => rfl
    | ⟨2, _⟩ => exact hF.symm

/-- The up projection's element, in the second half of the columns. -/
theorem up_apply (r : Fin 73728) (f : Fin 2048) (i : Fin 288) (q : Fin 256) (hr : r.val = i.val * 256 + q.val) (hi : (T0 (ix1 i)).toNat < 32)
    (F : Fin 4096) (hF : F.val = 2048 + f.val) :
    val_main_v39 (F := Ideal) T0 x w b (ix3 i q f)
      = (∑ k : Fin 2048, x (ix2 r k) * w (ix3 ⟨(T0 (ix1 i)).toNat, hi⟩ k F)) + b (ix3 ⟨(T0 (ix1 i)).toNat, hi⟩ 0 F) := by
  rw [val_main_v39_apply, val_main_v29_apply, val_main_v38_apply, val_main_v37_apply]
  refine (show ∀ y z : EReal, FloatOps.addf (F := Ideal) (φ := .f32) y z = y + z from fun _ _ => rfl) _ _ |>.trans ?_
  refine congrArg₂ (· + ·) (Finset.sum_congr rfl fun k _ => ?_) ?_
  · rw [val_main_v1_apply, val_main_v0_apply, val_main_v28_apply]
    refine congrArg₂ (· * ·) ?_ ?_
    · refine (show ∀ y : EReal, FloatOps.extf (F := Ideal) .f32 bitsLt_bf16_f32 y = y from fun _ => rfl) _ |>.trans (congrArg x ?_)
      have hk := k.isLt
      funext a
      apply Fin.ext
      match a with
      | ⟨0, _⟩ => show ((i.val * 256 + q.val) * 2048 + k.val) / 2048 = r.val; omega
      | ⟨1, _⟩ => show ((i.val * 256 + q.val) * 2048 + k.val) % 2048 = k.val; omega
    · rw [← v27_apply T0 w i hi k F]
      refine congrArg _ (funext fun a => Fin.ext ?_)
      match a with
      | ⟨0, _⟩ => rfl
      | ⟨1, _⟩ => rfl
      | ⟨2, _⟩ => exact hF.symm
  · rw [← v36_apply T0 b i hi F]
    refine congrArg _ (funext fun a => Fin.ext ?_)
    match a with
    | ⟨0, _⟩ => rfl
    | ⟨1, _⟩ => rfl
    | ⟨2, _⟩ => exact hF.symm

/-- The result's element `(r, f)`: the activation of the gate's and the up projection's elements. -/
theorem out_apply (r : Fin 73728) (f : Fin 2048) (i : Fin 288) (hr : r.val / 256 = i.val) (hi : (T0 (ix1 i)).toNat < 32)
    (F0 F1 : Fin 4096) (h0 : F0.val = f.val) (h1 : F1.val = 2048 + f.val) :
    val_main_v56 (F := Ideal) T0 x w b (ix2 r f)
      = act ((∑ k : Fin 2048, x (ix2 r k) * w (ix3 ⟨(T0 (ix1 i)).toNat, hi⟩ k F0)) + b (ix3 ⟨(T0 (ix1 i)).toNat, hi⟩ 0 F0))
          ((∑ k : Fin 2048, x (ix2 r k) * w (ix3 ⟨(T0 (ix1 i)).toNat, hi⟩ k F1)) + b (ix3 ⟨(T0 (ix1 i)).toNat, hi⟩ 0 F1)) := by
  have hrl := r.isLt
  have hfl := f.isLt
  rw [val_main_v56_apply, val_main_v55_apply]
  rw [show idx_main_v55 (ix2 r f) = ix3 i ⟨r.val % 256, Nat.mod_lt _ (by decide)⟩ f from funext fun a => Fin.ext (by
    match a with
    | ⟨0, _⟩ => show (r.val * 2048 + f.val) / 524288 = i.val; omega
    | ⟨1, _⟩ => show (r.val * 2048 + f.val) / 2048 % 256 = r.val % 256; omega
    | ⟨2, _⟩ => show (r.val * 2048 + f.val) % 2048 = f.val; omega)]
  rw [← gate_apply T0 x w b r f i ⟨r.val % 256, Nat.mod_lt _ (by decide)⟩ (by show r.val = i.val * 256 + r.val % 256; omega) hi F0 (by omega),
    ← up_apply T0 x w b r f i ⟨r.val % 256, Nat.mod_lt _ (by decide)⟩ (by show r.val = i.val * 256 + r.val % 256; omega) hi F1 (by omega)]
  rw [val_main_v54_apply, val_main_v44_apply, val_main_v42_apply, val_main_call0_v4_apply, val_main_call0_v3_apply, val_main_cst_8_apply,
    val_main_call0_v2_apply, val_main_call0_v1_apply, val_main_call0_v0_apply, val_main_cst_7_apply, val_main_v43_apply, val_main_cst_9_apply,
    val_main_v53_apply, val_main_v52_apply, val_main_v51_apply, val_main_cst_12_apply, val_main_v50_apply, val_main_v49_apply, val_main_cst_11_apply,
    val_main_v48_apply, val_main_v47_apply, val_main_v46_apply, val_main_v45_apply, val_main_cst_10_apply, val_main_v41_apply, val_main_v40_apply,
    val_main_cst_apply]
  generalize val_main_v20 (F := Ideal) T0 x w b (ix3 i ⟨r.val % 256, Nat.mod_lt _ (by decide)⟩ f) = g
  generalize val_main_v39 (F := Ideal) T0 x w b (ix3 i ⟨r.val % 256, Nat.mod_lt _ (by decide)⟩ f) = u
  rw [show FloatOps.ofBits (F := Ideal) .f32 0x3F800000#32 = (1 : EReal) from Ideal.ofBits_one_f32]
  rfl

/-- The rows the claim speaks of are those of the used tiles. -/
theorem on_rows (a0 : IVec S288 32) (a1 : IVec S1 32) (a2 : FVec Ideal S73728x2048 .bf16) (a3 : FVec Ideal S32x2048x4096 .f32)
    (a4 : FVec Ideal S32x1x4096 .f32) (hlt : (a1 (ix1 0)).toNat < 2 ^ 31) (r : Fin 73728) (f : Fin 2048)
    (hh : Cert.On_used_rows_up.fn (F := Ideal) a0 a1 a2 a3 a4 (ix2 r f) = 1#1) : r.val / 256 < (a1 (ix1 0)).toNat := by
  unfold Cert.On_used_rows_up.fn at hh
  dsimp only at hh
  have hr := r.isLt
  have e1 := IntOp.cmpi_slt.1 hh
  have ed : Host.divsi (iotaInDim Cert.On_used_rows_up.S73728x2048 32 0) (broadcastInDim Cert.On_used_rows_up.S73728x2048 ![] Cert.On_used_rows_up.Facts.bcast_S_S73728x2048 (constantI Cert.On_used_rows_up.S_ 32 256#32)) (ix2 r f) = BitVec.ofNat 32 (r.val / 256) :=
    Routing.divsi_word _ (a := r.val) (by omega) (by decide) (by decide)
  have et : broadcastInDim Cert.On_used_rows_up.S73728x2048 ![] Cert.On_used_rows_up.Facts.bcast_S_S73728x2048 (shapeCast Cert.On_used_rows_up.S_ a1 Cert.On_used_rows_up.Facts.shapeCasts_S1_S_) (ix2 r f) = a1 (ix1 0) := by
    refine congrArg a1 (funext fun a => ?_)
    match a with
    | ⟨0, _⟩ => exact Subsingleton.elim (α := Fin 1) _ _
  rw [ed, et, BitVec.toInt_eq_toNat_cond, BitVec.toInt_eq_toNat_cond, BitVec.toNat_ofNat, Nat.mod_eq_of_lt (by omega), if_pos (by omega), if_pos (by omega)] at e1
  omega

end Cert.ReferenceUpIdeal.Exp

end
-- ==== Proof.Up.lean ====
/- The experts' gate and up projections: the value. -/
module

public import proofs.«01_k».proof.Defs
public import proofs.«01_k».proof.Proof.UpLaunch
public import proofs.«01_k».proof.Proof.UpRef
public import proofs.«01_k».proof.Proof.Gen.ReferenceUpIdeal.Run
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat Window)

namespace Cert.KernelUpIdeal.Exp

open Cert.KernelUpIdeal Cert.KernelUpIdeal.Gen Cert.Gate

variable {T0 : S288.Idx → BitVec 32} {T1 : S1.Idx → BitVec 32} (h : Tabs T0 T1)
variable (m : (ℓ : Loc nD τ sig) → Buf (Elt Ideal) ℓ) (ρ : Dev nD → PrngReg)

theorem pay1_apply (x y : Vec Ideal S256x512 .f32) (r : Fin 256) (j : Fin 512) :
    k0_pay1 (F := Ideal) x y (ix2 r j) = x (ix2 r j) * y (ix2 r j) := by
  pointwise [k0_pay1]

theorem pay2_apply (w : Vec Ideal S1x2048x512 .f32) (k : Fin 2048) (j : Fin 512) :
    k0_pay2 (F := Ideal) w (ix2 k j) = w (ix3 0 k j) := by
  pointwise [k0_pay2]

theorem pay3_apply (w : Vec Ideal S1x2048x512 .f32) (k : Fin 2048) (j : Fin 512) :
    k0_pay3 (F := Ideal) w (ix2 k j) = w (ix3 0 k j) := by
  pointwise [k0_pay3]

theorem pay4_apply (x : Vec Ideal S256x2048 .bf16) (w : Vec Ideal S2048x512 .bf16) (b : Vec Ideal S1x1x512 .f32) (r : Fin 256) (j : Fin 512) :
    k0_pay4 (F := Ideal) x w b (ix2 r j)
      = min (Ideal.ofBits .f32 0x40E00000#32) (max (Ideal.ofBits .f32 0xC0E00000#32) ((∑ k : Fin 2048, x (ix2 r k) * w (ix2 k j)) + b (ix3 0 0 j))) + 1 := by
  pointwise [k0_pay4]

theorem pay5_apply (x : Vec Ideal S256x2048 .bf16) (w : Vec Ideal S2048x512 .bf16) (b : Vec Ideal S1x1x512 .f32) (r : Fin 256) (j : Fin 512) :
    k0_pay5 (F := Ideal) x w b (ix2 r j)
      = clampG ((∑ k : Fin 2048, x (ix2 r k) * w (ix2 k j)) + b (ix3 0 0 j))
        * Ideal.logistic (Ideal.ofBits .f32 0x3FD9DB23#32 * clampG ((∑ k : Fin 2048, x (ix2 r k) * w (ix2 k j)) + b (ix3 0 0 j))) := by
  unfold clampG
  pointwise [k0_pay5]

theorem iblk0_apply (c : Dev nD) (t : Fin (cfgA h).N) (hu : t.val % 288 < nu T1) (r : Fin 256) (k : Fin 2048) (hr : t.val % 288 * 256 + r.val < 73728) :
    iblk h m ρ c (0 : Fin 6) t (ix2 r k) = m ((c : Thread nD τ).loc main_arg2) (ix2 ⟨t.val % 288 * 256 + r.val, hr⟩ k) := by
  have e : ((cfgA h).win (0 : Fin 6)).index t = ![t.val % 288, 0] := by
    rw [index0]; rw [show min (t.val % 288) (nu T1 - 1) = t.val % 288 by omega]
  blk_ext [iblk, e]

theorem iblk1_apply (c : Dev nD) (t : Fin (cfgA h).N) (k : Fin 2048) (j : Fin 512) (e : Fin 32) (f : Fin 4096)
    (he : e.val = (T0 (ix1 ⟨t.val % 288, Nat.mod_lt _ (by decide)⟩)).toNat) (hf : f.val = t.val / 288 * 512 + j.val) :
    iblk h m ρ c (1 : Fin 6) t (ix3 0 k j) = m ((c : Thread nD τ).loc main_arg3) (ix3 e k f) := by
  blk_ext [iblk, index1 h t]

theorem iblk2_apply (c : Dev nD) (t : Fin (cfgA h).N) (k : Fin 2048) (j : Fin 512) (e : Fin 32) (f : Fin 4096)
    (he : e.val = (T0 (ix1 ⟨t.val % 288, Nat.mod_lt _ (by decide)⟩)).toNat) (hf : f.val = (4 + t.val / 288) * 512 + j.val) :
    iblk h m ρ c (2 : Fin 6) t (ix3 0 k j) = m ((c : Thread nD τ).loc main_arg3) (ix3 e k f) := by
  blk_ext [iblk, index2 h t]

theorem iblk3_apply (c : Dev nD) (t : Fin (cfgA h).N) (j : Fin 512) (e : Fin 32) (f : Fin 4096)
    (he : e.val = (T0 (ix1 ⟨t.val % 288, Nat.mod_lt _ (by decide)⟩)).toNat) (hf : f.val = t.val / 288 * 512 + j.val) :
    iblk h m ρ c (3 : Fin 6) t (ix3 0 0 j) = m ((c : Thread nD τ).loc main_arg4) (ix3 e 0 f) := by
  blk_ext [iblk, index3 h t]

theorem iblk4_apply (c : Dev nD) (t : Fin (cfgA h).N) (j : Fin 512) (e : Fin 32) (f : Fin 4096)
    (he : e.val = (T0 (ix1 ⟨t.val % 288, Nat.mod_lt _ (by decide)⟩)).toNat) (hf : f.val = (4 + t.val / 288) * 512 + j.val) :
    iblk h m ρ c (4 : Fin 6) t (ix3 0 0 j) = m ((c : Thread nD τ).loc main_arg4) (ix3 e 0 f) := by
  blk_ext [iblk, index4 h t]

/-- What the result array is shown to hold on the rows of the used tiles: the activation of each row times its tile's
    expert, plus that expert's bias. -/
def gv (hte : ∀ i : Fin 288, (T0 (ix1 i)).toNat < 32) (x : Vec Ideal S73728x2048 .bf16) (w : Vec Ideal S32x2048x4096 .f32) (b : Vec Ideal S32x1x4096 .f32) :
    Vec Ideal S73728x2048 .bf16 := fun j =>
  act ((∑ k : Fin 2048, x (ix2 (j 0) k) * w (ix3 ⟨(T0 (ix1 ⟨(j 0).val / 256, by have : (j 0).val < 73728 := (j 0).isLt; omega⟩)).toNat, hte _⟩ k ⟨(j 1).val, by have : (j 1).val < 2048 := (j 1).isLt; omega⟩)) + b (ix3 ⟨(T0 (ix1 ⟨(j 0).val / 256, by have : (j 0).val < 73728 := (j 0).isLt; omega⟩)).toNat, hte _⟩ 0 ⟨(j 1).val, by have : (j 1).val < 2048 := (j 1).isLt; omega⟩))
    ((∑ k : Fin 2048, x (ix2 (j 0) k) * w (ix3 ⟨(T0 (ix1 ⟨(j 0).val / 256, by have : (j 0).val < 73728 := (j 0).isLt; omega⟩)).toNat, hte _⟩ k ⟨2048 + (j 1).val, by have : (j 1).val < 2048 := (j 1).isLt; omega⟩)) + b (ix3 ⟨(T0 (ix1 ⟨(j 0).val / 256, by have : (j 0).val < 73728 := (j 0).isLt; omega⟩)).toNat, hte _⟩ 0 ⟨2048 + (j 1).val, by have : (j 1).val < 2048 := (j 1).isLt; omega⟩))

/-- The same of the memory's arrays. -/
def G (c : Dev nD) : Vec Ideal S73728x2048 .bf16 :=
  gv h.te (m ((c : Thread nD τ).loc main_arg2)) (m ((c : Thread nD τ).loc main_arg3)) (m ((c : Thread nD τ).loc main_arg4))

theorem outv_apply (c : Dev nD) (t : Fin (cfgA h).N) (hu : t.val % 288 < nu T1) (r : Fin 256) (j : Fin 512)
    (R : Fin 73728) (f : Fin 2048) (hR : R.val = t.val % 288 * 256 + r.val) (hf : f.val = t.val / 288 * 512 + j.val) :
    outv h m ρ c t (ix2 r j) = G h m c (ix2 R f) := by
  unfold outv scv0 scv1
  rw [pay1_apply, pay4_apply, pay5_apply]
  have hi : R.val / 256 = t.val % 288 := by omega
  have hR' : (⟨t.val % 288 * 256 + r.val, by omega⟩ : Fin 73728) = R := Fin.ext hR.symm
  have hfl := f.isLt
  unfold G gv
  refine congrArg₂ act (congrArg₂ (· + ·) (Finset.sum_congr rfl fun k _ => congrArg₂ (· * ·) ?_ ?_) ?_)
    (congrArg₂ (· + ·) (Finset.sum_congr rfl fun k _ => congrArg₂ (· * ·) ?_ ?_) ?_)
  · rw [iblk0_apply h m ρ c t hu r k (by omega), hR']; rfl
  · rw [pay2_apply]
    refine iblk1_apply h m ρ c t k j _ ⟨f.val, by omega⟩ ?_ (by show f.val = _; omega)
    show (T0 (ix1 ⟨R.val / 256, _⟩)).toNat = _
    simp only [hi]
  · refine iblk3_apply h m ρ c t j _ ⟨f.val, by omega⟩ ?_ (by show f.val = _; omega)
    show (T0 (ix1 ⟨R.val / 256, _⟩)).toNat = _
    simp only [hi]
  · rw [iblk0_apply h m ρ c t hu r k (by omega), hR']; rfl
  · rw [pay3_apply]
    refine iblk2_apply h m ρ c t k j _ ⟨2048 + f.val, by omega⟩ ?_ (by show 2048 + f.val = _; omega)
    show (T0 (ix1 ⟨R.val / 256, _⟩)).toNat = _
    simp only [hi]
  · refine iblk4_apply h m ρ c t j _ ⟨2048 + f.val, by omega⟩ ?_ (by show 2048 + f.val = _; omega)
    show (T0 (ix1 ⟨R.val / 256, _⟩)).toNat = _
    simp only [hi]

/-- What a point writes back is its block of `G`. -/
theorem flushed5 (c : Dev nD) (t : Fin (cfgA h).N) :
    (dats h m ρ 0 c).flushed (5 : Fin 6) t = (((cfgA h).win (5 : Fin 6)).blk t).view.read (Elt Ideal) (G h m c) := by
  have ht : t.val < 1152 := t.isLt.trans_eq N_0
  have hp : 1 ≤ nu T1 := h.pos
  show outv h m ρ c (lst h t) = _
  funext y
  blk_simp
  have el : (lst h t).val = t.val - (t.val % 288 - min (t.val % 288) (nu T1 - 1)) := rfl
  have e1 : (lst h t).val % 288 = min (t.val % 288) (nu T1 - 1) := by omega
  have e2 : (lst h t).val / 288 = t.val / 288 := by omega
  idx_vars y
  rw [outv_apply h m ρ c (lst h t) (by omega) y0 y1 ⟨min (t.val % 288) (nu T1 - 1) * 256 + y0.val, by omega⟩
    ⟨t.val / 288 * 512 + y1.val, by omega⟩ (by rw [e1]) (by rw [e2])]
  generalize G h m c = g
  blk_ext [index5 h t]

/-- The result on the rows of the used tiles. -/
theorem final (c : Dev nD) (r : Fin 73728) (f : Fin 2048) (hr : r.val / 256 < nu T1) :
    (dats h m ρ 0 c).arrAt (5 : Fin 6) (cfgA h).N (ix2 r f) = G h m c (ix2 r f) := by
  have hp : 1 ≤ nu T1 := h.pos
  have hN : (cfgA h).N = 1152 := N_0
  let i := if r.val / 256 + 1 < nu T1 then r.val / 256 else 287
  have hi : (i + 1 < nu T1 ∨ i = 287) ∧ min i (nu T1 - 1) = r.val / 256 ∧ i < 288 := by
    show (_ ∨ ite _ _ _ = 287) ∧ _
    have : i = if r.val / 256 + 1 < nu T1 then r.val / 256 else 287 := rfl
    split_ifs at this with hc <;> omega
  let t : Fin (cfgA h).N := ⟨f.val / 512 * 288 + i, by omega⟩
  have t1 : t.val % 288 = i := by show (f.val / 512 * 288 + i) % 288 = i; omega
  have t2 : t.val / 288 = f.val / 512 := by show (f.val / 512 * 288 + i) / 288 = _; omega
  refine (dats h m ρ 0 c).arrAt_apply_of_mem (5 : Fin 6) (G h m c) (fun t _ => flushed5 h m ρ c t) _ t _ t.isLt
    ((flush5 h t).2 (by rw [t1]; exact hi.1)) ?_
  have e := index5 h t
  rw [t1, t2, hi.2.1] at e
  have em : (((cfgA h).win (5 : Fin 6)).blk t).view.emb (ix2 ⟨r.val % 256, Nat.mod_lt _ (by decide)⟩ ⟨f.val % 512, Nat.mod_lt _ (by decide)⟩) = ix2 r f := by
    blk_ext [e]
  rw [← em]
  exact View.emb_mem_set _ _

end Cert.KernelUpIdeal.Exp

namespace Cert.Proof.Up

open Cert.KernelUpIdeal.Exp in
/-- On the rows of the used tiles the kernel's result and the reference's agree at `Ideal`. -/
theorem algebraic : Cert.algebraic_KernelUpIdeal_ReferenceUpIdeal_on_used_rows_up := by
  intro m g m' g' hpre hag
  have h := tabs m hpre
  refine ⟨fun c => G h m c, ?_, ?_⟩
  · refine (θ_run _ _ _).mono (fun r hr c => ?_) (Cert.KernelUpIdeal.Exp.run h m g (pinned m))
    refine ⟨fun i hon => ?_, (hr.1 c).2⟩
    idx_vars i
    obtain ⟨p0, p1⟩ := pinned m c
    have hrow := Cert.ReferenceUpIdeal.Exp.on_rows _ _ _ _ _ (by rw [p1]; exact h.lt) i0 i1 hon
    rw [p1] at hrow
    exact (congrFun (hr.1 c).1 _).trans (final h m g c i0 i1 hrow)
  · refine (θ_run _ _ _).mono (fun r hr c => ?_) (Cert.ReferenceUpIdeal.Value.run (F := Ideal) m' g')
    obtain ⟨e0, e1, e2, e3, e4⟩ := hag c
    refine ⟨fun i hon => ?_, (hr c).2⟩
    idx_vars i
    refine (congrFun ((hr c).1.trans (Cert.ReferenceUpIdeal.Read.val_main_v56_eq _ _)) _).trans ?_
    obtain ⟨p0, p1⟩ := pinned m c
    rw [e0, e2, e3, e4, p0]
    have hr0 := i0.isLt
    exact Cert.ReferenceUpIdeal.Exp.out_apply _ _ _ _ i0 i1 ⟨i0.val / 256, by omega⟩ rfl (h.te _) _ _ rfl rfl

end Cert.Proof.Up

end
-- ==== Proof.DownKPaths.lean ====
/- The experts' down projection: the launch at any admissible tables, and what it leaves. -/
module

public import proofs.«01_k».proof.Proof.DownKTab

@[expose] public section

set_option maxRecDepth 16384
set_option Elab.async false

noncomputable section

namespace Cert.KernelDown.Exp

open Cert.KernelDown Cert.KernelDown.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The type of states' assertions. -/
local notation "𝕄" => MT nD τ sig Unit (Elt Bits) ℕ (UR sig nD τ) ℕ

/-- The resource algebra's embedding. -/
abbrev EP : Emb (UR sig nD τ) 𝕄 := emb₁

/-! ## The paths' values -/

/-- The test of the first tile or of a new expert. -/
abbrev newExpert (T0 : S288.Idx → BitVec 32) (i : grid0.Coords) : Prop := (Scalar.cmpi .ne (Scalar.extui (Scalar.ori (Scalar.cmpi .eq (BitVec.ofNat 32 (i 1).val) 0#32) (Scalar.cmpi .ne (View.readAt (Elt Bits) (tbM0_0).view (Rect.unit (s := S288) (k0_off2 i) S1.size (k0_off2_inb i)).toLoadRect T0 (Shape.Idx.first (numel1_S1.symm ▸ Nat.one_pos))) (View.readAt (Elt Bits) (tbM0_0).view (Rect.unit (s := S288) (k0_off3 i) S1.size (k0_off3_inb i)).toLoadRect T0 (Shape.Idx.first (numel1_S1.symm ▸ Nat.one_pos)))))) 0#32) = 1#1

theorem out_A (c : Dev nD) (i : grid0.Coords) (arg4 : Memref sig .tc .vmem S256x2048 .bf16) (harg4 : arg4.IsWhole) (arg5 : Memref sig .tc .vmem S1x2048x1024 .f32) (harg5 : arg5.IsWhole) (arg6 : Memref sig .tc .vmem S1x1x1024 .f32) (harg6 : arg6.IsWhole) (arg7 : Memref sig .tc .vmem S256x1024 .bf16) (harg7 : arg7.IsWhole) (T0 : (S288.Idx → Elt Bits .i32)) (T1 : (S1.Idx → Elt Bits .i32)) (x0 : (S256x2048.Idx → Elt Bits .bf16)) (x1 : (S1x2048x1024.Idx → Elt Bits .f32)) (x2 : (S1x1x1024.Idx → Elt Bits .f32)) (k0_h1 : k0_cond1 i (View.readAt (Elt Bits) (tbM0_1).view (Rect.unit (s := S1) ![0] S1.size inb_S1_S1_0).toLoadRect T1 (Shape.Idx.first (numel1_S1.symm ▸ Nat.one_pos))) = 1#1) (hc1 : newExpert T0 i) :
    out0_A_3 c i arg4 harg4 arg5 harg5 arg6 harg6 arg7 harg7 T0 T1 x0 x1 x2 k0_h1 hc1 = k0_pay2 x0 (k0_pay1 x1) x2 := by
  unfold out0_A_3
  frame_out
  rw [View.read_rep, View.read_rep, View.read_rep]

theorem out_B (c : Dev nD) (i : grid0.Coords) (arg4 : Memref sig .tc .vmem S256x2048 .bf16) (harg4 : arg4.IsWhole) (arg5 : Memref sig .tc .vmem S1x2048x1024 .f32) (harg5 : arg5.IsWhole) (arg6 : Memref sig .tc .vmem S1x1x1024 .f32) (harg6 : arg6.IsWhole) (arg7 : Memref sig .tc .vmem S256x1024 .bf16) (harg7 : arg7.IsWhole) (T0 : (S288.Idx → Elt Bits .i32)) (T1 : (S1.Idx → Elt Bits .i32)) (x0 : (S256x2048.Idx → Elt Bits .bf16)) (x1 : (S1x2048x1024.Idx → Elt Bits .f32)) (x2 : (S1x1x1024.Idx → Elt Bits .f32)) (xa0 : Buf (Elt Bits) ((c : Thread nD τ).loc cc0_scratch0)) (k0_h1 : k0_cond1 i (View.readAt (Elt Bits) (tbM0_1).view (Rect.unit (s := S1) ![0] S1.size inb_S1_S1_0).toLoadRect T1 (Shape.Idx.first (numel1_S1.symm ▸ Nat.one_pos))) = 1#1) (hc1 : ¬ newExpert T0 i) :
    out0_B_3 c i arg4 harg4 arg5 harg5 arg6 harg6 arg7 harg7 T0 T1 x0 x1 x2 xa0 k0_h1 hc1 = k0_pay2 x0 xa0 x2 := by
  unfold out0_B_3
  frame_out
  rw [View.read_rep, View.read_rep, View.read_whole]

theorem scr_A (c : Dev nD) (i : grid0.Coords) (arg4 : Memref sig .tc .vmem S256x2048 .bf16) (harg4 : arg4.IsWhole) (arg5 : Memref sig .tc .vmem S1x2048x1024 .f32) (harg5 : arg5.IsWhole) (arg6 : Memref sig .tc .vmem S1x1x1024 .f32) (harg6 : arg6.IsWhole) (arg7 : Memref sig .tc .vmem S256x1024 .bf16) (harg7 : arg7.IsWhole) (T0 : (S288.Idx → Elt Bits .i32)) (T1 : (S1.Idx → Elt Bits .i32)) (x0 : (S256x2048.Idx → Elt Bits .bf16)) (x1 : (S1x2048x1024.Idx → Elt Bits .f32)) (x2 : (S1x1x1024.Idx → Elt Bits .f32)) (k0_h1 : k0_cond1 i (View.readAt (Elt Bits) (tbM0_1).view (Rect.unit (s := S1) ![0] S1.size inb_S1_S1_0).toLoadRect T1 (Shape.Idx.first (numel1_S1.symm ▸ Nat.one_pos))) = 1#1) (hc1 : newExpert T0 i) :
    (kernelRun0_A c i arg4 harg4 arg5 harg5 arg6 harg6 arg7 harg7 T0 T1 x0 x1 x2 k0_h1 hc1).2.1 = k0_pay1 x1 := by
  have e : (View.whole cc0_scratch0).read (Elt Bits) (kernelRun0_A c i arg4 harg4 arg5 harg5 arg6 harg6 arg7 harg7 T0 T1 x0 x1 x2 k0_h1 hc1).2.1 = k0_pay1 x1 := by
    frame_out
    rw [View.read_rep]
    exact View.canon_unit_zero (funext fun a => by fin_cases a <;> rfl) _ _
  exact e

theorem scr_B (c : Dev nD) (i : grid0.Coords) (arg4 : Memref sig .tc .vmem S256x2048 .bf16) (harg4 : arg4.IsWhole) (arg5 : Memref sig .tc .vmem S1x2048x1024 .f32) (harg5 : arg5.IsWhole) (arg6 : Memref sig .tc .vmem S1x1x1024 .f32) (harg6 : arg6.IsWhole) (arg7 : Memref sig .tc .vmem S256x1024 .bf16) (harg7 : arg7.IsWhole) (T0 : (S288.Idx → Elt Bits .i32)) (T1 : (S1.Idx → Elt Bits .i32)) (x0 : (S256x2048.Idx → Elt Bits .bf16)) (x1 : (S1x2048x1024.Idx → Elt Bits .f32)) (x2 : (S1x1x1024.Idx → Elt Bits .f32)) (xa0 : Buf (Elt Bits) ((c : Thread nD τ).loc cc0_scratch0)) (k0_h1 : k0_cond1 i (View.readAt (Elt Bits) (tbM0_1).view (Rect.unit (s := S1) ![0] S1.size inb_S1_S1_0).toLoadRect T1 (Shape.Idx.first (numel1_S1.symm ▸ Nat.one_pos))) = 1#1) (hc1 : ¬ newExpert T0 i) :
    (kernelRun0_B c i arg4 harg4 arg5 harg5 arg6 harg6 arg7 harg7 T0 T1 x0 x1 x2 xa0 k0_h1 hc1).2.1 = xa0 := rfl

set_option maxHeartbeats 8000000 in
/-- A tile that is not used: the body reads the second table and leaves everything as it is. -/
theorem run_C (c : Dev nD) (i : grid0.Coords) (arg4 : Memref sig .tc .vmem S256x2048 .bf16) (harg4 : arg4.IsWhole) (arg5 : Memref sig .tc .vmem S1x2048x1024 .f32) (harg5 : arg5.IsWhole) (arg6 : Memref sig .tc .vmem S1x1x1024 .f32) (harg6 : arg6.IsWhole) (arg7 : Memref sig .tc .vmem S256x1024 .bf16) (harg7 : arg7.IsWhole) (T0 : (S288.Idx → Elt Bits .i32)) (T1 : (S1.Idx → Elt Bits .i32)) (k0_h1 : ¬ k0_cond1 i (View.readAt (Elt Bits) (tbM0_1).view (Rect.unit (s := S1) ![0] S1.size inb_S1_S1_0).toLoadRect T1 (Shape.Idx.first (numel1_S1.symm ▸ Nat.one_pos))) = 1#1) (K : PUnit → sProp 𝕄) :
    iprop((tbM0_1.view.loc (c : Thread nD τ) ↦{fullShare.right} T1) ∗ ((tbM0_1.view.loc (c : Thread nD τ) ↦{fullShare.right} T1) -∗ K ⟨⟩))
      ⊢ wp frame (wpE (defs₀ (F := Bits)) Variants.none c none) Set.univ (cc0_expert_down i tbM0_0 (Memref.isWhole_whole _) tbM0_1 (Memref.isWhole_whole _) arg4 harg4 arg5 harg5 arg6 harg6 arg7 harg7 scM0_0 (Memref.isWhole_whole _)) K := by
  rw [cc0_expert_down_eq_skeleton]; unfold cc0_expert_down_skel
  iintro ⟨HT1, Hk⟩
  have hS0 : scM0_0.IsWhole := Memref.isWhole_whole _
  have hT0 : tbM0_0.IsWhole := Memref.isWhole_whole _
  have hT1 : tbM0_1.IsWhole := Memref.isWhole_whole _
  sl_exec! (disch := first | (guard_target = ¬(k0_cond1 _ _ = _); exact k0_h1))
  sl_step
  iapply Hk
  iexact HT1

theorem read_T1 (T1 : S1.Idx → BitVec 32) : View.readAt (Elt Bits) (tbM0_1).view (Rect.unit (s := S1) ![0] S1.size inb_S1_S1_0).toLoadRect T1 (Shape.Idx.first (numel1_S1.symm ▸ Nat.one_pos)) = T1 (ix1 0) := congrArg T1 (first_S1 _)

theorem not_new (T0 : S288.Idx → BitVec 32) (i : grid0.Coords) (hn : ¬ newExpert T0 i) :
    (i 1).val ≠ 0 ∧ ∀ k : Fin 288, k.val = (i 1).val - 1 → T0 (ix1 ⟨(i 1).val, i1_lt i⟩) = T0 (ix1 k) := by
  have hi := i1_lt i
  let k1 : Fin 288 := ⟨(i 1).val, hi⟩
  have e2 : View.readAt (Elt Bits) (tbM0_0).view (Rect.unit (s := S288) (k0_off2 i) S1.size (k0_off2_inb i)).toLoadRect T0 (Shape.Idx.first (numel1_S1.symm ▸ Nat.one_pos)) = T0 (ix1 k1) := congrArg T0 (emb_off (k0_off2 i) k1 (toNat_i1 i) (k0_off2_inb i) _)
  have hw : Scalar.cmpi .eq (BitVec.ofNat 32 (i 1).val) 0#32 ≠ 1#1 ∧ Scalar.cmpi .ne (View.readAt (Elt Bits) (tbM0_0).view (Rect.unit (s := S288) (k0_off2 i) S1.size (k0_off2_inb i)).toLoadRect T0 (Shape.Idx.first (numel1_S1.symm ▸ Nat.one_pos))) (View.readAt (Elt Bits) (tbM0_0).view (Rect.unit (s := S288) (k0_off3 i) S1.size (k0_off3_inb i)).toLoadRect T0 (Shape.Idx.first (numel1_S1.symm ▸ Nat.one_pos))) ≠ 1#1 := by
    revert hn
    unfold newExpert
    generalize Scalar.cmpi .eq (BitVec.ofNat 32 (i 1).val) 0#32 = a
    generalize Scalar.cmpi .ne (View.readAt (Elt Bits) (tbM0_0).view (Rect.unit (s := S288) (k0_off2 i) S1.size (k0_off2_inb i)).toLoadRect T0 (Shape.Idx.first (numel1_S1.symm ▸ Nat.one_pos))) (View.readAt (Elt Bits) (tbM0_0).view (Rect.unit (s := S288) (k0_off3 i) S1.size (k0_off3_inb i)).toLoadRect T0 (Shape.Idx.first (numel1_S1.symm ▸ Nat.one_pos))) = b
    revert a b; decide
  have a1 : Affine.IsInt (BitVec.ofNat 32 (i 1).val) ((i 1).val : Int) := Affine.ofNat _ ⟨rfl, by omega⟩
  have h0 : (i 1).val ≠ 0 := fun h0 => hw.1 (by rw [h0]; decide)
  refine ⟨h0, fun k hk => ?_⟩
  have ho : k0_off3 i 0 = k.val := by
    have a3 : Affine.IsInt (1#32) (1 : Int) := Affine.ofNat 1 ⟨rfl, by omega⟩
    have a0 : Affine.IsInt (0#32) (0 : Int) := Affine.ofNat 0 ⟨rfl, by omega⟩
    have a4 := Affine.subi a1 a3 (e := ((i 1).val : Int) - 1) ⟨rfl, by omega, by omega⟩
    have a5 := Affine.maxsi a4 a0 rfl
    exact (Affine.nat_eq a5 _ (by omega)).trans rfl
  have e3 : View.readAt (Elt Bits) (tbM0_0).view (Rect.unit (s := S288) (k0_off3 i) S1.size (k0_off3_inb i)).toLoadRect T0 (Shape.Idx.first (numel1_S1.symm ▸ Nat.one_pos)) = T0 (ix1 k) := congrArg T0 (emb_off (k0_off3 i) k ho (k0_off3_inb i) _)
  rw [e2, e3] at hw
  by_contra hne
  refine hw.2 ?_
  show BitVec.ofBool (T0 (ix1 k1) != T0 (ix1 k)) = 1#1
  rw [bne_iff_ne.2 hne]; rfl

end Cert.KernelDown.Exp

end
-- ==== Proof.DownKLaunch.lean ====
/- The experts' down projection: the launch, its frame, and what the precondition says of the tables. -/
module

public import proofs.«01_k».proof.Proof.DownKFrame
public import proofs.«01_k».proof.Proof.Gen.Pre_expert_range_down
public import Idealize.ShloMosaic.Lib.ReduceAll
public import Idealize.ShloMosaic.Lib.ValueIdx
public import Idealize.ShloMosaic.Lib.Claim
public import proofs.«01_k».proof.Defs

@[expose] public section

set_option maxRecDepth 16384
set_option Elab.async false

noncomputable section

namespace Cert.KernelDown.Exp

open Cert.KernelDown Cert.KernelDown.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The type of states' assertions. -/
local notation "𝕄" => MT nD τ sig Unit (Elt Bits) ℕ (UR sig nD τ) ℕ

/-! ## The launch -/

variable {T0 : S288.Idx → BitVec 32} {T1 : S1.Idx → BitVec 32} (h : Tabs T0 T1)
variable (m : (ℓ : Loc nD τ sig) → Buf (Elt Bits) ℓ) (ρ : Dev nD → PrngReg)

/-- The library's body obligation, at every point. -/
theorem body_obligation (c : Dev nD) : BodyObligation (dats h m ρ 0 c) (defs₀ (F := Bits)) Variants.none () Set.univ := fun t => by
  rw [bigSep_W0]
  exact sound_body h m ρ c t

/-- The launch element. -/
def u₀ : UR sig nD τ :=
  initOf (Pipeline.cells (pcs h) ((launch0 (F := Bits)).cellOf_inj fun _ => adm h))
    (Pipeline.launchToks (pcs h) ((launch0 (F := Bits)).cellOf_inj fun _ => adm h))

theorem share_eq (c : Dev nD) (w : Fin (cfgA h).W) : (dats h m ρ 0 c).share w = fullShare := by unfold Dat.share; split <;> rfl

theorem prefHeld_eq (c : Dev nD) (q : Fin 2 → PosShare TreeShare) (v : pre0.Contents (Elt Bits)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

theorem phi0_intro (c : Dev nD) :
    iprop(BI.emp ∗ Pipeline.prefHeld pre0 c (fun _ => fullShare.right) (adm h).1 ∗ Pipeline.scopedRest spec0 c) ⊢ (dats h m ρ 0 c).Φ 0 := by
  rw [prefHeld_eq, scopedRest0_eq, show (dats h m ρ 0 c).Φ 0 = Phi h m ρ c 0 from rfl]
  unfold Phi
  iintro ⟨-, ⟨HT0, HT1⟩, ⟨%a0, HS0⟩⟩
  isplitl [HS0]
  · iexists a0; isplitr; swap
    · iexact HS0
    · ipureintro; intro t ht _; exact absurd ht (Nat.succ_ne_zero _)
  isplitl [HT0]
  · iexact HT0
  iexact HT1

theorem phiN_exit (c : Dev nD) : (dats h m ρ 0 c).Φ (Fin.last (cfgA h).N) ⊢ iprop(BI.emp ∗ Pipeline.scopedRest spec0 c) := by
  rw [scopedRest0_eq, show (dats h m ρ 0 c).Φ (Fin.last (cfgA h).N) = Phi h m ρ c (Fin.last _) from rfl]
  unfold Phi
  iintro ⟨⟨%a0, -, HS0⟩, -, -⟩
  isplitr; · iempintro
  iexists a0; iexact HS0

/-- Every array at what the pipeline computes, every table as it was. -/
def QC : PUnit × MemSt nD τ sig (Elt Bits) → Prop := fun r =>
  ∀ c : Dev nD, (∀ w : Fin (cfgA h).W, r.2.mem (((cfgA h).win w).arr.view.loc (c : Thread nD τ)) = (dats h m ρ 0 c).arrAt w (cfgA h).N)
    ∧ ∀ j, r.2.mem ((c : Thread nD τ).loc (pre0.ref j)) = (adm h).1 j

/-- The memory's tables are the ones the pipeline is taken at. -/
def Pinned (T0 : S288.Idx → BitVec 32) (T1 : S1.Idx → BitVec 32) : Prop :=
  ∀ c : Dev nD, m ((c : Thread nD τ).loc main_arg0) = T0 ∧ m ((c : Thread nD τ).loc main_arg1) = T1

theorem V_pre (hp : Pinned m T0 T1) (c : Dev nD) (j : Fin 2) : m ((c : Thread nD τ).loc (pre0.ref j)) = (adm h).1 j := by
  fin_cases j
  · exact (hp c).1
  · exact (hp c).2

set_option backward.isDefEq.respectTransparency.types false in
set_option maxHeartbeats 4000000 in
theorem run_main_quiescent (hp : Pinned m T0 T1) : θ_run (defs (F := Bits)) (onTc (τ := τ) (main (F := Bits))) (s₀ m ρ) (fun r => QC h m ρ r ∧ r.2.sem = fun _ => 0) :=
  Pipeline.θ_run_region_noSem_pf_quiescent pcfgs (fun _ => adm h) (dats h m ρ) () ((launch0 (F := Bits)).cellOf_inj fun _ => adm h) (0 : Fin 1)
    (launch0 (F := Bits)).win.to₀ (launch0 (F := Bits)).pre EP defs₀ Variants.none m ρ main
    (hbody := fun c => (body_obligation h m ρ c).loose) (hne := (launch0 (F := Bits)).block_pos)
    (harr := (launch0 (F := Bits)).arr_whole) (hstage := (launch0 (F := Bits)).stage_whole) (howed := fun _ _ => rfl)
    (u₀ := u₀ h) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs h) (dats h m ρ) 0 (launch0 (F := Bits)).win.arr_inj c (launch0 (F := Bits)).arr_whole
      (share_eq h m ρ c) _ _ fun _ => rfl)
    (hpf := V_pre h m hp)
    (X := fun _ => iprop(emp)) (Y := fun _ => iprop(emp)) (Z := fun _ => iprop(emp))
    (hX := fun c => by rw [unscopedRestP0_eq]; iintro -; isplitr <;> iempintro)
    (hin := phi0_intro h m ρ)
    (hout := phiN_exit h m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- What the run leaves: the arguments as they were, the result at what the pipeline computes, every counter at zero. -/
theorem run (hp : Pinned m T0 T1) :
    θ_run (defs (F := Bits)) (onTc (τ := τ) (main (F := Bits))) ⟨m, fun _ => 0, ρ⟩ (fun r => (∀ c : Dev nD,
      r.2.mem ((c.tc : Thread nD τ).loc main_v0) = (dats h m ρ 0 c).arrAt (3 : Fin 4) (cfgA h).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ hr => ⟨fun c => ⟨(hr.1 c).1 (3 : Fin 4), ((hr.1 c).2 0).trans (hp c).1.symm, ((hr.1 c).2 1).trans (hp c).2.symm,
    ((hr.1 c).1 (0 : Fin 4)).trans ((dats h m ρ 0 c).arrAt_in (0 : Fin 4) rfl _), ((hr.1 c).1 (1 : Fin 4)).trans ((dats h m ρ 0 c).arrAt_in (1 : Fin 4) rfl _),
    ((hr.1 c).1 (2 : Fin 4)).trans ((dats h m ρ 0 c).arrAt_in (2 : Fin 4) rfl _)⟩, hr.2⟩) (run_main_quiescent h m ρ hp)

/-! ## The precondition -/

theorem tabs_of_pre (a0 : IVec S288 32) (a1 : IVec S1 32) (a2 : FVec Bits S73728x2048 .bf16) (a3 : FVec Bits S32x2048x2048 .f32) (a4 : FVec Bits S32x1x2048 .f32)
    (hh : Cert.Pre_expert_range_down.fn (F := Bits) a0 a1 a2 a3 a4 = fun _ => 1#1) : Tabs a0 a1 := by
  have : Subsingleton (⟨0, ![]⟩ : Shape).Idx := ⟨fun a b => funext fun i => i.elim0⟩
  have hh := congrFun hh (fun i => i.elim0)
  unfold Cert.Pre_expert_range_down.fn at hh
  dsimp only at hh
  obtain ⟨h1, h2⟩ := IntOp.andi_eq_one.1 hh
  have H1 := fun y => IntOp.andi_eq_one.1 (Host.reduce_andi_all _ _ _ _ _ h1 y)
  have H2 := fun y => Host.reduce_andi_all _ _ _ _ _ h2 y
  clear hh h1 h2
  have hn : (1 : Int) ≤ (a1 (ix1 0)).toInt := IntOp.cmpi_sge.1 (H2 (ix1 0))
  have hn2 : 1 ≤ (a1 (ix1 0)).toNat ∧ (a1 (ix1 0)).toNat < 2 ^ 31 := by
    rw [BitVec.toInt_eq_toNat_cond] at hn
    have := (a1 (ix1 0)).isLt
    split_ifs at hn <;> omega
  refine ⟨fun i => ?_, hn2.1, hn2.2⟩
  have e1 : (0 : Int) ≤ (a0 (ix1 i)).toInt := IntOp.cmpi_sge.1 (H1 (ix1 i)).1
  have e2 : (a0 (ix1 i)).toInt < 32 := IntOp.cmpi_slt.1 (H1 (ix1 i)).2
  rw [BitVec.toInt_eq_toNat_cond] at e1 e2
  have := (a0 (ix1 i)).isLt
  split_ifs at e1 e2 <;> omega

/-- The one device's tables, with what the precondition says of them. -/
theorem tabs (hh : Cert.Pre_KernelDown m) :
    Tabs (m (((0 : Dev nD) : Thread nD τ).loc main_arg0)) (m (((0 : Dev nD) : Thread nD τ).loc main_arg1)) :=
  tabs_of_pre _ _ _ _ _ (hh 0)

theorem pinned : Pinned m (m (((0 : Dev nD) : Thread nD τ).loc main_arg0)) (m (((0 : Dev nD) : Thread nD τ).loc main_arg1)) := fun c => by
  obtain rfl : c = 0 := Subsingleton.elim (α := Fin 1) _ _
  exact ⟨rfl, rfl⟩

/-- The frame under the precondition. -/
theorem frame_all (hh : Cert.Pre_KernelDown m) :
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ hr => ⟨fun c => (hr.1 c).2, hr.2⟩) (run (tabs m hh) m ρ (pinned m))

end Cert.KernelDown.Exp

end
-- ==== Proof.DownTab.lean ====
/- The experts' down projection: what the two tables say of the grid. -/
module

public import proofs.«01_k».proof.Proof.Gen.KernelDownIdeal.Flash.Runs
public import Idealize.ShloMosaic.Lib.Pipeline.ValueKit
public import Idealize.ShloMosaic.Lib.Pointwise

@[expose] public section

set_option maxRecDepth 16384

noncomputable section

namespace Cert.KernelDownIdeal.Exp

open Cert.KernelDownIdeal Cert.KernelDownIdeal.Gen
open Idealize.ShloMosaic
open Idealize.ShloMosaic.TcCoe Idealize.ShloMosaic.Tactic
open Idealize.ShloMosaic.Pipeline (Dat Cfg Window)

/-- The tables are admissible: every tile's expert is one of the 32, and at least one tile is used. -/
structure Tabs (T0 : S288.Idx → BitVec 32) (T1 : S1.Idx → BitVec 32) : Prop where
  te : ∀ i : Fin 288, (T0 (ix1 i)).toNat < 32
  pos : 1 ≤ (T1 (ix1 0)).toNat
  lt : (T1 (ix1 0)).toNat < 2 ^ 31

variable (T0 : S288.Idx → BitVec 32) (T1 : S1.Idx → BitVec 32)

/-- The tables as the launch reads them. -/
def pf : pre0.Contents (Elt Ideal) := fun | ⟨0, _⟩ => T0 | ⟨1, _⟩ => T1 | ⟨_ + 2, h⟩ => absurd h (by simp)

/-- The number of used tiles. -/
def nu : ℕ := (T1 (ix1 0)).toNat

theorem i1_lt (i : grid0.Coords) : (i 1).val < 288 := (i 1).isLt
theorem i0_lt (i : grid0.Coords) : (i 0).val < 2 := (i 0).isLt

theorem toNat_i1 (i : grid0.Coords) : (BitVec.ofNat 32 (i 1).val).toNat = (i 1).val := by
  have := i1_lt i
  rw [BitVec.toNat_ofNat, Nat.mod_eq_of_lt (by omega)]
theorem toNat_i0 (i : grid0.Coords) : (BitVec.ofNat 32 (i 0).val).toNat = (i 0).val := by
  have := i0_lt i
  rw [BitVec.toNat_ofNat, Nat.mod_eq_of_lt (by omega)]

/-- The word of a table of one element. -/
theorem first_S1 (x : S1.Idx) : x = ix1 0 := funext fun a => by
  match a with
  | ⟨0, _⟩ => exact Subsingleton.elim (α := Fin 1) _ _

variable {T0 T1}

/-- The smaller of the tile and the last used tile, as the index maps compute it. -/
theorem min_word (h : Tabs T0 T1) (i : grid0.Coords) :
    (Scalar.minsi (BitVec.ofNat 32 (i 1).val) (Scalar.subi (T1 (ix1 0)) 1#32)).toNat = min (i 1).val (nu T1 - 1) := by
  have h1 := h.pos; have h2 := h.lt; have hi := i1_lt i
  have e : (T1 (ix1 0)).toInt = (nu T1 : Int) := by
    unfold nu; rw [BitVec.toInt_eq_toNat_cond]; rw [if_pos (by omega)]
  have a1 : Affine.IsInt (BitVec.ofNat 32 (i 1).val) ((i 1).val : Int) := Affine.ofNat _ ⟨rfl, by omega⟩
  have a2 : Affine.IsInt (T1 (ix1 0)) (nu T1 : Int) := e ▸ Affine.word _
  have a3 : Affine.IsInt (1#32) (1 : Int) := Affine.ofNat 1 ⟨rfl, by omega⟩
  have hnu : 1 ≤ nu T1 ∧ nu T1 < 2 ^ 31 := ⟨h1, h2⟩
  have a4 := Affine.subi a2 a3 (e := (nu T1 : Int) - 1) ⟨rfl, by omega, by omega⟩
  exact Affine.nat_eq (Affine.minsi a1 a4 rfl) _ (by omega)

theorem transform_0 (h : Tabs T0 T1) (i : grid0.Coords) : cc0_transform_0 inb_S1_S1_0 numel1_S1 (pf T0 T1) i = ![min (i 1).val (nu T1 - 1), 0] := by
  rw [← min_word h i, ← first_S1 ((Rect.unit (s := S1) ![0] S1.size inb_S1_S1_0).emb (Shape.Idx.first (numel1_S1.symm ▸ Nat.one_pos)))]
  rfl
theorem transform_3 (h : Tabs T0 T1) (i : grid0.Coords) : cc0_transform_3 inb_S1_S1_0 numel1_S1 (pf T0 T1) i = ![min (i 1).val (nu T1 - 1), (i 0).val] := by
  rw [← min_word h i, ← first_S1 ((Rect.unit (s := S1) ![0] S1.size inb_S1_S1_0).emb (Shape.Idx.first (numel1_S1.symm ▸ Nat.one_pos))), ← toNat_i0 i]
  rfl

theorem emb_off (off : Fin 1 → ℕ) (k : Fin 288) (hk : off 0 = k.val) (hb : ∀ a, off a + S1.size a ≤ S288.size a)
    (x : (Rect.unit (s := S288) off S1.size hb).shape.Idx) : (Rect.unit (s := S288) off S1.size hb).emb x = ix1 k := by
  funext a
  match a with
  | ⟨0, _⟩ =>
    apply Fin.ext
    rw [Rect.emb_apply]
    have hx : (x 0).val < 1 := (x 0).isLt
    show off 0 + 1 * (x 0).val = k.val
    omega

theorem transform_1 (i : grid0.Coords) : cc0_transform_1 k0_off1_inb numel1_S1 (pf T0 T1) i = ![(T0 (ix1 (i 1))).toNat, 0, (i 0).val] := by
  rw [← toNat_i0 i, ← emb_off (k0_off1 i) (i 1) (toNat_i1 i) (k0_off1_inb i) (Shape.Idx.first (numel1_S1.symm ▸ Nat.one_pos))]
  rfl
theorem transform_2 (i : grid0.Coords) : cc0_transform_2 k0_off1_inb numel1_S1 (pf T0 T1) i = ![(T0 (ix1 (i 1))).toNat, 0, (i 0).val] := by
  rw [← toNat_i0 i, ← emb_off (k0_off1 i) (i 1) (toNat_i1 i) (k0_off1_inb i) (Shape.Idx.first (numel1_S1.symm ▸ Nat.one_pos))]
  rfl

theorem ok (h : Tabs T0 T1) : ok0 (F := Ideal) (pf T0 T1) := by
  refine ⟨fun i => ?_, fun i => ?_, fun i => ?_, fun i => ?_⟩
  · have := i1_lt i
    refine ⟨fun a => ?_, .inr (Affine.block_words_dvd (s := S73728x2048) (p := EltTy.packing .bf16) (by decide) (by decide))⟩
    rw [transform_0 h]
    match a with
    | ⟨0, _⟩ => show (min (i 1).val (nu T1 - 1) + 1) * 256 ≤ 73728; omega
    | ⟨1, _⟩ => show (0 + 1) * 2048 ≤ 2048; omega
  · have := h.te (i 1); have := i0_lt i
    refine ⟨fun a => ?_, .inl rfl⟩
    rw [transform_1]
    match a with
    | ⟨0, _⟩ => show ((T0 (ix1 (i 1))).toNat + 1) * 1 ≤ 32; omega
    | ⟨1, _⟩ => show (0 + 1) * 2048 ≤ 2048; omega
    | ⟨2, _⟩ => show ((i 0).val + 1) * 1024 ≤ 2048; omega
  · have := h.te (i 1); have := i0_lt i
    refine ⟨fun a => ?_, .inl rfl⟩
    rw [transform_2]
    match a with
    | ⟨0, _⟩ => show ((T0 (ix1 (i 1))).toNat + 1) * 1 ≤ 32; omega
    | ⟨1, _⟩ => show (0 + 1) * 1 ≤ 1; omega
    | ⟨2, _⟩ => show ((i 0).val + 1) * 1024 ≤ 2048; omega
  · have := i1_lt i; have := i0_lt i
    refine ⟨fun a => ?_, .inr (Affine.block_words_dvd (s := S73728x2048) (p := EltTy.packing .bf16) (by decide) (by decide))⟩
    rw [transform_3 h]
    match a with
    | ⟨0, _⟩ => show (min (i 1).val (nu T1 - 1) + 1) * 256 ≤ 73728; omega
    | ⟨1, _⟩ => show ((i 0).val + 1) * 1024 ≤ 2048; omega

/-- The launch's choice of tables, and the pipeline at it. -/
def adm (h : Tabs T0 T1) : (pcfg0 (F := Ideal)).Adm := ⟨pf T0 T1, ok h⟩
abbrev cfgA (h : Tabs T0 T1) : Pipeline.Cfg sig Λ₀ := cfg0 (F := Ideal) (adm h)
abbrev pcs (h : Tabs T0 T1) : Fin 1 → Pipeline.Cfg sig Λ₀ := Pipeline.pin (pcfgs (F := Ideal)) fun _ => adm h

/-! ## The points -/

theorem crd1 (h : Tabs T0 T1) (t : Fin (cfgA h).N) : ((cfgA h).grid.coords t 1).val = t.val % 288 :=
  (Pipeline.Grid.coords_val (G := grid0) t 1 (S := 1) (B := 288) (by decide) rfl).trans (by rw [Nat.div_one])
theorem crd0 (h : Tabs T0 T1) (t : Fin (cfgA h).N) : ((cfgA h).grid.coords t 0).val = t.val / 288 := by
  have ht : t.val < 576 := t.isLt.trans_eq N_0
  refine (Pipeline.Grid.coords_val (G := grid0) t 0 (S := 288) (B := 2) (by decide) rfl).trans ?_
  omega

theorem index3 (h : Tabs T0 T1) (t : Fin (cfgA h).N) : ((cfgA h).win (3 : Fin 4)).index t = ![min (t.val % 288) (nu T1 - 1), t.val / 288] := by
  rw [← crd1 h t, ← crd0 h t]; exact transform_3 h _

/-- The body's first test: is the tile used. -/
theorem cond_word (h : Tabs T0 T1) (i : grid0.Coords) : k0_cond1 i (T1 (ix1 0)) = 1#1 ↔ (i 1).val < nu T1 := by
  have h1 := h.pos; have h2 := h.lt; have hi := i1_lt i
  have e : (T1 (ix1 0)).toInt = (nu T1 : Int) := by
    unfold nu; rw [BitVec.toInt_eq_toNat_cond]; rw [if_pos (by omega)]
  have a1 : Affine.IsInt (BitVec.ofNat 32 (i 1).val) ((i 1).val : Int) := Affine.ofNat _ ⟨rfl, by omega⟩
  have a2 : Affine.IsInt (T1 (ix1 0)) (nu T1 : Int) := e ▸ Affine.word _
  have hg : k0_cond1 i (T1 (ix1 0)) = 1#1 ↔ Scalar.cmpi .slt (BitVec.ofNat 32 (i 1).val) (T1 (ix1 0)) = 1#1 := by
    show Scalar.cmpi .ne (Scalar.extui (Scalar.cmpi .slt (BitVec.ofNat 32 (i 1).val) (T1 (ix1 0)))) 0#32 = 1#1 ↔ _
    generalize Scalar.cmpi .slt (BitVec.ofNat 32 (i 1).val) (T1 (ix1 0)) = b
    revert b; decide
  rw [hg]
  constructor
  · intro hh; by_contra hc
    exact Affine.slt_fails a1 a2 (by omega) hh
  · intro hh; exact Affine.slt_holds a1 a2 (by omega)

theorem idle3 (h : Tabs T0 T1) (t : Fin (cfgA h).N) : (cfgA h).idle (3 : Fin 4) ((cfgA h).grid.coords t) = true ↔ nu T1 ≤ t.val % 288 := by
  have e : (cfgA h).idle (3 : Fin 4) ((cfgA h).grid.coords t) = !(k0_cond1 ((cfgA h).grid.coords t) (T1 (ix1 0)) == 1#1) := by
    rw [← first_S1 (fun a => ⟨(![0] : Fin 1 → ℕ) a, by revert a; decide⟩)]
    rfl
  rw [e, Bool.not_eq_true', beq_eq_false_iff_ne, ne_eq, cond_word h, crd1]
  omega

theorem flush3 (h : Tabs T0 T1) (t : Fin (cfgA h).N) : ((cfgA h).win (3 : Fin 4)).flush t = true ↔ (t.val % 288 + 1 < nu T1 ∨ t.val % 288 = 287) := by
  have ht : t.val < 576 := t.isLt.trans_eq N_0
  have hp : 1 ≤ nu T1 := h.pos
  have hN : (cfgA h).grid.N = 576 := N_0
  rw [Pipeline.Window.flush_out _ rfl]
  constructor
  · rintro (he | ⟨h', hne⟩)
    · right; omega
    · by_contra hc
      apply hne
      rw [index3, index3]
      show ![min ((t.val + 1) % 288) (nu T1 - 1), (t.val + 1) / 288] = _
      rw [show min ((t.val + 1) % 288) (nu T1 - 1) = min (t.val % 288) (nu T1 - 1) by omega, show (t.val + 1) / 288 = t.val / 288 by omega]
  · intro hc
    by_cases he : t.val + 1 = 576
    · left; omega
    · right
      refine ⟨by omega, fun heq => ?_⟩
      rw [index3, index3] at heq
      have h0 : min ((t.val + 1) % 288) (nu T1 - 1) = min (t.val % 288) (nu T1 - 1) := congrFun heq 0
      have h1 : (t.val + 1) / 288 = t.val / 288 := congrFun heq 1
      omega

theorem fresh3 (h : Tabs T0 T1) : ∀ (n : ℕ) (hn : n < (cfgA h).N), nu T1 ≤ n % 288 → (cfgA h).fresh (3 : Fin 4) n = false
  | 0, _, hi => absurd hi (by have := h.pos; unfold nu; simp; omega)
  | n + 1, hn, hi => by
    have hp : 1 ≤ nu T1 := h.pos
    have hn' : n < (cfgA h).N := Nat.lt_of_succ_lt hn
    have hm : (n + 1) % 288 = n % 288 + 1 := by omega
    rw [Pipeline.Cfg.fresh_succ _ _ n hn', Bool.or_eq_false_iff]
    constructor
    · rw [← Bool.not_eq_true, flush3]
      show ¬(n % 288 + 1 < nu T1 ∨ n % 288 = 287)
      omega
    · rw [Bool.and_eq_false_iff]
      by_cases hu : nu T1 ≤ n % 288
      · exact .inr (fresh3 h n hn' hu)
      · refine .inl ?_
        rw [← Bool.not_eq_true, idle3]; exact hu

end Cert.KernelDownIdeal.Exp

end
-- ==== Proof.DownPaths.lean ====
/- The experts' down projection: the launch at any admissible tables, and what it leaves. -/
module

public import proofs.«01_k».proof.Proof.DownTab

@[expose] public section

set_option maxRecDepth 16384
set_option Elab.async false

noncomputable section

namespace Cert.KernelDownIdeal.Exp

open Cert.KernelDownIdeal Cert.KernelDownIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The type of states' assertions. -/
local notation "𝕄" => MT nD τ sig Unit (Elt Ideal) ℕ (UR sig nD τ) ℕ

/-- The resource algebra's embedding. -/
abbrev EP : Emb (UR sig nD τ) 𝕄 := emb₁

/-! ## The paths' values -/

/-- The test of the first tile or of a new expert. -/
abbrev newExpert (T0 : S288.Idx → BitVec 32) (i : grid0.Coords) : Prop := (Scalar.cmpi .ne (Scalar.extui (Scalar.ori (Scalar.cmpi .eq (BitVec.ofNat 32 (i 1).val) 0#32) (Scalar.cmpi .ne (View.readAt (Elt Ideal) (tbM0_0).view (Rect.unit (s := S288) (k0_off2 i) S1.size (k0_off2_inb i)).toLoadRect T0 (Shape.Idx.first (numel1_S1.symm ▸ Nat.one_pos))) (View.readAt (Elt Ideal) (tbM0_0).view (Rect.unit (s := S288) (k0_off3 i) S1.size (k0_off3_inb i)).toLoadRect T0 (Shape.Idx.first (numel1_S1.symm ▸ Nat.one_pos)))))) 0#32) = 1#1

theorem out_A (c : Dev nD) (i : grid0.Coords) (arg4 : Memref sig .tc .vmem S256x2048 .bf16) (harg4 : arg4.IsWhole) (arg5 : Memref sig .tc .vmem S1x2048x1024 .f32) (harg5 : arg5.IsWhole) (arg6 : Memref sig .tc .vmem S1x1x1024 .f32) (harg6 : arg6.IsWhole) (arg7 : Memref sig .tc .vmem S256x1024 .bf16) (harg7 : arg7.IsWhole) (T0 : (S288.Idx → Elt Ideal .i32)) (T1 : (S1.Idx → Elt Ideal .i32)) (x0 : (S256x2048.Idx → Elt Ideal .bf16)) (x1 : (S1x2048x1024.Idx → Elt Ideal .f32)) (x2 : (S1x1x1024.Idx → Elt Ideal .f32)) (k0_h1 : k0_cond1 i (View.readAt (Elt Ideal) (tbM0_1).view (Rect.unit (s := S1) ![0] S1.size inb_S1_S1_0).toLoadRect T1 (Shape.Idx.first (numel1_S1.symm ▸ Nat.one_pos))) = 1#1) (hc1 : newExpert T0 i) :
    out0_A_3 c i arg4 harg4 arg5 harg5 arg6 harg6 arg7 harg7 T0 T1 x0 x1 x2 k0_h1 hc1 = k0_pay2 x0 (k0_pay1 x1) x2 := by
  unfold out0_A_3
  frame_out
  rw [View.read_rep, View.read_rep, View.read_rep]

theorem out_B (c : Dev nD) (i : grid0.Coords) (arg4 : Memref sig .tc .vmem S256x2048 .bf16) (harg4 : arg4.IsWhole) (arg5 : Memref sig .tc .vmem S1x2048x1024 .f32) (harg5 : arg5.IsWhole) (arg6 : Memref sig .tc .vmem S1x1x1024 .f32) (harg6 : arg6.IsWhole) (arg7 : Memref sig .tc .vmem S256x1024 .bf16) (harg7 : arg7.IsWhole) (T0 : (S288.Idx → Elt Ideal .i32)) (T1 : (S1.Idx → Elt Ideal .i32)) (x0 : (S256x2048.Idx → Elt Ideal .bf16)) (x1 : (S1x2048x1024.Idx → Elt Ideal .f32)) (x2 : (S1x1x1024.Idx → Elt Ideal .f32)) (xa0 : Buf (Elt Ideal) ((c : Thread nD τ).loc cc0_scratch0)) (k0_h1 : k0_cond1 i (View.readAt (Elt Ideal) (tbM0_1).view (Rect.unit (s := S1) ![0] S1.size inb_S1_S1_0).toLoadRect T1 (Shape.Idx.first (numel1_S1.symm ▸ Nat.one_pos))) = 1#1) (hc1 : ¬ newExpert T0 i) :
    out0_B_3 c i arg4 harg4 arg5 harg5 arg6 harg6 arg7 harg7 T0 T1 x0 x1 x2 xa0 k0_h1 hc1 = k0_pay2 x0 xa0 x2 := by
  unfold out0_B_3
  frame_out
  rw [View.read_rep, View.read_rep, View.read_whole]

theorem scr_A (c : Dev nD) (i : grid0.Coords) (arg4 : Memref sig .tc .vmem S256x2048 .bf16) (harg4 : arg4.IsWhole) (arg5 : Memref sig .tc .vmem S1x2048x1024 .f32) (harg5 : arg5.IsWhole) (arg6 : Memref sig .tc .vmem S1x1x1024 .f32) (harg6 : arg6.IsWhole) (arg7 : Memref sig .tc .vmem S256x1024 .bf16) (harg7 : arg7.IsWhole) (T0 : (S288.Idx → Elt Ideal .i32)) (T1 : (S1.Idx → Elt Ideal .i32)) (x0 : (S256x2048.Idx → Elt Ideal .bf16)) (x1 : (S1x2048x1024.Idx → Elt Ideal .f32)) (x2 : (S1x1x1024.Idx → Elt Ideal .f32)) (k0_h1 : k0_cond1 i (View.readAt (Elt Ideal) (tbM0_1).view (Rect.unit (s := S1) ![0] S1.size inb_S1_S1_0).toLoadRect T1 (Shape.Idx.first (numel1_S1.symm ▸ Nat.one_pos))) = 1#1) (hc1 : newExpert T0 i) :
    (kernelRun0_A c i arg4 harg4 arg5 harg5 arg6 harg6 arg7 harg7 T0 T1 x0 x1 x2 k0_h1 hc1).2.1 = k0_pay1 x1 := by
  have e : (View.whole cc0_scratch0).read (Elt Ideal) (kernelRun0_A c i arg4 harg4 arg5 harg5 arg6 harg6 arg7 harg7 T0 T1 x0 x1 x2 k0_h1 hc1).2.1 = k0_pay1 x1 := by
    frame_out
    rw [View.read_rep]
    exact View.canon_unit_zero (funext fun a => by fin_cases a <;> rfl) _ _
  exact e

theorem scr_B (c : Dev nD) (i : grid0.Coords) (arg4 : Memref sig .tc .vmem S256x2048 .bf16) (harg4 : arg4.IsWhole) (arg5 : Memref sig .tc .vmem S1x2048x1024 .f32) (harg5 : arg5.IsWhole) (arg6 : Memref sig .tc .vmem S1x1x1024 .f32) (harg6 : arg6.IsWhole) (arg7 : Memref sig .tc .vmem S256x1024 .bf16) (harg7 : arg7.IsWhole) (T0 : (S288.Idx → Elt Ideal .i32)) (T1 : (S1.Idx → Elt Ideal .i32)) (x0 : (S256x2048.Idx → Elt Ideal .bf16)) (x1 : (S1x2048x1024.Idx → Elt Ideal .f32)) (x2 : (S1x1x1024.Idx → Elt Ideal .f32)) (xa0 : Buf (Elt Ideal) ((c : Thread nD τ).loc cc0_scratch0)) (k0_h1 : k0_cond1 i (View.readAt (Elt Ideal) (tbM0_1).view (Rect.unit (s := S1) ![0] S1.size inb_S1_S1_0).toLoadRect T1 (Shape.Idx.first (numel1_S1.symm ▸ Nat.one_pos))) = 1#1) (hc1 : ¬ newExpert T0 i) :
    (kernelRun0_B c i arg4 harg4 arg5 harg5 arg6 harg6 arg7 harg7 T0 T1 x0 x1 x2 xa0 k0_h1 hc1).2.1 = xa0 := rfl

set_option maxHeartbeats 8000000 in
/-- A tile that is not used: the body reads the second table and leaves everything as it is. -/
theorem run_C (c : Dev nD) (i : grid0.Coords) (arg4 : Memref sig .tc .vmem S256x2048 .bf16) (harg4 : arg4.IsWhole) (arg5 : Memref sig .tc .vmem S1x2048x1024 .f32) (harg5 : arg5.IsWhole) (arg6 : Memref sig .tc .vmem S1x1x1024 .f32) (harg6 : arg6.IsWhole) (arg7 : Memref sig .tc .vmem S256x1024 .bf16) (harg7 : arg7.IsWhole) (T0 : (S288.Idx → Elt Ideal .i32)) (T1 : (S1.Idx → Elt Ideal .i32)) (k0_h1 : ¬ k0_cond1 i (View.readAt (Elt Ideal) (tbM0_1).view (Rect.unit (s := S1) ![0] S1.size inb_S1_S1_0).toLoadRect T1 (Shape.Idx.first (numel1_S1.symm ▸ Nat.one_pos))) = 1#1) (K : PUnit → sProp 𝕄) :
    iprop((tbM0_1.view.loc (c : Thread nD τ) ↦{fullShare.right} T1) ∗ ((tbM0_1.view.loc (c : Thread nD τ) ↦{fullShare.right} T1) -∗ K ⟨⟩))
      ⊢ wp frame (wpE (defs₀ (F := Ideal)) Variants.none c none) Set.univ (cc0_expert_down i tbM0_0 (Memref.isWhole_whole _) tbM0_1 (Memref.isWhole_whole _) arg4 harg4 arg5 harg5 arg6 harg6 arg7 harg7 scM0_0 (Memref.isWhole_whole _)) K := by
  rw [cc0_expert_down_eq_skeleton]; unfold cc0_expert_down_skel
  iintro ⟨HT1, Hk⟩
  have hS0 : scM0_0.IsWhole := Memref.isWhole_whole _
  have hT0 : tbM0_0.IsWhole := Memref.isWhole_whole _
  have hT1 : tbM0_1.IsWhole := Memref.isWhole_whole _
  sl_exec! (disch := first | (guard_target = ¬(k0_cond1 _ _ = _); exact k0_h1))
  sl_step
  iapply Hk
  iexact HT1

theorem read_T1 (T1 : S1.Idx → BitVec 32) : View.readAt (Elt Ideal) (tbM0_1).view (Rect.unit (s := S1) ![0] S1.size inb_S1_S1_0).toLoadRect T1 (Shape.Idx.first (numel1_S1.symm ▸ Nat.one_pos)) = T1 (ix1 0) := congrArg T1 (first_S1 _)

theorem not_new (T0 : S288.Idx → BitVec 32) (i : grid0.Coords) (hn : ¬ newExpert T0 i) :
    (i 1).val ≠ 0 ∧ ∀ k : Fin 288, k.val = (i 1).val - 1 → T0 (ix1 ⟨(i 1).val, i1_lt i⟩) = T0 (ix1 k) := by
  have hi := i1_lt i
  let k1 : Fin 288 := ⟨(i 1).val, hi⟩
  have e2 : View.readAt (Elt Ideal) (tbM0_0).view (Rect.unit (s := S288) (k0_off2 i) S1.size (k0_off2_inb i)).toLoadRect T0 (Shape.Idx.first (numel1_S1.symm ▸ Nat.one_pos)) = T0 (ix1 k1) := congrArg T0 (emb_off (k0_off2 i) k1 (toNat_i1 i) (k0_off2_inb i) _)
  have hw : Scalar.cmpi .eq (BitVec.ofNat 32 (i 1).val) 0#32 ≠ 1#1 ∧ Scalar.cmpi .ne (View.readAt (Elt Ideal) (tbM0_0).view (Rect.unit (s := S288) (k0_off2 i) S1.size (k0_off2_inb i)).toLoadRect T0 (Shape.Idx.first (numel1_S1.symm ▸ Nat.one_pos))) (View.readAt (Elt Ideal) (tbM0_0).view (Rect.unit (s := S288) (k0_off3 i) S1.size (k0_off3_inb i)).toLoadRect T0 (Shape.Idx.first (numel1_S1.symm ▸ Nat.one_pos))) ≠ 1#1 := by
    revert hn
    unfold newExpert
    generalize Scalar.cmpi .eq (BitVec.ofNat 32 (i 1).val) 0#32 = a
    generalize Scalar.cmpi .ne (View.readAt (Elt Ideal) (tbM0_0).view (Rect.unit (s := S288) (k0_off2 i) S1.size (k0_off2_inb i)).toLoadRect T0 (Shape.Idx.first (numel1_S1.symm ▸ Nat.one_pos))) (View.readAt (Elt Ideal) (tbM0_0).view (Rect.unit (s := S288) (k0_off3 i) S1.size (k0_off3_inb i)).toLoadRect T0 (Shape.Idx.first (numel1_S1.symm ▸ Nat.one_pos))) = b
    revert a b; decide
  have a1 : Affine.IsInt (BitVec.ofNat 32 (i 1).val) ((i 1).val : Int) := Affine.ofNat _ ⟨rfl, by omega⟩
  have h0 : (i 1).val ≠ 0 := fun h0 => hw.1 (by rw [h0]; decide)
  refine ⟨h0, fun k hk => ?_⟩
  have ho : k0_off3 i 0 = k.val := by
    have a3 : Affine.IsInt (1#32) (1 : Int) := Affine.ofNat 1 ⟨rfl, by omega⟩
    have a0 : Affine.IsInt (0#32) (0 : Int) := Affine.ofNat 0 ⟨rfl, by omega⟩
    have a4 := Affine.subi a1 a3 (e := ((i 1).val : Int) - 1) ⟨rfl, by omega, by omega⟩
    have a5 := Affine.maxsi a4 a0 rfl
    exact (Affine.nat_eq a5 _ (by omega)).trans rfl
  have e3 : View.readAt (Elt Ideal) (tbM0_0).view (Rect.unit (s := S288) (k0_off3 i) S1.size (k0_off3_inb i)).toLoadRect T0 (Shape.Idx.first (numel1_S1.symm ▸ Nat.one_pos)) = T0 (ix1 k) := congrArg T0 (emb_off (k0_off3 i) k ho (k0_off3_inb i) _)
  rw [e2, e3] at hw
  by_contra hne
  refine hw.2 ?_
  show BitVec.ofBool (T0 (ix1 k1) != T0 (ix1 k)) = 1#1
  rw [bne_iff_ne.2 hne]; rfl

end Cert.KernelDownIdeal.Exp

end
-- ==== Proof.DownFrame.lean ====
/- The experts' down projection: the launch at any admissible tables, and what it leaves. -/
module

public import proofs.«01_k».proof.Proof.DownPaths

@[expose] public section

set_option maxRecDepth 16384
set_option Elab.async false

noncomputable section

namespace Cert.KernelDownIdeal.Exp

open Cert.KernelDownIdeal Cert.KernelDownIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The type of states' assertions. -/
local notation "𝕄" => MT nD τ sig Unit (Elt Ideal) ℕ (UR sig nD τ) ℕ

/-! ## The windows' blocks -/

variable {T0 : S288.Idx → BitVec 32} {T1 : S1.Idx → BitVec 32} (h : Tabs T0 T1)
variable (m : (ℓ : Loc nD τ sig) → Buf (Elt Ideal) ℓ) (ρ : Dev nD → PrngReg)

/-- Point `t`'s coordinates. -/
abbrev crd (t : Fin (cfgA h).N) : (cfgA h).grid.Coords := (cfgA h).grid.coords t
abbrev ms0_0 (t : Fin (cfgA h).N) : Memref sig .tc .vmem S256x2048 .bf16 := spec0_0.stage ((cfgA h).slots t (0 : Fin 4))
abbrev hs0_0 (t : Fin (cfgA h).N) : (ms0_0 h t).IsWhole := hstage0_0 (((cfgA h).slots t (0 : Fin 4)).cast nbuf0_0)
abbrev ms0_1 (t : Fin (cfgA h).N) : Memref sig .tc .vmem S1x2048x1024 .f32 := spec0_1.stage ((cfgA h).slots t (1 : Fin 4))
abbrev hs0_1 (t : Fin (cfgA h).N) : (ms0_1 h t).IsWhole := hstage0_1 (((cfgA h).slots t (1 : Fin 4)).cast nbuf0_1)
abbrev ms0_2 (t : Fin (cfgA h).N) : Memref sig .tc .vmem S1x1x1024 .f32 := spec0_2.stage ((cfgA h).slots t (2 : Fin 4))
abbrev hs0_2 (t : Fin (cfgA h).N) : (ms0_2 h t).IsWhole := hstage0_2 (((cfgA h).slots t (2 : Fin 4)).cast nbuf0_2)
abbrev ms0_3 (t : Fin (cfgA h).N) : Memref sig .tc .vmem S256x1024 .bf16 := spec0_3.stage ((cfgA h).slots t (3 : Fin 4))
abbrev hs0_3 (t : Fin (cfgA h).N) : (ms0_3 h t).IsWhole := hstage0_3 (((cfgA h).slots t (3 : Fin 4)).cast nbuf0_3)

/-- Window `w`'s block at point `t`, read off its array at launch. -/
def iblk (c : Dev nD) (w : Fin (cfgA h).W) (t : Fin (cfgA h).N) : (((cfgA h).win w).xblock (crd h t)).Idx → Elt Ideal ((cfgA h).win w).elt :=
  (((cfgA h).win w).blk t).view.read (Elt Ideal) ((s₀ m ρ).mem (((cfgA h).win w).arr.view.loc (c : Thread nD τ)))

/-- The weight block as the scratch holds it. -/
def scv (c : Dev nD) (t : Fin (cfgA h).N) : S2048x1024.Idx → Elt Ideal .bf16 := k0_pay1 (iblk h m ρ c (1 : Fin 4) t)

/-- What the body stores at a used tile. -/
def outv (c : Dev nD) (t : Fin (cfgA h).N) : S256x1024.Idx → Elt Ideal .bf16 :=
  k0_pay2 (iblk h m ρ c (0 : Fin 4) t) (scv h m ρ c t) (iblk h m ρ c (2 : Fin 4) t)

/-- The last used tile's point at or before `t`, in the same half of the columns. -/
def lst (t : Fin (cfgA h).N) : Fin (cfgA h).N := ⟨t.val - (t.val % 288 - min (t.val % 288) (nu T1 - 1)), lt_of_le_of_lt (Nat.sub_le _ _) t.isLt⟩

theorem lst_used (t : Fin (cfgA h).N) (hu : t.val % 288 < nu T1) : lst h t = t :=
  Fin.ext (by show t.val - (t.val % 288 - min (t.val % 288) (nu T1 - 1)) = t.val; omega)

theorem lst_idle (t t' : Fin (cfgA h).N) (hu : nu T1 ≤ t.val % 288) (ht : t'.val = t.val - 1) : lst h t = lst h t' :=
  Fin.ext (by
    have hp : 1 ≤ nu T1 := h.pos
    show t.val - (t.val % 288 - min (t.val % 288) (nu T1 - 1)) = t'.val - (t'.val % 288 - min (t'.val % 288) (nu T1 - 1))
    omega)

/-- Blocks of a window whose index is the same are the same. -/
theorem iblk1_congr (c : Dev nD) (t t' : Fin (cfgA h).N) (e : ((cfgA h).win (1 : Fin 4)).index t = ((cfgA h).win (1 : Fin 4)).index t') :
    (iblk h m ρ c (1 : Fin 4) t : S1x2048x1024.Idx → Elt Ideal .f32) = iblk h m ρ c (1 : Fin 4) t' := by
  funext x
  unfold iblk
  exact congrArg (View.read (Elt Ideal) ((cfgA h).win (1 : Fin 4)).arr.view ((s₀ m ρ).mem (((cfgA h).win (1 : Fin 4)).arr.view.loc (c : Thread nD τ))))
    (funext fun a => Fin.ext (by
      show ((cfgA h).win (1 : Fin 4)).index t a * _ + 1 * (x a).val = ((cfgA h).win (1 : Fin 4)).index t' a * _ + 1 * (x a).val
      rw [e]))

theorem index1 (t : Fin (cfgA h).N) : ((cfgA h).win (1 : Fin 4)).index t = ![(T0 (ix1 ⟨t.val % 288, Nat.mod_lt _ (by decide)⟩)).toNat, 0, t.val / 288] := by
  have e : (⟨t.val % 288, Nat.mod_lt _ (by decide)⟩ : Fin 288) = crd h t 1 := Fin.ext (crd1 h t).symm
  rw [e, ← crd0 h t]; exact transform_1 _

theorem index2 (t : Fin (cfgA h).N) : ((cfgA h).win (2 : Fin 4)).index t = ![(T0 (ix1 ⟨t.val % 288, Nat.mod_lt _ (by decide)⟩)).toNat, 0, t.val / 288] := by
  have e : (⟨t.val % 288, Nat.mod_lt _ (by decide)⟩ : Fin 288) = crd h t 1 := Fin.ext (crd1 h t).symm
  rw [e, ← crd0 h t]; exact transform_2 _

theorem index0 (t : Fin (cfgA h).N) : ((cfgA h).win (0 : Fin 4)).index t = ![min (t.val % 288) (nu T1 - 1), 0] := by
  rw [← crd1 h t]; exact transform_0 h _

/-- At a used tile of the same expert as the tile before, the scratch's block is the one of the tile before. -/
theorem scv_prev (c : Dev nD) (t t' : Fin (cfgA h).N) (hn : ¬ newExpert T0 (crd h t)) (ht : t'.val + 1 = t.val) :
    scv h m ρ c t' = scv h m ρ c t := by
  obtain ⟨h0, hk⟩ := not_new T0 (crd h t) hn
  rw [crd1] at h0
  have hk' := hk ⟨t'.val % 288, Nat.mod_lt _ (by decide)⟩ (by rw [crd1]; show t'.val % 288 = _; omega)
  unfold scv
  rw [iblk1_congr h m ρ c t' t]
  rw [index1, index1, ← hk']
  have e : (⟨t.val % 288, Nat.mod_lt _ (by decide)⟩ : Fin 288) = ⟨(crd h t 1).val, i1_lt (crd h t)⟩ := Fin.ext (crd1 h t).symm
  rw [e, show t'.val / 288 = t.val / 288 by omega]

/-! ## The proof data -/

/-- What is known of the scratch before position `n`: after a used tile it holds that tile's weight block. -/
def ScOK (c : Dev nD) (n : ℕ) (a : S2048x1024.Idx → Elt Ideal .bf16) : Prop :=
  ∀ t : Fin (cfgA h).N, t.val + 1 = n → t.val % 288 < nu T1 → a = scv h m ρ c t

/-- The invariant before a position: the scratch, and the body's halves of the tables. -/
def Phi (c : Dev nD) (t : Fin ((cfgA h).N + 1)) : sProp 𝕄 :=
  iprop((∃ a, ⌜ScOK h m ρ c t.val a⌝ ∗ (scM0_0.view.loc (c : Thread nD τ) ↦{fullShare} a)) ∗ (tbM0_0.view.loc (c : Thread nD τ) ↦{fullShare.right} T0) ∗ (tbM0_1.view.loc (c : Thread nD τ) ↦{fullShare.right} T1))

def dats (_ : Fin 1) (c : Dev nD) : Dat τ (Elt Ideal) Unit ℕ (UR sig nD τ) ℕ (cfgA h) c where
  A w := (s₀ m ρ).mem (((cfgA h).win w).arr.view.loc (c : Thread nD τ))
  after w t := match w with
    | ⟨0, _⟩ => iblk h m ρ c (0 : Fin 4) t
    | ⟨1, _⟩ => iblk h m ρ c (1 : Fin 4) t
    | ⟨2, _⟩ => iblk h m ρ c (2 : Fin 4) t
    | ⟨3, _⟩ => outv h m ρ c (lst h t)
  Φ t := Phi h m ρ c t
  q _ := fullShare
  owed _ := 0

theorem after0_0 (c : Dev nD) (t : Fin (cfgA h).N) : (dats h m ρ 0 c).after (0 : Fin 4) t = iblk h m ρ c (0 : Fin 4) t := rfl
theorem after0_1 (c : Dev nD) (t : Fin (cfgA h).N) : (dats h m ρ 0 c).after (1 : Fin 4) t = iblk h m ρ c (1 : Fin 4) t := rfl
theorem after0_2 (c : Dev nD) (t : Fin (cfgA h).N) : (dats h m ρ 0 c).after (2 : Fin 4) t = iblk h m ρ c (2 : Fin 4) t := rfl
theorem after0_3 (c : Dev nD) (t : Fin (cfgA h).N) : (dats h m ρ 0 c).after (3 : Fin 4) t = outv h m ρ c (lst h t) := rfl

theorem before0_0 (c : Dev nD) (t : Fin (cfgA h).N) (d) : (dats h m ρ 0 c).before (0 : Fin 4) t d = iblk h m ρ c (0 : Fin 4) t :=
  ((dats h m ρ 0 c).before_in_eq_fetched (0 : Fin 4) rfl (fun _ => rfl) (fun _ _ _ => rfl) (fun t => by rw [after0_0]; unfold Dat.blockOf iblk; rfl) t d).trans
    (by unfold Dat.fetched Dat.blockOf iblk; rfl)

theorem before0_1 (c : Dev nD) (t : Fin (cfgA h).N) (d) : (dats h m ρ 0 c).before (1 : Fin 4) t d = iblk h m ρ c (1 : Fin 4) t :=
  ((dats h m ρ 0 c).before_in_eq_fetched (1 : Fin 4) rfl (fun _ => rfl) (fun _ _ _ => rfl) (fun t => by rw [after0_1]; unfold Dat.blockOf iblk; rfl) t d).trans
    (by unfold Dat.fetched Dat.blockOf iblk; rfl)

theorem before0_2 (c : Dev nD) (t : Fin (cfgA h).N) (d) : (dats h m ρ 0 c).before (2 : Fin 4) t d = iblk h m ρ c (2 : Fin 4) t :=
  ((dats h m ρ 0 c).before_in_eq_fetched (2 : Fin 4) rfl (fun _ => rfl) (fun _ _ _ => rfl) (fun t => by rw [after0_2]; unfold Dat.blockOf iblk; rfl) t d).trans
    (by unfold Dat.fetched Dat.blockOf iblk; rfl)

theorem hcarry0_3 (c : Dev nD) : ∀ (t : Fin (cfgA h).N) (ht : t.val ≠ 0), (cfgA h).idle (3 : Fin 4) ((cfgA h).grid.coords t) = true → (cfgA h).fresh (3 : Fin 4) t.val = false →
    (dats h m ρ 0 c).after (3 : Fin 4) t = (dats h m ρ 0 c).after (3 : Fin 4) ⟨t.val - 1, by omega⟩ := by
  intro t ht hi hf
  rw [after0_3, after0_3, lst_idle h t ⟨t.val - 1, by omega⟩ ((idle3 h t).1 hi) rfl]

/-- At a tile that is not used the output's buffer holds what the last used tile left. -/
theorem before0_3_idle (c : Dev nD) (t : Fin (cfgA h).N) (hu : nu T1 ≤ t.val % 288) (d) :
    (dats h m ρ 0 c).before (3 : Fin 4) t d = outv h m ρ c (lst h t) := by
  have hp : 1 ≤ nu T1 := h.pos
  have h0 : t.val ≠ 0 := fun h0 => by rw [h0] at hu; omega
  rw [(dats h m ρ 0 c).before_out_traj (3 : Fin 4) rfl (fun _ _ => rfl) (hcarry0_3 h m ρ c) t.val t rfl d]
  have hf := fresh3 h t.val t.isLt hu
  simp only [hf, Bool.false_eq_true, ↓reduceIte]
  rw [after0_3]
  exact congrArg _ (lst_idle h t ⟨t.val - 1, by omega⟩ hu rfl).symm

/-! ## The body at a point -/

abbrev bodyAt0 (t : Fin (cfgA h).N) : Prog (TpuEff nD τ sig (Elt Ideal) Λ₀ .tc) PUnit :=
  cc0_expert_down (crd h t) (Memref.whole main_arg0) (Memref.isWhole_whole _) (Memref.whole main_arg1) (Memref.isWhole_whole _) (ms0_0 h t) (hs0_0 h t) (ms0_1 h t) (hs0_1 h t) (ms0_2 h t) (hs0_2 h t) (ms0_3 h t) (hs0_3 h t) (Memref.whole cc0_scratch0) (Memref.isWhole_whole _)

theorem idle3_false (t : Fin (cfgA h).N) (hu : t.val % 288 < nu T1) : (cfgA h).idle (3 : Fin 4) ((cfgA h).grid.coords t) = false := by
  rw [← Bool.not_eq_true, idle3]; omega

set_option maxHeartbeats 4000000 in
theorem sound_body (c : Dev nD) (t : Fin (cfgA h).N) :
    iprop((dats h m ρ 0 c).Φ t.castSucc ∗ (dats h m ρ 0 c).owesAt () t.castSucc
        ∗ (∃ d, owns (c : Thread nD τ) (ms0_0 h t) fullShare ((dats h m ρ 0 c).before (0 : Fin 4) t d))
        ∗ (∃ d, owns (c : Thread nD τ) (ms0_1 h t) fullShare ((dats h m ρ 0 c).before (1 : Fin 4) t d))
        ∗ (∃ d, owns (c : Thread nD τ) (ms0_2 h t) fullShare ((dats h m ρ 0 c).before (2 : Fin 4) t d))
        ∗ (∃ d, owns (c : Thread nD τ) (ms0_3 h t) fullShare ((dats h m ρ 0 c).before (3 : Fin 4) t d)))
      ⊢ wp frame (wpE (defs₀ (F := Ideal)) Variants.none c none) Set.univ (bodyAt0 h t) fun _ =>
          iprop((dats h m ρ 0 c).Φ t.succ ∗ (dats h m ρ 0 c).owesAt () t.succ
            ∗ bigSep Finset.univ fun w : Fin (cfgA h).W =>
                match (cfgA h).idle w ((cfgA h).grid.coords t) with
                | true =>
                  match ((cfgA h).win w).flush t with
                  | false => iprop(∃ d, owns (c : Thread nD τ) (((cfgA h).win w).stage ((cfgA h).slots t w)) fullShare ((dats h m ρ 0 c).before w t d))
                  | true => owns (c : Thread nD τ) (((cfgA h).win w).stage ((cfgA h).slots t w)) fullShare ((dats h m ρ 0 c).after w t)
                | false => owns (c : Thread nD τ) (((cfgA h).win w).stage ((cfgA h).slots t w)) fullShare ((dats h m ρ 0 c).after w t)) := by
  rw [bigSep_W0]
  by_cases hu : t.val % 288 < nu T1
  · have i3 := idle3_false h t hu
    have k0_h1 := (congrArg (fun x => k0_cond1 (crd h t) x = 1#1) (read_T1 T1)).mpr ((cond_word h (crd h t)).2 (by rw [crd1]; exact hu))
    by_cases hc1 : newExpert T0 (crd h t)
    · rewrite [i3]
      simp only [before0_0, before0_1, before0_2, after0_0, after0_1, after0_2, after0_3]
      rewrite [show (dats h m ρ 0 c).Φ t.succ = Phi h m ρ c t.succ from rfl, show (dats h m ρ 0 c).Φ t.castSucc = Phi h m ρ c t.castSucc from rfl,
        show (dats h m ρ 0 c).owesAt () t.succ = (dats h m ρ 0 c).owesAt () t.castSucc from rfl]
      unfold Phi; simp only [Fin.val_castSucc, Fin.val_succ]
      iintro ⟨⟨⟨%a0, %ha0, HS0⟩, HT0, HT1⟩, Ho, ⟨%d0, H0⟩, ⟨%d1, H1⟩, ⟨%d2, H2⟩, ⟨%d3, H3⟩⟩
      iapply ((kernelRun0_A c (crd h t) (ms0_0 h t) (hs0_0 h t) (ms0_1 h t) (hs0_1 h t) (ms0_2 h t) (hs0_2 h t) (ms0_3 h t) (hs0_3 h t) T0 T1 (iblk h m ρ c (0 : Fin 4) t) (iblk h m ρ c (1 : Fin 4) t) (iblk h m ρ c (2 : Fin 4) t) k0_h1 hc1).2.2 a0 _)
      isplitl [H0]; · iapply rep_of_owns; iexact H0
      isplitl [H1]; · iapply rep_of_owns; iexact H1
      isplitl [H2]; · iapply rep_of_owns; iexact H2
      isplitl [HT0]; · iexact HT0
      isplitl [HT1]; · iexact HT1
      isplitl [H3]; · iexists _; iexact H3
      isplitl [HS0]; · iexact HS0
      iintro ⟨H0, H1, H2, HT0, HT1, ⟨%e3, H3⟩, HS0⟩
      isplitl [HS0 HT0 HT1]
      · isplitl [HS0]
        · iexists _; isplitr; swap
          · iexact HS0
          · ipureintro; intro t' ht' _
            obtain rfl : t' = t := Fin.ext (by omega)
            exact scr_A c _ _ _ _ _ _ _ _ _ T0 T1 _ _ _ k0_h1 hc1
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      unfold owns; iexists _; isplitr; swap
      · iexact H3
      · ipureintro
        rw [lst_used h t hu]
        exact (View.read_writes_of_cover _ _ _ _ _ (cover0_A_3 c _ _ _ _ _ _ _ _ _ _ _ _ _ _ _ _)).trans
          (out_A c (crd h t) (ms0_0 h t) (hs0_0 h t) (ms0_1 h t) (hs0_1 h t) (ms0_2 h t) (hs0_2 h t) (ms0_3 h t) (hs0_3 h t) T0 T1 (iblk h m ρ c (0 : Fin 4) t) (iblk h m ρ c (1 : Fin 4) t) (iblk h m ρ c (2 : Fin 4) t) k0_h1 hc1)
    · rewrite [i3]
      simp only [before0_0, before0_1, before0_2, after0_0, after0_1, after0_2, after0_3]
      rewrite [show (dats h m ρ 0 c).Φ t.succ = Phi h m ρ c t.succ from rfl, show (dats h m ρ 0 c).Φ t.castSucc = Phi h m ρ c t.castSucc from rfl,
        show (dats h m ρ 0 c).owesAt () t.succ = (dats h m ρ 0 c).owesAt () t.castSucc from rfl]
      unfold Phi; simp only [Fin.val_castSucc, Fin.val_succ]
      iintro ⟨⟨⟨%a0, %ha0, HS0⟩, HT0, HT1⟩, Ho, ⟨%d0, H0⟩, ⟨%d1, H1⟩, ⟨%d2, H2⟩, ⟨%d3, H3⟩⟩
      have ea : a0 = scv h m ρ c t := by
        have h0 := (not_new T0 (crd h t) hc1).1
        rw [crd1] at h0
        have e := ha0 ⟨t.val - 1, by omega⟩ (by show t.val - 1 + 1 = t.val; omega) (by show (t.val - 1) % 288 < _; omega)
        exact e.trans (scv_prev h m ρ c t ⟨t.val - 1, by omega⟩ hc1 (by show t.val - 1 + 1 = t.val; omega))
      iapply ((kernelRun0_B c (crd h t) (ms0_0 h t) (hs0_0 h t) (ms0_1 h t) (hs0_1 h t) (ms0_2 h t) (hs0_2 h t) (ms0_3 h t) (hs0_3 h t) T0 T1 (iblk h m ρ c (0 : Fin 4) t) (iblk h m ρ c (1 : Fin 4) t) (iblk h m ρ c (2 : Fin 4) t) a0 k0_h1 hc1).2.2 _)
      isplitl [H0]; · iapply rep_of_owns; iexact H0
      isplitl [H1]; · iapply rep_of_owns; iexact H1
      isplitl [H2]; · iapply rep_of_owns; iexact H2
      isplitl [HT0]; · iexact HT0
      isplitl [HT1]; · iexact HT1
      isplitl [H3]; · iexists _; iexact H3
      isplitl [HS0]; · iexact HS0
      iintro ⟨H0, H1, H2, HT0, HT1, ⟨%e3, H3⟩, HS0⟩
      isplitl [HS0 HT0 HT1]
      · isplitl [HS0]
        · iexists _; isplitr; swap
          · iexact HS0
          · ipureintro; intro t' ht' _
            obtain rfl : t' = t := Fin.ext (by omega)
            exact (scr_B c _ _ _ _ _ _ _ _ _ T0 T1 _ _ _ a0 k0_h1 hc1).trans ea
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      unfold owns; iexists _; isplitr; swap
      · iexact H3
      · ipureintro
        rw [lst_used h t hu]
        exact (View.read_writes_of_cover _ _ _ _ _ (cover0_B_3 c _ _ _ _ _ _ _ _ _ _ _ _ _ _ _ _ _)).trans
          ((out_B c (crd h t) (ms0_0 h t) (hs0_0 h t) (ms0_1 h t) (hs0_1 h t) (ms0_2 h t) (hs0_2 h t) (ms0_3 h t) (hs0_3 h t) T0 T1 (iblk h m ρ c (0 : Fin 4) t) (iblk h m ρ c (1 : Fin 4) t) (iblk h m ρ c (2 : Fin 4) t) a0 k0_h1 hc1).trans (by rw [ea]; rfl))
  · have hi : nu T1 ≤ t.val % 288 := by omega
    have i3 := (idle3 h t).2 hi
    have k0_h1 : ¬ k0_cond1 (crd h t) (View.readAt (Elt Ideal) (tbM0_1).view (Rect.unit (s := S1) ![0] S1.size inb_S1_S1_0).toLoadRect T1 (Shape.Idx.first (numel1_S1.symm ▸ Nat.one_pos))) = 1#1 := by
      rw [read_T1, cond_word h, crd1]; exact hu
    rewrite [i3]
    simp only [before0_0, before0_1, before0_2, after0_0, after0_1, after0_2, after0_3, before0_3_idle h m ρ c t hi]
    rewrite [show (dats h m ρ 0 c).Φ t.succ = Phi h m ρ c t.succ from rfl, show (dats h m ρ 0 c).Φ t.castSucc = Phi h m ρ c t.castSucc from rfl,
      show (dats h m ρ 0 c).owesAt () t.succ = (dats h m ρ 0 c).owesAt () t.castSucc from rfl]
    unfold Phi; simp only [Fin.val_castSucc, Fin.val_succ]
    iintro ⟨⟨⟨%a0, %ha0, HS0⟩, HT0, HT1⟩, Ho, ⟨%d0, H0⟩, ⟨%d1, H1⟩, ⟨%d2, H2⟩, ⟨%d3, H3⟩⟩
    iapply (run_C c (crd h t) (ms0_0 h t) (hs0_0 h t) (ms0_1 h t) (hs0_1 h t) (ms0_2 h t) (hs0_2 h t) (ms0_3 h t) (hs0_3 h t) T0 T1 k0_h1 _)
    isplitl [HT1]; · iexact HT1
    iintro HT1
    isplitl [HS0 HT0 HT1]
    · isplitl [HS0]
      · iexists a0; isplitr; swap
        · iexact HS0
        · ipureintro; intro t' ht' hu'
          obtain rfl : t' = t := Fin.ext (by omega)
          exact absurd hu' hu
      isplitl [HT0]
      · iexact HT0
      iexact HT1
    isplitl [Ho]; · iexact Ho
    isplitl [H0]; · iexact H0
    isplitl [H1]; · iexact H1
    isplitl [H2]; · iexact H2
    rcases hfl : ((cfgA h).win (3 : Fin 4)).flush t with _ | _
    · iexists d3; iexact H3
    · iexact H3

end Cert.KernelDownIdeal.Exp

end
-- ==== Proof.DownLaunch.lean ====
/- The experts' down projection: the launch, its frame, and what the precondition says of the tables. -/
module

public import proofs.«01_k».proof.Proof.DownFrame
public import proofs.«01_k».proof.Proof.Gen.Pre_expert_range_down
public import Idealize.ShloMosaic.Lib.ReduceAll
public import Idealize.ShloMosaic.Lib.ValueIdx
public import Idealize.ShloMosaic.Lib.Claim
public import proofs.«01_k».proof.Defs

@[expose] public section

set_option maxRecDepth 16384
set_option Elab.async false

noncomputable section

namespace Cert.KernelDownIdeal.Exp

open Cert.KernelDownIdeal Cert.KernelDownIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The type of states' assertions. -/
local notation "𝕄" => MT nD τ sig Unit (Elt Ideal) ℕ (UR sig nD τ) ℕ

/-! ## The launch -/

variable {T0 : S288.Idx → BitVec 32} {T1 : S1.Idx → BitVec 32} (h : Tabs T0 T1)
variable (m : (ℓ : Loc nD τ sig) → Buf (Elt Ideal) ℓ) (ρ : Dev nD → PrngReg)

/-- The library's body obligation, at every point. -/
theorem body_obligation (c : Dev nD) : BodyObligation (dats h m ρ 0 c) (defs₀ (F := Ideal)) Variants.none () Set.univ := fun t => by
  rw [bigSep_W0]
  exact sound_body h m ρ c t

/-- The launch element. -/
def u₀ : UR sig nD τ :=
  initOf (Pipeline.cells (pcs h) ((launch0 (F := Ideal)).cellOf_inj fun _ => adm h))
    (Pipeline.launchToks (pcs h) ((launch0 (F := Ideal)).cellOf_inj fun _ => adm h))

theorem share_eq (c : Dev nD) (w : Fin (cfgA h).W) : (dats h m ρ 0 c).share w = fullShare := by unfold Dat.share; split <;> rfl

theorem prefHeld_eq (c : Dev nD) (q : Fin 2 → PosShare TreeShare) (v : pre0.Contents (Elt Ideal)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

theorem phi0_intro (c : Dev nD) :
    iprop(BI.emp ∗ Pipeline.prefHeld pre0 c (fun _ => fullShare.right) (adm h).1 ∗ Pipeline.scopedRest spec0 c) ⊢ (dats h m ρ 0 c).Φ 0 := by
  rw [prefHeld_eq, scopedRest0_eq, show (dats h m ρ 0 c).Φ 0 = Phi h m ρ c 0 from rfl]
  unfold Phi
  iintro ⟨-, ⟨HT0, HT1⟩, ⟨%a0, HS0⟩⟩
  isplitl [HS0]
  · iexists a0; isplitr; swap
    · iexact HS0
    · ipureintro; intro t ht _; exact absurd ht (Nat.succ_ne_zero _)
  isplitl [HT0]
  · iexact HT0
  iexact HT1

theorem phiN_exit (c : Dev nD) : (dats h m ρ 0 c).Φ (Fin.last (cfgA h).N) ⊢ iprop(BI.emp ∗ Pipeline.scopedRest spec0 c) := by
  rw [scopedRest0_eq, show (dats h m ρ 0 c).Φ (Fin.last (cfgA h).N) = Phi h m ρ c (Fin.last _) from rfl]
  unfold Phi
  iintro ⟨⟨%a0, -, HS0⟩, -, -⟩
  isplitr; · iempintro
  iexists a0; iexact HS0

/-- Every array at what the pipeline computes, every table as it was. -/
def QC : PUnit × MemSt nD τ sig (Elt Ideal) → Prop := fun r =>
  ∀ c : Dev nD, (∀ w : Fin (cfgA h).W, r.2.mem (((cfgA h).win w).arr.view.loc (c : Thread nD τ)) = (dats h m ρ 0 c).arrAt w (cfgA h).N)
    ∧ ∀ j, r.2.mem ((c : Thread nD τ).loc (pre0.ref j)) = (adm h).1 j

/-- The memory's tables are the ones the pipeline is taken at. -/
def Pinned (T0 : S288.Idx → BitVec 32) (T1 : S1.Idx → BitVec 32) : Prop :=
  ∀ c : Dev nD, m ((c : Thread nD τ).loc main_arg0) = T0 ∧ m ((c : Thread nD τ).loc main_arg1) = T1

theorem V_pre (hp : Pinned m T0 T1) (c : Dev nD) (j : Fin 2) : m ((c : Thread nD τ).loc (pre0.ref j)) = (adm h).1 j := by
  fin_cases j
  · exact (hp c).1
  · exact (hp c).2

set_option backward.isDefEq.respectTransparency.types false in
set_option maxHeartbeats 4000000 in
theorem run_main_quiescent (hp : Pinned m T0 T1) : θ_run (defs (F := Ideal)) (onTc (τ := τ) (main (F := Ideal))) (s₀ m ρ) (fun r => QC h m ρ r ∧ r.2.sem = fun _ => 0) :=
  Pipeline.θ_run_region_noSem_pf_quiescent pcfgs (fun _ => adm h) (dats h m ρ) () ((launch0 (F := Ideal)).cellOf_inj fun _ => adm h) (0 : Fin 1)
    (launch0 (F := Ideal)).win.to₀ (launch0 (F := Ideal)).pre EP defs₀ Variants.none m ρ main
    (hbody := fun c => (body_obligation h m ρ c).loose) (hne := (launch0 (F := Ideal)).block_pos)
    (harr := (launch0 (F := Ideal)).arr_whole) (hstage := (launch0 (F := Ideal)).stage_whole) (howed := fun _ _ => rfl)
    (u₀ := u₀ h) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs h) (dats h m ρ) 0 (launch0 (F := Ideal)).win.arr_inj c (launch0 (F := Ideal)).arr_whole
      (share_eq h m ρ c) _ _ fun _ => rfl)
    (hpf := V_pre h m hp)
    (X := fun _ => iprop(emp)) (Y := fun _ => iprop(emp)) (Z := fun _ => iprop(emp))
    (hX := fun c => by rw [unscopedRestP0_eq]; iintro -; isplitr <;> iempintro)
    (hin := phi0_intro h m ρ)
    (hout := phiN_exit h m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- What the run leaves: the arguments as they were, the result at what the pipeline computes, every counter at zero. -/
theorem run (hp : Pinned m T0 T1) :
    θ_run (defs (F := Ideal)) (onTc (τ := τ) (main (F := Ideal))) ⟨m, fun _ => 0, ρ⟩ (fun r => (∀ c : Dev nD,
      r.2.mem ((c.tc : Thread nD τ).loc main_v0) = (dats h m ρ 0 c).arrAt (3 : Fin 4) (cfgA h).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ hr => ⟨fun c => ⟨(hr.1 c).1 (3 : Fin 4), ((hr.1 c).2 0).trans (hp c).1.symm, ((hr.1 c).2 1).trans (hp c).2.symm,
    ((hr.1 c).1 (0 : Fin 4)).trans ((dats h m ρ 0 c).arrAt_in (0 : Fin 4) rfl _), ((hr.1 c).1 (1 : Fin 4)).trans ((dats h m ρ 0 c).arrAt_in (1 : Fin 4) rfl _),
    ((hr.1 c).1 (2 : Fin 4)).trans ((dats h m ρ 0 c).arrAt_in (2 : Fin 4) rfl _)⟩, hr.2⟩) (run_main_quiescent h m ρ hp)

/-! ## The precondition -/

theorem tabs_of_pre (a0 : IVec S288 32) (a1 : IVec S1 32) (a2 : FVec Ideal S73728x2048 .bf16) (a3 : FVec Ideal S32x2048x2048 .f32) (a4 : FVec Ideal S32x1x2048 .f32)
    (hh : Cert.Pre_expert_range_down.fn (F := Ideal) a0 a1 a2 a3 a4 = fun _ => 1#1) : Tabs a0 a1 := by
  have : Subsingleton (⟨0, ![]⟩ : Shape).Idx := ⟨fun a b => funext fun i => i.elim0⟩
  have hh := congrFun hh (fun i => i.elim0)
  unfold Cert.Pre_expert_range_down.fn at hh
  dsimp only at hh
  obtain ⟨h1, h2⟩ := IntOp.andi_eq_one.1 hh
  have H1 := fun y => IntOp.andi_eq_one.1 (Host.reduce_andi_all _ _ _ _ _ h1 y)
  have H2 := fun y => Host.reduce_andi_all _ _ _ _ _ h2 y
  clear hh h1 h2
  have hn : (1 : Int) ≤ (a1 (ix1 0)).toInt := IntOp.cmpi_sge.1 (H2 (ix1 0))
  have hn2 : 1 ≤ (a1 (ix1 0)).toNat ∧ (a1 (ix1 0)).toNat < 2 ^ 31 := by
    rw [BitVec.toInt_eq_toNat_cond] at hn
    have := (a1 (ix1 0)).isLt
    split_ifs at hn <;> omega
  refine ⟨fun i => ?_, hn2.1, hn2.2⟩
  have e1 : (0 : Int) ≤ (a0 (ix1 i)).toInt := IntOp.cmpi_sge.1 (H1 (ix1 i)).1
  have e2 : (a0 (ix1 i)).toInt < 32 := IntOp.cmpi_slt.1 (H1 (ix1 i)).2
  rw [BitVec.toInt_eq_toNat_cond] at e1 e2
  have := (a0 (ix1 i)).isLt
  split_ifs at e1 e2 <;> omega

/-- The one device's tables, with what the precondition says of them. -/
theorem tabs (hh : Cert.Pre_KernelDownIdeal m) :
    Tabs (m (((0 : Dev nD) : Thread nD τ).loc main_arg0)) (m (((0 : Dev nD) : Thread nD τ).loc main_arg1)) :=
  tabs_of_pre _ _ _ _ _ (hh 0)

theorem pinned : Pinned m (m (((0 : Dev nD) : Thread nD τ).loc main_arg0)) (m (((0 : Dev nD) : Thread nD τ).loc main_arg1)) := fun c => by
  obtain rfl : c = 0 := Subsingleton.elim (α := Fin 1) _ _
  exact ⟨rfl, rfl⟩

/-- The frame under the precondition. -/
theorem frame_all (hh : Cert.Pre_KernelDownIdeal m) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ hr => ⟨fun c => (hr.1 c).2, hr.2⟩) (run (tabs m hh) m ρ (pinned m))

end Cert.KernelDownIdeal.Exp

end
-- ==== Proof.DownRef.lean ====
/- The experts' down projection: the reference's result at one element, and the rows the claim speaks of. -/
module

public import proofs.«01_k».proof.Proof.Slab
public import proofs.«01_k».proof.Proof.Gen.ReferenceDownIdeal.Read
public import proofs.«01_k».proof.Proof.Gen.On_used_rows_down
public import Idealize.ShloMosaic.Lib.Routing.Words
public import Idealize.ShloMosaic.Lib.Pointwise

@[expose] public section

set_option maxRecDepth 16384

noncomputable section

open Idealize.ShloMosaic Idealize.ShloMosaic.TcCoe

namespace Cert.ReferenceDownIdeal.Exp

open Cert.ReferenceDownIdeal Cert.ReferenceDownIdeal.Gen Cert.ReferenceDownIdeal.Read

variable (T0 : Vec Ideal S288 .i32) (x : Vec Ideal S73728x2048 .bf16) (w : Vec Ideal S32x2048x2048 .f32) (b : Vec Ideal S32x1x2048 .f32)

theorem v7_apply (i : Fin 288) (hi : (T0 (ix1 i)).toNat < 32) : val_main_v7 (F := Ideal) T0 (ix2 i 0) = T0 (ix1 i) := by
  rw [val_main_v7_apply, show idx_main_v7 (ix2 i 0) = ix1 i from funext fun a => by match a with | ⟨0, _⟩ => rfl,
    val_main_v6_apply, val_main_v3_apply, val_main_v2_apply, val_main_c_apply]
  exact Slab.wrap_word _ (by omega) _

theorem v15_apply (i : Fin 288) (hi : (T0 (ix1 i)).toNat < 32) : val_main_v15 (F := Ideal) T0 (ix2 i 0) = T0 (ix1 i) := by
  rw [val_main_v15_apply, show idx_main_v15 (ix2 i 0) = ix1 i from funext fun a => by match a with | ⟨0, _⟩ => rfl,
    val_main_v14_apply, val_main_v11_apply, val_main_v10_apply, val_main_c_1_apply]
  exact Slab.wrap_word _ (by omega) _

theorem v8_apply (i : Fin 288) (hi : (T0 (ix1 i)).toNat < 32) (k f : Fin 2048) :
    val_main_v8 (F := Ideal) T0 w (ix3 i k f) = w (ix3 ⟨(T0 (ix1 i)).toNat, hi⟩ k f) := by
  unfold val_main_v8
  exact Slab.apply _ w _ i k f ⟨(T0 (ix1 i)).toNat, hi⟩ (by rw [v7_apply T0 i hi]) (by decide)

theorem v16_apply (i : Fin 288) (hi : (T0 (ix1 i)).toNat < 32) (f : Fin 2048) :
    val_main_v16 (F := Ideal) T0 b (ix3 i 0 f) = b (ix3 ⟨(T0 (ix1 i)).toNat, hi⟩ 0 f) := by
  unfold val_main_v16
  exact Slab.apply _ b _ i 0 f ⟨(T0 (ix1 i)).toNat, hi⟩ (by rw [v15_apply T0 i hi]) (by decide)

/-- The result's element `(r, f)`: row `r` times its tile's expert, plus that expert's bias. -/
theorem out_apply (r : Fin 73728) (f : Fin 2048) (i : Fin 288) (hr : r.val / 256 = i.val) (hi : (T0 (ix1 i)).toNat < 32) :
    val_main_v20 (F := Ideal) T0 x w b (ix2 r f)
      = (∑ k : Fin 2048, x (ix2 r k) * w (ix3 ⟨(T0 (ix1 i)).toNat, hi⟩ k f)) + b (ix3 ⟨(T0 (ix1 i)).toNat, hi⟩ 0 f) := by
  have hrl := r.isLt
  have hfl := f.isLt
  rw [val_main_v20_apply, val_main_v19_apply]
  rw [show idx_main_v19 (ix2 r f) = ix3 i ⟨r.val % 256, Nat.mod_lt _ (by decide)⟩ f from funext fun a => Fin.ext (by
    match a with
    | ⟨0, _⟩ => show (r.val * 2048 + f.val) / 524288 = i.val; omega
    | ⟨1, _⟩ => show (r.val * 2048 + f.val) / 2048 % 256 = r.val % 256; omega
    | ⟨2, _⟩ => show (r.val * 2048 + f.val) % 2048 = f.val; omega)]
  rw [val_main_v18_apply, val_main_v9_apply, val_main_v17_apply]
  refine (show ∀ y : EReal, FloatOps.truncf (F := Ideal) .bf16 bitsLt_bf16_f32 y = y from fun _ => rfl) _ |>.trans ?_
  refine (show ∀ y z : EReal, FloatOps.addf (F := Ideal) (φ := .f32) y z = y + z from fun _ _ => rfl) _ _ |>.trans ?_
  refine congrArg₂ (· + ·) (Finset.sum_congr rfl fun k _ => ?_) ?_
  · rw [val_main_v1_apply, val_main_v0_apply]
    refine congrArg₂ (· * ·) ?_ ?_
    · refine (show ∀ y : EReal, FloatOps.extf (F := Ideal) .f32 bitsLt_bf16_f32 y = y from fun _ => rfl) _ |>.trans (congrArg x ?_)
      have hk := k.isLt
      funext a
      apply Fin.ext
      match a with
      | ⟨0, _⟩ => show ((i.val * 256 + r.val % 256) * 2048 + k.val) / 2048 = r.val; omega
      | ⟨1, _⟩ => show ((i.val * 256 + r.val % 256) * 2048 + k.val) % 2048 = k.val; omega
    · rw [← v8_apply T0 w i hi k f]
      refine congrArg _ (funext fun a => ?_)
      match a with
      | ⟨0, _⟩ => rfl
      | ⟨1, _⟩ => rfl
      | ⟨2, _⟩ => rfl
  · rw [← v16_apply T0 b i hi f]
    refine congrArg _ (funext fun a => ?_)
    match a with
    | ⟨0, _⟩ => rfl
    | ⟨1, _⟩ => rfl
    | ⟨2, _⟩ => rfl

/-- The rows the claim speaks of are those of the used tiles. -/
theorem on_rows (a0 : IVec S288 32) (a1 : IVec S1 32) (a2 : FVec Ideal S73728x2048 .bf16) (a3 : FVec Ideal S32x2048x2048 .f32)
    (a4 : FVec Ideal S32x1x2048 .f32) (hlt : (a1 (ix1 0)).toNat < 2 ^ 31) (r : Fin 73728) (f : Fin 2048)
    (hh : Cert.On_used_rows_down.fn (F := Ideal) a0 a1 a2 a3 a4 (ix2 r f) = 1#1) : r.val / 256 < (a1 (ix1 0)).toNat := by
  unfold Cert.On_used_rows_down.fn at hh
  dsimp only at hh
  have hr := r.isLt
  have e1 := IntOp.cmpi_slt.1 hh
  have ed : Host.divsi (iotaInDim Cert.On_used_rows_down.S73728x2048 32 0) (broadcastInDim Cert.On_used_rows_down.S73728x2048 ![] Cert.On_used_rows_down.Facts.bcast_S_S73728x2048 (constantI Cert.On_used_rows_down.S_ 32 256#32)) (ix2 r f) = BitVec.ofNat 32 (r.val / 256) :=
    Routing.divsi_word _ (a := r.val) (by omega) (by decide) (by decide)
  have et : broadcastInDim Cert.On_used_rows_down.S73728x2048 ![] Cert.On_used_rows_down.Facts.bcast_S_S73728x2048 (shapeCast Cert.On_used_rows_down.S_ a1 Cert.On_used_rows_down.Facts.shapeCasts_S1_S_) (ix2 r f) = a1 (ix1 0) := by
    refine congrArg a1 (funext fun a => ?_)
    match a with
    | ⟨0, _⟩ => exact Subsingleton.elim (α := Fin 1) _ _
  rw [ed, et, BitVec.toInt_eq_toNat_cond, BitVec.toInt_eq_toNat_cond, BitVec.toNat_ofNat, Nat.mod_eq_of_lt (by omega), if_pos (by omega), if_pos (by omega)] at e1
  omega

end Cert.ReferenceDownIdeal.Exp

end
-- ==== Proof.Down.lean ====
/- The experts' down projection: the value. -/
module

public import proofs.«01_k».proof.Defs
public import proofs.«01_k».proof.Proof.DownLaunch
public import proofs.«01_k».proof.Proof.DownRef
public import proofs.«01_k».proof.Proof.Gen.ReferenceDownIdeal.Run
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat Window)

namespace Cert.KernelDownIdeal.Exp

open Cert.KernelDownIdeal Cert.KernelDownIdeal.Gen

variable {T0 : S288.Idx → BitVec 32} {T1 : S1.Idx → BitVec 32} (h : Tabs T0 T1)
variable (m : (ℓ : Loc nD τ sig) → Buf (Elt Ideal) ℓ) (ρ : Dev nD → PrngReg)

theorem pay1_apply (w : Vec Ideal S1x2048x1024 .f32) (k : Fin 2048) (j : Fin 1024) :
    k0_pay1 (F := Ideal) w (ix2 k j) = w (ix3 0 k j) := by
  pointwise [k0_pay1]

theorem pay2_apply (x : Vec Ideal S256x2048 .bf16) (w : Vec Ideal S2048x1024 .bf16) (b : Vec Ideal S1x1x1024 .f32) (r : Fin 256) (j : Fin 1024) :
    k0_pay2 (F := Ideal) x w b (ix2 r j) = (∑ k : Fin 2048, x (ix2 r k) * w (ix2 k j)) + b (ix3 0 0 j) := by
  pointwise [k0_pay2]

theorem iblk0_apply (c : Dev nD) (t : Fin (cfgA h).N) (hu : t.val % 288 < nu T1) (r : Fin 256) (k : Fin 2048) (hr : t.val % 288 * 256 + r.val < 73728) :
    iblk h m ρ c (0 : Fin 4) t (ix2 r k) = m ((c : Thread nD τ).loc main_arg2) (ix2 ⟨t.val % 288 * 256 + r.val, hr⟩ k) := by
  have e : ((cfgA h).win (0 : Fin 4)).index t = ![t.val % 288, 0] := by
    rw [index0]; rw [show min (t.val % 288) (nu T1 - 1) = t.val % 288 by omega]
  blk_ext [iblk, e]

theorem iblk1_apply (c : Dev nD) (t : Fin (cfgA h).N) (k : Fin 2048) (j : Fin 1024) (e : Fin 32) (f : Fin 2048)
    (he : e.val = (T0 (ix1 ⟨t.val % 288, Nat.mod_lt _ (by decide)⟩)).toNat) (hf : f.val = t.val / 288 * 1024 + j.val) :
    iblk h m ρ c (1 : Fin 4) t (ix3 0 k j) = m ((c : Thread nD τ).loc main_arg3) (ix3 e k f) := by
  blk_ext [iblk, index1 h t]

theorem iblk2_apply (c : Dev nD) (t : Fin (cfgA h).N) (j : Fin 1024) (e : Fin 32) (f : Fin 2048)
    (he : e.val = (T0 (ix1 ⟨t.val % 288, Nat.mod_lt _ (by decide)⟩)).toNat) (hf : f.val = t.val / 288 * 1024 + j.val) :
    iblk h m ρ c (2 : Fin 4) t (ix3 0 0 j) = m ((c : Thread nD τ).loc main_arg4) (ix3 e 0 f) := by
  blk_ext [iblk, index2 h t]

/-- What the result array is shown to hold on the rows of the used tiles: each row times its tile's expert, plus that
    expert's bias. -/
def gv (hte : ∀ i : Fin 288, (T0 (ix1 i)).toNat < 32) (x : Vec Ideal S73728x2048 .bf16) (w : Vec Ideal S32x2048x2048 .f32) (b : Vec Ideal S32x1x2048 .f32) :
    Vec Ideal S73728x2048 .bf16 := fun j =>
  (∑ k : Fin 2048, x (ix2 (j 0) k) * w (ix3 ⟨(T0 (ix1 ⟨(j 0).val / 256, by have : (j 0).val < 73728 := (j 0).isLt; omega⟩)).toNat, hte _⟩ k (j 1)))
    + b (ix3 ⟨(T0 (ix1 ⟨(j 0).val / 256, by have : (j 0).val < 73728 := (j 0).isLt; omega⟩)).toNat, hte _⟩ 0 (j 1))

/-- The same of the memory's arrays. -/
def G (c : Dev nD) : Vec Ideal S73728x2048 .bf16 :=
  gv h.te (m ((c : Thread nD τ).loc main_arg2)) (m ((c : Thread nD τ).loc main_arg3)) (m ((c : Thread nD τ).loc main_arg4))

theorem outv_apply (c : Dev nD) (t : Fin (cfgA h).N) (hu : t.val % 288 < nu T1) (r : Fin 256) (j : Fin 1024)
    (R : Fin 73728) (f : Fin 2048) (hR : R.val = t.val % 288 * 256 + r.val) (hf : f.val = t.val / 288 * 1024 + j.val) :
    outv h m ρ c t (ix2 r j) = G h m c (ix2 R f) := by
  unfold outv scv
  rw [pay2_apply]
  have hi : R.val / 256 = t.val % 288 := by omega
  have hR' : (⟨t.val % 288 * 256 + r.val, by omega⟩ : Fin 73728) = R := Fin.ext hR.symm
  unfold G gv
  refine congrArg₂ (· + ·) (Finset.sum_congr rfl fun k _ => congrArg₂ (· * ·) ?_ ?_) ?_
  · rw [iblk0_apply h m ρ c t hu r k (by omega), hR']; rfl
  · rw [pay1_apply]
    refine iblk1_apply h m ρ c t k j _ f ?_ hf
    show (T0 (ix1 ⟨R.val / 256, _⟩)).toNat = _
    simp only [hi]
  · refine iblk2_apply h m ρ c t j _ f ?_ hf
    show (T0 (ix1 ⟨R.val / 256, _⟩)).toNat = _
    simp only [hi]

/-- What a point writes back is its block of `G`. -/
theorem flushed3 (c : Dev nD) (t : Fin (cfgA h).N) :
    (dats h m ρ 0 c).flushed (3 : Fin 4) t = (((cfgA h).win (3 : Fin 4)).blk t).view.read (Elt Ideal) (G h m c) := by
  have ht : t.val < 576 := t.isLt.trans_eq N_0
  have hp : 1 ≤ nu T1 := h.pos
  show outv h m ρ c (lst h t) = _
  funext y
  blk_simp
  have el : (lst h t).val = t.val - (t.val % 288 - min (t.val % 288) (nu T1 - 1)) := rfl
  have e1 : (lst h t).val % 288 = min (t.val % 288) (nu T1 - 1) := by omega
  have e2 : (lst h t).val / 288 = t.val / 288 := by omega
  idx_vars y
  rw [outv_apply h m ρ c (lst h t) (by omega) y0 y1 ⟨min (t.val % 288) (nu T1 - 1) * 256 + y0.val, by omega⟩
    ⟨t.val / 288 * 1024 + y1.val, by omega⟩ (by rw [e1]) (by rw [e2])]
  generalize G h m c = g
  blk_ext [index3 h t]

/-- The result on the rows of the used tiles. -/
theorem final (c : Dev nD) (r : Fin 73728) (f : Fin 2048) (hr : r.val / 256 < nu T1) :
    (dats h m ρ 0 c).arrAt (3 : Fin 4) (cfgA h).N (ix2 r f) = G h m c (ix2 r f) := by
  have hp : 1 ≤ nu T1 := h.pos
  have hN : (cfgA h).N = 576 := N_0
  let i := if r.val / 256 + 1 < nu T1 then r.val / 256 else 287
  have hi : (i + 1 < nu T1 ∨ i = 287) ∧ min i (nu T1 - 1) = r.val / 256 ∧ i < 288 := by
    show (_ ∨ ite _ _ _ = 287) ∧ _
    have : i = if r.val / 256 + 1 < nu T1 then r.val / 256 else 287 := rfl
    split_ifs at this with hc <;> omega
  let t : Fin (cfgA h).N := ⟨f.val / 1024 * 288 + i, by omega⟩
  have t1 : t.val % 288 = i := by show (f.val / 1024 * 288 + i) % 288 = i; omega
  have t2 : t.val / 288 = f.val / 1024 := by show (f.val / 1024 * 288 + i) / 288 = _; omega
  refine (dats h m ρ 0 c).arrAt_apply_of_mem (3 : Fin 4) (G h m c) (fun t _ => flushed3 h m ρ c t) _ t _ t.isLt
    ((flush3 h t).2 (by rw [t1]; exact hi.1)) ?_
  have e := index3 h t
  rw [t1, t2, hi.2.1] at e
  have em : (((cfgA h).win (3 : Fin 4)).blk t).view.emb (ix2 ⟨r.val % 256, Nat.mod_lt _ (by decide)⟩ ⟨f.val % 1024, Nat.mod_lt _ (by decide)⟩) = ix2 r f := by
    blk_ext [e]
  rw [← em]
  exact View.emb_mem_set _ _

end Cert.KernelDownIdeal.Exp

namespace Cert.Proof.Down

open Cert.KernelDownIdeal.Exp in
/-- On the rows of the used tiles the kernel's result and the reference's agree at `Ideal`. -/
theorem algebraic : Cert.algebraic_KernelDownIdeal_ReferenceDownIdeal_on_used_rows_down := by
  intro m g m' g' hpre hag
  have h := tabs m hpre
  refine ⟨fun c => G h m c, ?_, ?_⟩
  · refine (θ_run _ _ _).mono (fun r hr c => ?_) (Cert.KernelDownIdeal.Exp.run h m g (pinned m))
    refine ⟨fun i hon => ?_, (hr.1 c).2⟩
    idx_vars i
    obtain ⟨p0, p1⟩ := pinned m c
    have hrow := Cert.ReferenceDownIdeal.Exp.on_rows _ _ _ _ _ (by rw [p1]; exact h.lt) i0 i1 hon
    rw [p1] at hrow
    exact (congrFun (hr.1 c).1 _).trans (final h m g c i0 i1 hrow)
  · refine (θ_run _ _ _).mono (fun r hr c => ?_) (Cert.ReferenceDownIdeal.Value.run (F := Ideal) m' g')
    obtain ⟨e0, e1, e2, e3, e4⟩ := hag c
    refine ⟨fun i hon => ?_, (hr c).2⟩
    idx_vars i
    refine (congrFun ((hr c).1.trans (Cert.ReferenceDownIdeal.Read.val_main_v20_eq _ _ _ _)) _).trans ?_
    obtain ⟨p0, p1⟩ := pinned m c
    rw [e0, e2, e3, e4, p0]
    have hr0 := i0.isLt
    exact Cert.ReferenceDownIdeal.Exp.out_apply _ _ _ _ i0 i1 ⟨i0.val / 256, by omega⟩ rfl (h.te _)

end Cert.Proof.Down

end
-- ==== Proof.lean ====
/-
# The claim

Every conjunct of `Cert.Claim` from the module that proves it: the attention, the two halves of the input projection, the experts,
and the frames of their references, which declare no semaphore.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelZa
public import proofs.«01_k».proof.Proof.Gen.KernelZa.Skeleton
public import proofs.«01_k».proof.Proof.Gen.KernelZa.Launch
public import proofs.«01_k».proof.Proof.Gen.KernelZa.Points
public import proofs.«01_k».proof.Proof.Gen.KernelZa.Frame
public import proofs.«01_k».proof.Proof.Gen.KernelZaIdeal
public import proofs.«01_k».proof.Proof.Gen.KernelZaIdeal.Skeleton
public import proofs.«01_k».proof.Proof.Gen.KernelZaIdeal.Launch
public import proofs.«01_k».proof.Proof.Gen.KernelZaIdeal.Points
public import proofs.«01_k».proof.Proof.Gen.KernelZaIdeal.Frame
public import proofs.«01_k».proof.Proof.Gen.ReferenceZaIdeal
public import proofs.«01_k».proof.Proof.Gen.KernelZb
public import proofs.«01_k».proof.Proof.Gen.KernelZb.Skeleton
public import proofs.«01_k».proof.Proof.Gen.KernelZb.Launch
public import proofs.«01_k».proof.Proof.Gen.KernelZb.Points
public import proofs.«01_k».proof.Proof.Gen.KernelZb.Frame
public import proofs.«01_k».proof.Proof.Gen.KernelZbIdeal
public import proofs.«01_k».proof.Proof.Gen.KernelZbIdeal.Skeleton
public import proofs.«01_k».proof.Proof.Gen.KernelZbIdeal.Launch
public import proofs.«01_k».proof.Proof.Gen.KernelZbIdeal.Points
public import proofs.«01_k».proof.Proof.Gen.KernelZbIdeal.Frame
public import proofs.«01_k».proof.Proof.Gen.ReferenceZbIdeal
public import proofs.«01_k».proof.Proof.Gen.Pre_scores_defined
public import proofs.«01_k».proof.Proof.Gen.KernelZaIdeal.Value
public import proofs.«01_k».proof.Proof.Gen.KernelZbIdeal.Value
public import proofs.«01_k».proof.Proof.Gen.ReferenceIdeal.Run
public import proofs.«01_k».proof.Proof.Gen.ReferenceZaIdeal.Run
public import proofs.«01_k».proof.Proof.Gen.ReferenceZbIdeal.Run
public import proofs.«01_k».proof.Proof.Gen.ReferenceIdeal.Read
public import proofs.«01_k».proof.Proof.Gen.ReferenceZaIdeal.Read
public import proofs.«01_k».proof.Proof.Gen.ReferenceZbIdeal.Read
public import proofs.«01_k».proof.Proof.Za
public import proofs.«01_k».proof.Proof.Zb
public import proofs.«01_k».proof.Proof.AttnKFrame
public import proofs.«01_k».proof.Proof.AttnFrame
public import proofs.«01_k».proof.Proof.Attn
public import proofs.«01_k».proof.Proof.UpKLaunch
public import proofs.«01_k».proof.Proof.Up
public import proofs.«01_k».proof.Proof.DownKLaunch
public import proofs.«01_k».proof.Proof.Down
public import Idealize.ShloMosaic.Adequacy
public import Idealize.ShloMosaic.Init

@[expose] public section

noncomputable section

namespace Cert.Proof

open Idealize.ShloMosaic Idealize.SL.Sem

/-- The reference runs, leaves its arguments and, declaring no semaphore, leaves every counter at zero. -/
theorem frame_ref : Cert.quiescent_ReferenceIdeal := fun m g _ =>
  (θ_run _ _ _).mono (fun r h => ⟨fun c => (h c).2, sem_eq_zero_of_no_sems (by decide) r.2⟩) (Cert.ReferenceIdeal.Value.run (F := Ideal) m g)

/-- The reference runs, leaves its arguments and, declaring no semaphore, leaves every counter at zero. -/
theorem frame_ref_za : Cert.quiescent_ReferenceZaIdeal := fun m g _ =>
  (θ_run _ _ _).mono (fun r h => ⟨fun c => (h c).2, sem_eq_zero_of_no_sems (by decide) r.2⟩) (Cert.ReferenceZaIdeal.Value.run (F := Ideal) m g)

/-- The reference runs, leaves its arguments and, declaring no semaphore, leaves every counter at zero. -/
theorem frame_ref_zb : Cert.quiescent_ReferenceZbIdeal := fun m g _ =>
  (θ_run _ _ _).mono (fun r h => ⟨fun c => (h c).2, sem_eq_zero_of_no_sems (by decide) r.2⟩) (Cert.ReferenceZbIdeal.Value.run (F := Ideal) m g)

/-- The reference runs, leaves its arguments and, declaring no semaphore, leaves every counter at zero. -/
theorem frame_ref_up : Cert.quiescent_ReferenceUpIdeal := fun m g _ =>
  (θ_run _ _ _).mono (fun r h => ⟨fun c => (h c).2, sem_eq_zero_of_no_sems (by decide) r.2⟩) (Cert.ReferenceUpIdeal.Value.run (F := Ideal) m g)

/-- The reference runs, leaves its arguments and, declaring no semaphore, leaves every counter at zero. -/
theorem frame_ref_down : Cert.quiescent_ReferenceDownIdeal := fun m g _ =>
  (θ_run _ _ _).mono (fun r h => ⟨fun c => (h c).2, sem_eq_zero_of_no_sems (by decide) r.2⟩) (Cert.ReferenceDownIdeal.Value.run (F := Ideal) m g)

/-- The certificate's claim. -/
theorem claim : Cert.Claim := ⟨Cert.Kernel.Gen.facts, Cert.KernelIdeal.Gen.facts, Cert.ReferenceIdeal.Gen.facts, Cert.KernelZa.Gen.facts, Cert.KernelZaIdeal.Gen.facts, Cert.ReferenceZaIdeal.Gen.facts, Cert.KernelZb.Gen.facts, Cert.KernelZbIdeal.Gen.facts, Cert.ReferenceZbIdeal.Gen.facts, Cert.KernelUp.Gen.facts, Cert.KernelUpIdeal.Gen.facts, Cert.ReferenceUpIdeal.Gen.facts, Cert.KernelDown.Gen.facts, Cert.KernelDownIdeal.Gen.facts, Cert.ReferenceDownIdeal.Gen.facts, Cert.Pre_scores_defined.Gen.facts, Cert.Pre_expert_range_up.Gen.facts, Cert.Pre_expert_range_down.Gen.facts, Cert.On_used_rows_up.Gen.facts, Cert.On_used_rows_down.Gen.facts,
  fun m ρ _ => Cert.Kernel.Attn.frame_all m ρ,
  fun m ρ _ => Cert.KernelIdeal.Attn.frame_all m ρ,
  fun m ρ _ => Cert.KernelIdeal.Attn.frame_all m ρ,
  frame_ref,
  fun m ρ _ => frame_ref m ρ trivial,
  fun m ρ _ => Cert.KernelZa.Gen.frame m ρ,
  fun m ρ _ => Cert.KernelZaIdeal.Gen.frame m ρ,
  frame_ref_za,
  fun m ρ _ => Cert.KernelZb.Gen.frame m ρ,
  fun m ρ _ => Cert.KernelZbIdeal.Gen.frame m ρ,
  frame_ref_zb,
  fun m ρ hh => Cert.KernelUp.Exp.frame_all m ρ hh,
  fun m ρ hh => Cert.KernelUpIdeal.Exp.frame_all m ρ hh,
  frame_ref_up,
  fun m ρ _ => frame_ref_up m ρ trivial,
  fun m ρ hh => Cert.KernelDown.Exp.frame_all m ρ hh,
  fun m ρ hh => Cert.KernelDownIdeal.Exp.frame_all m ρ hh,
  frame_ref_down,
  fun m ρ _ => frame_ref_down m ρ trivial,
  IdealRules.named_const.statement Cert.KernelIdeal.κ "mask" .f32 0xF149F2CA#32 ⊥ rfl,
  Attn.algebraic,
  trivial,
  Za.algebraic,
  trivial,
  Zb.algebraic,
  trivial,
  Up.algebraic,
  trivial,
  Down.algebraic⟩

end Cert.Proof

end
